-- ==== Defs.lean ====
def Pre_Kernel [hPre_rows_in_table : Cert.Pre_rows_in_table.Facts] (m : (ℓ : Loc Cert.Kernel.nD Cert.Kernel.τ Cert.Kernel.sig) → Buf (Elt Bits) ℓ) : Prop :=
  ∀ c : Dev Cert.Kernel.nD,
    (Cert.Pre_rows_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_rows_in_table : Cert.Pre_rows_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_Reference (m : (ℓ : Loc Cert.Reference.nD Cert.Reference.τ Cert.Reference.sig) → Buf (Elt Bits) ℓ) : Prop :=
  True

def Pre_Reference_rows_in_table [hPre_rows_in_table : Cert.Pre_rows_in_table.Facts] (m : (ℓ : Loc Cert.Reference.nD Cert.Reference.τ Cert.Reference.sig) → Buf (Elt Bits) ℓ) : Prop :=
  ∀ c : Dev Cert.Reference.nD,
    (Cert.Pre_rows_in_table.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_table [hPre_rows_in_table : Cert.Pre_rows_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Fps (m : (ℓ : Loc Cert.Fps.nD Cert.Fps.τ Cert.Fps.sig) → Buf (Elt Bits) ℓ) : Prop :=
  True

def Pre_FpsIdeal (m : (ℓ : Loc Cert.FpsIdeal.nD Cert.FpsIdeal.τ Cert.FpsIdeal.sig) → Buf (Elt Ideal) ℓ) : Prop :=
  True

def Pre_RefFpsIdeal (m : (ℓ : Loc Cert.RefFpsIdeal.nD Cert.RefFpsIdeal.τ Cert.RefFpsIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_all_finite [hPre_all_finite : Cert.Pre_all_finite.Facts] (m : (ℓ : Loc Cert.MlpIdeal.nD Cert.MlpIdeal.τ Cert.MlpIdeal.sig) → Buf (Elt Ideal) ℓ) : Prop :=
  ∀ c : Dev Cert.MlpIdeal.nD,
    (Cert.Pre_all_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12)) (m ((c.tc : Thread Cert.MlpIdeal.nD Cert.MlpIdeal.τ).loc Cert.MlpIdeal.main_arg13))) = (fun _ => 1#1)

def Pre_RefMlpIdeal (m : (ℓ : Loc Cert.RefMlpIdeal.nD Cert.RefMlpIdeal.τ Cert.RefMlpIdeal.sig) → Buf (Elt Ideal) ℓ) : Prop :=
  True

def Pre_RefMlpIdeal_all_finite [hPre_all_finite : Cert.Pre_all_finite.Facts] (m : (ℓ : Loc Cert.RefMlpIdeal.nD Cert.RefMlpIdeal.τ Cert.RefMlpIdeal.sig) → Buf (Elt Ideal) ℓ) : Prop :=
  ∀ c : Dev Cert.RefMlpIdeal.nD,
    (Cert.Pre_all_finite.fn (F := Ideal) (m ((c.tc : Thread Cert.RefMlpIdeal.nD Cert.RefMlpIdeal.τ).loc Cert.RefMlpIdeal.main_arg0)) (m ((c.tc : Thread Cert.RefMlpIdeal.nD Cert.RefMlpIdeal.τ).loc Cert.RefMlpIdeal.main_arg1)) (m ((c.tc : Thread Cert.RefMlpIdeal.nD Cert.RefMlpIdeal.τ).loc Cert.RefMlpIdeal.main_arg2)) (m ((c.tc : Thread Cert.RefMlpIdeal.nD Cert.RefMlpIdeal.τ).loc Cert.RefMlpIdeal.main_arg3)) (m ((c.tc : Thread Cert.RefMlpIdeal.nD Cert.RefMlpIdeal.τ).loc Cert.RefMlpIdeal.main_arg4)) (m ((c.tc : Thread Cert.RefMlpIdeal.nD Cert.RefMlpIdeal.τ).loc Cert.RefMlpIdeal.main_arg5)) (m ((c.tc : Thread Cert.RefMlpIdeal.nD Cert.RefMlpIdeal.τ).loc Cert.RefMlpIdeal.main_arg6)) (m ((c.tc : Thread Cert.RefMlpIdeal.nD Cert.RefMlpIdeal.τ).loc Cert.RefMlpIdeal.main_arg7)) (m ((c.tc : Thread Cert.RefMlpIdeal.nD Cert.RefMlpIdeal.τ).loc Cert.RefMlpIdeal.main_arg8)) (m ((c.tc : Thread Cert.RefMlpIdeal.nD Cert.RefMlpIdeal.τ).loc Cert.RefMlpIdeal.main_arg9)) (m ((c.tc : Thread Cert.RefMlpIdeal.nD Cert.RefMlpIdeal.τ).loc Cert.RefMlpIdeal.main_arg10)) (m ((c.tc : Thread Cert.RefMlpIdeal.nD Cert.RefMlpIdeal.τ).loc Cert.RefMlpIdeal.main_arg11)) (m ((c.tc : Thread Cert.RefMlpIdeal.nD Cert.RefMlpIdeal.τ).loc Cert.RefMlpIdeal.main_arg12)) (m ((c.tc : Thread Cert.RefMlpIdeal.nD Cert.RefMlpIdeal.τ).loc Cert.RefMlpIdeal.main_arg13))) = (fun _ => 1#1)

def Pre_Bq (m : (ℓ : Loc Cert.Bq.nD Cert.Bq.τ Cert.Bq.sig) → Buf (Elt Bits) ℓ) : Prop :=
  True

def Pre_BqIdeal (m : (ℓ : Loc Cert.BqIdeal.nD Cert.BqIdeal.τ Cert.BqIdeal.sig) → Buf (Elt Ideal) ℓ) : Prop :=
  True

def Pre_RefBqIdeal (m : (ℓ : Loc Cert.RefBqIdeal.nD Cert.RefBqIdeal.τ Cert.RefBqIdeal.sig) → Buf (Elt Ideal) ℓ) : Prop :=
  True

def quiescent_Kernel [hKernel : Cert.Kernel.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Reference_pre_rows_in_table [hReference : Cert.Reference.Facts] [hPre_rows_in_table : Cert.Pre_rows_in_table.Facts] : Prop :=
  ∀ (m : (ℓ : Loc Cert.Reference.nD Cert.Reference.τ Cert.Reference.sig) → Buf (Elt Bits) ℓ) (g : Dev Cert.Reference.nD → PrngReg), Pre_Reference_rows_in_table m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_rows_in_table [hReferenceIdeal : Cert.ReferenceIdeal.Facts] [hPre_rows_in_table : Cert.Pre_rows_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Fps [hFps : Cert.Fps.Facts] : Prop :=
  ∀ (m : (ℓ : Loc Cert.Fps.nD Cert.Fps.τ Cert.Fps.sig) → Buf (Elt Bits) ℓ) (g : Dev Cert.Fps.nD → PrngReg), Pre_Fps m →
    θ_run (Cert.Fps.defs (F := Bits)) (onTc (τ := Cert.Fps.τ) (Cert.Fps.main (F := Bits))) ⟨m, fun _ => 0, g⟩ (fun r => (∀ c : Dev Cert.Fps.nD,
      r.2.mem ((c.tc : Thread Cert.Fps.nD Cert.Fps.τ).loc Cert.Fps.main_arg0) = m ((c.tc : Thread Cert.Fps.nD Cert.Fps.τ).loc Cert.Fps.main_arg0))
      ∧ r.2.sem = fun _ => 0)

def quiescent_FpsIdeal [hFpsIdeal : Cert.FpsIdeal.Facts] : Prop :=
  ∀ (m : (ℓ : Loc Cert.FpsIdeal.nD Cert.FpsIdeal.τ Cert.FpsIdeal.sig) → Buf (Elt Ideal) ℓ) (g : Dev Cert.FpsIdeal.nD → PrngReg), Pre_FpsIdeal m →
    θ_run (Cert.FpsIdeal.defs (F := Ideal)) (onTc (τ := Cert.FpsIdeal.τ) (Cert.FpsIdeal.main (F := Ideal))) ⟨m, fun _ => 0, g⟩ (fun r => (∀ c : Dev Cert.FpsIdeal.nD,
      r.2.mem ((c.tc : Thread Cert.FpsIdeal.nD Cert.FpsIdeal.τ).loc Cert.FpsIdeal.main_arg0) = m ((c.tc : Thread Cert.FpsIdeal.nD Cert.FpsIdeal.τ).loc Cert.FpsIdeal.main_arg0))
      ∧ r.2.sem = fun _ => 0)

def quiescent_RefFpsIdeal [hRefFpsIdeal : Cert.RefFpsIdeal.Facts] : Prop :=
  ∀ (m : (ℓ : Loc Cert.RefFpsIdeal.nD Cert.RefFpsIdeal.τ Cert.RefFpsIdeal.sig) → Buf (Elt Ideal) ℓ) (g : Dev Cert.RefFpsIdeal.nD → PrngReg), Pre_RefFpsIdeal m →
    θ_run (Cert.RefFpsIdeal.defs (F := Ideal)) (onTc (τ := Cert.RefFpsIdeal.τ) (Cert.RefFpsIdeal.main (F := Ideal))) ⟨m, fun _ => 0, g⟩ (fun r => (∀ c : Dev Cert.RefFpsIdeal.nD,
      r.2.mem ((c.tc : Thread Cert.RefFpsIdeal.nD Cert.RefFpsIdeal.τ).loc Cert.RefFpsIdeal.main_arg0) = m ((c.tc : Thread Cert.RefFpsIdeal.nD Cert.RefFpsIdeal.τ).loc Cert.RefFpsIdeal.main_arg0))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11)
      ∧ r.2.mem ((c.tc : Thread Cert.Mlp.nD Cert.Mlp.τ).loc Cert.Mlp.main_arg12) = m ((c.tc : Thread Cert.Mlp.nD Cert.Mlp.τ).loc Cert.Mlp.main_arg12)
      ∧ r.2.mem ((c.tc : Thread Cert.Mlp.nD Cert.Mlp.τ).loc Cert.Mlp.main_arg13) = m ((c.tc : Thread Cert.Mlp.nD Cert.Mlp.τ).loc Cert.Mlp.main_arg13))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
      ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13))
      ∧ r.2.sem = fun _ => 0)

def quiescent_MlpIdeal_pre_all_finite [hMlpIdeal : Cert.MlpIdeal.Facts] [hPre_all_finite : Cert.Pre_all_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_all_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
      ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13))
      ∧ r.2.sem = fun _ => 0)

def quiescent_RefMlpIdeal [hRefMlpIdeal : Cert.RefMlpIdeal.Facts] : Prop :=
  ∀ (m : (ℓ : Loc Cert.RefMlpIdeal.nD Cert.RefMlpIdeal.τ Cert.RefMlpIdeal.sig) → Buf (Elt Ideal) ℓ) (g : Dev Cert.RefMlpIdeal.nD → PrngReg), Pre_RefMlpIdeal m →
    θ_run (Cert.RefMlpIdeal.defs (F := Ideal)) (onTc (τ := Cert.RefMlpIdeal.τ) (Cert.RefMlpIdeal.main (F := Ideal))) ⟨m, fun _ => 0, g⟩ (fun r => (∀ c : Dev Cert.RefMlpIdeal.nD,
      r.2.mem ((c.tc : Thread Cert.RefMlpIdeal.nD Cert.RefMlpIdeal.τ).loc Cert.RefMlpIdeal.main_arg0) = m ((c.tc : Thread Cert.RefMlpIdeal.nD Cert.RefMlpIdeal.τ).loc Cert.RefMlpIdeal.main_arg0)
      ∧ r.2.mem ((c.tc : Thread Cert.RefMlpIdeal.nD Cert.RefMlpIdeal.τ).loc Cert.RefMlpIdeal.main_arg1) = m ((c.tc : Thread Cert.RefMlpIdeal.nD Cert.RefMlpIdeal.τ).loc Cert.RefMlpIdeal.main_arg1)
      ∧ r.2.mem ((c.tc : Thread Cert.RefMlpIdeal.nD Cert.RefMlpIdeal.τ).loc Cert.RefMlpIdeal.main_arg2) = m ((c.tc : Thread Cert.RefMlpIdeal.nD Cert.RefMlpIdeal.τ).loc Cert.RefMlpIdeal.main_arg2)
      ∧ r.2.mem ((c.tc : Thread Cert.RefMlpIdeal.nD Cert.RefMlpIdeal.τ).loc Cert.RefMlpIdeal.main_arg3) = m ((c.tc : Thread Cert.RefMlpIdeal.nD Cert.RefMlpIdeal.τ).loc Cert.RefMlpIdeal.main_arg3)
      ∧ r.2.mem ((c.tc : Thread Cert.RefMlpIdeal.nD Cert.RefMlpIdeal.τ).loc Cert.RefMlpIdeal.main_arg4) = m ((c.tc : Thread Cert.RefMlpIdeal.nD Cert.RefMlpIdeal.τ).loc Cert.RefMlpIdeal.main_arg4)
      ∧ r.2.mem ((c.tc : Thread Cert.RefMlpIdeal.nD Cert.RefMlpIdeal.τ).loc Cert.RefMlpIdeal.main_arg5) = m ((c.tc : Thread Cert.RefMlpIdeal.nD Cert.RefMlpIdeal.τ).loc Cert.RefMlpIdeal.main_arg5)
      ∧ r.2.mem ((c.tc : Thread Cert.RefMlpIdeal.nD Cert.RefMlpIdeal.τ).loc Cert.RefMlpIdeal.main_arg6) = m ((c.tc : Thread Cert.RefMlpIdeal.nD Cert.RefMlpIdeal.τ).loc Cert.RefMlpIdeal.main_arg6)
      ∧ r.2.mem ((c.tc : Thread Cert.RefMlpIdeal.nD Cert.RefMlpIdeal.τ).loc Cert.RefMlpIdeal.main_arg7) = m ((c.tc : Thread Cert.RefMlpIdeal.nD Cert.RefMlpIdeal.τ).loc Cert.RefMlpIdeal.main_arg7)
      ∧ r.2.mem ((c.tc : Thread Cert.RefMlpIdeal.nD Cert.RefMlpIdeal.τ).loc Cert.RefMlpIdeal.main_arg8) = m ((c.tc : Thread Cert.RefMlpIdeal.nD Cert.RefMlpIdeal.τ).loc Cert.RefMlpIdeal.main_arg8)
      ∧ r.2.mem ((c.tc : Thread Cert.RefMlpIdeal.nD Cert.RefMlpIdeal.τ).loc Cert.RefMlpIdeal.main_arg9) = m ((c.tc : Thread Cert.RefMlpIdeal.nD Cert.RefMlpIdeal.τ).loc Cert.RefMlpIdeal.main_arg9)
      ∧ r.2.mem ((c.tc : Thread Cert.RefMlpIdeal.nD Cert.RefMlpIdeal.τ).loc Cert.RefMlpIdeal.main_arg10) = m ((c.tc : Thread Cert.RefMlpIdeal.nD Cert.RefMlpIdeal.τ).loc Cert.RefMlpIdeal.main_arg10)
      ∧ r.2.mem ((c.tc : Thread Cert.RefMlpIdeal.nD Cert.RefMlpIdeal.τ).loc Cert.RefMlpIdeal.main_arg11) = m ((c.tc : Thread Cert.RefMlpIdeal.nD Cert.RefMlpIdeal.τ).loc Cert.RefMlpIdeal.main_arg11)
      ∧ r.2.mem ((c.tc : Thread Cert.RefMlpIdeal.nD Cert.RefMlpIdeal.τ).loc Cert.RefMlpIdeal.main_arg12) = m ((c.tc : Thread Cert.RefMlpIdeal.nD Cert.RefMlpIdeal.τ).loc Cert.RefMlpIdeal.main_arg12)
      ∧ r.2.mem ((c.tc : Thread Cert.RefMlpIdeal.nD Cert.RefMlpIdeal.τ).loc Cert.RefMlpIdeal.main_arg13) = m ((c.tc : Thread Cert.RefMlpIdeal.nD Cert.RefMlpIdeal.τ).loc Cert.RefMlpIdeal.main_arg13))
      ∧ r.2.sem = fun _ => 0)

def quiescent_RefMlpIdeal_pre_all_finite [hRefMlpIdeal : Cert.RefMlpIdeal.Facts] [hPre_all_finite : Cert.Pre_all_finite.Facts] : Prop :=
  ∀ (m : (ℓ : Loc Cert.RefMlpIdeal.nD Cert.RefMlpIdeal.τ Cert.RefMlpIdeal.sig) → Buf (Elt Ideal) ℓ) (g : Dev Cert.RefMlpIdeal.nD → PrngReg), Pre_RefMlpIdeal_all_finite m →
    θ_run (Cert.RefMlpIdeal.defs (F := Ideal)) (onTc (τ := Cert.RefMlpIdeal.τ) (Cert.RefMlpIdeal.main (F := Ideal))) ⟨m, fun _ => 0, g⟩ (fun r => (∀ c : Dev Cert.RefMlpIdeal.nD,
      r.2.mem ((c.tc : Thread Cert.RefMlpIdeal.nD Cert.RefMlpIdeal.τ).loc Cert.RefMlpIdeal.main_arg0) = m ((c.tc : Thread Cert.RefMlpIdeal.nD Cert.RefMlpIdeal.τ).loc Cert.RefMlpIdeal.main_arg0)
      ∧ r.2.mem ((c.tc : Thread Cert.RefMlpIdeal.nD Cert.RefMlpIdeal.τ).loc Cert.RefMlpIdeal.main_arg1) = m ((c.tc : Thread Cert.RefMlpIdeal.nD Cert.RefMlpIdeal.τ).loc Cert.RefMlpIdeal.main_arg1)
      ∧ r.2.mem ((c.tc : Thread Cert.RefMlpIdeal.nD Cert.RefMlpIdeal.τ).loc Cert.RefMlpIdeal.main_arg2) = m ((c.tc : Thread Cert.RefMlpIdeal.nD Cert.RefMlpIdeal.τ).loc Cert.RefMlpIdeal.main_arg2)
      ∧ r.2.mem ((c.tc : Thread Cert.RefMlpIdeal.nD Cert.RefMlpIdeal.τ).loc Cert.RefMlpIdeal.main_arg3) = m ((c.tc : Thread Cert.RefMlpIdeal.nD Cert.RefMlpIdeal.τ).loc Cert.RefMlpIdeal.main_arg3)
      ∧ r.2.mem ((c.tc : Thread Cert.RefMlpIdeal.nD Cert.RefMlpIdeal.τ).loc Cert.RefMlpIdeal.main_arg4) = m ((c.tc : Thread Cert.RefMlpIdeal.nD Cert.RefMlpIdeal.τ).loc Cert.RefMlpIdeal.main_arg4)
      ∧ r.2.mem ((c.tc : Thread Cert.RefMlpIdeal.nD Cert.RefMlpIdeal.τ).loc Cert.RefMlpIdeal.main_arg5) = m ((c.tc : Thread Cert.RefMlpIdeal.nD Cert.RefMlpIdeal.τ).loc Cert.RefMlpIdeal.main_arg5)
      ∧ r.2.mem ((c.tc : Thread Cert.RefMlpIdeal.nD Cert.RefMlpIdeal.τ).loc Cert.RefMlpIdeal.main_arg6) = m ((c.tc : Thread Cert.RefMlpIdeal.nD Cert.RefMlpIdeal.τ).loc Cert.RefMlpIdeal.main_arg6)
      ∧ r.2.mem ((c.tc : Thread Cert.RefMlpIdeal.nD Cert.RefMlpIdeal.τ).loc Cert.RefMlpIdeal.main_arg7) = m ((c.tc : Thread Cert.RefMlpIdeal.nD Cert.RefMlpIdeal.τ).loc Cert.RefMlpIdeal.main_arg7)
      ∧ r.2.mem ((c.tc : Thread Cert.RefMlpIdeal.nD Cert.RefMlpIdeal.τ).loc Cert.RefMlpIdeal.main_arg8) = m ((c.tc : Thread Cert.RefMlpIdeal.nD Cert.RefMlpIdeal.τ).loc Cert.RefMlpIdeal.main_arg8)
      ∧ r.2.mem ((c.tc : Thread Cert.RefMlpIdeal.nD Cert.RefMlpIdeal.τ).loc Cert.RefMlpIdeal.main_arg9) = m ((c.tc : Thread Cert.RefMlpIdeal.nD Cert.RefMlpIdeal.τ).loc Cert.RefMlpIdeal.main_arg9)
      ∧ r.2.mem ((c.tc : Thread Cert.RefMlpIdeal.nD Cert.RefMlpIdeal.τ).loc Cert.RefMlpIdeal.main_arg10) = m ((c.tc : Thread Cert.RefMlpIdeal.nD Cert.RefMlpIdeal.τ).loc Cert.RefMlpIdeal.main_arg10)
      ∧ r.2.mem ((c.tc : Thread Cert.RefMlpIdeal.nD Cert.RefMlpIdeal.τ).loc Cert.RefMlpIdeal.main_arg11) = m ((c.tc : Thread Cert.RefMlpIdeal.nD Cert.RefMlpIdeal.τ).loc Cert.RefMlpIdeal.main_arg11)
      ∧ r.2.mem ((c.tc : Thread Cert.RefMlpIdeal.nD Cert.RefMlpIdeal.τ).loc Cert.RefMlpIdeal.main_arg12) = m ((c.tc : Thread Cert.RefMlpIdeal.nD Cert.RefMlpIdeal.τ).loc Cert.RefMlpIdeal.main_arg12)
      ∧ r.2.mem ((c.tc : Thread Cert.RefMlpIdeal.nD Cert.RefMlpIdeal.τ).loc Cert.RefMlpIdeal.main_arg13) = m ((c.tc : Thread Cert.RefMlpIdeal.nD Cert.RefMlpIdeal.τ).loc Cert.RefMlpIdeal.main_arg13))
      ∧ r.2.sem = fun _ => 0)

def quiescent_Bq [hBq : Cert.Bq.Facts] : Prop :=
  ∀ (m : (ℓ : Loc Cert.Bq.nD Cert.Bq.τ Cert.Bq.sig) → Buf (Elt Bits) ℓ) (g : Dev Cert.Bq.nD → PrngReg), Pre_Bq m →
    θ_run (Cert.Bq.defs (F := Bits)) (onTc (τ := Cert.Bq.τ) (Cert.Bq.main (F := Bits))) ⟨m, fun _ => 0, g⟩ (fun r => (∀ c : Dev Cert.Bq.nD,
      r.2.mem ((c.tc : Thread Cert.Bq.nD Cert.Bq.τ).loc Cert.Bq.main_arg0) = m ((c.tc : Thread Cert.Bq.nD Cert.Bq.τ).loc Cert.Bq.main_arg0)
      ∧ r.2.mem ((c.tc : Thread Cert.Bq.nD Cert.Bq.τ).loc Cert.Bq.main_arg1) = m ((c.tc : Thread Cert.Bq.nD Cert.Bq.τ).loc Cert.Bq.main_arg1))
      ∧ r.2.sem = fun _ => 0)

def quiescent_BqIdeal [hBqIdeal : Cert.BqIdeal.Facts] : Prop :=
  ∀ (m : (ℓ : Loc Cert.BqIdeal.nD Cert.BqIdeal.τ Cert.BqIdeal.sig) → Buf (Elt Ideal) ℓ) (g : Dev Cert.BqIdeal.nD → PrngReg), Pre_BqIdeal m →
    θ_run (Cert.BqIdeal.defs (F := Ideal)) (onTc (τ := Cert.BqIdeal.τ) (Cert.BqIdeal.main (F := Ideal))) ⟨m, fun _ => 0, g⟩ (fun r => (∀ c : Dev Cert.BqIdeal.nD,
      r.2.mem ((c.tc : Thread Cert.BqIdeal.nD Cert.BqIdeal.τ).loc Cert.BqIdeal.main_arg0) = m ((c.tc : Thread Cert.BqIdeal.nD Cert.BqIdeal.τ).loc Cert.BqIdeal.main_arg0)
      ∧ r.2.mem ((c.tc : Thread Cert.BqIdeal.nD Cert.BqIdeal.τ).loc Cert.BqIdeal.main_arg1) = m ((c.tc : Thread Cert.BqIdeal.nD Cert.BqIdeal.τ).loc Cert.BqIdeal.main_arg1))
      ∧ r.2.sem = fun _ => 0)

def quiescent_RefBqIdeal [hRefBqIdeal : Cert.RefBqIdeal.Facts] : Prop :=
  ∀ (m : (ℓ : Loc Cert.RefBqIdeal.nD Cert.RefBqIdeal.τ Cert.RefBqIdeal.sig) → Buf (Elt Ideal) ℓ) (g : Dev Cert.RefBqIdeal.nD → PrngReg), Pre_RefBqIdeal m →
    θ_run (Cert.RefBqIdeal.defs (F := Ideal)) (onTc (τ := Cert.RefBqIdeal.τ) (Cert.RefBqIdeal.main (F := Ideal))) ⟨m, fun _ => 0, g⟩ (fun r => (∀ c : Dev Cert.RefBqIdeal.nD,
      r.2.mem ((c.tc : Thread Cert.RefBqIdeal.nD Cert.RefBqIdeal.τ).loc Cert.RefBqIdeal.main_arg0) = m ((c.tc : Thread Cert.RefBqIdeal.nD Cert.RefBqIdeal.τ).loc Cert.RefBqIdeal.main_arg0)
      ∧ r.2.mem ((c.tc : Thread Cert.RefBqIdeal.nD Cert.RefBqIdeal.τ).loc Cert.RefBqIdeal.main_arg1) = m ((c.tc : Thread Cert.RefBqIdeal.nD Cert.RefBqIdeal.τ).loc Cert.RefBqIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v5)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v5) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v18) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Fps_FpsIdeal : Prop :=
  True

def algebraic_FpsIdeal_RefFpsIdeal [hFpsIdeal : Cert.FpsIdeal.Facts] [hRefFpsIdeal : Cert.RefFpsIdeal.Facts] : Prop :=
  ∀ (m : (ℓ : Loc Cert.FpsIdeal.nD Cert.FpsIdeal.τ Cert.FpsIdeal.sig) → Buf (Elt Ideal) ℓ) (g : Dev Cert.FpsIdeal.nD → PrngReg)
    (m' : (ℓ : Loc Cert.RefFpsIdeal.nD Cert.RefFpsIdeal.τ Cert.RefFpsIdeal.sig) → Buf (Elt Ideal) ℓ) (g' : Dev Cert.RefFpsIdeal.nD → PrngReg), Pre_FpsIdeal m →
    (∀ c : Dev Cert.FpsIdeal.nD,
      m' ((c.tc : Thread Cert.RefFpsIdeal.nD Cert.RefFpsIdeal.τ).loc Cert.RefFpsIdeal.main_arg0) = m ((c.tc : Thread Cert.FpsIdeal.nD Cert.FpsIdeal.τ).loc Cert.FpsIdeal.main_arg0)) →
    ∃ (v0 : (c : Dev Cert.FpsIdeal.nD) → Buf (Elt Ideal) ((c.tc : Thread Cert.FpsIdeal.nD Cert.FpsIdeal.τ).loc Cert.FpsIdeal.main_v13)),
      θ_run (Cert.FpsIdeal.defs (F := Ideal)) (onTc (τ := Cert.FpsIdeal.τ) (Cert.FpsIdeal.main (F := Ideal))) ⟨m, fun _ => 0, g⟩ (fun r => ∀ c : Dev Cert.FpsIdeal.nD,
          r.2.mem ((c.tc : Thread Cert.FpsIdeal.nD Cert.FpsIdeal.τ).loc Cert.FpsIdeal.main_v13) = v0 c
          ∧ r.2.mem ((c.tc : Thread Cert.FpsIdeal.nD Cert.FpsIdeal.τ).loc Cert.FpsIdeal.main_arg0) = m ((c.tc : Thread Cert.FpsIdeal.nD Cert.FpsIdeal.τ).loc Cert.FpsIdeal.main_arg0))
      ∧ θ_run (Cert.RefFpsIdeal.defs (F := Ideal)) (onTc (τ := Cert.RefFpsIdeal.τ) (Cert.RefFpsIdeal.main (F := Ideal))) ⟨m', fun _ => 0, g'⟩ (fun r => ∀ c : Dev Cert.RefFpsIdeal.nD,
          r.2.mem ((c.tc : Thread Cert.RefFpsIdeal.nD Cert.RefFpsIdeal.τ).loc Cert.RefFpsIdeal.main_v5) = v0 c
          ∧ r.2.mem ((c.tc : Thread Cert.RefFpsIdeal.nD Cert.RefFpsIdeal.τ).loc Cert.RefFpsIdeal.main_arg0) = m' ((c.tc : Thread Cert.RefFpsIdeal.nD Cert.RefFpsIdeal.τ).loc Cert.RefFpsIdeal.main_arg0))

def preserves_Mlp_MlpIdeal : Prop :=
  True

def algebraic_MlpIdeal_RefMlpIdeal_pre_all_finite [hMlpIdeal : Cert.MlpIdeal.Facts] [hRefMlpIdeal : Cert.RefMlpIdeal.Facts] [hPre_all_finite : Cert.Pre_all_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.RefMlpIdeal.nD Cert.RefMlpIdeal.τ Cert.RefMlpIdeal.sig) → Buf (Elt Ideal) ℓ) (g' : Dev Cert.RefMlpIdeal.nD → PrngReg), Pre_MlpIdeal_all_finite m →
    (∀ c : Dev Cert.MlpIdeal.nD,
      m' ((c.tc : Thread Cert.RefMlpIdeal.nD Cert.RefMlpIdeal.τ).loc Cert.RefMlpIdeal.main_arg0) = m ((c.tc : Thread Cert.MlpIdeal.nD Cert.MlpIdeal.τ).loc Cert.MlpIdeal.main_arg0)
      ∧ m' ((c.tc : Thread Cert.RefMlpIdeal.nD Cert.RefMlpIdeal.τ).loc Cert.RefMlpIdeal.main_arg1) = m ((c.tc : Thread Cert.MlpIdeal.nD Cert.MlpIdeal.τ).loc Cert.MlpIdeal.main_arg1)
      ∧ m' ((c.tc : Thread Cert.RefMlpIdeal.nD Cert.RefMlpIdeal.τ).loc Cert.RefMlpIdeal.main_arg2) = m ((c.tc : Thread Cert.MlpIdeal.nD Cert.MlpIdeal.τ).loc Cert.MlpIdeal.main_arg2)
      ∧ m' ((c.tc : Thread Cert.RefMlpIdeal.nD Cert.RefMlpIdeal.τ).loc Cert.RefMlpIdeal.main_arg3) = m ((c.tc : Thread Cert.MlpIdeal.nD Cert.MlpIdeal.τ).loc Cert.MlpIdeal.main_arg3)
      ∧ m' ((c.tc : Thread Cert.RefMlpIdeal.nD Cert.RefMlpIdeal.τ).loc Cert.RefMlpIdeal.main_arg4) = m ((c.tc : Thread Cert.MlpIdeal.nD Cert.MlpIdeal.τ).loc Cert.MlpIdeal.main_arg4)
      ∧ m' ((c.tc : Thread Cert.RefMlpIdeal.nD Cert.RefMlpIdeal.τ).loc Cert.RefMlpIdeal.main_arg5) = m ((c.tc : Thread Cert.MlpIdeal.nD Cert.MlpIdeal.τ).loc Cert.MlpIdeal.main_arg5)
      ∧ m' ((c.tc : Thread Cert.RefMlpIdeal.nD Cert.RefMlpIdeal.τ).loc Cert.RefMlpIdeal.main_arg6) = m ((c.tc : Thread Cert.MlpIdeal.nD Cert.MlpIdeal.τ).loc Cert.MlpIdeal.main_arg6)
      ∧ m' ((c.tc : Thread Cert.RefMlpIdeal.nD Cert.RefMlpIdeal.τ).loc Cert.RefMlpIdeal.main_arg7) = m ((c.tc : Thread Cert.MlpIdeal.nD Cert.MlpIdeal.τ).loc Cert.MlpIdeal.main_arg7)
      ∧ m' ((c.tc : Thread Cert.RefMlpIdeal.nD Cert.RefMlpIdeal.τ).loc Cert.RefMlpIdeal.main_arg8) = m ((c.tc : Thread Cert.MlpIdeal.nD Cert.MlpIdeal.τ).loc Cert.MlpIdeal.main_arg8)
      ∧ m' ((c.tc : Thread Cert.RefMlpIdeal.nD Cert.RefMlpIdeal.τ).loc Cert.RefMlpIdeal.main_arg9) = m ((c.tc : Thread Cert.MlpIdeal.nD Cert.MlpIdeal.τ).loc Cert.MlpIdeal.main_arg9)
      ∧ m' ((c.tc : Thread Cert.RefMlpIdeal.nD Cert.RefMlpIdeal.τ).loc Cert.RefMlpIdeal.main_arg10) = m ((c.tc : Thread Cert.MlpIdeal.nD Cert.MlpIdeal.τ).loc Cert.MlpIdeal.main_arg10)
      ∧ m' ((c.tc : Thread Cert.RefMlpIdeal.nD Cert.RefMlpIdeal.τ).loc Cert.RefMlpIdeal.main_arg11) = m ((c.tc : Thread Cert.MlpIdeal.nD Cert.MlpIdeal.τ).loc Cert.MlpIdeal.main_arg11)
      ∧ m' ((c.tc : Thread Cert.RefMlpIdeal.nD Cert.RefMlpIdeal.τ).loc Cert.RefMlpIdeal.main_arg12) = m ((c.tc : Thread Cert.MlpIdeal.nD Cert.MlpIdeal.τ).loc Cert.MlpIdeal.main_arg12)
      ∧ m' ((c.tc : Thread Cert.RefMlpIdeal.nD Cert.RefMlpIdeal.τ).loc Cert.RefMlpIdeal.main_arg13) = m ((c.tc : Thread Cert.MlpIdeal.nD Cert.MlpIdeal.τ).loc Cert.MlpIdeal.main_arg13)) →
    ∃ (v0 : (c : Dev Cert.MlpIdeal.nD) → Buf (Elt Ideal) ((c.tc : Thread Cert.MlpIdeal.nD Cert.MlpIdeal.τ).loc Cert.MlpIdeal.main_v53)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v53) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
          ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
          ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13))
      ∧ θ_run (Cert.RefMlpIdeal.defs (F := Ideal)) (onTc (τ := Cert.RefMlpIdeal.τ) (Cert.RefMlpIdeal.main (F := Ideal))) ⟨m', fun _ => 0, g'⟩ (fun r => ∀ c : Dev Cert.RefMlpIdeal.nD,
          r.2.mem ((c.tc : Thread Cert.RefMlpIdeal.nD Cert.RefMlpIdeal.τ).loc Cert.RefMlpIdeal.main_v76) = v0 c
          ∧ r.2.mem ((c.tc : Thread Cert.RefMlpIdeal.nD Cert.RefMlpIdeal.τ).loc Cert.RefMlpIdeal.main_arg0) = m' ((c.tc : Thread Cert.RefMlpIdeal.nD Cert.RefMlpIdeal.τ).loc Cert.RefMlpIdeal.main_arg0)
          ∧ r.2.mem ((c.tc : Thread Cert.RefMlpIdeal.nD Cert.RefMlpIdeal.τ).loc Cert.RefMlpIdeal.main_arg1) = m' ((c.tc : Thread Cert.RefMlpIdeal.nD Cert.RefMlpIdeal.τ).loc Cert.RefMlpIdeal.main_arg1)
          ∧ r.2.mem ((c.tc : Thread Cert.RefMlpIdeal.nD Cert.RefMlpIdeal.τ).loc Cert.RefMlpIdeal.main_arg2) = m' ((c.tc : Thread Cert.RefMlpIdeal.nD Cert.RefMlpIdeal.τ).loc Cert.RefMlpIdeal.main_arg2)
          ∧ r.2.mem ((c.tc : Thread Cert.RefMlpIdeal.nD Cert.RefMlpIdeal.τ).loc Cert.RefMlpIdeal.main_arg3) = m' ((c.tc : Thread Cert.RefMlpIdeal.nD Cert.RefMlpIdeal.τ).loc Cert.RefMlpIdeal.main_arg3)
          ∧ r.2.mem ((c.tc : Thread Cert.RefMlpIdeal.nD Cert.RefMlpIdeal.τ).loc Cert.RefMlpIdeal.main_arg4) = m' ((c.tc : Thread Cert.RefMlpIdeal.nD Cert.RefMlpIdeal.τ).loc Cert.RefMlpIdeal.main_arg4)
          ∧ r.2.mem ((c.tc : Thread Cert.RefMlpIdeal.nD Cert.RefMlpIdeal.τ).loc Cert.RefMlpIdeal.main_arg5) = m' ((c.tc : Thread Cert.RefMlpIdeal.nD Cert.RefMlpIdeal.τ).loc Cert.RefMlpIdeal.main_arg5)
          ∧ r.2.mem ((c.tc : Thread Cert.RefMlpIdeal.nD Cert.RefMlpIdeal.τ).loc Cert.RefMlpIdeal.main_arg6) = m' ((c.tc : Thread Cert.RefMlpIdeal.nD Cert.RefMlpIdeal.τ).loc Cert.RefMlpIdeal.main_arg6)
          ∧ r.2.mem ((c.tc : Thread Cert.RefMlpIdeal.nD Cert.RefMlpIdeal.τ).loc Cert.RefMlpIdeal.main_arg7) = m' ((c.tc : Thread Cert.RefMlpIdeal.nD Cert.RefMlpIdeal.τ).loc Cert.RefMlpIdeal.main_arg7)
          ∧ r.2.mem ((c.tc : Thread Cert.RefMlpIdeal.nD Cert.RefMlpIdeal.τ).loc Cert.RefMlpIdeal.main_arg8) = m' ((c.tc : Thread Cert.RefMlpIdeal.nD Cert.RefMlpIdeal.τ).loc Cert.RefMlpIdeal.main_arg8)
          ∧ r.2.mem ((c.tc : Thread Cert.RefMlpIdeal.nD Cert.RefMlpIdeal.τ).loc Cert.RefMlpIdeal.main_arg9) = m' ((c.tc : Thread Cert.RefMlpIdeal.nD Cert.RefMlpIdeal.τ).loc Cert.RefMlpIdeal.main_arg9)
          ∧ r.2.mem ((c.tc : Thread Cert.RefMlpIdeal.nD Cert.RefMlpIdeal.τ).loc Cert.RefMlpIdeal.main_arg10) = m' ((c.tc : Thread Cert.RefMlpIdeal.nD Cert.RefMlpIdeal.τ).loc Cert.RefMlpIdeal.main_arg10)
          ∧ r.2.mem ((c.tc : Thread Cert.RefMlpIdeal.nD Cert.RefMlpIdeal.τ).loc Cert.RefMlpIdeal.main_arg11) = m' ((c.tc : Thread Cert.RefMlpIdeal.nD Cert.RefMlpIdeal.τ).loc Cert.RefMlpIdeal.main_arg11)
          ∧ r.2.mem ((c.tc : Thread Cert.RefMlpIdeal.nD Cert.RefMlpIdeal.τ).loc Cert.RefMlpIdeal.main_arg12) = m' ((c.tc : Thread Cert.RefMlpIdeal.nD Cert.RefMlpIdeal.τ).loc Cert.RefMlpIdeal.main_arg12)
          ∧ r.2.mem ((c.tc : Thread Cert.RefMlpIdeal.nD Cert.RefMlpIdeal.τ).loc Cert.RefMlpIdeal.main_arg13) = m' ((c.tc : Thread Cert.RefMlpIdeal.nD Cert.RefMlpIdeal.τ).loc Cert.RefMlpIdeal.main_arg13))

def preserves_Bq_BqIdeal : Prop :=
  True

def algebraic_BqIdeal_RefBqIdeal [hBqIdeal : Cert.BqIdeal.Facts] [hRefBqIdeal : Cert.RefBqIdeal.Facts] : Prop :=
  ∀ (m : (ℓ : Loc Cert.BqIdeal.nD Cert.BqIdeal.τ Cert.BqIdeal.sig) → Buf (Elt Ideal) ℓ) (g : Dev Cert.BqIdeal.nD → PrngReg)
    (m' : (ℓ : Loc Cert.RefBqIdeal.nD Cert.RefBqIdeal.τ Cert.RefBqIdeal.sig) → Buf (Elt Ideal) ℓ) (g' : Dev Cert.RefBqIdeal.nD → PrngReg), Pre_BqIdeal m →
    (∀ c : Dev Cert.BqIdeal.nD,
      m' ((c.tc : Thread Cert.RefBqIdeal.nD Cert.RefBqIdeal.τ).loc Cert.RefBqIdeal.main_arg0) = m ((c.tc : Thread Cert.BqIdeal.nD Cert.BqIdeal.τ).loc Cert.BqIdeal.main_arg0)
      ∧ m' ((c.tc : Thread Cert.RefBqIdeal.nD Cert.RefBqIdeal.τ).loc Cert.RefBqIdeal.main_arg1) = m ((c.tc : Thread Cert.BqIdeal.nD Cert.BqIdeal.τ).loc Cert.BqIdeal.main_arg1)) →
    ∃ (v0 : (c : Dev Cert.BqIdeal.nD) → Buf (Elt Ideal) ((c.tc : Thread Cert.BqIdeal.nD Cert.BqIdeal.τ).loc Cert.BqIdeal.main_v9)),
      θ_run (Cert.BqIdeal.defs (F := Ideal)) (onTc (τ := Cert.BqIdeal.τ) (Cert.BqIdeal.main (F := Ideal))) ⟨m, fun _ => 0, g⟩ (fun r => ∀ c : Dev Cert.BqIdeal.nD,
          r.2.mem ((c.tc : Thread Cert.BqIdeal.nD Cert.BqIdeal.τ).loc Cert.BqIdeal.main_v9) = v0 c
          ∧ r.2.mem ((c.tc : Thread Cert.BqIdeal.nD Cert.BqIdeal.τ).loc Cert.BqIdeal.main_arg0) = m ((c.tc : Thread Cert.BqIdeal.nD Cert.BqIdeal.τ).loc Cert.BqIdeal.main_arg0)
          ∧ r.2.mem ((c.tc : Thread Cert.BqIdeal.nD Cert.BqIdeal.τ).loc Cert.BqIdeal.main_arg1) = m ((c.tc : Thread Cert.BqIdeal.nD Cert.BqIdeal.τ).loc Cert.BqIdeal.main_arg1))
      ∧ θ_run (Cert.RefBqIdeal.defs (F := Ideal)) (onTc (τ := Cert.RefBqIdeal.τ) (Cert.RefBqIdeal.main (F := Ideal))) ⟨m', fun _ => 0, g'⟩ (fun r => ∀ c : Dev Cert.RefBqIdeal.nD,
          r.2.mem ((c.tc : Thread Cert.RefBqIdeal.nD Cert.RefBqIdeal.τ).loc Cert.RefBqIdeal.main_v29) = v0 c
          ∧ r.2.mem ((c.tc : Thread Cert.RefBqIdeal.nD Cert.RefBqIdeal.τ).loc Cert.RefBqIdeal.main_arg0) = m' ((c.tc : Thread Cert.RefBqIdeal.nD Cert.RefBqIdeal.τ).loc Cert.RefBqIdeal.main_arg0)
          ∧ r.2.mem ((c.tc : Thread Cert.RefBqIdeal.nD Cert.RefBqIdeal.τ).loc Cert.RefBqIdeal.main_arg1) = m' ((c.tc : Thread Cert.RefBqIdeal.nD Cert.RefBqIdeal.τ).loc Cert.RefBqIdeal.main_arg1))

def Claim : Prop :=
  ∃ (hKernel : Cert.Kernel.Facts) (hKernelIdeal : Cert.KernelIdeal.Facts) (hReference : Cert.Reference.Facts) (hReferenceIdeal : Cert.ReferenceIdeal.Facts) (hFps : Cert.Fps.Facts) (hFpsIdeal : Cert.FpsIdeal.Facts) (hRefFpsIdeal : Cert.RefFpsIdeal.Facts) (hMlp : Cert.Mlp.Facts) (hMlpIdeal : Cert.MlpIdeal.Facts) (hRefMlpIdeal : Cert.RefMlpIdeal.Facts) (hBq : Cert.Bq.Facts) (hBqIdeal : Cert.BqIdeal.Facts) (hRefBqIdeal : Cert.RefBqIdeal.Facts) (hPre_rows_in_table : Cert.Pre_rows_in_table.Facts) (hPre_all_finite : Cert.Pre_all_finite.Facts),
    quiescent_Kernel (hKernel := hKernel) (hPre_rows_in_table := hPre_rows_in_table)
    ∧ quiescent_KernelIdeal (hKernelIdeal := hKernelIdeal) (hPre_rows_in_table := hPre_rows_in_table)
    ∧ quiescent_Reference (hReference := hReference)
    ∧ quiescent_Reference_pre_rows_in_table (hReference := hReference) (hPre_rows_in_table := hPre_rows_in_table)
    ∧ quiescent_ReferenceIdeal (hReferenceIdeal := hReferenceIdeal)
    ∧ quiescent_ReferenceIdeal_pre_rows_in_table (hReferenceIdeal := hReferenceIdeal) (hPre_rows_in_table := hPre_rows_in_table)
    ∧ quiescent_Fps (hFps := hFps)
    ∧ quiescent_FpsIdeal (hFpsIdeal := hFpsIdeal)
    ∧ quiescent_RefFpsIdeal (hRefFpsIdeal := hRefFpsIdeal)
    ∧ quiescent_Mlp (hMlp := hMlp)
    ∧ quiescent_MlpIdeal (hMlpIdeal := hMlpIdeal)
    ∧ quiescent_MlpIdeal_pre_all_finite (hMlpIdeal := hMlpIdeal) (hPre_all_finite := hPre_all_finite)
    ∧ quiescent_RefMlpIdeal (hRefMlpIdeal := hRefMlpIdeal)
    ∧ quiescent_RefMlpIdeal_pre_all_finite (hRefMlpIdeal := hRefMlpIdeal) (hPre_all_finite := hPre_all_finite)
    ∧ quiescent_Bq (hBq := hBq)
    ∧ quiescent_BqIdeal (hBqIdeal := hBqIdeal)
    ∧ quiescent_RefBqIdeal (hRefBqIdeal := hRefBqIdeal)
    ∧ preserves_Kernel_KernelIdeal
    ∧ algebraic_KernelIdeal_ReferenceIdeal (hKernelIdeal := hKernelIdeal) (hReferenceIdeal := hReferenceIdeal) (hPre_rows_in_table := hPre_rows_in_table)
    ∧ bitexact_Kernel_Reference (hKernel := hKernel) (hReference := hReference) (hPre_rows_in_table := hPre_rows_in_table)
    ∧ preserves_Fps_FpsIdeal
    ∧ algebraic_FpsIdeal_RefFpsIdeal (hFpsIdeal := hFpsIdeal) (hRefFpsIdeal := hRefFpsIdeal)
    ∧ preserves_Mlp_MlpIdeal
    ∧ algebraic_MlpIdeal_RefMlpIdeal_pre_all_finite (hMlpIdeal := hMlpIdeal) (hRefMlpIdeal := hRefMlpIdeal) (hPre_all_finite := hPre_all_finite)
    ∧ preserves_Bq_BqIdeal
    ∧ algebraic_BqIdeal_RefBqIdeal (hBqIdeal := hBqIdeal) (hRefBqIdeal := hRefBqIdeal)
-- ==== Pre_all_finite.lean ====
abbrev S262144x128 : Shape := ⟨2, ![262144, 128]⟩
abbrev S8x1024x3 : Shape := ⟨3, ![8, 1024, 3]⟩
abbrev S67x64 : Shape := ⟨2, ![67, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S262144x67 : Shape := ⟨2, ![262144, 67]⟩
abbrev S_ : Shape := ⟨0, ![]⟩

class Facts : Prop where
  slices_S262144x128_S262144x67_0_0 : S262144x128.Slices ![0, 0] S262144x67
  bcast_S_S262144x67 : S_.BroadcastsInDim S262144x67 (![] : Fin 0 → Fin S262144x67.rank)
  reducesTo_S262144x67_S_d0_1 : S262144x67.ReducesTo [0, 1] S_
  h_S_ : 0 < S_.numel
  bcast_S_S8x1024x3 : S_.BroadcastsInDim S8x1024x3 (![] : Fin 0 → Fin S8x1024x3.rank)
  reducesTo_S8x1024x3_S_d0_1_2 : S8x1024x3.ReducesTo [0, 1, 2] S_
  bcast_S_S67x64 : S_.BroadcastsInDim S67x64 (![] : Fin 0 → Fin S67x64.rank)
  reducesTo_S67x64_S_d0_1 : S67x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v64 : IVec S_ 1) (main_v67 : IVec S128 1) (main_c_25 : IVec S_ 1) : IVec S_ 1 :=
  let main_v68 : IVec S_ 1 := (fun x v => Host.reduce IntOp.andi x v reducesTo_S128_S_d0 h_S_) main_v67 main_c_25
  let main_v69 : IVec S_ 1 := andi main_v64 main_v68
  main_v69

def fn_part3 {F : FTy → Type} [FloatOps F] (main_arg11 : FVec F S128 .f32) (main_arg12 : FVec F S128 .f32) (main_arg13 : FVec F S128 .f32) (main_v49 : IVec S_ 1) (main_v50 : FVec F S64x128 .f32) (main_cst_18 : FVec F S_ .f32) : IVec S_ 1 :=
  let main_v51 : FVec F S64x128 .f32 := broadcastInDim S64x128 ![] bcast_S_S64x128 main_cst_18
  let main_v52 : IVec S64x128 1 := cmpf .olt main_v50 main_v51
  let main_c_19 : IVec S_ 1 := constantI S_ 1 1#1
  let main_v53 : IVec S_ 1 := (fun x v => Host.reduce IntOp.andi x v reducesTo_S64x128_S_d0_1 h_S_) main_v52 main_c_19
  let main_v54 : IVec S_ 1 := andi main_v49 main_v53
  let main_v55 : FVec F S128 .f32 := Host.absf main_arg11
  let main_cst_20 : FVec F S_ .f32 := constant S_ .f32 0x7F800000#32
  let main_v56 : FVec F S128 .f32 := broadcastInDim S128 ![] bcast_S_S128 main_cst_20
  let main_v57 : IVec S128 1 := cmpf .olt main_v55 main_v56
  let main_c_21 : IVec S_ 1 := constantI S_ 1 1#1
  let main_v58 : IVec S_ 1 := (fun x v => Host.reduce IntOp.andi x v reducesTo_S128_S_d0 h_S_) main_v57 main_c_21
  let main_v59 : IVec S_ 1 := andi main_v54 main_v58
  let main_v60 : FVec F S128 .f32 := Host.absf main_arg12
  let main_cst_22 : FVec F S_ .f32 := constant S_ .f32 0x7F800000#32
  let main_v61 : FVec F S128 .f32 := broadcastInDim S128 ![] bcast_S_S128 main_cst_22
  let main_v62 : IVec S128 1 := cmpf .olt main_v60 main_v61
  let main_c_23 : IVec S_ 1 := constantI S_ 1 1#1
  let main_v63 : IVec S_ 1 := (fun x v => Host.reduce IntOp.andi x v reducesTo_S128_S_d0 h_S_) main_v62 main_c_23
  let main_v64 : IVec S_ 1 := andi main_v59 main_v63
  let main_v65 : FVec F S128 .f32 := Host.absf main_arg13
  let main_cst_24 : FVec F S_ .f32 := constant S_ .f32 0x7F800000#32
  let main_v66 : FVec F S128 .f32 := broadcastInDim S128 ![] bcast_S_S128 main_cst_24
  let main_v67 : IVec S128 1 := cmpf .olt main_v65 main_v66
  let main_c_25 : IVec S_ 1 := constantI S_ 1 1#1
  fn_part4 (F := F) main_v64 main_v67 main_c_25

def fn_part2 {F : FTy → Type} [FloatOps F] (main_arg7 : FVec F S64 .f32) (main_arg8 : FVec F S64 .f32) (main_arg9 : FVec F S64 .f32) (main_arg10 : FVec F S64x128 .f32) (main_arg11 : FVec F S128 .f32) (main_arg12 : FVec F S128 .f32) (main_arg13 : FVec F S128 .f32) (main_v29 : IVec S_ 1) (main_v33 : IVec S_ 1) : IVec S_ 1 :=
  let main_v34 : IVec S_ 1 := andi main_v29 main_v33
  let main_v35 : FVec F S64 .f32 := Host.absf main_arg7
  let main_cst_12 : FVec F S_ .f32 := constant S_ .f32 0x7F800000#32
  let main_v36 : FVec F S64 .f32 := broadcastInDim S64 ![] bcast_S_S64 main_cst_12
  let main_v37 : IVec S64 1 := cmpf .olt main_v35 main_v36
  let main_c_13 : IVec S_ 1 := constantI S_ 1 1#1
  let main_v38 : IVec S_ 1 := (fun x v => Host.reduce IntOp.andi x v reducesTo_S64_S_d0 h_S_) main_v37 main_c_13
  let main_v39 : IVec S_ 1 := andi main_v34 main_v38
  let main_v40 : FVec F S64 .f32 := Host.absf main_arg8
  let main_cst_14 : FVec F S_ .f32 := constant S_ .f32 0x7F800000#32
  let main_v41 : FVec F S64 .f32 := broadcastInDim S64 ![] bcast_S_S64 main_cst_14
  let main_v42 : IVec S64 1 := cmpf .olt main_v40 main_v41
  let main_c_15 : IVec S_ 1 := constantI S_ 1 1#1
  let main_v43 : IVec S_ 1 := (fun x v => Host.reduce IntOp.andi x v reducesTo_S64_S_d0 h_S_) main_v42 main_c_15
  let main_v44 : IVec S_ 1 := andi main_v39 main_v43
  let main_v45 : FVec F S64 .f32 := Host.absf main_arg9
  let main_cst_16 : FVec F S_ .f32 := constant S_ .f32 0x7F800000#32
  let main_v46 : FVec F S64 .f32 := broadcastInDim S64 ![] bcast_S_S64 main_cst_16
  let main_v47 : IVec S64 1 := cmpf .olt main_v45 main_v46
  let main_c_17 : IVec S_ 1 := constantI S_ 1 1#1
  let main_v48 : IVec S_ 1 := (fun x v => Host.reduce IntOp.andi x v reducesTo_S64_S_d0 h_S_) main_v47 main_c_17
  let main_v49 : IVec S_ 1 := andi main_v44 main_v48
  let main_v50 : FVec F S64x128 .f32 := Host.absf main_arg10
  let main_cst_18 : FVec F S_ .f32 := constant S_ .f32 0x7F800000#32
  fn_part3 (F := F) main_arg11 main_arg12 main_arg13 main_v49 main_v50 main_cst_18

def fn_part1 {F : FTy → Type} [FloatOps F] (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x128 .f32) (main_arg11 : FVec F S128 .f32) (main_arg12 : FVec F S128 .f32) (main_arg13 : FVec F S128 .f32) (main_v14 : IVec S_ 1) (main_v15 : FVec F S64 .f32) (main_v16 : FVec F S64 .f32) : IVec S_ 1 :=
  let main_v17 : IVec S64 1 := cmpf .olt main_v15 main_v16
  let main_c_5 : IVec S_ 1 := constantI S_ 1 1#1
  let main_v18 : IVec S_ 1 := (fun x v => Host.reduce IntOp.andi x v reducesTo_S64_S_d0 h_S_) main_v17 main_c_5
  let main_v19 : IVec S_ 1 := andi main_v14 main_v18
  let main_v20 : FVec F S64 .f32 := Host.absf main_arg4
  let main_cst_6 : FVec F S_ .f32 := constant S_ .f32 0x7F800000#32
  let main_v21 : FVec F S64 .f32 := broadcastInDim S64 ![] bcast_S_S64 main_cst_6
  let main_v22 : IVec S64 1 := cmpf .olt main_v20 main_v21
  let main_c_7 : IVec S_ 1 := constantI S_ 1 1#1
  let main_v23 : IVec S_ 1 := (fun x v => Host.reduce IntOp.andi x v reducesTo_S64_S_d0 h_S_) main_v22 main_c_7
  let main_v24 : IVec S_ 1 := andi main_v19 main_v23
  let main_v25 : FVec F S64 .f32 := Host.absf main_arg5
  let main_cst_8 : FVec F S_ .f32 := constant S_ .f32 0x7F800000#32
  let main_v26 : FVec F S64 .f32 := broadcastInDim S64 ![] bcast_S_S64 main_cst_8
  let main_v27 : IVec S64 1 := cmpf .olt main_v25 main_v26
  let main_c_9 : IVec S_ 1 := constantI S_ 1 1#1
  let main_v28 : IVec S_ 1 := (fun x v => Host.reduce IntOp.andi x v reducesTo_S64_S_d0 h_S_) main_v27 main_c_9
  let main_v29 : IVec S_ 1 := andi main_v24 main_v28
  let main_v30 : FVec F S64x64 .f32 := Host.absf main_arg6
  let main_cst_10 : FVec F S_ .f32 := constant S_ .f32 0x7F800000#32
  let main_v31 : FVec F S64x64 .f32 := broadcastInDim S64x64 ![] bcast_S_S64x64 main_cst_10
  let main_v32 : IVec S64x64 1 := cmpf .olt main_v30 main_v31
  let main_c_11 : IVec S_ 1 := constantI S_ 1 1#1
  let main_v33 : IVec S_ 1 := (fun x v => Host.reduce IntOp.andi x v reducesTo_S64x64_S_d0_1 h_S_) main_v32 main_c_11
  fn_part2 (F := F) main_arg7 main_arg8 main_arg9 main_arg10 main_arg11 main_arg12 main_arg13 main_v29 main_v33

def fn {F : FTy → Type} [FloatOps F] (main_arg0 : FVec F S262144x128 .f32) (main_arg1 : FVec F S8x1024x3 .f32) (main_arg2 : FVec F S67x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x128 .f32) (main_arg11 : FVec F S128 .f32) (main_arg12 : FVec F S128 .f32) (main_arg13 : FVec F S128 .f32) : IVec S_ 1 :=
  let main_v0 : FVec F S262144x67 .f32 := (extractStridedSlice S262144x67 ![0, 0] · slices_S262144x128_S262144x67_0_0) main_arg0
  let main_v1 : FVec F S262144x67 .f32 := Host.absf main_v0
  let main_cst : FVec F S_ .f32 := constant S_ .f32 0x7F800000#32
  let main_v2 : FVec F S262144x67 .f32 := broadcastInDim S262144x67 ![] bcast_S_S262144x67 main_cst
  let main_v3 : IVec S262144x67 1 := cmpf .olt main_v1 main_v2
  let main_c : IVec S_ 1 := constantI S_ 1 1#1
  let main_v4 : IVec S_ 1 := (fun x v => Host.reduce IntOp.andi x v reducesTo_S262144x67_S_d0_1 h_S_) main_v3 main_c
  let main_v5 : FVec F S8x1024x3 .f32 := Host.absf main_arg1
  let main_cst_0 : FVec F S_ .f32 := constant S_ .f32 0x7F800000#32
  let main_v6 : FVec F S8x1024x3 .f32 := broadcastInDim S8x1024x3 ![] bcast_S_S8x1024x3 main_cst_0
  let main_v7 : IVec S8x1024x3 1 := cmpf .olt main_v5 main_v6
  let main_c_1 : IVec S_ 1 := constantI S_ 1 1#1
  let main_v8 : IVec S_ 1 := (fun x v => Host.reduce IntOp.andi x v reducesTo_S8x1024x3_S_d0_1_2 h_S_) main_v7 main_c_1
  let main_v9 : IVec S_ 1 := andi main_v4 main_v8
  let main_v10 : FVec F S67x64 .f32 := Host.absf main_arg2
  let main_cst_2 : FVec F S_ .f32 := constant S_ .f32 0x7F800000#32
  let main_v11 : FVec F S67x64 .f32 := broadcastInDim S67x64 ![] bcast_S_S67x64 main_cst_2
  let main_v12 : IVec S67x64 1 := cmpf .olt main_v10 main_v11
  let main_c_3 : IVec S_ 1 := constantI S_ 1 1#1
  let main_v13 : IVec S_ 1 := (fun x v => Host.reduce IntOp.andi x v reducesTo_S67x64_S_d0_1 h_S_) main_v12 main_c_3
  let main_v14 : IVec S_ 1 := andi main_v9 main_v13
  let main_v15 : FVec F S64 .f32 := Host.absf main_arg3
  let main_cst_4 : FVec F S_ .f32 := constant S_ .f32 0x7F800000#32
  let main_v16 : FVec F S64 .f32 := broadcastInDim S64 ![] bcast_S_S64 main_cst_4
  fn_part1 (F := F) main_arg4 main_arg5 main_arg6 main_arg7 main_arg8 main_arg9 main_arg10 main_arg11 main_arg12 main_arg13 main_v14 main_v15 main_v16
-- ==== Pre_rows_in_table.lean ====
abbrev S8x4096x64 : Shape := ⟨3, ![8, 4096, 64]⟩
abbrev S8x4096x3 : Shape := ⟨3, ![8, 4096, 3]⟩
abbrev S8x1024x32 : Shape := ⟨3, ![8, 1024, 32]⟩
abbrev S_ : Shape := ⟨0, ![]⟩

class Facts : Prop where
  bcast_S_S8x1024x32 : S_.BroadcastsInDim S8x1024x32 (![] : Fin 0 → Fin S8x1024x32.rank)
  reducesTo_S8x1024x32_S_d0_1_2 : S8x1024x32.ReducesTo [0, 1, 2] S_
  h_S_ : 0 < S_.numel

variable [Facts]

def fn {F : FTy → Type} [FloatOps F] (main_arg0 : FVec F S8x4096x64 .f32) (main_arg1 : FVec F S8x4096x3 .f32) (main_arg2 : IVec S8x1024x32 32) : IVec S_ 1 :=
  let main_c : IVec S_ 32 := constantI S_ 32 0#32
  let main_v0 : IVec S8x1024x32 32 := broadcastInDim S8x1024x32 ![] bcast_S_S8x1024x32 main_c
  let main_v1 : IVec S8x1024x32 1 := cmpi .sge main_arg2 main_v0
  let main_c_0 : IVec S_ 32 := constantI S_ 32 32768#32
  let main_v2 : IVec S8x1024x32 32 := broadcastInDim S8x1024x32 ![] bcast_S_S8x1024x32 main_c_0
  let main_v3 : IVec S8x1024x32 1 := cmpi .slt main_arg2 main_v2
  let main_v4 : IVec S8x1024x32 1 := andi main_v1 main_v3
  let main_c_1 : IVec S_ 1 := constantI S_ 1 1#1
  let main_v5 : IVec S_ 1 := (fun x v => Host.reduce IntOp.andi x v reducesTo_S8x1024x32_S_d0_1_2 h_S_) main_v4 main_c_1
  main_v5
-- ==== Kernel.lean ====
abbrev S8x4096x64 : Shape := ⟨3, ![8, 4096, 64]⟩
abbrev S8x4096x3 : Shape := ⟨3, ![8, 4096, 3]⟩
abbrev S8x1024x32 : Shape := ⟨3, ![8, 1024, 32]⟩
abbrev S_ : Shape := ⟨0, ![]⟩
abbrev S8x4096x61 : Shape := ⟨3, ![8, 4096, 61]⟩
abbrev S8x4096x128 : Shape := ⟨3, ![8, 4096, 128]⟩
abbrev S32768x128 : Shape := ⟨2, ![32768, 128]⟩
abbrev S262144 : Shape := ⟨1, ![262144]⟩
abbrev S1x262144 : Shape := ⟨2, ![1, 262144]⟩
abbrev S262144x128 : Shape := ⟨2, ![262144, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩

abbrev nBuf : Table → Nat
  | .hbm => 10
  | .local .scVector .vmem => 2
  | _ => 0

abbrev bufTy : (tb : Table) → Fin (nBuf tb) → BufTy
  | .hbm, ⟨0, _⟩ => ⟨S8x4096x64, .f32⟩
  | .hbm, ⟨1, _⟩ => ⟨S8x4096x3, .f32⟩
  | .hbm, ⟨2, _⟩ => ⟨S8x1024x32, .i32⟩
  | .hbm, ⟨3, _⟩ => ⟨S_, .f32⟩
  | .hbm, ⟨4, _⟩ => ⟨S8x4096x61, .f32⟩
  | .hbm, ⟨5, _⟩ => ⟨S8x4096x128, .f32⟩
  | .hbm, ⟨6, _⟩ => ⟨S32768x128, .f32⟩
  | .hbm, ⟨7, _⟩ => ⟨S262144, .i32⟩
  | .hbm, ⟨8, _⟩ => ⟨S1x262144, .i32⟩
  | .hbm, ⟨9, _⟩ => ⟨S262144x128, .f32⟩
  | .local .scVector .vmem, ⟨0, _⟩ => ⟨S2x1x128, .i32⟩
  | .local .scVector .vmem, ⟨1, _⟩ => ⟨S2x128x128, .f32⟩
  | _, _ => ⟨S8x4096x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v2_scv : Ref sig .scVector := ⟨.hbm, 6, rfl⟩
abbrev main_v4_scv : Ref sig .scVector := ⟨.hbm, 8, rfl⟩
abbrev main_v5_scv : Ref sig .scVector := ⟨.hbm, 9, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c64_i32_27_r0 : BitVec 32 := 64#32
  let v32_r0 : BitVec 32 := Scalar.addi c0_i32_26_r0 c64_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c63_i32_68_r0 : BitVec 32 := 63#32
  let v83_r0 : BitVec 1 := Scalar.cmpi .sge arg5_r0 c63_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c63_i32_55_r0 : BitVec 32 := 63#32
  let v65_r0 : BitVec 1 := Scalar.cmpi .eq arg5_r0 c63_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x262144.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x262144.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S262144x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S262144x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x262144.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x262144.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S262144x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S262144x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c63_i32_33_r0 : BitVec 32 := 63#32
  let v37_r0 : BitVec 32 := Scalar.select v36_r0 c63_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S262144x128.size a)
theorem k0_off19_inb : ∀ (i : grid0.Coords) (v33_4_r0 : BitVec 32) (k0_hw5 : k0_chk5 i v33_4_r0), ∀ a, (k0_off19 i v33_4_r0) a + S128x128.size a ≤ S262144x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S8x4096x64 : Shape := ⟨3, ![8, 4096, 64]⟩
abbrev S8x4096x3 : Shape := ⟨3, ![8, 4096, 3]⟩
abbrev S8x1024x32 : Shape := ⟨3, ![8, 1024, 32]⟩
abbrev S262144 : Shape := ⟨1, ![262144]⟩
abbrev S32768x64 : Shape := ⟨2, ![32768, 64]⟩
abbrev S_ : Shape := ⟨0, ![]⟩
abbrev S262144x1 : Shape := ⟨2, ![262144, 1]⟩
abbrev S262144x64 : Shape := ⟨2, ![262144, 64]⟩
abbrev S32768x3 : Shape := ⟨2, ![32768, 3]⟩
abbrev S262144x3 : Shape := ⟨2, ![262144, 3]⟩
abbrev S262144x61 : Shape := ⟨2, ![262144, 61]⟩
abbrev S262144x128 : Shape := ⟨2, ![262144, 128]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x3, .f32⟩
  | .hbm, ⟨2, _⟩ => ⟨S8x1024x32, .i32⟩
  | .hbm, ⟨3, _⟩ => ⟨S262144, .i32⟩
  | .hbm, ⟨4, _⟩ => ⟨S32768x64, .f32⟩
  | .hbm, ⟨5, _⟩ => ⟨S_, .i32⟩
  | .hbm, ⟨6, _⟩ => ⟨S262144, .i32⟩
  | .hbm, ⟨7, _⟩ => ⟨S262144, .i1⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S262144x1, .i32⟩
  | .hbm, ⟨13, _⟩ => ⟨S262144x64, .f32⟩
  | .hbm, ⟨14, _⟩ => ⟨S32768x3, .f32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S262144x1, .i32⟩
  | .hbm, ⟨23, _⟩ => ⟨S262144x3, .f32⟩
  | .hbm, ⟨24, _⟩ => ⟨S_, .f32⟩
  | .hbm, ⟨25, _⟩ => ⟨S262144x61, .f32⟩
  | .hbm, ⟨26, _⟩ => ⟨S262144x128, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Fps.lean ====
abbrev S8x4096x3 : Shape := ⟨3, ![8, 4096, 3]⟩
abbrev S8x4096x1 : Shape := ⟨3, ![8, 4096, 1]⟩
abbrev S8x4096 : Shape := ⟨2, ![8, 4096]⟩
abbrev S1024x8 : Shape := ⟨2, ![1024, 8]⟩
abbrev S24x4096 : Shape := ⟨2, ![24, 4096]⟩
abbrev S8x1 : Shape := ⟨2, ![8, 1]⟩
abbrev S1x8 : Shape := ⟨2, ![1, 8]⟩
abbrev S24x1 : Shape := ⟨2, ![24, 1]⟩
abbrev S24 : Shape := ⟨1, ![24]⟩
abbrev S8 : Shape := ⟨1, ![8]⟩
abbrev S8x1024 : Shape := ⟨2, ![8, 1024]⟩
abbrev S8x1024x1 : Shape := ⟨3, ![8, 1024, 1]⟩
abbrev S8x1024x3 : Shape := ⟨3, ![8, 1024, 3]⟩

abbrev nBuf : Space → Nat
  | .hbm => 18
  | .vmem => 7
  | .smem => 0
  | _ => 0

abbrev bufTy : (tb : Table) → Fin (tcTables nBuf tb) → BufTy
  | .hbm, ⟨0, _⟩ => ⟨S8x4096x3, .f32⟩
  | .hbm, ⟨1, _⟩ => ⟨S8x4096x1, .f32⟩
  | .hbm, ⟨2, _⟩ => ⟨S8x4096, .f32⟩
  | .hbm, ⟨3, _⟩ => ⟨S8x4096x1, .f32⟩
  | .hbm, ⟨4, _⟩ => ⟨S8x4096, .f32⟩
  | .hbm, ⟨5, _⟩ => ⟨S8x4096x1, .f32⟩
  | .hbm, ⟨6, _⟩ => ⟨S8x4096, .f32⟩
  | .hbm, ⟨7, _⟩ => ⟨S1024x8, .i32⟩
  | .hbm, ⟨8, _⟩ => ⟨S1024x8, .f32⟩
  | .hbm, ⟨9, _⟩ => ⟨S1024x8, .f32⟩
  | .hbm, ⟨10, _⟩ => ⟨S1024x8, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024x1, .f32⟩
  | .hbm, ⟨15, _⟩ => ⟨S8x1024x1, .f32⟩
  | .hbm, ⟨16, _⟩ => ⟨S8x1024x1, .f32⟩
  | .hbm, ⟨17, _⟩ => ⟨S8x1024x3, .f32⟩
  | .local _ .vmem, ⟨0, _⟩ => ⟨S8x4096, .f32⟩
  | .local _ .vmem, ⟨1, _⟩ => ⟨S8x4096, .f32⟩
  | .local _ .vmem, ⟨2, _⟩ => ⟨S8x4096, .f32⟩
  | .local _ .vmem, ⟨3, _⟩ => ⟨S1024x8, .i32⟩
  | .local _ .vmem, ⟨4, _⟩ => ⟨S1024x8, .f32⟩
  | .local _ .vmem, ⟨5, _⟩ => ⟨S1024x8, .f32⟩
  | .local _ .vmem, ⟨6, _⟩ => ⟨S1024x8, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6_0 : Ref sig .tc := ⟨.hbm, 7, rfl⟩
abbrev main_v6_1 : Ref sig .tc := ⟨.hbm, 8, rfl⟩
abbrev main_v6_2 : Ref sig .tc := ⟨.hbm, 9, rfl⟩
abbrev main_v6_3 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32_5 : BitVec 32 := 0#32
  let c1024_i32 : BitVec 32 := 1024#32
  let v11 : BitVec 32 := Scalar.addi c0_i32_5 c1024_i32
  let c1_i32 : BitVec 32 := 1#32
  ⟨c0_i32_5, v11, c1_i32⟩
def k0_off1 (k0_t1 : Fin k0_t1_loop.trips) : Fin 2 → Nat :=
  let c0_i32_5 : BitVec 32 := 0#32
  let c1_i32 : BitVec 32 := 1#32
  let arg7 : BitVec 32 := Scf.iv c0_i32_5 c1_i32 k0_t1
  let v14 : Index := Scalar.indexCast arg7
  let c0_7 : Index := 0#32
  ![v14.toNat, 0]
abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x8 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RefFpsIdeal.lean ====
abbrev S8x4096x3 : Shape := ⟨3, ![8, 4096, 3]⟩
abbrev S_ : Shape := ⟨0, ![]⟩
abbrev S8x1024 : Shape := ⟨2, ![8, 1024]⟩
abbrev S8x4096 : Shape := ⟨2, ![8, 4096]⟩
abbrev S8 : Shape := ⟨1, ![8]⟩
abbrev S1 : Shape := ⟨1, ![1]⟩
abbrev S8x1x1 : Shape := ⟨3, ![8, 1, 1]⟩
abbrev S1x1x1 : Shape := ⟨3, ![1, 1, 1]⟩
abbrev S8x1 : Shape := ⟨2, ![8, 1]⟩
abbrev S8x1x3 : Shape := ⟨3, ![8, 1, 3]⟩
abbrev S8x1024x1 : Shape := ⟨3, ![8, 1024, 1]⟩
abbrev S8x1024x3 : Shape := ⟨3, ![8, 1024, 3]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S_, .i32⟩
  | .hbm, ⟨2, _⟩ => ⟨S8x1024, .i32⟩
  | .hbm, ⟨3, _⟩ => ⟨S_, .f32⟩
  | .hbm, ⟨4, _⟩ => ⟨S8x4096, .f32⟩
  | .hbm, ⟨5, _⟩ => ⟨S_, .i32⟩
  | .hbm, ⟨6, _⟩ => ⟨S8, .i32⟩
  | .hbm, ⟨7, _⟩ => ⟨S_, .i32⟩
  | .hbm, ⟨8, _⟩ => ⟨S_, .i32⟩
  | .hbm, ⟨9, _⟩ => ⟨S8x4096x3, .f32⟩
  | .hbm, ⟨10, _⟩ => ⟨S_, .i32⟩
  | .hbm, ⟨11, _⟩ => ⟨S_, .i32⟩
  | .hbm, ⟨12, _⟩ => ⟨S8x1024, .i32⟩
  | .hbm, ⟨13, _⟩ => ⟨S8x4096, .f32⟩
  | .hbm, ⟨14, _⟩ => ⟨S8, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S8x1024, .i32⟩
  | .hbm, ⟨27, _⟩ => ⟨S8x1x1, .i32⟩
  | .hbm, ⟨28, _⟩ => ⟨S_, .i32⟩
  | .hbm, ⟨29, _⟩ => ⟨S8x1x1, .i32⟩
  | .hbm, ⟨30, _⟩ => ⟨S8x1x1, .i1⟩
  | .hbm, ⟨31, _⟩ => ⟨S_, .i32⟩
  | .hbm, ⟨32, _⟩ => ⟨S8x1x1, .i32⟩
  | .hbm, ⟨33, _⟩ => ⟨S8x1x1, .i32⟩
  | .hbm, ⟨34, _⟩ => ⟨S8x1x1, .i32⟩
  | .hbm, ⟨35, _⟩ => ⟨S1, .i32⟩
  | .hbm, ⟨36, _⟩ => ⟨S_, .i32⟩
  | .hbm, ⟨37, _⟩ => ⟨S8x1x1, .i32⟩
  | .hbm, ⟨38, _⟩ => ⟨S8x1x1, .i1⟩
  | .hbm, ⟨39, _⟩ => ⟨S1x1x1, .i32⟩
  | .hbm, ⟨40, _⟩ => ⟨S8x1x1, .i32⟩
  | .hbm, ⟨41, _⟩ => ⟨S8x1x1, .i1⟩
  | .hbm, ⟨42, _⟩ => ⟨S8x1x1, .i1⟩
  | .hbm, ⟨43, _⟩ => ⟨S_, .i1⟩
  | .hbm, ⟨44, _⟩ => ⟨S8x1, .i1⟩
  | .hbm, ⟨45, _⟩ => ⟨S8x1x3, .f32⟩
  | .hbm, ⟨46, _⟩ => ⟨S8x1x3, .i1⟩
  | .hbm, ⟨47, _⟩ => ⟨S_, .f32⟩
  | .hbm, ⟨48, _⟩ => ⟨S8x1x3, .f32⟩
  | .hbm, ⟨49, _⟩ => ⟨S8x1x3, .f32⟩
  | .hbm, ⟨50, _⟩ => ⟨S8x4096x3, .f32⟩
  | .hbm, ⟨51, _⟩ => ⟨S8x4096x3, .f32⟩
  | .hbm, ⟨52, _⟩ => ⟨S8x4096x3, .f32⟩
  | .hbm, ⟨53, _⟩ => ⟨S_, .f32⟩
  | .hbm, ⟨54, _⟩ => ⟨S8x4096, .f32⟩
  | .hbm, ⟨55, _⟩ => ⟨S8x4096, .f32⟩
  | .hbm, ⟨56, _⟩ => ⟨S8x4096, .i32⟩
  | .hbm, ⟨57, _⟩ => ⟨S_, .f32⟩
  | .hbm, ⟨58, _⟩ => ⟨S_, .i32⟩
  | .hbm, ⟨59, _⟩ => ⟨S8, .f32⟩
  | .hbm, ⟨60, _⟩ => ⟨S8, .i32⟩
  | .hbm, ⟨61, _⟩ => ⟨S_, .i32⟩
  | .hbm, ⟨62, _⟩ => ⟨S_, .i32⟩
  | .hbm, ⟨63, _⟩ => ⟨S8x1024x1, .i32⟩
  | .hbm, ⟨64, _⟩ => ⟨S_, .i32⟩
  | .hbm, ⟨65, _⟩ => ⟨S8x1024x1, .i32⟩
  | .hbm, ⟨66, _⟩ => ⟨S8x1024x1, .i1⟩
  | .hbm, ⟨67, _⟩ => ⟨S_, .i32⟩
  | .hbm, ⟨68, _⟩ => ⟨S8x1024x1, .i32⟩
  | .hbm, ⟨69, _⟩ => ⟨S8x1024x1, .i32⟩
  | .hbm, ⟨70, _⟩ => ⟨S8x1024x1, .i32⟩
  | .hbm, ⟨71, _⟩ => ⟨S1, .i32⟩
  | .hbm, ⟨72, _⟩ => ⟨S_, .i32⟩
  | .hbm, ⟨73, _⟩ => ⟨S8x1024x1, .i32⟩
  | .hbm, ⟨74, _⟩ => ⟨S8x1024x1, .i1⟩
  | .hbm, ⟨75, _⟩ => ⟨S1x1x1, .i32⟩
  | .hbm, ⟨76, _⟩ => ⟨S8x1024x1, .i32⟩
  | .hbm, ⟨77, _⟩ => ⟨S8x1024x1, .i1⟩
  | .hbm, ⟨78, _⟩ => ⟨S8x1024x1, .i1⟩
  | .hbm, ⟨79, _⟩ => ⟨S_, .i1⟩
  | .hbm, ⟨80, _⟩ => ⟨S8x1024, .i1⟩
  | .hbm, ⟨81, _⟩ => ⟨S8x1024x3, .f32⟩
  | .hbm, ⟨82, _⟩ => ⟨S8x1024x3, .i1⟩
  | .hbm, ⟨83, _⟩ => ⟨S_, .f32⟩
  | .hbm, ⟨84, _⟩ => ⟨S8x1024x3, .f32⟩
  | .hbm, ⟨85, _⟩ => ⟨S8x1024x3, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_while0c_c_8 : Ref sig .tc := ⟨.hbm, 15, rfl⟩
abbrev main_while0c_v6 : Ref sig .tc := ⟨.hbm, 16, rfl⟩
abbrev main_while0b_c_8 : Ref sig .tc := ⟨.hbm, 17, rfl⟩
abbrev main_while0b_v6 : Ref sig .tc := ⟨.hbm, 18, rfl⟩
abbrev main_while0b_c_9 : Ref sig .tc := ⟨.hbm, 19, rfl⟩
abbrev main_while0b_v7 : Ref sig .tc := ⟨.hbm, 20, rfl⟩
abbrev main_while0b_c_10 : Ref sig .tc := ⟨.hbm, 21, rfl⟩
abbrev main_while0b_v8 : Ref sig .tc := ⟨.hbm, 22, rfl⟩
abbrev main_while0b_v9 : Ref sig .tc := ⟨.hbm, 23, rfl⟩
abbrev main_while0b_v10 : Ref sig .tc := ⟨.hbm, 24, rfl⟩
abbrev main_while0b_v11 : Ref sig .tc := ⟨.hbm, 25, rfl⟩
abbrev main_while0b_v12 : Ref sig .tc := ⟨.hbm, 26, rfl⟩
abbrev main_while0b_v13 : Ref sig .tc := ⟨.hbm, 27, rfl⟩
abbrev main_while0b_call0_c : Ref sig .tc := ⟨.hbm, 28, rfl⟩
abbrev main_while0b_call0_v0 : Ref sig .tc := ⟨.hbm, 29, rfl⟩
abbrev main_while0b_call0_v1 : Ref sig .tc := ⟨.hbm, 30, rfl⟩
abbrev main_while0b_call0_c_0 : Ref sig .tc := ⟨.hbm, 31, rfl⟩
abbrev main_while0b_call0_v2 : Ref sig .tc := ⟨.hbm, 32, rfl⟩
abbrev main_while0b_call0_v3 : Ref sig .tc := ⟨.hbm, 33, rfl⟩
abbrev main_while0b_call0_v4 : Ref sig .tc := ⟨.hbm, 34, rfl⟩
abbrev main_while0b_call0_c_1 : Ref sig .tc := ⟨.hbm, 35, rfl⟩
abbrev main_while0b_call0_c_2 : Ref sig .tc := ⟨.hbm, 36, rfl⟩
abbrev main_while0b_call0_v5 : Ref sig .tc := ⟨.hbm, 37, rfl⟩
abbrev main_while0b_call0_v6 : Ref sig .tc := ⟨.hbm, 38, rfl⟩
abbrev main_while0b_call0_v7 : Ref sig .tc := ⟨.hbm, 39, rfl⟩
abbrev main_while0b_call0_v8 : Ref sig .tc := ⟨.hbm, 40, rfl⟩
abbrev main_while0b_call0_v9 : Ref sig .tc := ⟨.hbm, 41, rfl⟩
abbrev main_while0b_call0_v10 : Ref sig .tc := ⟨.hbm, 42, rfl⟩
abbrev main_while0b_call0_c_3 : Ref sig .tc := ⟨.hbm, 43, rfl⟩
abbrev main_while0b_call0_v11 : Ref sig .tc := ⟨.hbm, 44, rfl⟩
abbrev main_while0b_call0_v12 : Ref sig .tc := ⟨.hbm, 45, rfl⟩
abbrev main_while0b_call0_v13 : Ref sig .tc := ⟨.hbm, 46, rfl⟩
abbrev main_while0b_call0_cst : Ref sig .tc := ⟨.hbm, 47, rfl⟩
abbrev main_while0b_call0_v14 : Ref sig .tc := ⟨.hbm, 48, rfl⟩
abbrev main_while0b_v14 : Ref sig .tc := ⟨.hbm, 49, rfl⟩
abbrev main_while0b_v15 : Ref sig .tc := ⟨.hbm, 50, rfl⟩
abbrev main_while0b_v16 : Ref sig .tc := ⟨.hbm, 51, rfl⟩
abbrev main_while0b_v17 : Ref sig .tc := ⟨.hbm, 52, rfl⟩
abbrev main_while0b_cst_11 : Ref sig .tc := ⟨.hbm, 53, rfl⟩
abbrev main_while0b_v18 : Ref sig .tc := ⟨.hbm, 54, rfl⟩
abbrev main_while0b_v19 : Ref sig .tc := ⟨.hbm, 55, rfl⟩
abbrev main_while0b_call1_v0 : Ref sig .tc := ⟨.hbm, 56, rfl⟩
abbrev main_while0b_call1_cst : Ref sig .tc := ⟨.hbm, 57, rfl⟩
abbrev main_while0b_call1_c : Ref sig .tc := ⟨.hbm, 58, rfl⟩
abbrev main_while0b_call1_v1_0 : Ref sig .tc := ⟨.hbm, 59, rfl⟩
abbrev main_while0b_v20 : Ref sig .tc := ⟨.hbm, 60, rfl⟩
abbrev main_while0b_c_12 : Ref sig .tc := ⟨.hbm, 61, rfl⟩
abbrev main_while0b_v21 : Ref sig .tc := ⟨.hbm, 62, rfl⟩
abbrev main_v4 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_c_2 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_c_3 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_cst : Ref sig .tc := ⟨.hbm, 83, rfl⟩
abbrev main_call2_v14 : Ref sig .tc := ⟨.hbm, 84, rfl⟩
abbrev main_v5 : Ref sig .tc := ⟨.hbm, 85, rfl⟩

abbrev nD : Nat := 1
abbrev τ : Topo := Topo.v7x

variable {F : FTy → Type} [FloatOps F]

abbrev main_while0_count : Scf.Loop 32 := ⟨0#32, 1024#32, 1#32⟩
-- ==== Mlp.lean ====
abbrev S262144x128 : Shape := ⟨2, ![262144, 128]⟩
abbrev S8x1024x3 : Shape := ⟨3, ![8, 1024, 3]⟩
abbrev S67x64 : Shape := ⟨2, ![67, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩
abbrev S61x64 : Shape := ⟨2, ![61, 64]⟩
abbrev S128x64 : Shape := ⟨2, ![128, 64]⟩
abbrev S8192x3 : Shape := ⟨2, ![8192, 3]⟩
abbrev S1x64 : Shape := ⟨2, ![1, 64]⟩
abbrev S262144x64 : Shape := ⟨2, ![262144, 64]⟩
abbrev S1024x128 : Shape := ⟨2, ![1024, 128]⟩
abbrev S32x3 : Shape := ⟨2, ![32, 3]⟩
abbrev S1024x64 : Shape := ⟨2, ![1024, 64]⟩
abbrev S32x1 : Shape := ⟨2, ![32, 1]⟩
abbrev S32x64 : Shape := ⟨2, ![32, 64]⟩
abbrev S32x32x64 : Shape := ⟨3, ![32, 32, 64]⟩
abbrev S32x1x64 : Shape := ⟨3, ![32, 1, 64]⟩
abbrev S1x128 : Shape := ⟨2, ![1, 128]⟩
abbrev S8192x128 : Shape := ⟨2, ![8192, 128]⟩
abbrev S32x128 : Shape := ⟨2, ![32, 128]⟩
abbrev S32x32x128 : Shape := ⟨3, ![32, 32, 128]⟩
abbrev S8x1024x128 : Shape := ⟨3, ![8, 1024, 128]⟩

abbrev nBuf : Space → Nat
  | .hbm => 84
  | .vmem => 34
  | .smem => 0
  | _ => 0

abbrev bufTy : (tb : Table) → Fin (tcTables nBuf tb) → BufTy
  | .hbm, ⟨0, _⟩ => ⟨S262144x128, .f32⟩
  | .hbm, ⟨1, _⟩ => ⟨S8x1024x3, .f32⟩
  | .hbm, ⟨2, _⟩ => ⟨S67x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S61x64, .f32⟩
  | .hbm, ⟨16, _⟩ => ⟨S128x64, .f32⟩
  | .hbm, ⟨17, _⟩ => ⟨S128x64, .bf16⟩
  | .hbm, ⟨18, _⟩ => ⟨S8192x3, .f32⟩
  | .hbm, ⟨19, _⟩ => ⟨S1x64, .f32⟩
  | .hbm, ⟨20, _⟩ => ⟨S262144x64, .bf16⟩
  | .hbm, ⟨21, _⟩ => ⟨S1x64, .f32⟩
  | .hbm, ⟨22, _⟩ => ⟨S1x64, .f32⟩
  | .hbm, ⟨23, _⟩ => ⟨S_, .f32⟩
  | .hbm, ⟨24, _⟩ => ⟨S1x64, .f32⟩
  | .hbm, ⟨25, _⟩ => ⟨S1x64, .f32⟩
  | .hbm, ⟨26, _⟩ => ⟨S_, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S_, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S64x64, .bf16⟩
  | .hbm, ⟨41, _⟩ => ⟨S262144x64, .bf16⟩
  | .hbm, ⟨42, _⟩ => ⟨S1x64, .f32⟩
  | .hbm, ⟨43, _⟩ => ⟨S1x64, .f32⟩
  | .hbm, ⟨44, _⟩ => ⟨S_, .f32⟩
  | .hbm, ⟨45, _⟩ => ⟨S1x64, .f32⟩
  | .hbm, ⟨46, _⟩ => ⟨S1x64, .f32⟩
  | .hbm, ⟨47, _⟩ => ⟨S_, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S_, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S1x64, .f32⟩
  | .hbm, ⟨60, _⟩ => ⟨S1x64, .f32⟩
  | .hbm, ⟨61, _⟩ => ⟨S64x128, .bf16⟩
  | .hbm, ⟨62, _⟩ => ⟨S262144x128, .bf16⟩
  | .hbm, ⟨63, _⟩ => ⟨S1x128, .f32⟩
  | .hbm, ⟨64, _⟩ => ⟨S1x128, .f32⟩
  | .hbm, ⟨65, _⟩ => ⟨S_, .f32⟩
  | .hbm, ⟨66, _⟩ => ⟨S1x128, .f32⟩
  | .hbm, ⟨67, _⟩ => ⟨S1x128, .f32⟩
  | .hbm, ⟨68, _⟩ => ⟨S_, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S_, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S8192x128, .f32⟩
  | .hbm, ⟨83, _⟩ => ⟨S8x1024x128, .f32⟩
  | .local _ .vmem, ⟨0, _⟩ => ⟨S1024x128, .f32⟩
  | .local _ .vmem, ⟨1, _⟩ => ⟨S1024x128, .f32⟩
  | .local _ .vmem, ⟨2, _⟩ => ⟨S128x64, .bf16⟩
  | .local _ .vmem, ⟨3, _⟩ => ⟨S1x64, .f32⟩
  | .local _ .vmem, ⟨4, _⟩ => ⟨S32x3, .f32⟩
  | .local _ .vmem, ⟨5, _⟩ => ⟨S32x3, .f32⟩
  | .local _ .vmem, ⟨6, _⟩ => ⟨S1024x64, .bf16⟩
  | .local _ .vmem, ⟨7, _⟩ => ⟨S1024x64, .bf16⟩
  | .local _ .vmem, ⟨8, _⟩ => ⟨S1x64, .f32⟩
  | .local _ .vmem, ⟨9, _⟩ => ⟨S1x64, .f32⟩
  | .local _ .vmem, ⟨10, _⟩ => ⟨S1024x64, .bf16⟩
  | .local _ .vmem, ⟨11, _⟩ => ⟨S1024x64, .bf16⟩
  | .local _ .vmem, ⟨12, _⟩ => ⟨S1x64, .f32⟩
  | .local _ .vmem, ⟨13, _⟩ => ⟨S1x64, .f32⟩
  | .local _ .vmem, ⟨14, _⟩ => ⟨S64x64, .bf16⟩
  | .local _ .vmem, ⟨15, _⟩ => ⟨S1024x64, .bf16⟩
  | .local _ .vmem, ⟨16, _⟩ => ⟨S1024x64, .bf16⟩
  | .local _ .vmem, ⟨17, _⟩ => ⟨S1x64, .f32⟩
  | .local _ .vmem, ⟨18, _⟩ => ⟨S1x64, .f32⟩
  | .local _ .vmem, ⟨19, _⟩ => ⟨S1024x64, .bf16⟩
  | .local _ .vmem, ⟨20, _⟩ => ⟨S1024x64, .bf16⟩
  | .local _ .vmem, ⟨21, _⟩ => ⟨S1x64, .f32⟩
  | .local _ .vmem, ⟨22, _⟩ => ⟨S1x64, .f32⟩
  | .local _ .vmem, ⟨23, _⟩ => ⟨S64x128, .bf16⟩
  | .local _ .vmem, ⟨24, _⟩ => ⟨S1024x128, .bf16⟩
  | .local _ .vmem, ⟨25, _⟩ => ⟨S1024x128, .bf16⟩
  | .local _ .vmem, ⟨26, _⟩ => ⟨S1x128, .f32⟩
  | .local _ .vmem, ⟨27, _⟩ => ⟨S1x128, .f32⟩
  | .local _ .vmem, ⟨28, _⟩ => ⟨S1024x128, .bf16⟩
  | .local _ .vmem, ⟨29, _⟩ => ⟨S1024x128, .bf16⟩
  | .local _ .vmem, ⟨30, _⟩ => ⟨S1x128, .f32⟩
  | .local _ .vmem, ⟨31, _⟩ => ⟨S1x128, .f32⟩
  | .local _ .vmem, ⟨32, _⟩ => ⟨S32x128, .f32⟩
  | .local _ .vmem, ⟨33, _⟩ => ⟨S32x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev main_v5_2 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21_0 : Ref sig .tc := ⟨.hbm, 41, rfl⟩
abbrev main_v21_1 : Ref sig .tc := ⟨.hbm, 42, rfl⟩
abbrev main_v21_2 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37_0 : Ref sig .tc := ⟨.hbm, 62, rfl⟩
abbrev main_v37_1 : Ref sig .tc := ⟨.hbm, 63, rfl⟩
abbrev main_v37_2 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg6_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16
abbrev cc1_sem5_0 : DmaSem sig := 17
abbrev cc1_sem6_0 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem6_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![256], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![256], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S32x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]
-- ==== RefMlpIdeal.lean ====
abbrev S262144x128 : Shape := ⟨2, ![262144, 128]⟩
abbrev S8x1024x3 : Shape := ⟨3, ![8, 1024, 3]⟩
abbrev S67x64 : Shape := ⟨2, ![67, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S8x1024x32x128 : Shape := ⟨4, ![8, 1024, 32, 128]⟩
abbrev S8x1024x32x64 : Shape := ⟨4, ![8, 1024, 32, 64]⟩
abbrev S8x1024x32x3 : Shape := ⟨4, ![8, 1024, 32, 3]⟩
abbrev S8x1024x1x3 : Shape := ⟨4, ![8, 1024, 1, 3]⟩
abbrev S8x1024x32x67 : Shape := ⟨4, ![8, 1024, 32, 67]⟩
abbrev S1x1x1x64 : Shape := ⟨4, ![1, 1, 1, 64]⟩
abbrev S_ : Shape := ⟨0, ![]⟩
abbrev S1x1x1x128 : Shape := ⟨4, ![1, 1, 1, 128]⟩
abbrev S8x1024x128 : Shape := ⟨3, ![8, 1024, 128]⟩

abbrev nBuf : Space → Nat
  | .hbm => 176
  | .vmem => 0
  | .smem => 0
  | _ => 0

abbrev hbmTy0_0 (i : Nat) : BufTy := match i % 128 with
  | 0 => ⟨S262144x128, .f32⟩
  | 1 => ⟨S8x1024x3, .f32⟩
  | 2 => ⟨S67x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x128, .f32⟩
  | 11 => ⟨S128, .f32⟩
  | 12 => ⟨S128, .f32⟩
  | 13 => ⟨S128, .f32⟩
  | 14 => ⟨S8x1024x32x128, .f32⟩
  | 15 => ⟨S8x1024x32x64, .f32⟩
  | 16 => ⟨S8x1024x32x3, .f32⟩
  | 17 => ⟨S8x1024x1x3, .f32⟩
  | 18 => ⟨S8x1024x32x3, .f32⟩
  | 19 => ⟨S8x1024x32x3, .f32⟩
  | 20 => ⟨S8x1024x32x67, .f32⟩
  | 21 => ⟨S8x1024x32x64, .f32⟩
  | 22 => ⟨S1x1x1x64, .f32⟩
  | 23 => ⟨S8x1024x32x64, .f32⟩
  | 24 => ⟨S8x1024x32x64, .f32⟩
  | 25 => ⟨S_, .f32⟩
  | 26 => ⟨S64, .f32⟩
  | 27 => ⟨S1x1x1x64, .f32⟩
  | 28 => ⟨S_, .f32⟩
  | 29 => ⟨S1x1x1x64, .f32⟩
  | 30 => ⟨S1x1x1x64, .f32⟩
  | 31 => ⟨S_, .i32⟩
  | 32 => ⟨S_, .f32⟩
  | 33 => ⟨S64, .f32⟩
  | 34 => ⟨S1x1x1x64, .f32⟩
  | 35 => ⟨S_, .f32⟩
  | 36 => ⟨S1x1x1x64, .f32⟩
  | 37 => ⟨S1x1x1x64, .f32⟩
  | 38 => ⟨S8x1024x32x64, .f32⟩
  | 39 => ⟨S8x1024x32x64, .f32⟩
  | 40 => ⟨S8x1024x32x64, .f32⟩
  | 41 => ⟨S_, .f32⟩
  | 42 => ⟨S_, .f32⟩
  | 43 => ⟨S_, .f32⟩
  | 44 => ⟨S_, .f32⟩
  | 45 => ⟨S64, .f32⟩
  | 46 => ⟨S1x1x1x64, .f32⟩
  | 47 => ⟨S1x1x1x64, .f32⟩
  | 48 => ⟨S1x1x1x64, .f32⟩
  | 49 => ⟨S_, .f32⟩
  | 50 => ⟨S_, .i1⟩
  | 51 => ⟨S_, .f32⟩
  | 52 => ⟨S_, .f32⟩
  | 53 => ⟨S1x1x1x64, .f32⟩
  | 54 => ⟨S1x1x1x64, .f32⟩
  | 55 => ⟨S8x1024x32x64, .f32⟩
  | 56 => ⟨S8x1024x32x64, .f32⟩
  | 57 => ⟨S_, .f32⟩
  | 58 => ⟨S1x1x1x64, .f32⟩
  | 59 => ⟨S1x1x1x64, .f32⟩
  | 60 => ⟨S1x1x1x64, .f32⟩
  | 61 => ⟨S8x1024x32x64, .f32⟩
  | 62 => ⟨S8x1024x32x64, .f32⟩
  | 63 => ⟨S1x1x1x64, .f32⟩
  | 64 => ⟨S8x1024x32x64, .f32⟩
  | 65 => ⟨S8x1024x32x64, .f32⟩
  | 66 => ⟨S1x1x1x64, .f32⟩
  | 67 => ⟨S8x1024x32x64, .f32⟩
  | 68 => ⟨S8x1024x32x64, .f32⟩
  | 69 => ⟨S_, .f32⟩
  | 70 => ⟨S8x1024x32x64, .f32⟩
  | 71 => ⟨S8x1024x32x64, .f32⟩
  | 72 => ⟨S8x1024x32x64, .f32⟩
  | 73 => ⟨S1x1x1x64, .f32⟩
  | 74 => ⟨S8x1024x32x64, .f32⟩
  | 75 => ⟨S8x1024x32x64, .f32⟩
  | 76 => ⟨S_, .f32⟩
  | 77 => ⟨S64, .f32⟩
  | 78 => ⟨S1x1x1x64, .f32⟩
  | 79 => ⟨S_, .f32⟩
  | 80 => ⟨S1x1x1x64, .f32⟩
  | 81 => ⟨S1x1x1x64, .f32⟩
  | 82 => ⟨S_, .i32⟩
  | 83 => ⟨S_, .f32⟩
  | 84 => ⟨S64, .f32⟩
  | 85 => ⟨S1x1x1x64, .f32⟩
  | 86 => ⟨S_, .f32⟩
  | 87 => ⟨S1x1x1x64, .f32⟩
  | 88 => ⟨S1x1x1x64, .f32⟩
  | 89 => ⟨S8x1024x32x64, .f32⟩
  | 90 => ⟨S8x1024x32x64, .f32⟩
  | 91 => ⟨S8x1024x32x64, .f32⟩
  | 92 => ⟨S_, .f32⟩
  | 93 => ⟨S_, .f32⟩
  | 94 => ⟨S_, .f32⟩
  | 95 => ⟨S_, .f32⟩
  | 96 => ⟨S64, .f32⟩
  | 97 => ⟨S1x1x1x64, .f32⟩
  | 98 => ⟨S1x1x1x64, .f32⟩
  | 99 => ⟨S1x1x1x64, .f32⟩
  | 100 => ⟨S_, .f32⟩
  | 101 => ⟨S_, .i1⟩
  | 102 => ⟨S_, .f32⟩
  | 103 => ⟨S_, .f32⟩
  | 104 => ⟨S1x1x1x64, .f32⟩
  | 105 => ⟨S1x1x1x64, .f32⟩
  | 106 => ⟨S8x1024x32x64, .f32⟩
  | 107 => ⟨S8x1024x32x64, .f32⟩
  | 108 => ⟨S_, .f32⟩
  | 109 => ⟨S1x1x1x64, .f32⟩
  | 110 => ⟨S1x1x1x64, .f32⟩
  | 111 => ⟨S1x1x1x64, .f32⟩
  | 112 => ⟨S8x1024x32x64, .f32⟩
  | 113 => ⟨S8x1024x32x64, .f32⟩
  | 114 => ⟨S1x1x1x64, .f32⟩
  | 115 => ⟨S8x1024x32x64, .f32⟩
  | 116 => ⟨S8x1024x32x64, .f32⟩
  | 117 => ⟨S1x1x1x64, .f32⟩
  | 118 => ⟨S8x1024x32x64, .f32⟩
  | 119 => ⟨S8x1024x32x64, .f32⟩
  | 120 => ⟨S_, .f32⟩
  | 121 => ⟨S8x1024x32x64, .f32⟩
  | 122 => ⟨S8x1024x32x64, .f32⟩
  | 123 => ⟨S8x1024x32x128, .f32⟩
  | 124 => ⟨S1x1x1x128, .f32⟩
  | 125 => ⟨S8x1024x32x128, .f32⟩
  | 126 => ⟨S8x1024x32x128, .f32⟩
  | 127 => ⟨S_, .f32⟩
  | _ => ⟨S262144x128, .f32⟩

abbrev hbmTy0_1 (i : Nat) : BufTy := match i % 128 with
  | 0 => ⟨S128, .f32⟩
  | 1 => ⟨S1x1x1x128, .f32⟩
  | 2 => ⟨S_, .f32⟩
  | 3 => ⟨S1x1x1x128, .f32⟩
  | 4 => ⟨S1x1x1x128, .f32⟩
  | 5 => ⟨S_, .i32⟩
  | 6 => ⟨S_, .f32⟩
  | 7 => ⟨S128, .f32⟩
  | 8 => ⟨S1x1x1x128, .f32⟩
  | 9 => ⟨S_, .f32⟩
  | 10 => ⟨S1x1x1x128, .f32⟩
  | 11 => ⟨S1x1x1x128, .f32⟩
  | 12 => ⟨S8x1024x32x128, .f32⟩
  | 13 => ⟨S8x1024x32x128, .f32⟩
  | 14 => ⟨S8x1024x32x128, .f32⟩
  | 15 => ⟨S_, .f32⟩
  | 16 => ⟨S_, .f32⟩
  | 17 => ⟨S_, .f32⟩
  | 18 => ⟨S_, .f32⟩
  | 19 => ⟨S128, .f32⟩
  | 20 => ⟨S1x1x1x128, .f32⟩
  | 21 => ⟨S1x1x1x128, .f32⟩
  | 22 => ⟨S1x1x1x128, .f32⟩
  | 23 => ⟨S_, .f32⟩
  | 24 => ⟨S_, .i1⟩
  | 25 => ⟨S_, .f32⟩
  | 26 => ⟨S_, .f32⟩
  | 27 => ⟨S1x1x1x128, .f32⟩
  | 28 => ⟨S1x1x1x128, .f32⟩
  | 29 => ⟨S8x1024x32x128, .f32⟩
  | 30 => ⟨S8x1024x32x128, .f32⟩
  | 31 => ⟨S_, .f32⟩
  | 32 => ⟨S1x1x1x128, .f32⟩
  | 33 => ⟨S1x1x1x128, .f32⟩
  | 34 => ⟨S1x1x1x128, .f32⟩
  | 35 => ⟨S8x1024x32x128, .f32⟩
  | 36 => ⟨S8x1024x32x128, .f32⟩
  | 37 => ⟨S1x1x1x128, .f32⟩
  | 38 => ⟨S8x1024x32x128, .f32⟩
  | 39 => ⟨S8x1024x32x128, .f32⟩
  | 40 => ⟨S1x1x1x128, .f32⟩
  | 41 => ⟨S8x1024x32x128, .f32⟩
  | 42 => ⟨S8x1024x32x128, .f32⟩
  | 43 => ⟨S_, .f32⟩
  | 44 => ⟨S8x1024x32x128, .f32⟩
  | 45 => ⟨S8x1024x32x128, .f32⟩
  | 46 => ⟨S_, .f32⟩
  | 47 => ⟨S8x1024x128, .f32⟩
  | _ => ⟨S262144x128, .f32⟩

abbrev hbmTy (i : Nat) : BufTy := match i / 128 with
  | 0 => hbmTy0_0 i
  | 1 => hbmTy0_1 i
  | _ => ⟨S262144x128, .f32⟩

abbrev bufTy : (tb : Table) → Fin (tcTables nBuf tb) → BufTy
  | .hbm, ⟨i, _⟩ => hbmTy i
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_cst_1 : Ref sig .tc := ⟨.hbm, 42, rfl⟩
abbrev main_call0_v8 : Ref sig .tc := ⟨.hbm, 43, rfl⟩
abbrev main_call0_cst_2 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_v12 : Ref sig .tc := ⟨.hbm, 48, rfl⟩
abbrev main_call0_cst_3 : Ref sig .tc := ⟨.hbm, 49, rfl⟩
abbrev main_call0_v13 : Ref sig .tc := ⟨.hbm, 50, rfl⟩
abbrev main_call0_cst_4 : Ref sig .tc := ⟨.hbm, 51, rfl⟩
abbrev main_call0_call0_v0 : Ref sig .tc := ⟨.hbm, 52, rfl⟩
abbrev main_call0_call0_v1 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_cst_1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_call1_cst : Ref sig .tc := ⟨.hbm, 69, rfl⟩
abbrev main_call1_v0 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_cst_2 : Ref sig .tc := ⟨.hbm, 76, rfl⟩
abbrev main_v34 : Ref sig .tc := ⟨.hbm, 77, rfl⟩
abbrev main_v35 : Ref sig .tc := ⟨.hbm, 78, rfl⟩
abbrev main_cst_3 : Ref sig .tc := ⟨.hbm, 79, rfl⟩
abbrev main_v36 : Ref sig .tc := ⟨.hbm, 80, rfl⟩
abbrev main_v37 : Ref sig .tc := ⟨.hbm, 81, rfl⟩
abbrev main_c_4 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_cst_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_cst_1 : Ref sig .tc := ⟨.hbm, 93, rfl⟩
abbrev main_call2_v8 : Ref sig .tc := ⟨.hbm, 94, rfl⟩
abbrev main_call2_cst_2 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_v12 : Ref sig .tc := ⟨.hbm, 99, rfl⟩
abbrev main_call2_cst_3 : Ref sig .tc := ⟨.hbm, 100, rfl⟩
abbrev main_call2_v13 : Ref sig .tc := ⟨.hbm, 101, rfl⟩
abbrev main_call2_cst_4 : Ref sig .tc := ⟨.hbm, 102, rfl⟩
abbrev main_call2_call0_v0 : Ref sig .tc := ⟨.hbm, 103, rfl⟩
abbrev main_call2_call0_v1 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_cst_5 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_call3_cst : Ref sig .tc := ⟨.hbm, 120, rfl⟩
abbrev main_call3_v0 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_cst_6 : Ref sig .tc := ⟨.hbm, 127, rfl⟩
abbrev main_v57 : Ref sig .tc := ⟨.hbm, 128, rfl⟩
abbrev main_v58 : Ref sig .tc := ⟨.hbm, 129, rfl⟩
abbrev main_cst_7 : Ref sig .tc := ⟨.hbm, 130, rfl⟩
abbrev main_v59 : Ref sig .tc := ⟨.hbm, 131, rfl⟩
abbrev main_v60 : Ref sig .tc := ⟨.hbm, 132, rfl⟩
abbrev main_c_8 : Ref sig .tc := ⟨.hbm, 133, rfl⟩
abbrev main_call4_cst : Ref sig .tc := ⟨.hbm, 134, rfl⟩
abbrev main_call4_v0 : Ref sig .tc := ⟨.hbm, 135, rfl⟩
abbrev main_call4_v1 : Ref sig .tc := ⟨.hbm, 136, rfl⟩
abbrev main_call4_cst_0 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_v5 : Ref sig .tc := ⟨.hbm, 141, rfl⟩
abbrev main_call4_v6 : Ref sig .tc := ⟨.hbm, 142, rfl⟩
abbrev main_call4_v7 : Ref sig .tc := ⟨.hbm, 143, rfl⟩
abbrev main_call4_cst_1 : Ref sig .tc := ⟨.hbm, 144, rfl⟩
abbrev main_call4_v8 : Ref sig .tc := ⟨.hbm, 145, rfl⟩
abbrev main_call4_cst_2 : Ref sig .tc := ⟨.hbm, 146, rfl⟩
abbrev main_call4_v9 : Ref sig .tc := ⟨.hbm, 147, rfl⟩
abbrev main_call4_v10 : Ref sig .tc := ⟨.hbm, 148, rfl⟩
abbrev main_call4_v11 : Ref sig .tc := ⟨.hbm, 149, rfl⟩
abbrev main_call4_v12 : Ref sig .tc := ⟨.hbm, 150, rfl⟩
abbrev main_call4_cst_3 : Ref sig .tc := ⟨.hbm, 151, rfl⟩
abbrev main_call4_v13 : Ref sig .tc := ⟨.hbm, 152, rfl⟩
abbrev main_call4_cst_4 : Ref sig .tc := ⟨.hbm, 153, rfl⟩
abbrev main_call4_call0_v0 : Ref sig .tc := ⟨.hbm, 154, rfl⟩
abbrev main_call4_call0_v1 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_cst_9 : Ref sig .tc := ⟨.hbm, 159, rfl⟩
abbrev main_v64 : Ref sig .tc := ⟨.hbm, 160, rfl⟩
abbrev main_v65 : Ref sig .tc := ⟨.hbm, 161, rfl⟩
abbrev main_v66 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_call5_cst : Ref sig .tc := ⟨.hbm, 171, rfl⟩
abbrev main_call5_v0 : Ref sig .tc := ⟨.hbm, 172, rfl⟩
abbrev main_v75 : Ref sig .tc := ⟨.hbm, 173, rfl⟩
abbrev main_cst_10 : Ref sig .tc := ⟨.hbm, 174, rfl⟩
abbrev main_v76 : Ref sig .tc := ⟨.hbm, 175, rfl⟩

abbrev nD : Nat := 1
abbrev τ : Topo := Topo.v7x

variable {F : FTy → Type} [FloatOps F]
-- ==== Bq.lean ====
abbrev S8x1024x3 : Shape := ⟨3, ![8, 1024, 3]⟩
abbrev S8x4096x3 : Shape := ⟨3, ![8, 4096, 3]⟩
abbrev S8x4096x1 : Shape := ⟨3, ![8, 4096, 1]⟩
abbrev S8x4096 : Shape := ⟨2, ![8, 4096]⟩
abbrev S8x1x4096 : Shape := ⟨3, ![8, 1, 4096]⟩
abbrev S8x1024x32 : Shape := ⟨3, ![8, 1024, 32]⟩
abbrev S1x256x3 : Shape := ⟨3, ![1, 256, 3]⟩
abbrev S1x1x4096 : Shape := ⟨3, ![1, 1, 4096]⟩
abbrev S1x256x32 : Shape := ⟨3, ![1, 256, 32]⟩
abbrev S256x3 : Shape := ⟨2, ![256, 3]⟩
abbrev S256x1 : Shape := ⟨2, ![256, 1]⟩
abbrev S1x4096 : Shape := ⟨2, ![1, 4096]⟩
abbrev S256x4096 : Shape := ⟨2, ![256, 4096]⟩
abbrev S256x4095 : Shape := ⟨2, ![256, 4095]⟩
abbrev S256x2 : Shape := ⟨2, ![256, 2]⟩
abbrev S256x4094 : Shape := ⟨2, ![256, 4094]⟩
abbrev S256x4 : Shape := ⟨2, ![256, 4]⟩
abbrev S256x4092 : Shape := ⟨2, ![256, 4092]⟩
abbrev S256x8 : Shape := ⟨2, ![256, 8]⟩
abbrev S256x4088 : Shape := ⟨2, ![256, 4088]⟩
abbrev S256x16 : Shape := ⟨2, ![256, 16]⟩
abbrev S256x4080 : Shape := ⟨2, ![256, 4080]⟩
abbrev S256x32 : Shape := ⟨2, ![256, 32]⟩
abbrev S256x4064 : Shape := ⟨2, ![256, 4064]⟩
abbrev S256x64 : Shape := ⟨2, ![256, 64]⟩
abbrev S256x4032 : Shape := ⟨2, ![256, 4032]⟩
abbrev S256x128 : Shape := ⟨2, ![256, 128]⟩
abbrev S256x3968 : Shape := ⟨2, ![256, 3968]⟩
abbrev S256x256 : Shape := ⟨2, ![256, 256]⟩
abbrev S256x3840 : Shape := ⟨2, ![256, 3840]⟩
abbrev S256x512 : Shape := ⟨2, ![256, 512]⟩
abbrev S256x3584 : Shape := ⟨2, ![256, 3584]⟩
abbrev S256x1024 : Shape := ⟨2, ![256, 1024]⟩
abbrev S256x3072 : Shape := ⟨2, ![256, 3072]⟩
abbrev S256x2048 : Shape := ⟨2, ![256, 2048]⟩
abbrev S256 : Shape := ⟨1, ![256]⟩
abbrev S1x256x1 : Shape := ⟨3, ![1, 256, 1]⟩

abbrev nBuf : Space → Nat
  | .hbm => 12
  | .vmem => 10
  | .smem => 0
  | _ => 0

abbrev bufTy : (tb : Table) → Fin (tcTables nBuf tb) → BufTy
  | .hbm, ⟨0, _⟩ => ⟨S8x1024x3, .f32⟩
  | .hbm, ⟨1, _⟩ => ⟨S8x4096x3, .f32⟩
  | .hbm, ⟨2, _⟩ => ⟨S8x4096x1, .f32⟩
  | .hbm, ⟨3, _⟩ => ⟨S8x4096, .f32⟩
  | .hbm, ⟨4, _⟩ => ⟨S8x4096x1, .f32⟩
  | .hbm, ⟨5, _⟩ => ⟨S8x4096, .f32⟩
  | .hbm, ⟨6, _⟩ => ⟨S8x4096x1, .f32⟩
  | .hbm, ⟨7, _⟩ => ⟨S8x4096, .f32⟩
  | .hbm, ⟨8, _⟩ => ⟨S8x1x4096, .f32⟩
  | .hbm, ⟨9, _⟩ => ⟨S8x1x4096, .f32⟩
  | .hbm, ⟨10, _⟩ => ⟨S8x1x4096, .f32⟩
  | .hbm, ⟨11, _⟩ => ⟨S8x1024x32, .i32⟩
  | .local _ .vmem, ⟨0, _⟩ => ⟨S1x256x3, .f32⟩
  | .local _ .vmem, ⟨1, _⟩ => ⟨S1x256x3, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x256x32, .i32⟩
  | .local _ .vmem, ⟨9, _⟩ => ⟨S1x256x32, .i32⟩
  | _, _ => ⟨S8x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x32 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefBqIdeal.lean ====
abbrev S8x1024x3 : Shape := ⟨3, ![8, 1024, 3]⟩
abbrev S8x4096x3 : Shape := ⟨3, ![8, 4096, 3]⟩
abbrev S_ : Shape := ⟨0, ![]⟩
abbrev S8x1024 : Shape := ⟨2, ![8, 1024]⟩
abbrev S8x1024x1 : Shape := ⟨3, ![8, 1024, 1]⟩
abbrev S8x4096 : Shape := ⟨2, ![8, 4096]⟩
abbrev S8x1x4096 : Shape := ⟨3, ![8, 1, 4096]⟩
abbrev S8x1024x4096 : Shape := ⟨3, ![8, 1024, 4096]⟩
abbrev S4096 : Shape := ⟨1, ![4096]⟩
abbrev S8x1024x32 : Shape := ⟨3, ![8, 1024, 32]⟩
abbrev S8 : Shape := ⟨1, ![8]⟩
abbrev S8x1x1 : Shape := ⟨3, ![8, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S8x1024x3, .f32⟩
  | .hbm, ⟨1, _⟩ => ⟨S8x4096x3, .f32⟩
  | .hbm, ⟨2, _⟩ => ⟨S8x1024x3, .f32⟩
  | .hbm, ⟨3, _⟩ => ⟨S_, .f32⟩
  | .hbm, ⟨4, _⟩ => ⟨S8x1024, .f32⟩
  | .hbm, ⟨5, _⟩ => ⟨S8x1024x1, .f32⟩
  | .hbm, ⟨6, _⟩ => ⟨S8x4096x3, .f32⟩
  | .hbm, ⟨7, _⟩ => ⟨S_, .f32⟩
  | .hbm, ⟨8, _⟩ => ⟨S8x4096, .f32⟩
  | .hbm, ⟨9, _⟩ => ⟨S8x1x4096, .f32⟩
  | .hbm, ⟨10, _⟩ => ⟨S8x1024x4096, .f32⟩
  | .hbm, ⟨11, _⟩ => ⟨S8x1024x4096, .f32⟩
  | .hbm, ⟨12, _⟩ => ⟨S8x1024x4096, .f32⟩
  | .hbm, ⟨13, _⟩ => ⟨S8x1024x4096, .f32⟩
  | .hbm, ⟨14, _⟩ => ⟨S_, .f32⟩
  | .hbm, ⟨15, _⟩ => ⟨S8x1024x4096, .f32⟩
  | .hbm, ⟨16, _⟩ => ⟨S8x1024x4096, .f32⟩
  | .hbm, ⟨17, _⟩ => ⟨S8x1024x4096, .f32⟩
  | .hbm, ⟨18, _⟩ => ⟨S4096, .i32⟩
  | .hbm, ⟨19, _⟩ => ⟨S8x1024x4096, .i32⟩
  | .hbm, ⟨20, _⟩ => ⟨S_, .f32⟩
  | .hbm, ⟨21, _⟩ => ⟨S8x1024x4096, .f32⟩
  | .hbm, ⟨22, _⟩ => ⟨S8x1024x4096, .i1⟩
  | .hbm, ⟨23, _⟩ => ⟨S_, .i32⟩
  | .hbm, ⟨24, _⟩ => ⟨S8x1024x4096, .i32⟩
  | .hbm, ⟨25, _⟩ => ⟨S8x1024x4096, .i32⟩
  | .hbm, ⟨26, _⟩ => ⟨S8x1024x4096, .i32⟩
  | .hbm, ⟨27, _⟩ => ⟨S8x1024x32, .i32⟩
  | .hbm, ⟨28, _⟩ => ⟨S8x1024x1, .i32⟩
  | .hbm, ⟨29, _⟩ => ⟨S_, .i32⟩
  | .hbm, ⟨30, _⟩ => ⟨S8x1024x32, .i32⟩
  | .hbm, ⟨31, _⟩ => ⟨S8x1024x32, .i1⟩
  | .hbm, ⟨32, _⟩ => ⟨S8x1024x32, .i32⟩
  | .hbm, ⟨33, _⟩ => ⟨S8x1024x32, .i32⟩
  | .hbm, ⟨34, _⟩ => ⟨S8, .i32⟩
  | .hbm, ⟨35, _⟩ => ⟨S8x1x1, .i32⟩
  | .hbm, ⟨36, _⟩ => ⟨S_, .i32⟩
  | .hbm, ⟨37, _⟩ => ⟨S8x1x1, .i32⟩
  | .hbm, ⟨38, _⟩ => ⟨S8x1x1, .i32⟩
  | .hbm, ⟨39, _⟩ => ⟨S8x1024x32, .i32⟩
  | .hbm, ⟨40, _⟩ => ⟨S8x1024x32, .i32⟩
  | _, _ => ⟨S8x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_call2_v0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Words.lean ====
/-
  The word arithmetic of the pipelined gather. Tile `(i 0, i 1)` is worker `16 * (i 0) + (i 1)` and owns the
  64 blocks `64 * worker + t`. Every offset, condition and carried counter of trip `t` is computed here as a plain number:
  each is a closed statement over the two grid coordinates and the trip, decided by evaluation.
-/
module

public import proofs.«01_k».proof.Proof.Gen.KernelIdeal
public import proofs.«01_k».proof.Proof.Gen.KernelIdeal.Skeleton

@[expose] public section

set_option Elab.async false

namespace Cert.Proof.Gather

open Cert.KernelIdeal Cert.KernelIdeal.Gen
open Idealize.ShloMosaic Idealize.SL.Sem

/-- The first block of tile `i`. -/
def base (i : grid0.Coords) : ℕ := 64 * ((i 1).val + 16 * (i 0).val)

theorem base_le (i : grid0.Coords) : base i + 64 ≤ 2048 := by
  revert i; decide +kernel

theorem trips_eq : k0_t1_loop.trips = 64 := by decide +kernel

/-- The five counters carried into trip `t`: blocks fetched, blocks awaited, blocks gathered, write-backs awaited, and the
    position in the tile's own row of blocks. -/
def carried (t : ℕ) : BitVec 32 × BitVec 32 × BitVec 32 × BitVec 32 × BitVec 32 :=
  (BitVec.ofNat 32 (min (t + 1) 64), BitVec.ofNat 32 t, BitVec.ofNat 32 t, BitVec.ofNat 32 (t - 1), BitVec.ofNat 32 (t % 64))

theorem carried_zero : carried 0 = (Scalar.addi 0#32 1#32, 0#32, 0#32, 0#32, 0#32) := by decide +kernel

/-! ## Conditions and checks of a trip -/

theorem cond1_eq : ∀ (i : grid0.Coords) (t : Fin k0_t1_loop.trips),
    k0_cond1 i t (BitVec.ofNat 32 (t.val % 64)) = if t.val < 63 then 1#1 else 0#1 := by decide +kernel
theorem cond2_eq : ∀ (i : grid0.Coords) (t : Fin k0_t1_loop.trips), k0_cond2 i t (BitVec.ofNat 32 (t.val % 64)) = 1#1 := by decide +kernel
theorem cond5_eq : ∀ (i : grid0.Coords) (t : Fin k0_t1_loop.trips), k0_cond5 i t (BitVec.ofNat 32 (t.val % 64)) = 1#1 := by decide +kernel
theorem cond7_eq : ∀ (i : grid0.Coords) (t : Fin k0_t1_loop.trips),
    k0_cond7 i t (BitVec.ofNat 32 (t.val % 64)) = if t.val = 0 then 0#1 else 1#1 := by decide +kernel

theorem chk1 : ∀ (i : grid0.Coords) (t : Fin k0_t1_loop.trips),
    k0_chk1 i t (BitVec.ofNat 32 (min (t.val + 1) 64)) (BitVec.ofNat 32 t.val) (BitVec.ofNat 32 t.val) (BitVec.ofNat 32 (t.val - 1))
      (BitVec.ofNat 32 (t.val % 64)) := by decide +kernel
theorem chk2 : ∀ (t : Fin k0_t1_loop.trips), k0_chk2 (BitVec.ofNat 32 t.val) := by decide +kernel
theorem chk3 : ∀ (t : Fin k0_t1_loop.trips), k0_chk3 (BitVec.ofNat 32 t.val) := by decide +kernel
theorem chk4 : k0_chk4 (BitVec.ofNat 32 63) := by decide +kernel
theorem chk5 : ∀ (i : grid0.Coords), k0_chk5 i (BitVec.ofNat 32 0) := by decide +kernel

/-! ## Offsets of a trip -/

theorem off2_eq : ∀ i : grid0.Coords, k0_off2 i = ![0, 128 * (base i + 0)] := by decide +kernel
theorem off4_eq : ∀ t : Fin k0_t1_loop.trips, t.val < 63 → k0_off4 (BitVec.ofNat 32 (min (t.val + 1) 64)) = ![(t.val + 1) % 2, 0, 0] := by decide +kernel
theorem off5_eq : ∀ (i : grid0.Coords) (t : Fin k0_t1_loop.trips), t.val < 63 →
    k0_off5 i (BitVec.ofNat 32 (t.val % 64)) = ![0, 128 * (base i + (t.val + 1))] := by decide +kernel
theorem off6_eq : ∀ t : Fin k0_t1_loop.trips, t.val < 63 → k0_off6 (BitVec.ofNat 32 (min (t.val + 1) 64)) = ![(t.val + 1) % 2] := by decide +kernel
theorem off9_eq : ∀ t : Fin k0_t1_loop.trips, k0_off9 (BitVec.ofNat 32 t.val) = ![t.val % 2] := by decide +kernel
theorem off10_eq : ∀ t : Fin k0_t1_loop.trips, k0_off10 (BitVec.ofNat 32 t.val) = ![t.val % 2, 0, 0] := by decide +kernel
theorem off11_eq : ∀ t : Fin k0_t1_loop.trips, k0_off11 (BitVec.ofNat 32 t.val) = ![t.val % 2, 0, 0] := by decide +kernel
theorem off12_eq : ∀ t : Fin k0_t1_loop.trips, k0_off12 (BitVec.ofNat 32 t.val) = ![t.val % 2, 0, 0] := by decide +kernel
theorem off13_eq : ∀ (i : grid0.Coords) (t : Fin k0_t1_loop.trips),
    k0_off13 i (BitVec.ofNat 32 (t.val % 64)) = ![128 * (base i + t.val), 0] := by decide +kernel
theorem off14_eq : ∀ t : Fin k0_t1_loop.trips, k0_off14 (BitVec.ofNat 32 t.val) = ![t.val % 2] := by decide +kernel
theorem off17_eq : ∀ t : Fin k0_t1_loop.trips, t.val ≠ 0 → k0_off17 (BitVec.ofNat 32 (t.val - 1)) = ![(t.val + 1) % 2] := by decide +kernel
theorem off20_eq : k0_off20 (BitVec.ofNat 32 63) = ![1] := by decide +kernel

end Cert.Proof.Gather

end
-- ==== Proof.Slots.lean ====
/-
  The pieces of memory one trip moves, as sets of indices and as views.

  Index block `B` is columns `128 B …` of the index row; output block `B` is rows `128 B …` of the output; each of the two
  scratch arrays has two slots, `0` and `1`. A view the program spells by an offset vector is described here by the numbers in
  that vector: which elements it covers, and which element of its buffer it puts at each of its own indices.
-/
module

public import proofs.«01_k».proof.Proof.Words
public import Idealize.ShloMosaic.Lib.ValueIdx
public import Idealize.ShloMosaic.Lib.ValueLayout

@[expose] public section

noncomputable section

namespace Cert.Proof.Gather

open Cert.KernelIdeal Cert.KernelIdeal.Gen
open Idealize.ShloMosaic Idealize.SL.Sem

/-! ## The arrays of the call -/

abbrev tabV : Memref sig .scVector .hbm S32768x128 .f32 := Memref.whole main_v2_scv
abbrev idxV : Memref sig .scVector .hbm S1x262144 .i32 := Memref.whole main_v4_scv
abbrev outV : Memref sig .scVector .hbm S262144x128 .f32 := Memref.whole main_v5_scv
abbrev islV : Memref sig .scVector .vmem S2x1x128 .i32 := Memref.whole cc0_scoped0
abbrev rslV : Memref sig .scVector .vmem S2x128x128 .f32 := Memref.whole cc0_scoped2

/-! ## The views, by their offset vectors -/

abbrev idxBlk (off : Fin 2 → ℕ) (h : ∀ a, off a + S1x128.size a ≤ S1x262144.size a) : Memref sig .scVector .hbm S1x128 .i32 :=
  idxV.slice (Rect.unit (s := S1x262144) off S1x128.size h) (fun _ => rfl)
abbrev outBlk (off : Fin 2 → ℕ) (h : ∀ a, off a + S128x128.size a ≤ S262144x128.size a) : Memref sig .scVector .hbm S128x128 .f32 :=
  outV.slice (Rect.unit (s := S262144x128) off S128x128.size h) (fun _ => rfl)
abbrev idxSlot (off : Fin 3 → ℕ) (h : ∀ a, off a + S1x1x128.size a ≤ S2x1x128.size a) : Memref sig .scVector .vmem S1x128 .i32 :=
  (islV.slice (Rect.unit (s := S2x1x128) off S1x1x128.size h) (fun _ => rfl)).squeeze S1x128 squeezes_S1x1x128_S1x128
abbrev rowSlot (off : Fin 3 → ℕ) (h : ∀ a, off a + S1x128x128.size a ≤ S2x128x128.size a) : Memref sig .scVector .vmem S128x128 .f32 :=
  (rslV.slice (Rect.unit (s := S2x128x128) off S1x128x128.size h) (fun _ => rfl)).squeeze S128x128 squeezes_S1x128x128_S128x128
/-- A slot of indices as the list the gather reads: its one row, squeezed. -/
abbrev listSlot (off : Fin 3 → ℕ) (h : ∀ a, off a + S1x1x128.size a ≤ S2x1x128.size a) : Memref sig .scVector .vmem S128 .i32 :=
  ((idxSlot off h).slice (Rect.unit (s := S1x128) ![0, 0] S1x128.size inb_S1x128_S1x128_0_0) (fun _ => rfl)).squeeze S128 squeezes_S1x128_S128
abbrev tabAll : Memref sig .scVector .hbm S32768x128 .f32 :=
  tabV.slice (Rect.unit (s := S32768x128) ![0, 0] S32768x128.size inb_S32768x128_S32768x128_0_0) (fun _ => rfl)

/-! ## The sets -/

def idxSlotSet (b : ℕ) : Finset S2x1x128.Idx := Finset.univ.filter fun x => (x 0).val = b
def rowSlotSet (b : ℕ) : Finset S2x128x128.Idx := Finset.univ.filter fun x => (x 0).val = b
def idxBlkSet (B : ℕ) : Finset S1x262144.Idx := Finset.univ.filter fun z => 128 * B ≤ (z 1).val ∧ (z 1).val < 128 * B + 128
/-- Output blocks `lo`, …, `hi - 1`. -/
def outSet (lo hi : ℕ) : Finset S262144x128.Idx := Finset.univ.filter fun z => 128 * lo ≤ (z 0).val ∧ (z 0).val < 128 * hi

theorem set_idxBlk {off : Fin 2 → ℕ} {h} {B : ℕ} (e : off = ![0, 128 * B]) : (idxBlk off h).view.set = idxBlkSet B := by
  subst e
  refine (View.set_slice_whole _ _).trans ?_
  ext z
  rw [Rect.mem_set_unit, idxBlkSet, Finset.mem_filter]
  have h0 : (z 0).val < 1 := (z 0).isLt
  constructor
  · intro hz; have := hz 1
    exact ⟨Finset.mem_univ _, this.1, this.2⟩
  · rintro ⟨-, h1, h2⟩ a
    match a with
    | 0 => exact ⟨Nat.zero_le _, h0⟩
    | 1 => exact ⟨h1, h2⟩

theorem set_outBlk {off : Fin 2 → ℕ} {h} {B : ℕ} (e : off = ![128 * B, 0]) : (outBlk off h).view.set = outSet B (B + 1) := by
  subst e
  refine (View.set_slice_whole _ _).trans ?_
  ext z
  rw [Rect.mem_set_unit, outSet, Finset.mem_filter]
  have h1 : (z 1).val < 128 := (z 1).isLt
  constructor
  · intro hz; have := hz 0
    exact ⟨Finset.mem_univ _, this.1, by have := this.2; change (z 0).val < 128 * B + 128 at this; omega⟩
  · rintro ⟨-, h2, h3⟩ a
    match a with
    | 0 => exact ⟨h2, by show (z 0).val < 128 * B + 128; omega⟩
    | 1 => exact ⟨Nat.zero_le _, by show (z 1).val < 0 + 128; omega⟩

theorem set_idxSlot {off : Fin 3 → ℕ} {h} {b : ℕ} (e : off = ![b, 0, 0]) : (idxSlot off h).view.set = idxSlotSet b := by
  subst e
  refine (View.set_reshape _ _).trans ((View.set_slice_whole _ _).trans ?_)
  ext z
  rw [Rect.mem_set_unit, idxSlotSet, Finset.mem_filter]
  have h1 : (z 1).val < 1 := (z 1).isLt
  have h2 : (z 2).val < 128 := (z 2).isLt
  constructor
  · intro hz
    have ha : b ≤ (z 0).val := (hz 0).1
    have hb : (z 0).val < b + 1 := (hz 0).2
    exact ⟨Finset.mem_univ _, by omega⟩
  · rintro ⟨-, h0⟩ a
    match a with
    | 0 => exact ⟨by show b ≤ (z 0).val; omega, by show (z 0).val < b + 1; omega⟩
    | 1 => exact ⟨Nat.zero_le _, by show (z 1).val < 0 + 1; omega⟩
    | 2 => exact ⟨Nat.zero_le _, by show (z 2).val < 0 + 128; omega⟩

theorem set_rowSlot {off : Fin 3 → ℕ} {h} {b : ℕ} (e : off = ![b, 0, 0]) : (rowSlot off h).view.set = rowSlotSet b := by
  subst e
  refine (View.set_reshape _ _).trans ((View.set_slice_whole _ _).trans ?_)
  ext z
  rw [Rect.mem_set_unit, rowSlotSet, Finset.mem_filter]
  have h1 : (z 1).val < 128 := (z 1).isLt
  have h2 : (z 2).val < 128 := (z 2).isLt
  constructor
  · intro hz
    have ha : b ≤ (z 0).val := (hz 0).1
    have hb : (z 0).val < b + 1 := (hz 0).2
    exact ⟨Finset.mem_univ _, by omega⟩
  · rintro ⟨-, h0⟩ a
    match a with
    | 0 => exact ⟨by show b ≤ (z 0).val; omega, by show (z 0).val < b + 1; omega⟩
    | 1 => exact ⟨Nat.zero_le _, by show (z 1).val < 0 + 128; omega⟩
    | 2 => exact ⟨Nat.zero_le _, by show (z 2).val < 0 + 128; omega⟩

theorem set_tabAll : tabAll.view.set = Finset.univ := by
  refine (View.set_slice_whole _ _).trans ?_
  ext z
  rw [Rect.mem_set_unit]
  refine iff_of_true (fun a => ?_) (Finset.mem_univ _)
  match a with
  | 0 => exact ⟨Nat.zero_le _, by show (z 0).val < 0 + 32768; have h : (z 0).val < 32768 := (z 0).isLt; omega⟩
  | 1 => exact ⟨Nat.zero_le _, by show (z 1).val < 0 + 128; have h : (z 1).val < 128 := (z 1).isLt; omega⟩

/-- The list covers the slot it is a view of. -/
theorem set_listSlot {off : Fin 3 → ℕ} {h} {b : ℕ} (e : off = ![b, 0, 0]) : (listSlot off h).view.set = idxSlotSet b := by
  rw [← set_idxSlot (h := h) e]
  refine (View.set_reshape _ _).trans ((View.set_slice _ _).trans ?_)
  have hu : (Rect.unit (s := S1x128) ![0, 0] S1x128.size inb_S1x128_S1x128_0_0).set = Finset.univ := by decide +kernel
  rw [hu]; rfl

/-! ## Where each view puts its indices -/

theorem emb_idxBlk {off : Fin 2 → ℕ} {h} {B : ℕ} (e : off = ![0, 128 * B]) (y : S1x128.Idx) :
    ((idxBlk off h).view.emb y 1).val = 128 * B + (y 1).val := by
  subst e
  show (((Rect.unit (s := S1x262144) ![0, 128 * B] S1x128.size h).emb y) 1).val = _
  rw [Rect.emb_apply]; simp

theorem emb_outBlk {off : Fin 2 → ℕ} {h} {B : ℕ} (e : off = ![128 * B, 0]) (y : S128x128.Idx) :
    ((outBlk off h).view.emb y 0).val = 128 * B + (y 0).val ∧ ((outBlk off h).view.emb y 1).val = (y 1).val := by
  subst e
  constructor
  · show (((Rect.unit (s := S262144x128) ![128 * B, 0] S128x128.size h).emb y) 0).val = _
    rw [Rect.emb_apply]; simp
  · show (((Rect.unit (s := S262144x128) ![128 * B, 0] S128x128.size h).emb y) 1).val = _
    rw [Rect.emb_apply]; simp

/-- A unit rectangle's coordinate. -/
theorem unit_val {s : Shape} {off size : Fin s.rank → ℕ} {inb : ∀ a, off a + size a ≤ s.size a} (y : (Rect.unit off size inb).shape.Idx)
    (a : Fin s.rank) : ((Rect.unit off size inb).emb y a).val = off a + (y a).val := by
  rw [Rect.emb_apply]; simp

theorem unsqueeze_row (y : S1x128.Idx) (j : S1x1x128.Idx) (h : j = Shape.reshapeEquiv (s := S1x1x128) (s' := S1x128) squeezes_S1x1x128_S1x128.numel_eq y) :
    (j 0).val = 0 ∧ (j 2).val = (y 1).val := by
  have e : j = ValueIdx.ix3 (0 : Fin 1) (y 0) (y 1) :=
    h.trans ((congrArg _ (ValueIdx.eq_ix2 y)).trans (ValueIdx.reshapeEquiv_ix2_1ab _ (y 0) (y 1)))
  subst e; exact ⟨rfl, rfl⟩

theorem unsqueeze_block (y : S128x128.Idx) (j : S1x128x128.Idx)
    (h : j = Shape.reshapeEquiv (s := S1x128x128) (s' := S128x128) squeezes_S1x128x128_S128x128.numel_eq y) :
    (j 0).val = 0 ∧ (j 1).val = (y 0).val ∧ (j 2).val = (y 1).val := by
  have e : j = ValueIdx.ix3 (0 : Fin 1) (y 0) (y 1) :=
    h.trans ((congrArg _ (ValueIdx.eq_ix2 y)).trans (ValueIdx.reshapeEquiv_ix2_1ab _ (y 0) (y 1)))
  subst e; exact ⟨rfl, rfl, rfl⟩

theorem unsqueeze_list (y : S128.Idx) (j : S1x128.Idx) (h : j = Shape.reshapeEquiv (s := S1x128) (s' := S128) squeezes_S1x128_S128.numel_eq y) :
    (j 1).val = (y 0).val := by
  have e : Shape.reshapeEquiv (s := S1x128) (s' := S128) squeezes_S1x128_S128.numel_eq y = ValueIdx.ix2 (0 : Fin 1) (y 0) := by
    refine Shape.reshapeEquiv_eq_of_rowMajor _ ?_
    refine (Shape.rowMajor_val_two (d := ![1, 128]) _).trans (Eq.trans ?_ (Shape.rowMajor_val_one (d := ![128]) _).symm)
    show 0 * 128 + (y 0).val = (y 0).val
    omega
  rw [h, e]

theorem emb_idxSlot {off : Fin 3 → ℕ} {h} {b : ℕ} (e : off = ![b, 0, 0]) (y : S1x128.Idx) :
    ((idxSlot off h).view.emb y 0).val = b ∧ ((idxSlot off h).view.emb y 2).val = (y 1).val := by
  subst e
  obtain ⟨h0, h2⟩ := unsqueeze_row y _ rfl
  exact ⟨(unit_val (s := S2x1x128) _ 0).trans (congrArg (b + ·) h0), (unit_val (s := S2x1x128) _ 2).trans ((Nat.zero_add _).trans h2)⟩

theorem emb_rowSlot {off : Fin 3 → ℕ} {h} {b : ℕ} (e : off = ![b, 0, 0]) (y : S128x128.Idx) :
    ((rowSlot off h).view.emb y 0).val = b ∧ ((rowSlot off h).view.emb y 1).val = (y 0).val ∧ ((rowSlot off h).view.emb y 2).val = (y 1).val := by
  subst e
  obtain ⟨h0, h1, h2⟩ := unsqueeze_block y _ rfl
  exact ⟨(unit_val (s := S2x128x128) _ 0).trans (congrArg (b + ·) h0), (unit_val (s := S2x128x128) _ 1).trans ((Nat.zero_add _).trans h1),
    (unit_val (s := S2x128x128) _ 2).trans ((Nat.zero_add _).trans h2)⟩

theorem emb_listSlot {off : Fin 3 → ℕ} {h} {b : ℕ} (e : off = ![b, 0, 0]) (y : S128.Idx) :
    ((listSlot off h).view.emb y 0).val = b ∧ ((listSlot off h).view.emb y 2).val = (y 0).val := by
  have h1 := unsqueeze_list y _ rfl
  have h2 := emb_idxSlot (h := h) e ((Rect.unit (s := S1x128) ![0, 0] S1x128.size inb_S1x128_S1x128_0_0).emb
      (Shape.reshapeEquiv squeezes_S1x128_S128.numel_eq y))
  exact ⟨h2.1, h2.2.trans ((unit_val (s := S1x128) _ 1).trans ((Nat.zero_add _).trans h1))⟩

theorem emb_tabAll (y : S32768x128.Idx) : tabAll.view.emb y = y := by
  funext a
  apply Fin.ext
  show (((Rect.unit (s := S32768x128) ![0, 0] S32768x128.size inb_S32768x128_S32768x128_0_0).emb y) a).val = _
  rw [Rect.emb_apply]
  match a with
  | 0 => simp
  | 1 => simp

/-! ## Sets meet, join and part -/

theorem mem_idxSlotSet {b : ℕ} {x : S2x1x128.Idx} : x ∈ idxSlotSet b ↔ (x 0).val = b := by simp [idxSlotSet]
theorem mem_rowSlotSet {b : ℕ} {x : S2x128x128.Idx} : x ∈ rowSlotSet b ↔ (x 0).val = b := by simp [rowSlotSet]
theorem mem_outSet {lo hi : ℕ} {z : S262144x128.Idx} : z ∈ outSet lo hi ↔ 128 * lo ≤ (z 0).val ∧ (z 0).val < 128 * hi := by simp [outSet]

theorem idxSlotSet_compl {b : ℕ} (hb : b < 2) : Finset.univ \ idxSlotSet b = idxSlotSet (1 - b) := by
  ext x
  have hx : (x 0).val < 2 := (x 0).isLt
  rw [Finset.mem_sdiff, mem_idxSlotSet, mem_idxSlotSet]
  simp only [Finset.mem_univ, true_and]; omega
theorem rowSlotSet_compl {b : ℕ} (hb : b < 2) : Finset.univ \ rowSlotSet b = rowSlotSet (1 - b) := by
  ext x
  have hx : (x 0).val < 2 := (x 0).isLt
  rw [Finset.mem_sdiff, mem_rowSlotSet, mem_rowSlotSet]
  simp only [Finset.mem_univ, true_and]; omega

theorem outSet_subset {lo hi lo' hi' : ℕ} (h : lo' ≤ lo) (h' : hi ≤ hi') : outSet lo hi ⊆ outSet lo' hi' := by
  intro z; rw [mem_outSet, mem_outSet]; omega
/-- Without its first block a run of blocks starts one later. -/
theorem outSet_tail {lo hi : ℕ} : outSet lo hi \ outSet lo (lo + 1) = outSet (lo + 1) hi := by
  ext z; rw [Finset.mem_sdiff, mem_outSet, mem_outSet, mem_outSet]; omega
/-- Without its last block a run of blocks ends one earlier. -/
theorem outSet_init {lo hi : ℕ} (h : lo ≤ hi) : outSet lo (hi + 1) \ outSet hi (hi + 1) = outSet lo hi := by
  ext z; rw [Finset.mem_sdiff, mem_outSet, mem_outSet, mem_outSet]; omega
theorem outSet_empty {lo : ℕ} : outSet lo lo = ∅ := by
  ext z; rw [mem_outSet]; simp

end Cert.Proof.Gather

end
-- ==== Proof.Steps.lean ====
/-
  The four moves of a trip, each as one rule: fetching a block of indices, gathering the rows it names, writing the rows back,
  and waiting. The rules speak of slots and blocks by number and say what each move leaves where: the block of indices in its
  slot, the rows of the table in theirs, the block of the result in the output.
-/
module

public import proofs.«01_k».proof.Proof.Slots
public import Idealize.ShloMosaic.Lib.SparseCore.Quiescent
public import Idealize.ShloMosaic.Lib.SparseCore.Ops
public import Idealize.ShloMosaic.Lib.SparseCore.Stream
public import Idealize.ShloMosaic.Lib.Pipeline.Kit
public import Idealize.ShloMosaic.Lib.Tactic
public import Idealize.ShloMosaic.Lib.ViewIndex

@[expose] public section

noncomputable section

namespace Cert.Proof.Gather

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resources -/

abbrev UH : Type := URounds (GSem nD τ sig) ℕ
abbrev UU : Type := UH × Counters
abbrev MM (F : FTy → Type) : Type _ := MT nD τ sig (HIx 1) (Elt F) ℕ UU ℕ
local notation "𝕄" => MT nD τ sig (HIx 1) (Elt F) ℕ UU ℕ
abbrev EH : Emb UH (MT nD τ sig (HIx 1) (Elt F) ℕ UU ℕ) := embL
abbrev 𝒱₀ : Variants := Variants.none

/-! ## Semaphores by slot -/

/-- The semaphore of the fetch into slot `b`, of the write-back from slot `b`, of the gather. -/
def inSem (b : ℕ) : DmaSem sig := if b = 0 then (⟨0, by decide⟩ : Fin 5) else (⟨1, by decide⟩ : Fin 5)
def outSem (b : ℕ) : DmaSem sig := if b = 0 then (⟨2, by decide⟩ : Fin 5) else (⟨3, by decide⟩ : Fin 5)
def gatSem : DmaSem sig := (⟨4, by decide⟩ : Fin 5)

theorem inSem_eq {off : Fin 1 → ℕ} {h : ∀ a, off a + S1.size a ≤ S2.size a} {b : ℕ} (e : off = ![b]) :
    ((cc0_scoped1.slice (Rect.unit (s := S2) off S1.size h)).squeeze S_ squeezes_S1_S_).sem = inSem b := by
  subst e
  have hb : b + 1 ≤ 2 := h 0
  rcases (by omega : b = 0 ∨ b = 1) with rfl | rfl <;> (revert h; decide +kernel)
theorem outSem_eq {off : Fin 1 → ℕ} {h : ∀ a, off a + S1.size a ≤ S2.size a} {b : ℕ} (e : off = ![b]) :
    ((cc0_scoped3.slice (Rect.unit (s := S2) off S1.size h)).squeeze S_ squeezes_S1_S_).sem = outSem b := by
  subst e
  have hb : b + 1 ≤ 2 := h 0
  rcases (by omega : b = 0 ∨ b = 1) with rfl | rfl <;> (revert h; decide +kernel)
theorem gatSem_eq : (cc0_scoped4 : DmaSems sig S_).sem = gatSem := rfl

/-! ## A flight that carries something along -/

/-- What is held beside a flight may ride with it and be handed over at its wait. -/
theorem flight_carry {c : Thread nD τ} {sm : SemLoc sig} {ι : HIx 1} {N : ℕ} {D X : sProp 𝕄} :
    iprop(Transfers.Flight countersEmb c sm ι N D ∗ X) ⊢ (Transfers.Flight countersEmb c sm ι N iprop(D ∗ X) : sProp 𝕄) := by
  unfold Transfers.Flight
  iintro ⟨⟨⟨%R, HR, %hcap, %hpeek⟩, Hcred⟩, HX⟩
  isplitl [HR HX]
  · iexists iprop(R ∗ X)
    isplitl [HR HX]
    · isplitl [HR] <;> iassumption
    isplit
    · ipureintro
      intro K'
      refine BIBase.Entails.trans ?_ (hcap K')
      iintro ⟨⟨HR, HX⟩, HK⟩
      isplitl [HR]; · iexact HR
      iintro ⟨Hv, HD⟩
      iapply HK
      isplitl [Hv]; · iexact Hv
      isplitl [HD] <;> iassumption
    · ipureintro
      intro K'
      refine BIBase.Entails.trans ?_ (hpeek K')
      iintro ⟨⟨HR, HX⟩, HK⟩
      isplitl [HR]; · iexact HR
      iintro HR
      iapply HK
      isplitl [HR] <;> iassumption
  · iexact Hcred

/-! ## The places -/

variable (d : Dev nD) (i : grid0.Coords)

abbrev cV (i : grid0.Coords) : Fin τ.nSC := (i 0).castLE hcore0
abbrev jV (i : grid0.Coords) : Fin τ.nSub := (i 1).castLE hsub0
abbrev thr : Thread nD τ := V d (cV i) (jV i)

abbrev tLoc (d : Dev nD) : Loc nD τ sig := (SparseCore.T d).loc main_v2
abbrev iLoc (d : Dev nD) : Loc nD τ sig := (SparseCore.T d).loc main_v4
abbrev oLoc (d : Dev nD) : Loc nD τ sig := (SparseCore.T d).loc main_v5
abbrev isLoc : Loc nD τ sig := (thr d i).loc cc0_scoped0
abbrev rsLoc : Loc nD τ sig := (thr d i).loc cc0_scoped2

/-- Row `I[z₀]` of the table at row `z₀`. -/
def rowsOf (Tb : Buf (Elt F) (tLoc d)) (Ib : Buf (Elt F) (iLoc d)) : Buf (Elt F) (oLoc d) :=
  fun z : S262144x128.Idx => (Tb : S32768x128.Idx → Elt F .f32)
    (ValueIdx.ix2 (Fin.ofNat 32768 ((Ib : S1x262144.Idx → BitVec 32) (ValueIdx.ix2 (0 : Fin 1) (z 0))).toNat) (z 1))

/-- Slot `b` of the index scratch holds block `B` of the indices. -/
def HoldsIdx (Ib : Buf (Elt F) (iLoc d)) (b B : ℕ) (f : Buf (Elt F) (isLoc d i)) : Prop :=
  ∀ (x : S2x1x128.Idx) (z : S1x262144.Idx), (x 0).val = b → (z 1).val = 128 * B + (x 2).val →
    (f : S2x1x128.Idx → BitVec 32) x = (Ib : S1x262144.Idx → BitVec 32) z

/-- Slot `b` of the row scratch holds block `B` of the result. -/
def HoldsRows (G : Buf (Elt F) (oLoc d)) (b B : ℕ) (f : Buf (Elt F) (rsLoc d i)) : Prop :=
  ∀ (x : S2x128x128.Idx) (z : S262144x128.Idx), (x 0).val = b → (z 0).val = 128 * B + (x 1).val → (z 1).val = (x 2).val →
    (f : S2x128x128.Idx → Elt F .f32) x = (G : S262144x128.Idx → Elt F .f32) z

abbrev NI : ℕ := (idxSlot ![0, 0, 0] (by decide)).view.dmaCredit
abbrev NR : ℕ := (rowSlot ![0, 0, 0] (by decide)).view.dmaCredit
abbrev NO : ℕ := (outBlk ![0, 0] (by decide)).view.dmaCredit

/-- A fetch of block `B` under way into slot `b`: at its wait, the slot holding the block, and the read share of the indices. -/
def Fetching (Ib : Buf (Elt F) (iLoc d)) (q : PosShare TreeShare) (b B : ℕ) : sProp 𝕄 :=
  Transfers.Flight countersEmb (thr d i) (.dma (inSem b)) (default : HIx 1) NI
    iprop((∃ f, ⌜HoldsIdx d i Ib b B f⌝ ∗ isLoc d i ↦[idxSlotSet b]{fullShare} f) ∗ iLoc d ↦{q} Ib)

/-- A write-back of block `B` under way from slot `b`: at its wait, the output block at the result, and the slot. -/
def Storing (G : Buf (Elt F) (oLoc d)) (b B : ℕ) : sProp 𝕄 :=
  Transfers.Flight countersEmb (thr d i) (.dma (outSem b)) (default : HIx 1) NO
    iprop((oLoc d ↦[outSet B (B + 1)]{fullShare} G) ∗ (∃ f, rsLoc d i ↦[rowSlotSet b]{fullShare} f))

/-- A gather of block `B` under way in slot `b`: at its wait, the rows in their slot, the read share of the table, the list's slot. -/
def Gathering (Tb : Buf (Elt F) (tLoc d)) (G : Buf (Elt F) (oLoc d)) (q : PosShare TreeShare) (b B : ℕ) : sProp 𝕄 :=
  Transfers.Flight countersEmb (thr d i) (.dma gatSem) (default : HIx 1) NR
    iprop((∃ f, ⌜HoldsRows d i G b B f⌝ ∗ rsLoc d i ↦[rowSlotSet b]{fullShare} f) ∗ (tLoc d ↦{q} Tb)
      ∗ (∃ f, isLoc d i ↦[idxSlotSet b]{fullShare} f))

/-! ## What each move leaves -/

theorem holdsIdx_write {Ib : Buf (Elt F) (iLoc d)} {b B : ℕ} {offS : Fin 3 → ℕ} {hS} {offB : Fin 2 → ℕ} {hB}
    (eS : offS = ![b, 0, 0]) (eB : offB = ![0, 128 * B]) (f : Buf (Elt F) (isLoc d i)) :
    HoldsIdx d i Ib b B ((idxSlot offS hS).view.write (Elt F) f ((idxBlk offB hB).view.read (Elt F) Ib) Finset.univ) := by
  intro x z hx hz
  have hx1 : (x 1).val < 1 := (x 1).isLt
  have hx2 : (x 2).val < 128 := (x 2).isLt
  -- the slot's index under `x`
  let y : S1x128.Idx := ValueIdx.ix2 (0 : Fin 1) (⟨(x 2).val, hx2⟩ : Fin 128)
  have hy : (idxSlot offS hS).view.emb y = x := by
    obtain ⟨h0, h2⟩ := emb_idxSlot (h := hS) eS y
    have h1 : ((idxSlot offS hS).view.emb y 1).val < 1 := ((idxSlot offS hS).view.emb y 1).isLt
    refine Shape.idx3_ext (h0.trans hx.symm) (by omega) (h2.trans rfl)
  have hz' : (idxBlk offB hB).view.emb y = z := by
    have h1 := emb_idxBlk (h := hB) eB y
    have h0 : ((idxBlk offB hB).view.emb y 0).val < 1 := ((idxBlk offB hB).view.emb y 0).isLt
    have hz0 : (z 0).val < 1 := (z 0).isLt
    funext a; apply Fin.ext
    match a with
    | 0 => show ((idxBlk offB hB).view.emb y 0).val = (z 0).val; omega
    | 1 => exact h1.trans hz.symm
  subst hx
  rw [← hy, ← hz']
  exact (View.write_emb_of_mem (Val := Elt F) (v := (idxSlot offS hS).view) f _ (Finset.mem_univ y))

/-- The list of slot `b` reads the indices of its block. -/
theorem read_list {Ib : Buf (Elt F) (iLoc d)} {b B : ℕ} {offL : Fin 3 → ℕ} {hL} (eL : offL = ![b, 0, 0]) {f : Buf (Elt F) (isLoc d i)}
    (hf : HoldsIdx d i Ib b B f) (z : S1x262144.Idx) (k : S128.Idx) (hz : (z 1).val = 128 * B + (k 0).val) :
    ((listSlot offL hL).view.read (Elt F) f k : BitVec 32) = (Ib : S1x262144.Idx → BitVec 32) z := by
  obtain ⟨h0, h2⟩ := emb_listSlot (h := hL) eL k
  exact ((View.read_apply _ _).trans (cast_eq _ _)).trans (hf _ z h0 (hz.trans (congrArg _ h2.symm)))

theorem rowMajor_symm_list (k : Fin S128.numel) : ((S128.rowMajor.symm k) 0).val = k.val := by
  have h := Shape.rowMajor_val_one (d := ![128]) (S128.rowMajor.symm k)
  rw [← h]; exact congrArg Fin.val (Equiv.apply_symm_apply _ _)

/-- Every index of a block held in a slot names a row of the table. -/
theorem list_lt {Ib : Buf (Elt F) (iLoc d)} (hok : ∀ z : S1x262144.Idx, ((Ib : S1x262144.Idx → BitVec 32) z).toNat < 32768) {b B : ℕ} (hB : B < 2048)
    {offL : Fin 3 → ℕ} {hL} (eL : offL = ![b, 0, 0]) {f : Buf (Elt F) (isLoc d i)} (hf : HoldsIdx d i Ib b B f) (x : S128.Idx) :
    ((listSlot offL hL).view.read (Elt F) f x : BitVec 32).toNat < S32768x128.size gathers_S32768x128_S128x128.axis := by
  have hx : (x 0).val < 128 := (x 0).isLt
  rw [read_list d i eL hf (ValueIdx.ix2 (0 : Fin 1) (⟨128 * B + (x 0).val, by omega⟩ : Fin 262144)) x rfl]
  exact hok _

/-- The gather through the list of block `B` leaves block `B` of the result in its slot. -/
theorem holdsRows_gather {Tb : Buf (Elt F) (tLoc d)} {Ib : Buf (Elt F) (iLoc d)}
    (hok : ∀ z : S1x262144.Idx, ((Ib : S1x262144.Idx → BitVec 32) z).toNat < 32768) {b B : ℕ} (hB : B < 2048)
    {offL : Fin 3 → ℕ} {hL} (eL : offL = ![b, 0, 0]) {offR : Fin 3 → ℕ} {hR} (eR : offR = ![b, 0, 0])
    {f : Buf (Elt F) (isLoc d i)} (hf : HoldsIdx d i Ib b B f) (g : Buf (Elt F) (rsLoc d i)) :
    HoldsRows d i (rowsOf d Tb Ib) b B ((rowSlot offR hR).view.write (Elt F) g
      (SparseCore.gatherPayload gathers_S32768x128_S128x128 (tabAll.view.read (Elt F) Tb)
        (SparseCore.rows ((listSlot offL hL).view.read (Elt F) f) rfl (list_lt d i hok hB eL hf))) Finset.univ) := by
  intro x z hx hz0 hz1
  have hx1 : (x 1).val < 128 := (x 1).isLt
  let y : S128x128.Idx := ValueIdx.ix2 (⟨(x 1).val, hx1⟩ : Fin 128) (x 2)
  have hy : (rowSlot offR hR).view.emb y = x := by
    obtain ⟨h0, h1, h2⟩ := emb_rowSlot (h := hR) eR y
    exact Shape.idx3_ext (h0.trans hx.symm) (h1.trans rfl) (h2.trans rfl)
  rw [← hy]
  refine (View.write_emb_of_mem (Val := Elt F) (v := (rowSlot offR hR).view) g _ (Finset.mem_univ y)).trans ?_
  refine (cast_eq _ _).trans ?_
  refine ((View.read_apply _ _).trans (cast_eq _ _)).trans ?_
  rw [emb_tabAll]
  refine congrArg (Tb : S32768x128.Idx → Elt F .f32) ?_
  funext a; apply Fin.ext
  match a with
  | 0 =>
    refine (congrArg Fin.val (Shape.Gathers.idx_axis gathers_S32768x128_S128x128 _ y)).trans ?_
    show ((listSlot offL hL).view.read (Elt F) f (S128.rowMajor.symm _) : BitVec 32).toNat = _
    rw [read_list d i eL hf (ValueIdx.ix2 (0 : Fin 1) (z 0)) _ (by rw [rowMajor_symm_list]; exact hz0)]
    exact (Nat.mod_eq_of_lt (hok _)).symm
  | 1 =>
    refine (Shape.Gathers.idx_of_ne gathers_S32768x128_S128x128 _ y 1 (by decide)).trans ?_
    exact hz1.symm

/-- The write-back of block `B` from its slot puts the result into the output's block `B`. -/
theorem store_write {G : Buf (Elt F) (oLoc d)} {b B : ℕ} {offR : Fin 3 → ℕ} {hR} (eR : offR = ![b, 0, 0]) {offO : Fin 2 → ℕ} {hO} (eO : offO = ![128 * B, 0])
    {f : Buf (Elt F) (rsLoc d i)} (hf : HoldsRows d i G b B f) (g : Buf (Elt F) (oLoc d)) :
    ∀ z ∈ outSet B (B + 1), (outBlk offO hO).view.write (Elt F) g ((rowSlot offR hR).view.read (Elt F) f) Finset.univ z = G z := by
  intro z hz
  rw [mem_outSet] at hz
  let y : S128x128.Idx := ValueIdx.ix2 (⟨(z 0).val - 128 * B, by omega⟩ : Fin 128) (z 1)
  obtain ⟨o0, o1⟩ := emb_outBlk (h := hO) eO y
  have hy : (outBlk offO hO).view.emb y = z := by
    funext a; apply Fin.ext
    match a with
    | 0 => refine o0.trans ?_; show 128 * B + ((z 0).val - 128 * B) = (z 0).val; omega
    | 1 => exact o1
  rw [← hy]
  refine (View.write_emb_of_mem (Val := Elt F) (v := (outBlk offO hO).view) g _ (Finset.mem_univ y)).trans ?_
  refine (cast_eq _ _).trans ?_
  refine ((View.read_apply _ _).trans (cast_eq _ _)).trans ?_
  obtain ⟨r0, r1, r2⟩ := emb_rowSlot (h := hR) eR y
  exact hf _ _ r0 (o0.trans (congrArg _ r1.symm)) (o1.trans r2.symm)

/-! ## The rules -/

section Rules

variable [FloatOps F]

/-- The fetch of block `B` into slot `b` is issued. -/
theorem wp_fetch {α : Type} {Q : α → sProp 𝕄} {k : PUnit → Prog (TpuEff nD τ sig (Elt F) Λ₀ (thr d i).2) α} {offS : Fin 3 → ℕ} {hS} {offB : Fin 2 → ℕ} {hB}
    {sem : DmaSem sig} {hsrc hdst hsem} {b B : ℕ}
    (eS : offS = ![b, 0, 0]) (eB : offB = ![0, 128 * B]) (eM : sem = inSem b) (Ib : Buf (Elt F) (iLoc d)) (q : PosShare TreeShare) :
    iprop((∃ f, isLoc d i ↦[idxSlotSet b]{fullShare} f) ∗ (iLoc d ↦{q} Ib) ∗ semVal (thr d i, .dma (inSem b)) 0)
      ⊢ iprop((Fetching d i Ib q b B -∗ wp frame (wpE (defs₀ (F := F)) 𝒱₀ (thr d i) none) Set.univ (k ⟨⟩) Q)
          -∗ wp frame (wpE (defs₀ (F := F)) 𝒱₀ (thr d i) none) Set.univ (.op (.enqueueDma (idxBlk offB hB) (.here (idxSlot offS hS)) (.dma sem) hsrc hdst hsem) k) Q) := by
  subst eM
  iintro ⟨⟨%f, Hs⟩, Hi, Hv⟩ Hk
  ihave Hi2 := (pointsTo_split_subset (q := q) (f := Ib) (S := Finset.univ) (Finset.subset_univ (idxBlk offB hB).view.set)).1 $$ Hi
  icases Hi2 with ⟨Hi, Hr⟩
  iapply (Transfers.wp_dmaLocal countersEmb 𝒱₀ (thr d i) none (Sd := idxSlotSet b) (fd := f) (q := q) (fs := Ib) (default : HIx 1) NI rfl
    (View.dmaCredit_pos _ (by decide)) (by rw [set_idxSlot eS])) $$ [Hs Hi Hv]
  · isplitl [Hi]; · iexact Hi
    isplitl [Hs]; · iexact Hs
    iexact Hv
  iintro Hf
  iapply Hk
  unfold Fetching
  ihave Hf2 := flight_carry $$ [Hf Hr]
  · isplitl [Hf]; · iexact Hf
    iexact Hr
  iapply (Transfers.Flight_mono countersEmb (thr d i) ?_) $$ Hf2
  iintro ⟨⟨Hs, Hi⟩, Hr⟩
  isplitl [Hs]
  · iexists _
    isplitr
    swap; · iexact Hs
    ipureintro
    exact holdsIdx_write d i eS eB f
  · iapply (pointsTo_split_subset (q := q) (f := Ib) (S := Finset.univ) (Finset.subset_univ (idxBlk offB hB).view.set)).2
    isplitl [Hi] <;> iassumption

/-- The wait for the fetch into slot `b`. -/
theorem wp_fetched {α : Type} {Q : α → sProp 𝕄} {k : PUnit → Prog (TpuEff nD τ sig (Elt F) Λ₀ (thr d i).2) α} {offS : Fin 3 → ℕ} {hS} {offB : Fin 2 → ℕ} {hB}
    {sem : DmaSem sig} {hsrc hdst} {b B : ℕ} (eM : sem = inSem b) (Ib : Buf (Elt F) (iLoc d)) (q : PosShare TreeShare)
    {O : CellTallies nD τ sig (HIx 1)} {W : Waits sig (HIx 1)} :
    iprop(Transfers.MayWaits (thr d i) (default : HIx 1) O ∗ Fetching d i Ib q b B ∗ (∃ W', ⌜∀ p ∈ W', p ∈ W ∨ p.2 = none⌝ ∗ owes (thr d i) O W'))
      ⊢ iprop((iprop((∃ f, ⌜HoldsIdx d i Ib b B f⌝ ∗ isLoc d i ↦[idxSlotSet b]{fullShare} f) ∗ (iLoc d ↦{q} Ib)
            ∗ semVal (thr d i, .dma (inSem b)) 0 ∗ (∃ W', ⌜∀ p ∈ W', p ∈ W ∨ p.2 = none⌝ ∗ owes (thr d i) O W')) -∗ wp frame (wpE (defs₀ (F := F)) 𝒱₀ (thr d i) none) Set.univ (k ⟨⟩) Q)
          -∗ wp frame (wpE (defs₀ (F := F)) 𝒱₀ (thr d i) none) Set.univ (.op (.waitDma2 sem (idxBlk offB hB) (idxSlot offS hS) hsrc hdst) k) Q) := by
  subst eM
  iintro ⟨Hmw, Hf, %W', %hW, HO⟩ Hk
  unfold Fetching
  iapply (Transfers.wp_waitLocalO countersEmb 𝒱₀ (thr d i) none (default : HIx 1) (rfl : (idxSlot offS hS).view.dmaCredit = NI)) $$ [Hf HO Hmw]
  · isplitl [Hf]; · iexact Hf
    isplitl [HO]; · iexact HO
    iapply (Transfers.MayWaits.elim (SemLoc.dma (inSem b))) $$ Hmw
  iintro ⟨⟨Hs, Hi⟩, Hv, HO⟩
  iapply Hk
  isplitl [Hs]; · iexact Hs
  isplitl [Hi]; · iexact Hi
  isplitl [Hv]; · iexact Hv
  iexists _
  isplitr
  swap; · iexact HO
  ipureintro; intro p hp
  rcases Finset.mem_insert.mp hp with hp | hp
  · exact .inr (hp ▸ rfl)
  · exact hW p hp

/-- The gather of block `B` into slot `b` is issued, its indices held in the same slot of the index scratch. -/
theorem wp_gather {α : Type} {Q : α → sProp 𝕄} {k : PUnit → Prog (TpuEff nD τ sig (Elt F) Λ₀ (thr d i).2) α} {offR : Fin 3 → ℕ} {hR} {offL : Fin 3 → ℕ} {hL}
    {hn} {hp} {hsrc} {he} {hsp} {hr} {b B : ℕ}
    (eR : offR = ![b, 0, 0]) (eL : offL = ![b, 0, 0]) (hB : B < 2048) (Tb : Buf (Elt F) (tLoc d)) (Ib : Buf (Elt F) (iLoc d))
    (hok : ∀ z : S1x262144.Idx, ((Ib : S1x262144.Idx → BitVec 32) z).toNat < 32768) (q : PosShare TreeShare) :
    iprop((∃ f, ⌜HoldsIdx d i Ib b B f⌝ ∗ isLoc d i ↦[idxSlotSet b]{fullShare} f) ∗ (∃ f, rsLoc d i ↦[rowSlotSet b]{fullShare} f)
        ∗ (tLoc d ↦{q} Tb) ∗ semVal (thr d i, .dma gatSem) 0)
      ⊢ iprop((Gathering d i Tb (rowsOf d Tb Ib) q b B -∗ wp frame (wpE (defs₀ (F := F)) 𝒱₀ (thr d i) none) Set.univ (k ⟨⟩) Q)
          -∗ wp frame (wpE (defs₀ (F := F)) 𝒱₀ (thr d i) none) Set.univ
            (SparseCore.enqueueIndirectGather hp tabAll (rowSlot offR hR) gathers_S32768x128_S128x128 (listSlot offL hL) hn gatSem hsrc he hsp hr >>= k) Q) := by
  iintro ⟨⟨%f, %hf, Hs⟩, ⟨%g, Hr⟩, Ht, Hv⟩ Hk
  have hlt := list_lt d i hok hB eL hf (hL := hL)
  have hcr := SparseCore.sum_rowCredit_eq_dmaCredit (rowSlot offR hR) gathers_S32768x128_S128x128.axis' (fun _ => rfl)
  have key := SparseCore.wp_indirectGatherLocal countersEmb (𝒱₀) (thr d i) none (defs := defs₀ (F := F)) (src := tabAll) (dst := rowSlot offR hR)
    (offs := listSlot offL hL) (hg := gathers_S32768x128_S128x128) (fs := Tb) (fd := g) (fo := f) (q := q) (qo := fullShare) (hn := hn) (hp := hp)
    (hsrc := hsrc) (he := he) (hsp := hsp) (hr := hr) (k := k) (Q := Q) (sem := gatSem) (default : HIx 1) NR hcr (by decide) hlt
  rw [set_tabAll, set_rowSlot eR, set_listSlot eL] at key
  iapply key $$ [Hs Hr Ht Hv]
  · isplitl [Ht]; · iexact Ht
    isplitl [Hr]; · iexact Hr
    isplitl [Hs]; · iexact Hs
    iexact Hv
  iintro Hf
  iapply Hk
  unfold Gathering
  iapply (Transfers.Flight_mono countersEmb (thr d i) ?_) $$ Hf
  iintro ⟨Hr, Ht, Hs⟩
  isplitl [Hr]
  · iexists _
    isplitr
    swap; · iexact Hr
    ipureintro
    exact holdsRows_gather d i hok hB eL eR hf g
  isplitl [Ht]; · iexact Ht
  iexists _; iexact Hs

/-- The wait for the gather in slot `b`. -/
theorem wp_gathered {α : Type} {Q : α → sProp 𝕄} {k : PUnit → Prog (TpuEff nD τ sig (Elt F) Λ₀ (thr d i).2) α} {offR : Fin 3 → ℕ} {hR} {hsrc hdst} {b B : ℕ}
    (Tb : Buf (Elt F) (tLoc d)) (G : Buf (Elt F) (oLoc d)) (q : PosShare TreeShare) {O : CellTallies nD τ sig (HIx 1)} {W : Waits sig (HIx 1)} :
    iprop(Transfers.MayWaits (thr d i) (default : HIx 1) O ∗ Gathering d i Tb G q b B ∗ (∃ W', ⌜∀ p ∈ W', p ∈ W ∨ p.2 = none⌝ ∗ owes (thr d i) O W'))
      ⊢ iprop((iprop((∃ f, ⌜HoldsRows d i G b B f⌝ ∗ rsLoc d i ↦[rowSlotSet b]{fullShare} f) ∗ (tLoc d ↦{q} Tb)
            ∗ (∃ f, isLoc d i ↦[idxSlotSet b]{fullShare} f)
            ∗ semVal (thr d i, .dma gatSem) 0 ∗ (∃ W', ⌜∀ p ∈ W', p ∈ W ∨ p.2 = none⌝ ∗ owes (thr d i) O W'))
              -∗ wp frame (wpE (defs₀ (F := F)) 𝒱₀ (thr d i) none) Set.univ (k ⟨⟩) Q)
          -∗ wp frame (wpE (defs₀ (F := F)) 𝒱₀ (thr d i) none) Set.univ (.op (.waitDma2 gatSem tabAll (rowSlot offR hR) hsrc hdst) k) Q) := by
  iintro ⟨Hmw, Hf, %W', %hW, HO⟩ Hk
  unfold Gathering
  iapply (Transfers.wp_waitLocalO countersEmb 𝒱₀ (thr d i) none (default : HIx 1) (rfl : (rowSlot offR hR).view.dmaCredit = NR)) $$ [Hf HO Hmw]
  · isplitl [Hf]; · iexact Hf
    isplitl [HO]; · iexact HO
    iapply (Transfers.MayWaits.elim (SemLoc.dma gatSem)) $$ Hmw
  iintro ⟨⟨Hr, Ht, Hs⟩, Hv, HO⟩
  iapply Hk
  isplitl [Hr]; · iexact Hr
  isplitl [Ht]; · iexact Ht
  isplitl [Hs]; · iexact Hs
  isplitl [Hv]; · iexact Hv
  iexists _
  isplitr
  swap; · iexact HO
  ipureintro; intro p hp
  rcases Finset.mem_insert.mp hp with hp | hp
  · exact .inr (hp ▸ rfl)
  · exact hW p hp

/-- The write-back of block `B` from slot `b` is issued. -/
theorem wp_store {α : Type} {Q : α → sProp 𝕄} {k : PUnit → Prog (TpuEff nD τ sig (Elt F) Λ₀ (thr d i).2) α} {offR : Fin 3 → ℕ} {hR} {offO : Fin 2 → ℕ} {hO}
    {sem : DmaSem sig} {hsrc hdst hsem} {b B : ℕ}
    (eR : offR = ![b, 0, 0]) (eO : offO = ![128 * B, 0]) (eM : sem = outSem b) (G g : Buf (Elt F) (oLoc d)) :
    iprop((∃ f, ⌜HoldsRows d i G b B f⌝ ∗ rsLoc d i ↦[rowSlotSet b]{fullShare} f) ∗ (oLoc d ↦[outSet B (B + 1)]{fullShare} g)
        ∗ semVal (thr d i, .dma (outSem b)) 0)
      ⊢ iprop((Storing d i G b B -∗ wp frame (wpE (defs₀ (F := F)) 𝒱₀ (thr d i) none) Set.univ (k ⟨⟩) Q)
          -∗ wp frame (wpE (defs₀ (F := F)) 𝒱₀ (thr d i) none) Set.univ
            (.op (.enqueueDma (rowSlot offR hR) (.here (outBlk offO hO)) (.dma sem) hsrc hdst hsem) k) Q) := by
  subst eM
  iintro ⟨⟨%f, %hf, Hr⟩, Ho, Hv⟩ Hk
  iapply (Transfers.wp_dmaLocal countersEmb 𝒱₀ (thr d i) none (Sd := outSet B (B + 1)) (fd := g) (q := fullShare) (fs := f) (default : HIx 1) NO rfl
    (View.dmaCredit_pos _ (by decide)) (by rw [set_outBlk eO])) $$ [Hr Ho Hv]
  · isplitl [Hr]
    · iapply (BIBase.Entails.of_eq (show (rsLoc d i ↦[rowSlotSet b]{fullShare} f : sProp 𝕄) = rsLoc d i ↦[(rowSlot offR hR).view.set]{fullShare} f by
        rw [set_rowSlot eR])); iexact Hr
    isplitl [Ho]; · iexact Ho
    iexact Hv
  iintro Hf
  iapply Hk
  unfold Storing
  have hgoal : iprop(((outBlk offO hO).view.loc (thr d i) ↦[outSet B (B + 1)]{fullShare}
        ((outBlk offO hO).view.write (Elt F) g ((rowSlot offR hR).view.read (Elt F) f) Finset.univ))
      ∗ ((rowSlot offR hR).view.loc (thr d i) ↦[(rowSlot offR hR).view.set]{fullShare} f))
      ⊢ (iprop((oLoc d ↦[outSet B (B + 1)]{fullShare} G) ∗ (∃ f, rsLoc d i ↦[rowSlotSet b]{fullShare} f)) : sProp 𝕄) := by
    rw [set_rowSlot eR]
    iintro ⟨Ho, Hr⟩
    isplitl [Ho]
    · iapply (BIBase.Entails.of_eq (pointsTo_congr (store_write d i eR eO hf g))) $$ Ho
    iexists _; iexact Hr
  iapply (Transfers.Flight_mono countersEmb (thr d i) hgoal) $$ Hf

/-- The wait for the write-back from slot `b`. -/
theorem wp_stored {α : Type} {Q : α → sProp 𝕄} {k : PUnit → Prog (TpuEff nD τ sig (Elt F) Λ₀ (thr d i).2) α} {offR : Fin 3 → ℕ} {hR} {offO : Fin 2 → ℕ} {hO}
    {sem : DmaSem sig} {hsrc hdst} {b B : ℕ} (eM : sem = outSem b) (G : Buf (Elt F) (oLoc d))
    {O : CellTallies nD τ sig (HIx 1)} {W : Waits sig (HIx 1)} :
    iprop(Transfers.MayWaits (thr d i) (default : HIx 1) O ∗ Storing d i G b B ∗ (∃ W', ⌜∀ p ∈ W', p ∈ W ∨ p.2 = none⌝ ∗ owes (thr d i) O W'))
      ⊢ iprop((iprop((oLoc d ↦[outSet B (B + 1)]{fullShare} G) ∗ (∃ f, rsLoc d i ↦[rowSlotSet b]{fullShare} f)
            ∗ semVal (thr d i, .dma (outSem b)) 0 ∗ (∃ W', ⌜∀ p ∈ W', p ∈ W ∨ p.2 = none⌝ ∗ owes (thr d i) O W'))
              -∗ wp frame (wpE (defs₀ (F := F)) 𝒱₀ (thr d i) none) Set.univ (k ⟨⟩) Q)
          -∗ wp frame (wpE (defs₀ (F := F)) 𝒱₀ (thr d i) none) Set.univ (.op (.waitDma2 sem (rowSlot offR hR) (outBlk offO hO) hsrc hdst) k) Q) := by
  subst eM
  iintro ⟨Hmw, Hf, %W', %hW, HO⟩ Hk
  unfold Storing
  iapply (Transfers.wp_waitLocalO countersEmb 𝒱₀ (thr d i) none (default : HIx 1) (rfl : (outBlk offO hO).view.dmaCredit = NO)) $$ [Hf HO Hmw]
  · isplitl [Hf]; · iexact Hf
    isplitl [HO]; · iexact HO
    iapply (Transfers.MayWaits.elim (SemLoc.dma (outSem b))) $$ Hmw
  iintro ⟨⟨Ho, Hr⟩, Hv, HO⟩
  iapply Hk
  isplitl [Ho]; · iexact Ho
  isplitl [Hr]; · iexact Hr
  isplitl [Hv]; · iexact Hv
  iexists _
  isplitr
  swap; · iexact HO
  ipureintro; intro p hp
  rcases Finset.mem_insert.mp hp with hp | hp
  · exact .inr (hp ▸ rfl)
  · exact hW p hp

end Rules

end Cert.Proof.Gather

end
-- ==== Proof.Trip.lean ====
/-
  One trip of the pipelined loop, and the loop. Before trip `t` of a tile: block `t` of its indices is on its way into slot
  `t % 2`, block `t - 1` of its result is on its way out of the other row slot, the blocks before it hold the result, those from
  `t` on what they held. The trip sends for the next block, awaits its own, gathers, sends its rows out, awaits the previous
  write-back.
-/
module

public import proofs.«01_k».proof.Proof.Steps
public import Idealize.ShloMosaic.Lib.SparseCore.Quiescent
public import Idealize.ShloMosaic.Lib.SparseCore.Ops
public import Idealize.ShloMosaic.Lib.SparseCore.Stream
public import Idealize.ShloMosaic.Lib.Pipeline.Kit
public import Idealize.ShloMosaic.Lib.Tactic
public import Idealize.ShloMosaic.Lib.ViewIndex

@[expose] public section

noncomputable section

namespace Cert.Proof.Gather

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (i : grid0.Coords)

/-! ## What holds before trip `t` -/

/-- Slot `b` of the index scratch is free, its semaphore at zero, its read share of the indices at hand. -/
def InFree (Ib : Buf (Elt F) (iLoc d)) (qI : ℕ → PosShare TreeShare) (b : ℕ) : sProp 𝕄 :=
  iprop((∃ f, isLoc d i ↦[idxSlotSet b]{fullShare} f) ∗ (iLoc d ↦{qI b} Ib) ∗ semVal (thr d i, .dma (inSem b)) 0)
/-- Slot `b` of the row scratch is free, its semaphore at zero. -/
def RowFree (b : ℕ) : sProp 𝕄 :=
  iprop((∃ f, rsLoc d i ↦[rowSlotSet b]{fullShare} f) ∗ semVal (thr d i, .dma (outSem b)) 0)

/-- Before trip `t`: slot `t % 2` receives block `t`. After the last, it is free. -/
def InSide (Ib : Buf (Elt F) (iLoc d)) (qI : ℕ → PosShare TreeShare) (t : ℕ) : sProp 𝕄 :=
  if t < 64 then Fetching d i Ib (qI (t % 2)) (t % 2) (base i + t) else InFree d i Ib qI (t % 2)
/-- Before trip `t`: the other row slot sends block `t - 1`. Before the first, it is free. -/
def OutSide (G : Buf (Elt F) (oLoc d)) (t : ℕ) : sProp 𝕄 :=
  if t = 0 then RowFree d i ((t + 1) % 2) else Storing d i G ((t + 1) % 2) (base i + (t - 1))
def Owed (O : CellTallies nD τ sig (HIx 1)) (W : Waits sig (HIx 1)) : sProp 𝕄 :=
  iprop(∃ W', ⌜∀ p ∈ W', p ∈ W ∨ p.2 = none⌝ ∗ owes (thr d i) O W')

variable (Tb : Buf (Elt F) (tLoc d)) (Ib : Buf (Elt F) (iLoc d)) (g₀ : Buf (Elt F) (oLoc d)) (qT : PosShare TreeShare) (qI : ℕ → PosShare TreeShare)
  (O : CellTallies nD τ sig (HIx 1)) (W : Waits sig (HIx 1))

def Inv (t : ℕ) (acc : BitVec 32 × BitVec 32 × BitVec 32 × BitVec 32 × BitVec 32) : sProp 𝕄 :=
  iprop(⌜acc = carried t⌝ ∗ Transfers.MayWaits (thr d i) (default : HIx 1) O ∗ (tLoc d ↦{qT} Tb) ∗ semVal (thr d i, .dma gatSem) 0
    ∗ InFree d i Ib qI ((t + 1) % 2) ∗ InSide d i Ib qI t ∗ RowFree d i (t % 2) ∗ OutSide d i (rowsOf d Tb Ib) t
    ∗ (oLoc d ↦[outSet (base i) (base i + (t - 1))]{fullShare} rowsOf d Tb Ib)
    ∗ (oLoc d ↦[outSet (base i + t) (base i + 64)]{fullShare} g₀) ∗ Owed d i O W)

/-- The tile's first block, as the word the kernel computes. -/
def firstBlock : BitVec 32 :=
  Scalar.muli (Scalar.addi (Scalar.addi 0#32 (Scalar.muli (BitVec.ofNat 32 (i 1).val) 1#32)) (Scalar.muli (BitVec.ofNat 32 (i 0).val) 16#32)) 64#32

variable [FloatOps F]

/-- The wait for the previous write-back, made by every trip but the first. -/
theorem wp_await {α : Type} {Q : α → sProp 𝕄} (t : Fin k0_t1_loop.trips) {p : Prog (TpuEff nD τ sig (Elt F) Λ₀ (thr d i).2) α} {G : Buf (Elt F) (oLoc d)}
    {hM : k0_cond7 i t (BitVec.ofNat 32 (t.val % 64)) = 1#1 → ∀ a, k0_off17 (BitVec.ofNat 32 (t.val - 1)) a + S1.size a ≤ S2.size a}
    {hR : k0_cond7 i t (BitVec.ofNat 32 (t.val % 64)) = 1#1 → ∀ a, k0_off15 (BitVec.ofNat 32 (t.val - 1)) a + S1x128x128.size a ≤ S2x128x128.size a}
    {hO : k0_cond7 i t (BitVec.ofNat 32 (t.val % 64)) = 1#1 → ∀ a, k0_off16 i (BitVec.ofNat 32 (t.val % 64)) a + S128x128.size a ≤ S262144x128.size a}
    {hsrc : ∀ h, (rowSlot (k0_off15 (BitVec.ofNat 32 (t.val - 1))) (hR h)).view.WordExact}
    {hdst : ∀ h, (outBlk (k0_off16 i (BitVec.ofNat 32 (t.val % 64))) (hO h)).view.WordExact} :
    iprop(Transfers.MayWaits (thr d i) (default : HIx 1) O ∗ OutSide d i G t.val
        ∗ (oLoc d ↦[outSet (base i) (base i + (t.val - 1))]{fullShare} G) ∗ Owed d i O W)
      ⊢ iprop((iprop(RowFree d i ((t.val + 1) % 2) ∗ (oLoc d ↦[outSet (base i) (base i + t.val)]{fullShare} G) ∗ Owed d i O W)
            -∗ wp frame (wpE (defs₀ (F := F)) 𝒱₀ (thr d i) none) Set.univ p Q)
          -∗ wp frame (wpE (defs₀ (F := F)) 𝒱₀ (thr d i) none) Set.univ
            (if h : k0_cond7 i t (BitVec.ofNat 32 (t.val % 64)) = 1#1 then
              .op (.waitDma2 ((cc0_scoped3.slice (Rect.unit (s := S2) (k0_off17 (BitVec.ofNat 32 (t.val - 1))) S1.size (hM h))).squeeze S_ squeezes_S1_S_).sem
                (rowSlot (k0_off15 (BitVec.ofNat 32 (t.val - 1))) (hR h)) (outBlk (k0_off16 i (BitVec.ofNat 32 (t.val % 64))) (hO h)) (hsrc h) (hdst h))
                (fun _ => p)
            else p) Q) := by
  unfold OutSide
  by_cases h0 : t.val = 0
  · rw [if_pos h0, dif_neg (by rw [cond7_eq, if_pos h0]; decide)]
    iintro ⟨-, Hr, Ho, HO⟩ Hk
    iapply Hk
    isplitl [Hr]; · iexact Hr
    isplitl [Ho]
    · rw [h0]; iexact Ho
    iexact HO
  · rw [if_neg h0, dif_pos (by rw [cond7_eq, if_neg h0])]
    iintro ⟨#Hmw, Hs, Ho, HO⟩ Hk
    unfold Owed
    iapply (wp_stored d i (outSem_eq (off17_eq t h0)) G (O := O) (W := W)) $$ [Hs HO]
    · isplitl []; · iexact Hmw
      isplitl [Hs]; · iexact Hs
      iexact HO
    iintro ⟨Hn, Hr, Hv, HO⟩
    iapply Hk
    unfold RowFree
    isplitl [Hr Hv]
    · isplitl [Hr]; · iexact Hr
      iexact Hv
    isplitr [HO]
    · have e1 : base i + (t.val - 1) + 1 = base i + t.val := by omega
      rw [e1]
      have e2 : base i + t.val = base i + (t.val - 1) + 1 := by omega
      iapply (pointsTo_split_subset (q := fullShare) (f := G) (S := outSet (base i) (base i + t.val))
        (outSet_subset (lo := base i + (t.val - 1)) (hi := base i + t.val) (Nat.le_add_right _ _) le_rfl)).2
      isplitl [Hn]; · iexact Hn
      rw [show outSet (base i) (base i + t.val) \ outSet (base i + (t.val - 1)) (base i + t.val) = outSet (base i) (base i + (t.val - 1)) by
        rw [e2]; exact outSet_init (Nat.le_add_right _ _)]
      iexact Ho
    iexact HO

set_option maxHeartbeats 4000000 in
theorem trip (hok : ∀ z : S1x262144.Idx, ((Ib : S1x262144.Idx → BitVec 32) z).toNat < 32768) (t : Fin k0_t1_loop.trips)
    (acc : BitVec 32 × BitVec 32 × BitVec 32 × BitVec 32 × BitVec 32) :
    Inv d i Tb Ib g₀ qT qI O W t.val acc
      ⊢ wp frame (wpE (defs₀ (F := F)) 𝒱₀ (thr d i) none) Set.univ
          (k0_t1_body i tabV (Memref.isWhole_whole _) idxV (Memref.isWhole_whole _) outV (Memref.isWhole_whole _) islV (Memref.isWhole_whole _)
            cc0_scoped1 rslV (Memref.isWhole_whole _) cc0_scoped3 cc0_scoped4 (firstBlock i) t acc)
          (Inv d i Tb Ib g₀ qT qI O W (t.val + 1)) := by
  unfold Inv
  iintro ⟨%hacc, #Hmw, Ht, Hg, Hin, Hfe, Hrow, Hst, Ho, Hr, HO⟩
  subst hacc
  unfold carried k0_t1_body
  simp only [k0_part1_eq_skeleton, k0_part2_eq_skeleton]
  unfold k0_part1_skel k0_part2_skel SparseCore.waitIndirectGather
  simp only [bind_assoc, Prog.bind_lift, Prog.bind_ret, Prog.bind_op, Prog.pure_eq_ret, wp_assume_of _ _ _ _ (chk3 t), wp_assume_of _ _ _ _ (chk2 t),
    wp_assume_of _ _ _ _ (chk1 i t), dif_pos (cond2_eq i t), dif_pos (cond5_eq i t), ite_self]
  have ht : t.val < 64 := lt_of_lt_of_eq t.isLt trips_eq
  have hb := base_le i
  -- the fetch of the next block, in every trip but the last
  by_cases h63 : t.val < 63
  on_goal 1 =>
    have c1 : k0_cond1 i t (BitVec.ofNat 32 (t.val % 64)) = 1#1 := by rw [cond1_eq, if_pos h63]
    simp only [dif_pos c1, Prog.bind_op, Prog.bind_ret]
    unfold InFree
    icases Hin with ⟨Hs, Hi, Hv⟩
    iapply (wp_fetch d i (off4_eq t h63) (off5_eq i t h63) (inSem_eq (off6_eq t h63)) Ib (qI ((t.val + 1) % 2))) $$ [Hs Hi Hv]
    · isplitl [Hs]; · iexact Hs
      isplitl [Hi]; · iexact Hi
      iexact Hv
    iintro Hf
    ihave Hnext := (BIBase.Entails.of_eq (show Fetching d i Ib (qI ((t.val + 1) % 2)) ((t.val + 1) % 2) (base i + (t.val + 1))
        = InSide d i Ib qI (t.val + 1) by unfold InSide; rw [if_pos (by omega)])) $$ Hf
  on_goal 2 =>
    have c1 : ¬ k0_cond1 i t (BitVec.ofNat 32 (t.val % 64)) = 1#1 := by rw [cond1_eq, if_neg h63]; decide
    simp only [dif_neg c1, Prog.bind_op, Prog.bind_ret]
    ihave Hnext := (BIBase.Entails.of_eq (show InFree d i Ib qI ((t.val + 1) % 2)
        = InSide d i Ib qI (t.val + 1) by unfold InSide; rw [if_neg (by omega)])) $$ Hin
    unfold InFree
  all_goals
    -- its own block arrives
    ihave Hfe := (BIBase.Entails.of_eq (show InSide d i Ib qI t.val = Fetching d i Ib (qI (t.val % 2)) (t.val % 2) (base i + t.val) by
      unfold InSide; rw [if_pos ht])) $$ Hfe
    ihave Hrow := (BIBase.Entails.of_eq (show RowFree (F := F) d i (t.val % 2) = iprop((∃ f, rsLoc d i ↦[rowSlotSet (t.val % 2)]{fullShare} f)
      ∗ semVal (thr d i, SemLoc.dma (outSem (t.val % 2))) 0) from rfl)) $$ Hrow
    ihave HO := (BIBase.Entails.of_eq (show Owed (F := F) d i O W = iprop(∃ W', ⌜∀ p ∈ W', p ∈ W ∨ p.2 = none⌝ ∗ owes (thr d i) O W') from rfl)) $$ HO
    icases Hrow with ⟨Hrs, Hrv⟩
    iapply (wp_fetched d i (inSem_eq (off9_eq t)) Ib (qI (t.val % 2)) (O := O) (W := W)) $$ [Hfe HO]
    · isplitl []; · iexact Hmw
      isplitl [Hfe]; · iexact Hfe
      iexact HO
    iintro ⟨Hs, Hi, Hv, HO⟩
    -- the rows it names are gathered
    iapply (wp_gather d i (off10_eq t) (off11_eq t) (by omega : base i + t.val < 2048) Tb Ib hok qT) $$ [Hs Hrs Ht Hg]
    · isplitl [Hs]; · iexact Hs
      isplitl [Hrs]; · iexact Hrs
      isplitl [Ht]; · iexact Ht
      iexact Hg
    iintro Hf
    iapply (wp_gathered d i Tb (rowsOf d Tb Ib) qT (O := O) (W := W)) $$ [Hf HO]
    · isplitl []; · iexact Hmw
      isplitl [Hf]; · iexact Hf
      iexact HO
    iintro ⟨Hrs, Ht, Hs, Hg, HO⟩
    -- and written back
    ihave Hr2 := (pointsTo_split_subset (q := fullShare) (f := g₀) (S := outSet (base i + t.val) (base i + 64))
      (outSet_subset (lo := base i + t.val) (hi := base i + t.val + 1) le_rfl (by omega))).1 $$ Hr
    icases Hr2 with ⟨Hb, Hr⟩
    ihave Hr := (BIBase.Entails.of_eq (congrArg (fun S => (oLoc d ↦[S]{fullShare} g₀ : sProp 𝕄)) (outSet_tail (lo := base i + t.val) (hi := base i + 64)))) $$ Hr
    iapply (wp_store d i (off12_eq t) (off13_eq i t) (outSem_eq (off14_eq t)) (rowsOf d Tb Ib) g₀) $$ [Hrs Hb Hrv]
    · isplitl [Hrs]; · iexact Hrs
      isplitl [Hb]; · iexact Hb
      iexact Hrv
    iintro Hnst
    ihave HO := (BIBase.Entails.of_eq (show iprop(∃ W', ⌜∀ p ∈ W', p ∈ W ∨ p.2 = none⌝ ∗ owes (thr d i) O W') = Owed (F := F) d i O W from rfl)) $$ HO
    iapply (wp_await d i O W t) $$ [Hst Ho HO]
    · isplitl []; · iexact Hmw
      isplitl [Hst]; · iexact Hst
      isplitl [Ho]; · iexact Ho
      iexact HO
    iintro ⟨Hrow, Ho, HO⟩
    iapply (le_wp_ret _ _ _ _)
    have e2 : (t.val + 1 + 1) % 2 = t.val % 2 := by omega
    have e3 : t.val + 1 - 1 = t.val := rfl
    isplitl []
    · ipureintro
      clear * - i t
      revert i t
      decide +kernel
    isplitl []; · iexact Hmw
    isplitl [Ht]; · iexact Ht
    isplitl [Hg]; · iexact Hg
    isplitl [Hs Hi Hv]
    · rw [e2]
      isplitl [Hs]; · iexact Hs
      isplitl [Hi]; · iexact Hi
      iexact Hv
    isplitl [Hnext]; · iexact Hnext
    isplitl [Hrow]; · iexact Hrow
    isplitl [Hnst]
    · unfold OutSide; rw [if_neg (Nat.succ_ne_zero _), e2, e3]; iexact Hnst
    isplitl [Ho]; · iexact Ho
    isplitl [Hr]; · iexact Hr
    iexact HO

end Cert.Proof.Gather

end
-- ==== Proof.Tile.lean ====
/-
  One tile's whole task: the first fetch, the loop of 64 trips, the last write-back's wait. From its read shares of the table
  and the indices and its 8192 rows of the output it leaves those rows at the rows of the table that the indices name.
-/
module

public import proofs.«01_k».proof.Proof.Trip
public import Idealize.ShloMosaic.Lib.SparseCore.Quiescent
public import Idealize.ShloMosaic.Lib.SparseCore.Ops
public import Idealize.ShloMosaic.Lib.SparseCore.Stream
public import Idealize.ShloMosaic.Lib.Pipeline.Kit
public import Idealize.ShloMosaic.Lib.Tactic
public import Idealize.ShloMosaic.Lib.ViewIndex

@[expose] public section

noncomputable section

namespace Cert.Proof.Gather

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (i : grid0.Coords)
  (Tb : Buf (Elt F) (tLoc d)) (Ib : Buf (Elt F) (iLoc d)) (g₀ : Buf (Elt F) (oLoc d)) (qT qS : PosShare TreeShare)
  (O : CellTallies nD τ sig (HIx 1)) (W : Waits sig (HIx 1))

/-- The two halves of a tile's share of the indices, one for the fetches into each slot. -/
def half (q : PosShare TreeShare) (b : ℕ) : PosShare TreeShare := if b = 0 then q.left else q.right

/-- What a tile works with beside its shares: its scratch at some contents, its five semaphores at zero. -/
def Scratch : sProp 𝕄 :=
  iprop((∃ f, isLoc d i ↦{fullShare} f) ∗ (∃ f, rsLoc d i ↦{fullShare} f)
    ∗ semVal (thr d i, .dma (inSem 0)) 0 ∗ semVal (thr d i, .dma (inSem 1)) 0
    ∗ semVal (thr d i, .dma (outSem 0)) 0 ∗ semVal (thr d i, .dma (outSem 1)) 0 ∗ semVal (thr d i, .dma gatSem) 0)

/-- The two slots of the index scratch, and the two of the row scratch, make it up. -/
theorem idx_slots (f : Buf (Elt F) (isLoc d i)) :
    (isLoc d i ↦{fullShare} f : sProp 𝕄) ⊢ iprop((isLoc d i ↦[idxSlotSet 0]{fullShare} f) ∗ isLoc d i ↦[idxSlotSet 1]{fullShare} f) := by
  refine BIBase.Entails.trans (pointsTo_split_subset (q := fullShare) (f := f) (S := Finset.univ) (Finset.subset_univ (idxSlotSet 0))).1 ?_
  rw [show (Finset.univ : Finset (Idx (isLoc d i))) \ idxSlotSet 0 = idxSlotSet 1 from idxSlotSet_compl (by decide)]
theorem row_slots (f : Buf (Elt F) (rsLoc d i)) :
    (rsLoc d i ↦{fullShare} f : sProp 𝕄) ⊢ iprop((rsLoc d i ↦[rowSlotSet 0]{fullShare} f) ∗ rsLoc d i ↦[rowSlotSet 1]{fullShare} f) := by
  refine BIBase.Entails.trans (pointsTo_split_subset (q := fullShare) (f := f) (S := Finset.univ) (Finset.subset_univ (rowSlotSet 0))).1 ?_
  rw [show (Finset.univ : Finset (Idx (rsLoc d i))) \ rowSlotSet 0 = rowSlotSet 1 from rowSlotSet_compl (by decide)]

theorem idx_join : iprop((∃ f, isLoc d i ↦[idxSlotSet 0]{fullShare} f) ∗ ∃ f, isLoc d i ↦[idxSlotSet 1]{fullShare} f)
    ⊢ (iprop(∃ f, isLoc d i ↦{fullShare} f) : sProp 𝕄) := by
  iintro ⟨⟨%f, Ha⟩, %g, Hb⟩
  have e : (idxSlotSet 0 : Finset (Idx (isLoc d i))) ∪ idxSlotSet 1 = Finset.univ := by
    rw [← idxSlotSet_compl (b := 0) (by decide)]; exact Finset.union_sdiff_of_subset (Finset.subset_univ _)
  have hd : Disjoint (idxSlotSet 0 : Finset (Idx (isLoc d i))) (idxSlotSet 1) := by
    rw [← idxSlotSet_compl (b := 0) (by decide)]; exact Finset.disjoint_sdiff
  ihave H := (pointsTo_join (ℓ := isLoc d i) (q := fullShare) (f := f) (g := g) hd) $$ [Ha Hb]
  · isplitl [Ha] <;> iassumption
  rw [e]
  iexists _; iexact H
theorem row_join : iprop((∃ f, rsLoc d i ↦[rowSlotSet 0]{fullShare} f) ∗ ∃ f, rsLoc d i ↦[rowSlotSet 1]{fullShare} f)
    ⊢ (iprop(∃ f, rsLoc d i ↦{fullShare} f) : sProp 𝕄) := by
  iintro ⟨⟨%f, Ha⟩, %g, Hb⟩
  have e : (rowSlotSet 0 : Finset (Idx (rsLoc d i))) ∪ rowSlotSet 1 = Finset.univ := by
    rw [← rowSlotSet_compl (b := 0) (by decide)]; exact Finset.union_sdiff_of_subset (Finset.subset_univ _)
  have hd : Disjoint (rowSlotSet 0 : Finset (Idx (rsLoc d i))) (rowSlotSet 1) := by
    rw [← rowSlotSet_compl (b := 0) (by decide)]; exact Finset.disjoint_sdiff
  ihave H := (pointsTo_join (ℓ := rsLoc d i) (q := fullShare) (f := f) (g := g) hd) $$ [Ha Hb]
  · isplitl [Ha] <;> iassumption
  rw [e]
  iexists _; iexact H

variable [FloatOps F]

set_option maxHeartbeats 4000000 in
theorem tile_run (hok : ∀ z : S1x262144.Idx, ((Ib : S1x262144.Idx → BitVec 32) z).toNat < 32768) :
    iprop(Transfers.MayWaits (thr d i) (default : HIx 1) O ∗ (tLoc d ↦{qT} Tb) ∗ (iLoc d ↦{qS} Ib)
        ∗ (oLoc d ↦[outSet (base i) (base i + 64)]{fullShare} g₀) ∗ Scratch d i ∗ Owed d i O W)
      ⊢ wp frame (wpE (defs₀ (F := F)) 𝒱₀ (thr d i) none) Set.univ
          (cc0_k i tabV (Memref.isWhole_whole _) idxV (Memref.isWhole_whole _) outV (Memref.isWhole_whole _) islV (Memref.isWhole_whole _)
            cc0_scoped1 rslV (Memref.isWhole_whole _) cc0_scoped3 cc0_scoped4)
          (fun _ => iprop((tLoc d ↦{qT} Tb) ∗ (iLoc d ↦{qS} Ib)
            ∗ (oLoc d ↦[outSet (base i) (base i + 64)]{fullShare} rowsOf d Tb Ib) ∗ Scratch d i ∗ Owed d i O W)) := by
  simp only [cc0_k_eq_skeleton]
  unfold cc0_k_skel
  simp only [k0_part3_eq_skeleton, k0_part4_eq_skeleton]
  unfold k0_part3_skel k0_part4_skel
  simp only [bind_assoc, Prog.bind_lift, Prog.bind_ret, Prog.bind_op, Prog.pure_eq_ret]
  unfold Scratch
  iintro ⟨#Hmw, Ht, Hi, Ho, ⟨⟨%fi, Hs⟩, ⟨%fr, Hr⟩, Hi0, Hi1, Ho0, Ho1, Hg⟩, HO⟩
  ihave Hs := idx_slots d i fi $$ Hs
  icases Hs with ⟨Hs0, Hs1⟩
  ihave Hr := row_slots d i fr $$ Hr
  icases Hr with ⟨Hr0, Hr1⟩
  ihave Hi := (pointsTo_share (PosShare.mem_left_op_right qS)).1 $$ Hi
  icases Hi with ⟨Hia, Hib⟩
  -- the first fetch
  iapply (wp_fetch d i k0_off1_eq (off2_eq i) (inSem_eq k0_off3_eq) Ib (half qS 0)) $$ [Hs0 Hia Hi0]
  · isplitl [Hs0]; · iexists _; iexact Hs0
    isplitl [Hia]; · iexact Hia
    iexact Hi0
  iintro Hf
  -- the loop
  iapply (Scf.wp_for_bind frame (wpE (defs₀ (F := F)) 𝒱₀ (thr d i) none) Set.univ _ _ _ k0_t1_ok _ _ (Inv d i Tb Ib g₀ qT (half qS) O W)
    (trip d i Tb Ib g₀ qT (half qS) O W hok)) $$ [Ht Hib Ho Hf Hs1 Hr0 Hr1 Hi1 Ho0 Ho1 Hg HO]
  · unfold Inv
    isplitl []; · ipureintro; exact carried_zero.symm
    isplitl []; · iexact Hmw
    isplitl [Ht]; · iexact Ht
    isplitl [Hg]; · iexact Hg
    isplitl [Hs1 Hib Hi1]
    · unfold InFree
      isplitl [Hs1]; · iexists _; iexact Hs1
      isplitl [Hib]; · iexact Hib
      iexact Hi1
    isplitl [Hf]; · unfold InSide; rw [if_pos (by decide)]; iexact Hf
    isplitl [Hr0 Ho0]
    · unfold RowFree
      isplitl [Hr0]; · iexists _; iexact Hr0
      iexact Ho0
    isplitl [Hr1 Ho1]
    · unfold OutSide RowFree; rw [if_pos rfl]
      isplitl [Hr1]; · iexists _; iexact Hr1
      iexact Ho1
    isplitl []
    · rw [show base i + (0 - 1) = base i from rfl, outSet_empty, pointsTo_empty]; iempintro
    isplitl [Ho]; · iexact Ho
    iexact HO
  iintro %acc Hinv
  rw [show Scf.trips _ _ _ = 64 from trips_eq]
  unfold Inv
  icases Hinv with ⟨%hacc, -, Ht, Hg, Hin, Hfe, Hrow, Hst, Ho, -, HO⟩
  subst hacc
  unfold carried
  simp only [bind_assoc, Prog.bind_lift, Prog.bind_ret, Prog.bind_op, Prog.pure_eq_ret]
  rw [wp_assume_of _ _ _ _ (chk5 i), wp_assume_of _ _ _ _ chk4]
  ihave Hst := (BIBase.Entails.of_eq (show OutSide d i (rowsOf d Tb Ib) 64 = Storing d i (rowsOf d Tb Ib) 1 (base i + 63) by
    unfold OutSide; rw [if_neg (by decide)])) $$ Hst
  ihave Hfe := (BIBase.Entails.of_eq (show InSide d i Ib (half qS) 64 = InFree d i Ib (half qS) 0 by
    unfold InSide; rw [if_neg (by decide)])) $$ Hfe
  ihave HO := (BIBase.Entails.of_eq (show Owed (F := F) d i O W = iprop(∃ W', ⌜∀ p ∈ W', p ∈ W ∨ p.2 = none⌝ ∗ owes (thr d i) O W') from rfl)) $$ HO
  -- the last write-back
  iapply (wp_stored d i (outSem_eq off20_eq) (rowsOf d Tb Ib) (O := O) (W := W)) $$ [Hst HO]
  · isplitl []; · iexact Hmw
    isplitl [Hst]; · iexact Hst
    iexact HO
  iintro ⟨Hn, Hr1, Ho1, HO⟩
  iapply (le_wp_ret _ _ _ _)
  unfold InFree RowFree
  icases Hin with ⟨Hs1, Hib, Hi1⟩
  icases Hfe with ⟨Hs0, Hia, Hi0⟩
  icases Hrow with ⟨Hr0, Ho0⟩
  isplitl [Ht]; · iexact Ht
  isplitl [Hia Hib]
  · iapply (pointsTo_share (PosShare.mem_left_op_right qS)).2
    isplitl [Hia]; · iexact Hia
    iexact Hib
  isplitl [Hn Ho]
  · iapply (pointsTo_split_subset (q := fullShare) (f := rowsOf d Tb Ib) (S := outSet (base i) (base i + 64))
      (outSet_subset (lo := base i + 63) (hi := base i + 63 + 1) (Nat.le_add_right _ _) le_rfl)).2
    isplitl [Hn]; · iexact Hn
    rw [show outSet (base i) (base i + 64) \ outSet (base i + 63) (base i + 63 + 1) = outSet (base i) (base i + 63) from
      outSet_init (Nat.le_add_right _ _)]
    iexact Ho
  isplitr [HO]
  · isplitl [Hs0 Hs1]
    · iapply (idx_join d i)
      isplitl [Hs0]; · iexact Hs0
      iexact Hs1
    isplitl [Hr0 Hr1]
    · iapply (row_join d i)
      isplitl [Hr0]; · iexact Hr0
      iexact Hr1
    isplitl [Hi0]; · iexact Hi0
    isplitl [Hi1]; · iexact Hi1
    isplitl [Ho0]; · iexact Ho0
    isplitl [Ho1]; · iexact Ho1
    iexact Hg
  iapply (BIBase.Entails.of_eq (show iprop(∃ W', ⌜∀ p ∈ W', p ∈ W ∨ p.2 = none⌝ ∗ owes (thr d i) O W') = Owed (F := F) d i O W from rfl))
  iexact HO

end Cert.Proof.Gather

end
-- ==== Proof.Launch.lean ====
/-
  The launch of the gather over both SparseCores: what the call hands each core and each tile, a tile's obligation from its
  run, the split and the join of the table, the indices and the output.
-/
module

public import proofs.«01_k».proof.Proof.Tile
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch rule takes it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What the call carries -/

/-- Core `c`'s share of the two arrays every tile reads, and that of its tile `j`. -/
def coreShare (c : Fin ((K (F := F)).nCore 0)) : PosShare TreeShare := Transfers.dealOf fullShare Finset.univ c
def tileShare (c : Fin ((K (F := F)).nCore 0)) (j : Fin ((K (F := F)).nSub 0)) : PosShare TreeShare :=
  Transfers.dealOf (coreShare c) Finset.univ j

/-- The rows of the output core `c` writes, and those its tile `j` writes. -/
def coreSet (c : ℕ) : Finset S262144x128.Idx := outSet (1024 * c) (1024 * c + 1024)
def tileSet (c j : ℕ) : Finset S262144x128.Idx := outSet (64 * (j + 16 * c)) (64 * (j + 16 * c) + 64)

theorem core_disjoint : ∀ c ∈ (Finset.univ : Finset (Fin ((K (F := F)).nCore 0))), ∀ c' ∈ (Finset.univ : Finset (Fin ((K (F := F)).nCore 0))),
    c ≠ c' → Disjoint (coreSet c.val) (coreSet c'.val) := by
  intro c _ c' _ h
  have h' : c.val ≠ c'.val := fun e => h (Fin.ext e)
  refine Finset.disjoint_left.mpr fun z hz hz' => ?_
  unfold coreSet at hz hz'
  rw [mem_outSet] at hz hz'
  omega
theorem core_cover : (Finset.univ : Finset (Fin ((K (F := F)).nCore 0))).biUnion (fun c => coreSet c.val) = Finset.univ := by
  refine Finset.eq_univ_of_forall fun z => ?_
  have hz : (z 0).val < 262144 := (z 0).isLt
  refine Finset.mem_biUnion.mpr ⟨⟨(z 0).val / 131072, show _ < 2 by omega⟩, Finset.mem_univ _, ?_⟩
  unfold coreSet
  rw [mem_outSet]
  dsimp only
  omega
theorem tile_disjoint (c : ℕ) : ∀ j ∈ (Finset.univ : Finset (Fin ((K (F := F)).nSub 0))), ∀ j' ∈ (Finset.univ : Finset (Fin ((K (F := F)).nSub 0))),
    j ≠ j' → Disjoint (tileSet c j.val) (tileSet c j'.val) := by
  intro j _ j' _ h
  have h' : j.val ≠ j'.val := fun e => h (Fin.ext e)
  refine Finset.disjoint_left.mpr fun z hz hz' => ?_
  unfold tileSet at hz hz'
  rw [mem_outSet] at hz hz'
  omega
theorem tile_cover (c : ℕ) : (Finset.univ : Finset (Fin ((K (F := F)).nSub 0))).biUnion (fun j => tileSet c j.val) = coreSet c := by
  ext z
  rw [Finset.mem_biUnion]
  unfold coreSet tileSet
  simp only [mem_outSet]
  constructor
  · rintro ⟨j, -, h⟩
    have hj : j.val < 16 := j.isLt
    omega
  · intro h
    refine ⟨⟨((z 0).val - 131072 * c) / 8192, show _ < 16 by omega⟩, Finset.mem_univ _, ?_⟩
    dsimp only
    omega

variable (Tb : (d : Dev nD) → Buf (Elt F) (tLoc d)) (Ib : (d : Dev nD) → Buf (Elt F) (iLoc d)) (g₀ : (d : Dev nD) → Buf (Elt F) (oLoc d))

/-- The call takes its shares of the table and the indices and its part of the output; a tile the same, finer; both bring them
    back with their part of the output at the gathered rows. -/
def P : (K (F := F)).Pay (nD := nD) (Val := Elt F) (Name := ℕ) (U := UU) where
  st := fun q d c => match q with
    | 0 => iprop((tLoc d ↦{coreShare c} Tb d) ∗ (iLoc d ↦{coreShare c} Ib d) ∗ oLoc d ↦[coreSet c.val]{fullShare} g₀ d)
  dn := fun q d c => match q with
    | 0 => iprop((tLoc d ↦{coreShare c} Tb d) ∗ (iLoc d ↦{coreShare c} Ib d) ∗ oLoc d ↦[coreSet c.val]{fullShare} rowsOf d (Tb d) (Ib d))
  go := fun q d c j => match q with
    | 0 => iprop((tLoc d ↦{tileShare c j} Tb d) ∗ (iLoc d ↦{tileShare c j} Ib d) ∗ oLoc d ↦[tileSet c.val j.val]{fullShare} g₀ d)
  td := fun q d c j => match q with
    | 0 => iprop((tLoc d ↦{tileShare c j} Tb d) ∗ (iLoc d ↦{tileShare c j} Ib d) ∗ oLoc d ↦[tileSet c.val j.val]{fullShare} rowsOf d (Tb d) (Ib d))
  x := fun _ _ => iprop(emp)

instance P_storable : (P (F := F) Tb Ib g₀).IsStorable where
  st q d c := match q with
    | 0 => (inferInstance : BI.Storable (upEmb : UEmb _ 𝕄)
      iprop((tLoc d ↦{coreShare c} Tb d) ∗ (iLoc d ↦{coreShare c} Ib d) ∗ oLoc d ↦[coreSet c.val]{fullShare} g₀ d))
  dn q d c := match q with
    | 0 => (inferInstance : BI.Storable (upEmb : UEmb _ 𝕄)
      iprop((tLoc d ↦{coreShare c} Tb d) ∗ (iLoc d ↦{coreShare c} Ib d) ∗ oLoc d ↦[coreSet c.val]{fullShare} rowsOf d (Tb d) (Ib d)))
  go q d c j := match q with
    | 0 => (inferInstance : BI.Storable (upEmb : UEmb _ 𝕄)
      iprop((tLoc d ↦{tileShare c j} Tb d) ∗ (iLoc d ↦{tileShare c j} Ib d) ∗ oLoc d ↦[tileSet c.val j.val]{fullShare} g₀ d))
  td q d c j := match q with
    | 0 => (inferInstance : BI.Storable (upEmb : UEmb _ 𝕄)
      iprop((tLoc d ↦{tileShare c j} Tb d) ∗ (iLoc d ↦{tileShare c j} Ib d) ∗ oLoc d ↦[tileSet c.val j.val]{fullShare} rowsOf d (Tb d) (Ib d)))

/-! ## What a tile finds of its own -/

section Own

variable (d : Dev nD) (i : grid0.Coords)

abbrev cell (s : DmaSem sig) : GSem nD τ sig := (thr d i, .dma s)

theorem cell_mem (s : DmaSem sig) : cell d i s ∈ ownCells (thr d i) := by
  refine (mem_ownCells (g := cell d i s)).mpr ⟨rfl, ?_⟩
  show (SemLoc.dma s : SemLoc sig).isScoped .scVector = true
  revert s; decide
theorem cell_ne {s s' : DmaSem sig} (h : s ≠ s') : cell d i s ≠ cell d i s' := fun e => h (SemLoc.dma.inj (Prod.mk.inj e).2)

/-- The subcore's own semaphores are the five the task uses, and the rest. -/
theorem ownSems0_five : ∃ R : sProp 𝕄, (ownSems0 (thr d i) : sProp 𝕄)
      = iprop(semVal (cell d i (inSem 0)) 0 ∗ semVal (cell d i (inSem 1)) 0 ∗ semVal (cell d i (outSem 0)) 0 ∗ semVal (cell d i (outSem 1)) 0
          ∗ semVal (cell d i gatSem) 0 ∗ R) := by
  apply Exists.intro
  unfold SparseCore.Cfg.ownSems0
  rw [SparseCore.bigSep_erase' (cell_mem d i (inSem 0)),
    SparseCore.bigSep_erase' (i := cell d i (inSem 1)) (Finset.mem_erase.mpr ⟨cell_ne d i (by decide), cell_mem d i _⟩),
    SparseCore.bigSep_erase' (i := cell d i (outSem 0)) (Finset.mem_erase.mpr ⟨cell_ne d i (by decide), Finset.mem_erase.mpr ⟨cell_ne d i (by decide), cell_mem d i _⟩⟩),
    SparseCore.bigSep_erase' (i := cell d i (outSem 1)) (Finset.mem_erase.mpr ⟨cell_ne d i (by decide), Finset.mem_erase.mpr ⟨cell_ne d i (by decide),
      Finset.mem_erase.mpr ⟨cell_ne d i (by decide), cell_mem d i _⟩⟩⟩),
    SparseCore.bigSep_erase' (i := cell d i gatSem) (Finset.mem_erase.mpr ⟨cell_ne d i (by decide), Finset.mem_erase.mpr ⟨cell_ne d i (by decide),
      Finset.mem_erase.mpr ⟨cell_ne d i (by decide), Finset.mem_erase.mpr ⟨cell_ne d i (by decide), cell_mem d i _⟩⟩⟩⟩)]

/-- The subcore's own buffers are the two scratch buffers of the task, at some contents, and the rest. -/
theorem ownBufs_two : ∃ R : sProp 𝕄, (ownBufs (thr d i) : sProp 𝕄)
      = iprop((∃ f, isLoc d i ↦{fullShare} f) ∗ (∃ f, rsLoc d i ↦{fullShare} f) ∗ R) := by
  apply Exists.intro
  unfold SparseCore.Cfg.ownBufs
  refine (SparseCore.bigSep_erase' (SparseCore.Cfg.mem_ownRefs_of_owner (p := Proc.scVector (cV i) (jV i))
    (b := (Proc.scVector (cV i) (jV i)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV i) (jV i)) (b := (Proc.scVector (cV i) (jV i)).devRef cc0_scoped2) rfl⟩)]

end Own

/-! ## The tile's obligation -/

variable [FloatOps F]

/-- The grid point of core `c`, subcore `s`. -/
def at' (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (at' c s) tabV (Memref.isWhole_whole _) idxV (Memref.isWhole_whole _)
          outV (Memref.isWhole_whole _) islV (Memref.isWhole_whole _) cc0_scoped1 rslV (Memref.isWhole_whole _) cc0_scoped3 cc0_scoped4) ⟨⟩ c s := rfl

/-- The task, from what the launch hands a tile to what it takes back. -/
theorem tile_body (d : Dev nD) (i : grid0.Coords) (Tb : Buf (Elt F) (tLoc d)) (Ib : Buf (Elt F) (iLoc d)) (g₀ : Buf (Elt F) (oLoc d))
    (qT qS : PosShare TreeShare) (hok : ∀ z : S1x262144.Idx, ((Ib : S1x262144.Idx → BitVec 32) z).toNat < 32768)
    (O : CellTallies nD τ sig (HIx 1)) (W : Waits sig (HIx 1)) (hO : ∀ g, O g none = 0) :
    iprop(levAts (K (F := F)).L (K (F := F)).lev ∗ emp
        ∗ ((tLoc d ↦{qT} Tb) ∗ (iLoc d ↦{qS} Ib) ∗ oLoc d ↦[outSet (base i) (base i + 64)]{fullShare} g₀)
        ∗ (scopedBufs (thr d i) : sProp 𝕄) ∗ (scopedSems0 (thr d i) : sProp 𝕄) ∗ owes (thr d i) O W)
      ⊢ wp frame (wpE (defs₀ (F := F)) 𝒱₀ (thr d i) none) Set.univ
          (cc0_k i tabV (Memref.isWhole_whole _) idxV (Memref.isWhole_whole _) outV (Memref.isWhole_whole _) islV (Memref.isWhole_whole _)
            cc0_scoped1 rslV (Memref.isWhole_whole _) cc0_scoped3 cc0_scoped4)
          (fun _ => iprop(((tLoc d ↦{qT} Tb) ∗ (iLoc d ↦{qS} Ib) ∗ oLoc d ↦[outSet (base i) (base i + 64)]{fullShare} rowsOf d Tb Ib)
            ∗ (scopedBufs (thr d i) : sProp 𝕄) ∗ (scopedSems0 (thr d i) : sProp 𝕄)
            ∗ ∃ W', ⌜∀ p ∈ W', p ∈ W ∨ p.2 = none ∨ p.2 = some (0 : Fin 1)⌝ ∗ owes (thr d i) O W')) := by
  obtain ⟨RB, hB⟩ := ownBufs_two (F := F) d i
  obtain ⟨RS, hS⟩ := ownSems0_five (F := F) d i
  rw [(K (F := F)).scopedBufs_V facts d (cV i) (jV i), SparseCore.Cfg.scopedSems0_V (Val := Elt F) d (cV i) (jV i), hB, hS]
  iintro ⟨#Hlv, -, ⟨Ht, Hi, Ho⟩, ⟨Hs, Hr, HB⟩, ⟨H0, H1, H2, H3, H4, HS⟩, HO⟩
  ihave Hmw := (show levAts (K (F := F)).L (K (F := F)).lev ⊢ Transfers.MayWaits (thr d i) (default : HIx 1) O from
    (K (F := F)).mayWaits_none (thr := thr d i) hO) $$ Hlv
  ihave Hrun := (tile_run d i Tb Ib g₀ qT qS O W hok) $$ [Ht Hi Ho Hs Hr H0 H1 H2 H3 H4 HO Hmw]
  · isplitl [Hmw]; · iexact Hmw
    isplitl [Ht]; · iexact Ht
    isplitl [Hi]; · iexact Hi
    isplitl [Ho]; · iexact Ho
    isplitr [HO]
    · unfold Scratch
      isplitl [Hs]; · iexact Hs
      isplitl [Hr]; · iexact Hr
      isplitl [H0]; · iexact H0
      isplitl [H1]; · iexact H1
      isplitl [H2]; · iexact H2
      isplitl [H3]; · iexact H3
      iexact H4
    unfold Owed
    iexists W
    isplitr
    · ipureintro; exact fun p hp => .inl hp
    iexact HO
  iapply (wp_wand frame (wpE (defs₀ (F := F)) 𝒱₀ (thr d i) none) Set.univ) $$ Hrun
  iintro %_u ⟨Ht, Hi, Ho, Hscr, HO⟩
  unfold Scratch Owed
  icases Hscr with ⟨Hs, Hr, H0, H1, H2, H3, H4⟩
  icases HO with ⟨%W', %hW, HO⟩
  isplitl [Ht Hi Ho]
  · isplitl [Ht]; · iexact Ht
    isplitl [Hi]; · iexact Hi
    iexact Ho
  isplitl [Hs Hr HB]
  · isplitl [Hs]; · iexact Hs
    isplitl [Hr]; · iexact Hr
    iexact HB
  isplitl [H0 H1 H2 H3 H4 HS]
  · isplitl [H0]; · iexact H0
    isplitl [H1]; · iexact H1
    isplitl [H2]; · iexact H2
    isplitl [H3]; · iexact H3
    isplitl [H4]; · iexact H4
    iexact HS
  iexists W'
  isplitr
  · ipureintro; exact fun p hp => (hW p hp).imp_right Or.inl
  iexact HO

variable (hok : ∀ d, ∀ z : S1x262144.Idx, ((Ib d : S1x262144.Idx → BitVec 32) z).toNat < 32768)

include hok in
set_option maxRecDepth 16384 in
theorem tileObl : (K (F := F)).TileObl (D (F := F)) 𝒱 (P Tb Ib g₀) v₀ 0 := by
  intro d c j O W hO _ _
  simp only [show (P Tb Ib g₀).ox = fun _ _ => 0 from rfl, add_zero]
  have hcj : ((K (F := F)).core 0 c).val < grid0.bound 0 ∧ ((K (F := F)).sub 0 j).val < grid0.bound 1 := ⟨c.isLt, j.isLt⟩
  change _ ⊢ wp _ _ _ (Pipeline.liftProg (defs₀ (F := F) (.scVector ((K (F := F)).core 0 c) ((K (F := F)).sub 0 j)) 0 ())) _
  refine BIBase.Entails.trans ?_ (Pipeline.wp_liftProg (D (F := F)) (Pipeline.defs_kernel pcfgs defs₀) 𝒱₀ _ Set.univ none _ _)
  rw [defs₀_vector]
  simp only [SparseCore.onTile, hcj, and_self, ↓reduceDIte]
  exact tile_body d (at' ⟨_, hcj.1⟩ ⟨_, hcj.2⟩) (Tb d) (Ib d) (g₀ d) _ _ (hok d) O W hO

/-! ## The split and the join -/

theorem vecSplit : (K (F := F)).VecSplit' (P Tb Ib g₀) 0 := by
  intro d c
  show iprop((tLoc d ↦{coreShare c} Tb d) ∗ (iLoc d ↦{coreShare c} Ib d) ∗ oLoc d ↦[coreSet c.val]{fullShare} g₀ d) ⊢ |={Set.univ}=> iprop(
      (bigSep Finset.univ fun j : Fin ((K (F := F)).nSub 0) =>
        iprop((tLoc d ↦{tileShare c j} Tb d) ∗ (iLoc d ↦{tileShare c j} Ib d) ∗ oLoc d ↦[tileSet c.val j.val]{fullShare} g₀ d))
      ∗ ((bigSep Finset.univ fun j : Fin ((K (F := F)).nSub 0) =>
          iprop((tLoc d ↦{tileShare c j} Tb d) ∗ (iLoc d ↦{tileShare c j} Ib d) ∗ oLoc d ↦[tileSet c.val j.val]{fullShare} rowsOf d (Tb d) (Ib d)))
          -∗ iprop((tLoc d ↦{coreShare c} Tb d) ∗ (iLoc d ↦{coreShare c} Ib d) ∗ oLoc d ↦[coreSet c.val]{fullShare} rowsOf d (Tb d) (Ib d))))
  have hne : (Finset.univ : Finset (Fin ((K (F := F)).nSub 0))).Nonempty := ⟨⟨0, show 0 < 16 by decide⟩, Finset.mem_univ _⟩
  have hT : (tLoc d ↦{coreShare c} Tb d : sProp 𝕄) = bigSep Finset.univ fun j => tLoc d ↦{tileShare c j} Tb d := Transfers.pointsTo_deal _ hne _
  have hI : (iLoc d ↦{coreShare c} Ib d : sProp 𝕄) = bigSep Finset.univ fun j => iLoc d ↦{tileShare c j} Ib d := Transfers.pointsTo_deal _ hne _
  have hO (f : Buf (Elt F) (oLoc d)) : (oLoc d ↦[coreSet c.val]{fullShare} f : sProp 𝕄)
      = bigSep Finset.univ fun j : Fin ((K (F := F)).nSub 0) => oLoc d ↦[tileSet c.val j.val]{fullShare} f := by
    rw [← tile_cover (F := F) c.val]
    exact pointsTo_biUnion (ℓ := oLoc d) Finset.univ (fun j : Fin ((K (F := F)).nSub 0) => tileSet c.val j.val) (tile_disjoint (F := F) c.val)
  rw [bigSep_sep', bigSep_sep', bigSep_sep', bigSep_sep', hT, hI, hO, hO]
  iintro H; imodintro
  isplitl [H]; · iexact H
  iintro H; iexact H

/-- All the call takes, and all it brings back. -/
theorem st_eq (d : Dev nD) : (bigSep Finset.univ fun c : Fin ((K (F := F)).nCore 0) => (P Tb Ib g₀).st 0 d c)
    = (iprop((tLoc d ↦{fullShare} Tb d) ∗ (iLoc d ↦{fullShare} Ib d) ∗ oLoc d ↦{fullShare} g₀ d) : sProp 𝕄) := by
  show (bigSep Finset.univ fun c : Fin ((K (F := F)).nCore 0) =>
    iprop((tLoc d ↦{coreShare c} Tb d) ∗ (iLoc d ↦{coreShare c} Ib d) ∗ oLoc d ↦[coreSet c.val]{fullShare} g₀ d)) = _
  have hne : (Finset.univ : Finset (Fin ((K (F := F)).nCore 0))).Nonempty := ⟨⟨0, show 0 < 2 by decide⟩, Finset.mem_univ _⟩
  rw [bigSep_sep', bigSep_sep', ← pointsTo_biUnion (ℓ := oLoc d) Finset.univ (fun c : Fin ((K (F := F)).nCore 0) => coreSet c.val) core_disjoint,
    core_cover (F := F)]
  unfold coreShare
  rw [← Transfers.pointsTo_deal _ hne, ← Transfers.pointsTo_deal _ hne]
theorem dn_eq (d : Dev nD) : (bigSep Finset.univ fun c : Fin ((K (F := F)).nCore 0) => (P Tb Ib g₀).dn 0 d c)
    = (iprop((tLoc d ↦{fullShare} Tb d) ∗ (iLoc d ↦{fullShare} Ib d) ∗ oLoc d ↦{fullShare} rowsOf d (Tb d) (Ib d)) : sProp 𝕄) :=
  st_eq Tb Ib (fun d => rowsOf d (Tb d) (Ib d)) d

/-! ## The launch's own state -/

theorem bigSep_nothing {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P Tb Ib g₀).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) Tb Ib g₀).x q thr) = bigSep Finset.univ fun _ => iprop(emp) from
    bigSep_congr fun _ _ => bigSep_univ_of_subsingleton (0 : Fin 1), bigSep_nothing]
  iempintro

end Cert.Proof.Gather

end
-- ==== Proof.Main.lean ====
/-
  The whole program: the table and the index row made on the host, the gather over both SparseCores, and its run's end, the
  three arguments unchanged and the result at the gathered rows.
-/
module

public import proofs.«01_k».proof.Proof.Launch
public import Idealize.ShloMosaic.Lib.SparseCore.Quiescent
public import Idealize.ShloMosaic.Lib.StableHlo.Run
public import Idealize.ShloMosaic.Lib.Tactic

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The host's operations -/

abbrev host (b : Ref sig .tc) : DevRef τ sig := Proc.devRef .tc b

abbrev opCst : HloOp τ sig (Elt F) := StableHlo.nullary main_cst (constant S_ .f32 0x00000000#32)
abbrev opPad : HloOp τ sig (Elt F) := StableHlo.unary main_cst main_v0 (broadcastInDim S8x4096x61 ![] bcast_S_S8x4096x61 : (⟨S_, .f32⟩ : BufTy).Contents (Elt F) → (⟨S8x4096x61, .f32⟩ : BufTy).Contents (Elt F))
abbrev opCat : HloOp τ sig (Elt F) := StableHlo.nary ![main_arg0, main_arg1, main_v0] main_v1 (fun u => (concatenate S8x4096x128 2 [⟨S8x4096x64, (u 0 : (⟨S8x4096x64, .f32⟩ : BufTy).Contents (Elt F))⟩, ⟨S8x4096x3, (u 1 : (⟨S8x4096x3, .f32⟩ : BufTy).Contents (Elt F))⟩, ⟨S8x4096x61, (u 2 : (⟨S8x4096x61, .f32⟩ : BufTy).Contents (Elt F))⟩] concatenates_S8x4096x64_S8x4096x3_S8x4096x61_S8x4096x128_d2 : (⟨S8x4096x128, .f32⟩ : BufTy).Contents (Elt F)))
abbrev opTab : HloOp τ sig (Elt F) := StableHlo.reshape main_v1 main_v2 (rfl : (.f32 : EltTy) = .f32) shapeCasts_S8x4096x128_S32768x128
abbrev opFlat : HloOp τ sig (Elt F) := StableHlo.reshape main_arg2 main_v3 (rfl : (.i32 : EltTy) = .i32) shapeCasts_S8x1024x32_S262144
abbrev opRow : HloOp τ sig (Elt F) := StableHlo.reshape main_v3 main_v4 (rfl : (.i32 : EltTy) = .i32) shapeCasts_S262144_S1x262144

/-- The host's ten arrays. -/
abbrev S10 : Finset (DevRef τ sig) :=
  {host main_arg0, host main_arg1, host main_arg2, host main_cst, host main_v0, host main_v1, host main_v2, host main_v3, host main_v4, host main_v5}

variable (m : (ℓ : Loc nD τ sig) → Buf (Elt F) ℓ) (ρ : Dev nD → PrngReg)

/-- The contents of the host's arrays at the launch, and after each operation. -/
def V0 (d : Dev nD) : Valuation τ sig (Elt F) := fun b => m (d, b)
abbrev V1 (d : Dev nD) : Valuation τ sig (Elt F) := (opCst (F := F)).result (V0 m d)
abbrev V2 (d : Dev nD) : Valuation τ sig (Elt F) := (opPad (F := F)).result (V1 m d)
abbrev V3 (d : Dev nD) : Valuation τ sig (Elt F) := (opCat (F := F)).result (V2 m d)
abbrev V4 (d : Dev nD) : Valuation τ sig (Elt F) := (opTab (F := F)).result (V3 m d)
abbrev V5 (d : Dev nD) : Valuation τ sig (Elt F) := (opFlat (F := F)).result (V4 m d)
abbrev V6 (d : Dev nD) : Valuation τ sig (Elt F) := (opRow (F := F)).result (V5 m d)

/-- The table, the index row, and the output before the call. -/
def tabM (d : Dev nD) : Buf (Elt F) (tLoc d) := V6 m d (host main_v2)
def idxM (d : Dev nD) : Buf (Elt F) (iLoc d) := V6 m d (host main_v4)
def outM (d : Dev nD) : Buf (Elt F) (oLoc d) := V6 m d (host main_v5)

/-- An array no operation writes is as it was. -/
theorem V6_kept (d : Dev nD) (b : DevRef τ sig)
    (hb : b ∉ ({host main_cst, host main_v0, host main_v1, host main_v2, host main_v3, host main_v4} : Finset (DevRef τ sig))) : V6 m d b = m (d, b) := by
  simp only [Finset.mem_insert, Finset.mem_singleton, not_or] at hb
  obtain ⟨h0, h1, h2, h3, h4, h5⟩ := hb
  unfold V6 V5 V4 V3 V2 V1
  rw [(opRow (F := F)).result_of_not_mem _ (show b ∉ ({host main_v4} : Finset (DevRef τ sig)) from fun h => h5 (Finset.mem_singleton.mp h)),
    (opFlat (F := F)).result_of_not_mem _ (show b ∉ ({host main_v3} : Finset (DevRef τ sig)) from fun h => h4 (Finset.mem_singleton.mp h)),
    (opTab (F := F)).result_of_not_mem _ (show b ∉ ({host main_v2} : Finset (DevRef τ sig)) from fun h => h3 (Finset.mem_singleton.mp h)),
    (opCat (F := F)).result_of_not_mem _ (show b ∉ ({host main_v1} : Finset (DevRef τ sig)) from fun h => h2 (Finset.mem_singleton.mp h)),
    (opPad (F := F)).result_of_not_mem _ (show b ∉ ({host main_v0} : Finset (DevRef τ sig)) from fun h => h1 (Finset.mem_singleton.mp h)),
    (opCst (F := F)).result_of_not_mem _ (show b ∉ ({host main_cst} : Finset (DevRef τ sig)) from fun h => h0 (Finset.mem_singleton.mp h))]
  rfl

theorem held_ten (d : Dev nD) (W : Valuation τ sig (Elt F)) :
    (held (T d) S10 W : sProp 𝕄)
      = iprop(((SparseCore.T d).loc main_arg0 ↦{fullShare} W (host main_arg0)) ∗ ((SparseCore.T d).loc main_arg1 ↦{fullShare} W (host main_arg1))
          ∗ ((SparseCore.T d).loc main_arg2 ↦{fullShare} W (host main_arg2)) ∗ ((SparseCore.T d).loc main_cst ↦{fullShare} W (host main_cst))
          ∗ ((SparseCore.T d).loc main_v0 ↦{fullShare} W (host main_v0)) ∗ ((SparseCore.T d).loc main_v1 ↦{fullShare} W (host main_v1))
          ∗ (tLoc d ↦{fullShare} W (host main_v2)) ∗ ((SparseCore.T d).loc main_v3 ↦{fullShare} W (host main_v3))
          ∗ (iLoc d ↦{fullShare} W (host main_v4)) ∗ oLoc d ↦{fullShare} W (host main_v5)) := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S10 (V0 m d) := by
  rw [held_ten]
  unfold unscopedBufs
  rw [show (Finset.univ.filter fun b : Ref sig .tc => ¬ b.isScoped)
      = {main_arg0, main_arg1, main_arg2, main_cst, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-! ## The host's run -/

/-- What it keeps to the end: the arguments as they were, the result at the gathered rows. -/
abbrev FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ oLoc d ↦{fullShare} rowsOf d (tabM m d) (idxM m d))

theorem held_V6 (d : Dev nD) :
    (held (T d) S10 (V6 m d) : sProp 𝕄)
      = iprop(((SparseCore.T d).loc main_arg0 ↦{fullShare} m ((SparseCore.T d).loc main_arg0)) ∗ ((SparseCore.T d).loc main_arg1 ↦{fullShare} m ((SparseCore.T d).loc main_arg1))
          ∗ ((SparseCore.T d).loc main_arg2 ↦{fullShare} m ((SparseCore.T d).loc main_arg2)) ∗ ((SparseCore.T d).loc main_cst ↦{fullShare} V6 m d (host main_cst))
          ∗ ((SparseCore.T d).loc main_v0 ↦{fullShare} V6 m d (host main_v0)) ∗ ((SparseCore.T d).loc main_v1 ↦{fullShare} V6 m d (host main_v1))
          ∗ (tLoc d ↦{fullShare} tabM m d) ∗ ((SparseCore.T d).loc main_v3 ↦{fullShare} V6 m d (host main_v3))
          ∗ (iLoc d ↦{fullShare} idxM m d) ∗ oLoc d ↦{fullShare} outM m d) := by
  rw [held_ten, V6_kept m d (host main_arg0) (by decide), V6_kept m d (host main_arg1) (by decide), V6_kept m d (host main_arg2) (by decide)]
  rfl

theorem hCst : (opCst (F := F)).bufs ⊆ S10 := show ({host main_cst} : Finset (DevRef τ sig)) ⊆ S10 by decide
theorem hPad : (opPad (F := F)).bufs ⊆ S10 := show ({host main_cst, host main_v0} : Finset (DevRef τ sig)) ⊆ S10 by decide
theorem hCat : (opCat (F := F)).bufs ⊆ S10 :=
  show insert (host main_v1) (Finset.univ.image fun k : Fin 3 => host ((![main_arg0, main_arg1, main_v0] : Fin 3 → Ref sig .tc) k)) ⊆ S10 by decide
theorem hTab : (opTab (F := F)).bufs ⊆ S10 := show ({host main_v1, host main_v2} : Finset (DevRef τ sig)) ⊆ S10 by decide
theorem hFlat : (opFlat (F := F)).bufs ⊆ S10 := show ({host main_arg2, host main_v3} : Finset (DevRef τ sig)) ⊆ S10 by decide
theorem hRow : (opRow (F := F)).bufs ⊆ S10 := show ({host main_v3, host main_v4} : Finset (DevRef τ sig)) ⊆ S10 by decide

theorem hmain (κ : GSem nD τ sig → ℕ) (d : Dev nD) :
    iprop((K (F := F)).ctx EH (P (tabM m) (idxM m) (outM m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opCst) (S := S10) hCst (V := V0 m d)) $$ [Hb Hheld]
  · isplitl [Hb] <;> iassumption
  iintro ⟨Hb, Hheld⟩
  rw [wp_ret]; imodintro
  iapply (wp_hlo_within 𝒱 (SparseCore.T d) none Set.univ (op := opPad) (S := S10) hPad (V := V1 m d)) $$ [Hb Hheld]
  · isplitl [Hb] <;> iassumption
  iintro ⟨Hb, Hheld⟩
  rw [wp_ret]; imodintro
  iapply (wp_hlo_within 𝒱 (SparseCore.T d) none Set.univ (op := opCat) (S := S10) hCat (V := V2 m d)) $$ [Hb Hheld]
  · isplitl [Hb] <;> iassumption
  iintro ⟨Hb, Hheld⟩
  rw [wp_ret]; imodintro
  iapply (wp_hlo_within 𝒱 (SparseCore.T d) none Set.univ (op := opTab) (S := S10) hTab (V := V3 m d)) $$ [Hb Hheld]
  · isplitl [Hb] <;> iassumption
  iintro ⟨Hb, Hheld⟩
  rw [wp_ret]; imodintro
  iapply (wp_hlo_within 𝒱 (SparseCore.T d) none Set.univ (op := opFlat) (S := S10) hFlat (V := V4 m d)) $$ [Hb Hheld]
  · isplitl [Hb] <;> iassumption
  iintro ⟨Hb, Hheld⟩
  rw [wp_ret]; imodintro
  iapply (wp_hlo_within 𝒱 (SparseCore.T d) none Set.univ (op := opRow) (S := S10) hRow (V := V5 m d)) $$ [Hb Hheld]
  · isplitl [Hb] <;> iassumption
  iintro ⟨Hb, Hheld⟩
  rw [wp_ret]; imodintro
  ihave Hh := (BIBase.Entails.of_eq (held_V6 (F := F) m d)) $$ Hheld
  icases Hh with ⟨Ha0, Ha1, Ha2, -, -, -, Ht, -, Hi, Ho⟩
  iapply ((K (F := F)).wp_run (D (F := F)) 𝒱 (EH := EH) (P := P (tabM m) (idxM m) (outM m)) κ d 0) $$ [Hst Ht Hi Ho Hb Hts Ha0 Ha1 Ha2]
  isplitr; · iexact Hctx
  isplitl [Hst]; · iexact Hst
  isplitl [Ht Hi Ho]
  · rw [st_eq]
    isplitl [Ht]; · iexact Ht
    isplitl [Hi]; · iexact Hi
    iexact Ho
  iintro ⟨Hst, Hdn⟩
  ihave Hdn := (BIBase.Entails.of_eq (dn_eq (tabM m) (idxM m) (outM m) d)) $$ Hdn
  icases Hdn with ⟨-, -, Ho⟩
  imodintro
  isplitl [Hst]; · iexact Hst
  isplitr [Hb Hts]
  · isplitl [Ha0]; · iexact Ha0
    isplitl [Ha1]; · iexact Ha1
    isplitl [Ha2]; · iexact Ha2
    iexact Ho
  isplitl [Hb] <;> iassumption

def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem (oLoc d) = rowsOf d (tabM m d) (idxM m d)

/-- A whole array held at `f` reads `f`. -/
theorem read_whole {s' : Phys nD τ sig (Elt F)} (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun z => h z (Finset.mem_univ z)
  iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, Ho⟩, HSI⟩
  ihave H := (read_whole (s' := s') _ _) $$ [HSI H0]
  · isplitl [H0] <;> iassumption
  icases H with ⟨%h0, HSI⟩
  ihave H := (read_whole (s' := s') _ _) $$ [HSI H1]
  · isplitl [H1] <;> iassumption
  icases H with ⟨%h1, HSI⟩
  ihave H := (read_whole (s' := s') _ _) $$ [HSI H2]
  · isplitl [H2] <;> iassumption
  icases H with ⟨%h2, HSI⟩
  ihave H := (read_whole (s' := s') _ _) $$ [HSI Ho]
  · isplitl [Ho] <;> iassumption
  icases H with ⟨%h3, -⟩
  ipureintro; exact ⟨h0, h1, h2, h3⟩

/-! ## The run -/

/-- Every index names a row of the table. -/
def PreOK : Prop := ∀ d, ∀ z : S1x262144.Idx, ((idxM m d : S1x262144.Idx → BitVec 32) z).toNat < 32768

def QC : PUnit × MemSt nD τ sig (Elt F) → Prop := fun r =>
  (∀ d : Dev nD, r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_arg2) = m ((SparseCore.T d).loc main_arg2)
    ∧ r.2.mem (oLoc d) = rowsOf d (tabM m d) (idxM m d)) ∧ r.2.sem = fun _ => 0

theorem run_main [∀ e, Nonempty (Elt F e)] (hok : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tabM m) (idxM m) (outM m)) (A := ∅) facts v₀
    (fun q hq => match q with | 0 => nomatch hq)
    (fun q _ => match q with | 0 => tileObl (tabM m) (idxM m) (outM m) hok)
    (fun q _ => match q with | 0 => SparseCore.Cfg.VecSplit.of_plain (vecSplit (tabM m) (idxM m) (outM m)))
    m ρ main (fun _ => iprop(emp)) (FIN m) (u₀ (F := F)) (sep_elim_left.trans (hu₀ (tabM m) (idxM m) (outM m))) (hmain m ρ) (fq m) (hfin m) (QC m)
    (fun _ h hz => ⟨h, hz⟩)

end Cert.Proof.Gather

end
-- ==== Proof.Value.lean ====
/-
  What the program's result is, entry by entry: the table's row named by the index, the features, then the coordinates, then
  zeros; and that the reference, which gathers the two arrays apart and joins the gathered rows, has the same entries. All of it
  for any type of floats: no entry is computed with, each is copied.
-/
module

public import proofs.«01_k».proof.Proof.Main
public import proofs.«01_k».proof.Proof.Gen.ReferenceIdeal.Run
public import proofs.«01_k».proof.Pre_rows_in_table
public import Idealize.ShloMosaic.Lib.Routing.Ops
public import Idealize.ShloMosaic.Lib.ReduceAll

@[expose] public section

noncomputable section

namespace Cert.Proof.Gather

open Cert.KernelIdeal Cert.KernelIdeal.Gen
open Idealize.ShloMosaic Idealize.ShloMosaic.ValueIdx
open Idealize.ShloMosaic.StableHlo

variable {F : FTy → Type} [FloatOps F]

/-! ## The entries -/

/-- Entry `(r, y)` of the table: feature `y` of point `r`, counted over the batch, for `y < 64`, coordinate `y - 64` for the next
    three, and zero after. -/
def entry (A : FVec F S8x4096x64 .f32) (B : FVec F S8x4096x3 .f32) (r : Fin 32768) (y : Fin 128) : F .f32 :=
  if h : y.val < 64 then A (ix3 (⟨r.val / 4096, by omega⟩ : Fin 8) (⟨r.val % 4096, by omega⟩ : Fin 4096) (⟨y.val, h⟩ : Fin 64))
  else if h' : y.val < 67 then B (ix3 (⟨r.val / 4096, by omega⟩ : Fin 8) (⟨r.val % 4096, by omega⟩ : Fin 4096) (⟨y.val - 64, by omega⟩ : Fin 3))
  else constant (F := F) S_ .f32 0x00000000#32 (fun a => a.elim0)

/-- The indices in one row. -/
def flat (I : IVec S8x1024x32 32) : IVec S262144 32 := shapeCast S262144 I shapeCasts_S8x1024x32_S262144

/-- The gathered rows. -/
def gathered (A : FVec F S8x4096x64 .f32) (B : FVec F S8x4096x3 .f32) (I : IVec S8x1024x32 32) : FVec F S262144x128 .f32 :=
  fun z => entry A B (Fin.ofNat 32768 (flat I (ix1 (z 0))).toNat) (z 1)

/-! ## The table -/

/-- The joined array, entry by entry. -/
theorem joined_apply (A : FVec F S8x4096x64 .f32) (B : FVec F S8x4096x3 .f32) (b : Fin 8) (n : Fin 4096) (y : Fin 128)
    (r : Fin 32768) (hr : r.val = b.val * 4096 + n.val) :
    concatenate S8x4096x128 2 [⟨S8x4096x64, A⟩, ⟨S8x4096x3, B⟩,
        ⟨S8x4096x61, broadcastInDim S8x4096x61 ![] bcast_S_S8x4096x61 (constant (F := F) S_ .f32 0x00000000#32)⟩]
        concatenates_S8x4096x64_S8x4096x3_S8x4096x61_S8x4096x128_d2 (ix3 b n y) = entry A B r y := by
  have hb := b.isLt
  have hn := n.isLt
  have hy := y.isLt
  have e0 : (⟨r.val / 4096, by omega⟩ : Fin 8) = b := Fin.ext (by show r.val / 4096 = b.val; omega)
  have e1 : (⟨r.val % 4096, by omega⟩ : Fin 4096) = n := Fin.ext (by show r.val % 4096 = n.val; omega)
  unfold entry
  rw [e0, e1]
  split
  next h =>
    refine concatenate_apply_piece (t := S8x4096x128) 2 ([⟨S8x4096x64, A⟩, ⟨S8x4096x3, B⟩,
      ⟨S8x4096x61, broadcastInDim S8x4096x61 ![] bcast_S_S8x4096x61 (constant (F := F) S_ .f32 0x00000000#32)⟩]) concatenates_S8x4096x64_S8x4096x3_S8x4096x61_S8x4096x128_d2 (ix3 b n y) 0 (show 0 < 3 by decide) S8x4096x64 A rfl rfl 0 rfl _ ?_ ?_
    · intro q hq
      match q with
      | ⟨0, _⟩ => rfl
      | ⟨1, _⟩ => rfl
      | ⟨2, _⟩ => exact absurd rfl hq
    · show 0 + y.val = y.val
      omega
  next h =>
    split
    next h' =>
      refine concatenate_apply_piece (t := S8x4096x128) 2 ([⟨S8x4096x64, A⟩, ⟨S8x4096x3, B⟩,
      ⟨S8x4096x61, broadcastInDim S8x4096x61 ![] bcast_S_S8x4096x61 (constant (F := F) S_ .f32 0x00000000#32)⟩]) concatenates_S8x4096x64_S8x4096x3_S8x4096x61_S8x4096x128_d2 (ix3 b n y) 1 (show 1 < 3 by decide) S8x4096x3 B rfl rfl 64 rfl _ ?_ ?_
      · intro q hq
        match q with
        | ⟨0, _⟩ => rfl
        | ⟨1, _⟩ => rfl
        | ⟨2, _⟩ => exact absurd rfl hq
      · show 64 + (y.val - 64) = y.val
        omega
    next h' =>
      refine (concatenate_apply_piece (t := S8x4096x128) 2 ([⟨S8x4096x64, A⟩, ⟨S8x4096x3, B⟩,
      ⟨S8x4096x61, broadcastInDim S8x4096x61 ![] bcast_S_S8x4096x61 (constant (F := F) S_ .f32 0x00000000#32)⟩]) concatenates_S8x4096x64_S8x4096x3_S8x4096x61_S8x4096x128_d2 (ix3 b n y) 2 (show 2 < 3 by decide) S8x4096x61
        (broadcastInDim S8x4096x61 ![] bcast_S_S8x4096x61 (constant (F := F) S_ .f32 0x00000000#32)) rfl rfl 67 rfl
        (ix3 b n (⟨y.val - 67, by omega⟩ : Fin 61)) ?_ ?_).trans ?_
      · intro q hq
        match q with
        | ⟨0, _⟩ => rfl
        | ⟨1, _⟩ => rfl
        | ⟨2, _⟩ => exact absurd rfl hq
      · show 67 + (y.val - 67) = y.val
        omega
      · rfl

variable (m : (ℓ : Loc nD τ sig) → Buf (Elt F) ℓ)

abbrev argF (d : Dev nD) : FVec F S8x4096x64 .f32 := m ((SparseCore.T d).loc main_arg0)
abbrev argP (d : Dev nD) : FVec F S8x4096x3 .f32 := m ((SparseCore.T d).loc main_arg1)
abbrev argI (d : Dev nD) : IVec S8x1024x32 32 := m ((SparseCore.T d).loc main_arg2)

theorem tabM_eq (d : Dev nD) : tabM m d
    = shapeCast S32768x128 (concatenate S8x4096x128 2 [⟨S8x4096x64, argF m d⟩, ⟨S8x4096x3, argP m d⟩,
        ⟨S8x4096x61, broadcastInDim S8x4096x61 ![] bcast_S_S8x4096x61 (constant (F := F) S_ .f32 0x00000000#32)⟩]
        concatenates_S8x4096x64_S8x4096x3_S8x4096x61_S8x4096x128_d2) shapeCasts_S8x4096x128_S32768x128 := by
  show after [opCst, opPad, opCat, opTab, opFlat, opRow] (V0 m d) (host main_v2) = _
  after_results
  all_goals rfl

theorem idxM_eq (d : Dev nD) : idxM m d = shapeCast S1x262144 (flat (argI m d)) shapeCasts_S262144_S1x262144 := by
  show after [opCst, opPad, opCat, opTab, opFlat, opRow] (V0 m d) (host main_v4) = _
  after_results
  all_goals rfl

theorem tabM_apply (d : Dev nD) (r : Fin 32768) (y : Fin 128) :
    (tabM m d : S32768x128.Idx → F .f32) (ix2 r y) = entry (argF m d) (argP m d) r y := by
  have hr := r.isLt
  rw [tabM_eq]
  refine (shapeCast_apply _ _ (ix2 r y) (ix3 (⟨r.val / 4096, by omega⟩ : Fin 8) (⟨r.val % 4096, by omega⟩ : Fin 4096) y) ?_).trans
    (joined_apply (argF m d) (argP m d) _ _ y r ?_)
  · rw [Shape.rowMajor_val_three, Shape.rowMajor_val_two]
    show (r.val / 4096 * 4096 + r.val % 4096) * 128 + y.val = r.val * 128 + y.val
    omega
  · show r.val = r.val / 4096 * 4096 + r.val % 4096
    omega

theorem idxM_apply (d : Dev nD) (z : S1x262144.Idx) :
    (idxM m d : S1x262144.Idx → BitVec 32) z = flat (argI m d) (ix1 (z 1)) := by
  rw [idxM_eq]
  refine shapeCast_apply _ _ z (ix1 (z 1)) ?_
  rw [Shape.rowMajor_val_one, Shape.rowMajor_val_two]
  have h0 : (z 0).val = 0 := by have := (z 0).isLt; change (z 0).val < 1 at this; omega
  show (z 1).val = (z 0).val * 262144 + (z 1).val
  omega

/-- The program's result, entry by entry. -/
theorem rowsOf_eq (d : Dev nD) : rowsOf d (tabM m d) (idxM m d) = gathered (argF m d) (argP m d) (argI m d) := by
  funext z
  unfold rowsOf gathered
  rw [idxM_apply]
  exact tabM_apply m d _ _

/-! ## The range of the indices -/

/-- Every index is from 0 to 32767. -/
def InRange (I : IVec S8x1024x32 32) : Prop := ∀ c, (flat I c).toNat < 32768

theorem inRange_of_pre [Cert.Pre_rows_in_table.Facts] (A : FVec F S8x4096x64 .f32) (B : FVec F S8x4096x3 .f32) (I : IVec S8x1024x32 32)
    (h : Cert.Pre_rows_in_table.fn A B I = fun _ => 1#1) : InRange I := by
  intro c
  have key : ∀ w : BitVec 32, IntOp.andi (IntOp.cmpi .sge w 0#32) (IntOp.cmpi .slt w 32768#32) = 1#1 → w.toNat < 32768 := by
    intro w hw
    have h1 : IntOp.cmpi .sge w 0#32 = 1#1 ∧ IntOp.cmpi .slt w 32768#32 = 1#1 := by
      revert hw
      generalize IntOp.cmpi .sge w 0#32 = p
      generalize IntOp.cmpi .slt w 32768#32 = q
      revert p q
      decide
    obtain ⟨hp, hq⟩ := h1
    have hp' : (0#32).sle w = true := by
      cases hb : (0#32).sle w
      · exact absurd (hp.symm.trans (show IntOp.cmpi .sge w 0#32 = 0#1 by show BitVec.ofBool ((0#32).sle w) = _; rw [hb]; rfl)) (by decide)
      · rfl
    have hq' : w.slt 32768#32 = true := by
      cases hb : w.slt 32768#32
      · exact absurd (hq.symm.trans (show IntOp.cmpi .slt w 32768#32 = 0#1 by show BitVec.ofBool (w.slt 32768#32) = _; rw [hb]; rfl)) (by decide)
      · rfl
    have h1 : (0#32 : BitVec 32).toInt ≤ w.toInt := BitVec.sle_iff_toInt_le.mp hp'
    have h2 : w.toInt < (32768#32 : BitVec 32).toInt := BitVec.slt_iff_toInt_lt.mp hq'
    rw [show (0#32 : BitVec 32).toInt = 0 by decide] at h1
    rw [show (32768#32 : BitVec 32).toInt = 32768 by decide] at h2
    have h3 := BitVec.toInt_eq_toNat_cond w
    have h4 := w.isLt
    split at h3 <;> omega
  have e := congrFun h (fun a => a.elim0)
  unfold Cert.Pre_rows_in_table.fn at e
  haveI : Subsingleton Cert.Pre_rows_in_table.S_.Idx := ⟨fun a b => funext fun k => k.elim0⟩
  unfold flat shapeCast
  exact key _ (Host.reduce_andi_all _ _ _ _ _ e _)

theorem preOK_of_inRange (h : ∀ d, InRange (argI m d)) : PreOK m := by
  intro d z
  rw [idxM_apply]
  exact h d _

/-! ## The reference -/

/-- The row numbers as the reference takes them: a negative one counted from the end. -/
def wrapped (J : IVec S262144 32) : IVec Cert.ReferenceIdeal.S262144x1 32 :=
  broadcastInDim Cert.ReferenceIdeal.S262144x1 ![0] Cert.ReferenceIdeal.Gen.bcast_S262144_S262144x1_0
    (select (cmpi .slt J (broadcastInDim S262144 ![] Cert.ReferenceIdeal.Gen.bcast_S_S262144 (constantI S_ 32 0#32)))
      (addi J (broadcastInDim S262144 ![] Cert.ReferenceIdeal.Gen.bcast_S_S262144 (constantI S_ 32 32768#32))) J)

/-- A row number in range is taken as it is. -/
theorem wrapped_apply (J : IVec S262144 32) (c : Fin 262144) (h : (J (ix1 c)).toNat < 32768) :
    wrapped J (ix2 c (0 : Fin 1)) = J (ix1 c) := by
  unfold wrapped
  rw [broadcastInDim_apply _ _ _ (ix2 c (0 : Fin 1)) (ix1 c) (fun a => by
    obtain rfl : a = 0 := Subsingleton.elim _ _
    rfl)]
  have hs : (J (ix1 c)).slt 0#32 = false := by
    have h1 : (J (ix1 c)).toInt = ((J (ix1 c)).toNat : Int) := by
      have := BitVec.toInt_eq_toNat_cond (J (ix1 c))
      split at this <;> omega
    cases hb : (J (ix1 c)).slt 0#32
    · rfl
    · have h2 := BitVec.slt_iff_toInt_lt.mp hb
      rw [show (0#32 : BitVec 32).toInt = 0 by decide] at h2
      omega
  have hc : cmpi .slt J (broadcastInDim S262144 ![] Cert.ReferenceIdeal.Gen.bcast_S_S262144 (constantI S_ 32 0#32)) (ix1 c) = 0#1 := by
    show BitVec.ofBool ((J (ix1 c)).slt 0#32) = 0#1
    rw [hs]; rfl
  show (if cmpi .slt J (broadcastInDim S262144 ![] Cert.ReferenceIdeal.Gen.bcast_S_S262144 (constantI S_ 32 0#32)) (ix1 c) = 1#1 then _ else J (ix1 c)) = _
  rw [hc, if_neg (by decide)]

/-- The three pieces of the reference's rows: the features' rows, the coordinates' rows, zeros. -/
abbrev refParts (A : FVec F S8x4096x64 .f32) (B : FVec F S8x4096x3 .f32) (I : IVec S8x1024x32 32) : List ((s : Shape) × (s.Idx → F .f32)) :=
    [⟨Cert.ReferenceIdeal.S262144x64, Host.gather Cert.ReferenceIdeal.gather_S32768x64_S262144x1_S262144x64_1_0_n_n_0_1_164
        (shapeCast Cert.ReferenceIdeal.S32768x64 A Cert.ReferenceIdeal.Gen.shapeCasts_S8x4096x64_S32768x64) (wrapped (flat I))⟩,
      ⟨Cert.ReferenceIdeal.S262144x3, Host.gather Cert.ReferenceIdeal.gather_S32768x3_S262144x1_S262144x3_1_0_n_n_0_1_13
        (shapeCast Cert.ReferenceIdeal.S32768x3 B Cert.ReferenceIdeal.Gen.shapeCasts_S8x4096x3_S32768x3) (wrapped (flat I))⟩,
      ⟨Cert.ReferenceIdeal.S262144x61, broadcastInDim Cert.ReferenceIdeal.S262144x61 ![] Cert.ReferenceIdeal.Gen.bcast_S_S262144x61
        (constant (F := F) S_ .f32 0x00000000#32)⟩]

/-- The reference's result, from its three arguments. -/
def refRows (A : FVec F S8x4096x64 .f32) (B : FVec F S8x4096x3 .f32) (I : IVec S8x1024x32 32) : FVec F S262144x128 .f32 :=
  concatenate S262144x128 1 (refParts A B I) Cert.ReferenceIdeal.Gen.concatenates_S262144x64_S262144x3_S262144x61_S262144x128_d1

/-- Where every index is in range, the reference's result is the gathered rows. -/
theorem refRows_eq (A : FVec F S8x4096x64 .f32) (B : FVec F S8x4096x3 .f32) (I : IVec S8x1024x32 32) (h : InRange I) :
    refRows A B I = gathered A B I := by
  funext z
  obtain ⟨c, hc⟩ : ∃ c : Fin 262144, c = z 0 := ⟨_, rfl⟩
  obtain ⟨y, hy'⟩ : ∃ y : Fin 128, y = z 1 := ⟨_, rfl⟩
  have hz : z = ix2 c y := by
    funext a
    match a with
    | ⟨0, _⟩ => exact hc.symm
    | ⟨1, _⟩ => exact hy'.symm
  rw [hz]
  have hy := y.isLt
  have hJ := h (ix1 c)
  show refRows A B I (ix2 c y) = entry A B (Fin.ofNat 32768 (flat I (ix1 c)).toNat) y
  obtain ⟨r, hr⟩ : ∃ r : Fin 32768, r = Fin.ofNat 32768 (flat I (ix1 c)).toNat := ⟨_, rfl⟩
  have hrv : r.val = (flat I (ix1 c)).toNat := by rw [hr]; exact Nat.mod_eq_of_lt hJ
  have hw : wrapped (flat I) (ix2 c (0 : Fin 1)) = BitVec.ofNat 32 r.val := by
    rw [wrapped_apply _ _ hJ, hrv, BitVec.ofNat_toNat, BitVec.setWidth_eq]
  have hrl := r.isLt
  rw [← hr]
  unfold entry refRows
  split
  next hlt =>
    refine (concatenate_apply_piece (t := S262144x128) 1 (refParts A B I) Cert.ReferenceIdeal.Gen.concatenates_S262144x64_S262144x3_S262144x61_S262144x128_d1 (ix2 c y) 0 (show 0 < 3 by decide) Cert.ReferenceIdeal.S262144x64 _ rfl rfl 0 rfl
      (ix2 c (⟨y.val, hlt⟩ : Fin 64)) ?_ ?_).trans ?_
    · intro q hq
      match q with
      | ⟨0, _⟩ => rfl
      | ⟨1, _⟩ => exact absurd rfl hq
    · show 0 + y.val = y.val
      omega
    · refine (Routing.gather_row _ rfl rfl rfl rfl rfl _ _ c (⟨y.val, hlt⟩ : Fin 64) r hw (by decide)).trans ?_
      refine shapeCast_apply _ _ _ _ ?_
      rw [Shape.rowMajor_val_three, Shape.rowMajor_val_two]
      show (r.val / 4096 * 4096 + r.val % 4096) * 64 + y.val = r.val * 64 + y.val
      omega
  next hge =>
    split
    next hlt =>
      refine (concatenate_apply_piece (t := S262144x128) 1 (refParts A B I) Cert.ReferenceIdeal.Gen.concatenates_S262144x64_S262144x3_S262144x61_S262144x128_d1 (ix2 c y) 1 (show 1 < 3 by decide) Cert.ReferenceIdeal.S262144x3 _ rfl rfl 64 rfl
        (ix2 c (⟨y.val - 64, by omega⟩ : Fin 3)) ?_ ?_).trans ?_
      · intro q hq
        match q with
        | ⟨0, _⟩ => rfl
        | ⟨1, _⟩ => exact absurd rfl hq
      · show 64 + (y.val - 64) = y.val
        omega
      · refine (Routing.gather_row _ rfl rfl rfl rfl rfl _ _ c (⟨y.val - 64, by omega⟩ : Fin 3) r hw (by decide)).trans ?_
        refine shapeCast_apply _ _ _ _ ?_
        rw [Shape.rowMajor_val_three, Shape.rowMajor_val_two]
        show (r.val / 4096 * 4096 + r.val % 4096) * 3 + (y.val - 64) = r.val * 3 + (y.val - 64)
        omega
    next hge' =>
      refine (concatenate_apply_piece (t := S262144x128) 1 (refParts A B I) Cert.ReferenceIdeal.Gen.concatenates_S262144x64_S262144x3_S262144x61_S262144x128_d1 (ix2 c y) 2 (show 2 < 3 by decide) Cert.ReferenceIdeal.S262144x61
        (broadcastInDim Cert.ReferenceIdeal.S262144x61 ![] Cert.ReferenceIdeal.Gen.bcast_S_S262144x61
          (constant (F := F) S_ .f32 0x00000000#32)) rfl rfl 67 rfl
        (ix2 c (⟨y.val - 67, by omega⟩ : Fin 61)) ?_ ?_).trans ?_
      · intro q hq
        match q with
        | ⟨0, _⟩ => rfl
        | ⟨1, _⟩ => exact absurd rfl hq
      · show 67 + (y.val - 67) = y.val
        omega
      · rfl

end Cert.Proof.Gather

end
-- ==== Proof.FpsModel.lean ====
/-
  Farthest point sampling as mathematics, over the extended reals: of each of the 8 clouds of 4096 points, the state before pick
  `k` is each point's squared distance to the points picked so far, from a large constant, and the next point to pick. A pick
  takes the minimum with the squared distances to that point, then the first point whose distance is greatest.
-/
module

public import Idealize.ShloMosaic.Lib.ValueIdx
public import Idealize.ShloMosaic.PureOps.Ideal.Laws

@[expose] public section

noncomputable section

namespace Cert.Proof.Fps

open Idealize.ShloMosaic

/-- The coordinates of the points of the clouds. -/
abbrev Points := Fin 8 → Fin 4096 → Fin 3 → EReal

/-- `f` is the first place at which `d` is greatest. -/
def IsFirst (d : Fin 4096 → EReal) (f : Fin 4096) : Prop := (∀ n, d n ≤ d f) ∧ ∀ n, d n = d f → f ≤ n

/-- There is one such place. -/
theorem IsFirst.unique {d : Fin 4096 → EReal} {f g : Fin 4096} (hf : IsFirst d f) (hg : IsFirst d g) : f = g :=
  le_antisymm (hf.2 g (le_antisymm (hf.1 g) (hg.1 f))) (hg.2 f (le_antisymm (hg.1 f) (hf.1 g)))

/-- The first place at which `d` is greatest. -/
def first (d : Fin 4096 → EReal) : Fin 4096 := Classical.epsilon (IsFirst d)

theorem IsFirst.eq {d : Fin 4096 → EReal} {f : Fin 4096} (h : IsFirst d f) : f = first d :=
  h.unique (Classical.epsilon_spec ⟨f, h⟩)

/-- The squared distance between points `n` and `f` of cloud `b`, its terms summed from the left. -/
def sq (P : Points) (b : Fin 8) (n f : Fin 4096) : EReal :=
  ((P b n 0 - P b f 0) * (P b n 0 - P b f 0) + (P b n 1 - P b f 1) * (P b n 1 - P b f 1))
    + (P b n 2 - P b f 2) * (P b n 2 - P b f 2)

/-- The distances after picking `f`. -/
def nearer (P : Points) (D : Fin 8 → Fin 4096 → EReal) (f : Fin 8 → Fin 4096) : Fin 8 → Fin 4096 → EReal :=
  fun b n => min (D b n) (sq P b n (f b))

/-- The distances and the next point to pick, before pick `k`. -/
def state (P : Points) : ℕ → (Fin 8 → Fin 4096 → EReal) × (Fin 8 → Fin 4096)
  | 0 => (fun _ _ => Ideal.ofBits .f32 0x501502F9#32, fun _ => 0)
  | k + 1 => (nearer P (state P k).1 (state P k).2, fun b => first (nearer P (state P k).1 (state P k).2 b))

/-- The point picked by pick `k`. -/
abbrev pick (P : Points) (k : ℕ) (b : Fin 8) : Fin 4096 := (state P k).2 b

/-- The word of a place. -/
abbrev wordOf (f : Fin 4096) : BitVec 32 := BitVec.ofNat 32 f.val

theorem wordOf_toNat (f : Fin 4096) : (wordOf f).toNat = f.val := by
  rw [BitVec.toNat_ofNat]; omega

theorem wordOf_toInt (f : Fin 4096) : (wordOf f).toInt = f.val := by
  rw [BitVec.toInt_eq_toNat_of_lt (by rw [wordOf_toNat]; omega), wordOf_toNat]

theorem wordOf_inj {f g : Fin 4096} (h : wordOf f = wordOf g) : f = g :=
  Fin.ext (by rw [← wordOf_toNat f, h, wordOf_toNat])

end Cert.Proof.Fps

end
-- ==== Proof.FpsKernel.lean ====
/-
  What one trip of the sampling kernel computes, over the extended reals. The row sums of the masked, stacked coordinates are the
  coordinates of the point to pick, since of each row one entry is left and the others are zero; the least of the places at which
  the row maximum stands is the first place at which the distances are greatest.
-/
module

public import proofs.«01_k».proof.Proof.FpsModel
public import proofs.«01_k».proof.Proof.Gen.FpsIdeal.Frame
public import Idealize.ShloMosaic.Lib.Pipeline.ValueKit
public import Idealize.ShloMosaic.Lib.SortNet.Extract

@[expose] public section

noncomputable section

namespace Cert.Proof.Fps

open Cert.FpsIdeal Cert.FpsIdeal.Gen
open Idealize.ShloMosaic hiding ix1 ix2 ix3 eq_ix2
open Idealize.ShloMosaic.ValueIdx (ix1 ix2 ix3 eq_ix2 select_apply)
open Idealize.ShloMosaic.Pipeline

/-- One coordinate of the points, as the kernel's array of it. -/
abbrev plane (P : Points) (a : Fin 3) : FVec Ideal S8x4096 .f32 := fun i => P (i 0) (i 1) a

/-- The places of the points to pick, as the kernel's column of words. -/
abbrev column (f : Fin 8 → Fin 4096) : IVec S8x1 32 := fun i => wordOf (f (i 0))

/-- The distances as the kernel's array. -/
abbrev table (D : Fin 8 → Fin 4096 → EReal) : FVec Ideal S8x4096 .f32 := fun i => D (i 0) (i 1)

/-! ## Three arrays stacked -/

/-- Entry `(8 a + b, n)` of three arrays of 8 rows stacked is entry `(b, n)` of array `a`. -/
theorem stack_apply {α : Type} {w : ℕ} (x : Fin 3 → (⟨2, ![8, w]⟩ : Shape).Idx → α)
    (h : Shape.Concatenates [⟨2, ![8, w]⟩, ⟨2, ![8, w]⟩, ⟨2, ![8, w]⟩] ⟨2, ![24, w]⟩ 0) (a : Fin 3) (b : Fin 8) (n : Fin w) :
    concatenate ⟨2, ![24, w]⟩ 0 [⟨⟨2, ![8, w]⟩, x 0⟩, ⟨⟨2, ![8, w]⟩, x 1⟩, ⟨⟨2, ![8, w]⟩, x 2⟩] h (ix2 (⟨8 * a.val + b.val, by omega⟩ : Fin 24) n)
      = x a (ix2 b n) := by
  have off : ∀ (r : Fin 24) (q : Fin 2), q.cast rfl ≠ (0 : Fin 2) → ((ix2 b n : (⟨2, ![8, w]⟩ : Shape).Idx) q).val
      = ((ix2 r n : (⟨2, ![24, w]⟩ : Shape).Idx) (q.cast rfl)).val := by
    intro r q hq
    match q with
    | ⟨0, _⟩ => exact absurd rfl hq
    | ⟨1, _⟩ => rfl
  match a with
  | ⟨0, _⟩ =>
    exact concatenate_apply_piece (t := ⟨2, ![24, w]⟩) 0 [⟨⟨2, ![8, w]⟩, x 0⟩, ⟨⟨2, ![8, w]⟩, x 1⟩, ⟨⟨2, ![8, w]⟩, x 2⟩] h _ 0 (show 0 < 3 by decide)
      ⟨2, ![8, w]⟩ (x 0) rfl rfl 0 rfl (ix2 b n) (off _) (by show 0 + b.val = 8 * 0 + b.val; omega)
  | ⟨1, _⟩ =>
    exact concatenate_apply_piece (t := ⟨2, ![24, w]⟩) 0 [⟨⟨2, ![8, w]⟩, x 0⟩, ⟨⟨2, ![8, w]⟩, x 1⟩, ⟨⟨2, ![8, w]⟩, x 2⟩] h _ 1 (show 1 < 3 by decide)
      ⟨2, ![8, w]⟩ (x 1) rfl rfl 8 rfl (ix2 b n) (off _) (by show 8 + b.val = 8 * 1 + b.val; omega)
  | ⟨2, _⟩ =>
    exact concatenate_apply_piece (t := ⟨2, ![24, w]⟩) 0 [⟨⟨2, ![8, w]⟩, x 0⟩, ⟨⟨2, ![8, w]⟩, x 1⟩, ⟨⟨2, ![8, w]⟩, x 2⟩] h _ 2 (show 2 < 3 by decide)
      ⟨2, ![8, w]⟩ (x 2) rfl rfl 16 rfl (ix2 b n) (off _) (by show 16 + b.val = 8 * 2 + b.val; omega)

/-! ## The point to pick -/

/-- The masked row sum is the entry that the mask leaves. -/
theorem csum_apply (P : Points) (f : Fin 8 → Fin 4096) (a : Fin 3) (b : Fin 8) :
    k0_pay7 (F := Ideal) (plane P 0) (plane P 1) (plane P 2) (column f) (ix2 (⟨8 * a.val + b.val, by omega⟩ : Fin 24) (0 : Fin 1))
      = P b (f b) a := by
  unfold k0_pay7
  have h1 : k0_pay1 (F := Ideal) (plane P 0) = plane P 0 := shapeCast_self ..
  have h2 : k0_pay2 (F := Ideal) (plane P 1) = plane P 1 := shapeCast_self ..
  have h3 : k0_pay3 (F := Ideal) (plane P 2) = plane P 2 := shapeCast_self ..
  rw [h1, h2, h3]
  dsimp only
  refine (shapeCast_apply _ _ _ (ix1 (⟨8 * a.val + b.val, by omega⟩ : Fin 24)) (by
    rw [Shape.rowMajor_val_one, Shape.rowMajor_val_two]; show 8 * a.val + b.val = (8 * a.val + b.val) * 1 + 0; omega)).trans ?_
  refine (Ideal.multiReduction_add_single _ _ _ _ _ _).trans ?_
  have term : ∀ n : Fin 4096, select
        (cmpi .eq (iota .tc S24x4096 32 [1] iota_S24x4096_d1_w32) (broadcastTo S24x4096 (concatenate S24x1 0 [⟨S8x1, column f⟩, ⟨S8x1, column f⟩, ⟨S8x1, column f⟩] concatenates_S8x1_S8x1_S8x1_S24x1_d0) broadcasts_S24x1_S24x4096))
        (concatenate S24x4096 0 [⟨S8x4096, plane P 0⟩, ⟨S8x4096, plane P 1⟩, ⟨S8x4096, plane P 2⟩] concatenates_S8x4096_S8x4096_S8x4096_S24x4096_d0)
        (broadcast S24x4096 (Scalar.ofBits (F := Ideal) .f32 0x00000000#32)) (ix2 (⟨8 * a.val + b.val, by omega⟩ : Fin 24) n)
      = if f b = n then P b n a else 0 := by
    intro n
    rw [select_apply]
    have e1 : broadcastTo S24x4096 (concatenate S24x1 0 [⟨S8x1, column f⟩, ⟨S8x1, column f⟩, ⟨S8x1, column f⟩] concatenates_S8x1_S8x1_S8x1_S24x1_d0) broadcasts_S24x1_S24x4096
        (ix2 (⟨8 * a.val + b.val, by omega⟩ : Fin 24) n) = wordOf (f b) := by
      refine (broadcastTo_apply _ _ _ (ix2 (⟨8 * a.val + b.val, by omega⟩ : Fin 24) (0 : Fin 1)) ?_).trans
        (stack_apply (fun _ => column f) _ a b 0)
      intro q
      match q with
      | ⟨0, _⟩ => rfl
      | ⟨1, _⟩ => rfl
    have e2 : iota .tc S24x4096 32 [1] iota_S24x4096_d1_w32 (ix2 (⟨8 * a.val + b.val, by omega⟩ : Fin 24) n) = wordOf n :=
      congrArg (BitVec.ofNat 32) (Nat.zero_add n.val)
    have e3 : concatenate S24x4096 0 [⟨S8x4096, plane P 0⟩, ⟨S8x4096, plane P 1⟩, ⟨S8x4096, plane P 2⟩] concatenates_S8x4096_S8x4096_S8x4096_S24x4096_d0
        (ix2 (⟨8 * a.val + b.val, by omega⟩ : Fin 24) n) = P b n a := stack_apply (fun a => plane P a) _ a b n
    rw [cmpi_apply, e1, e2, e3]
    show (if BitVec.ofBool (wordOf n == wordOf (f b)) = 1#1 then P b n a else Ideal.ofBits .f32 0x00000000#32) = _
    by_cases hn : f b = n
    · subst hn
      rw [if_pos rfl, if_pos (by rw [beq_self_eq_true]; rfl)]
    · rw [if_neg hn, if_neg (by
        rw [show (wordOf n == wordOf (f b)) = false from beq_eq_false_iff_ne.mpr fun h => hn (wordOf_inj h).symm]; decide), Ideal.ofBits_zero_f32]
  calc _ = ∑ n : Fin 4096, (if f b = n then P b n a else 0) := Finset.sum_congr rfl fun n _ => (congrArg _ (funext fun q => by
        match q with
        | ⟨0, _⟩ => rfl
        | ⟨1, _⟩ => rfl)).trans (term n)
    _ = P b (f b) a := by rw [Finset.sum_ite_eq, if_pos (Finset.mem_univ _)]

/-- A column of coordinates of the points to pick. -/
abbrev chosen (P : Points) (f : Fin 8 → Fin 4096) (a : Fin 3) : FVec Ideal S8x1 .f32 := fun i => P (i 0) (f (i 0)) a

theorem pay8_eq (P : Points) (f : Fin 8 → Fin 4096) :
    k0_pay8 (F := Ideal) (plane P 0) (plane P 1) (plane P 2) (column f) = chosen P f 0 := by
  funext i
  obtain ⟨b, z, rfl⟩ : ∃ b z, i = ix2 b z := ⟨_, _, eq_ix2 i⟩
  obtain rfl : z = 0 := Subsingleton.elim _ _
  refine (extractStridedSlice_apply _ _ slices_S24x1_o0_0_S8x1 _ (ix2 (⟨8 * (0 : Fin 3).val + b.val, by omega⟩ : Fin 24) (0 : Fin 1)) ?_).trans (csum_apply P f 0 b)
  intro q
  match q with
  | ⟨0, _⟩ => rfl
  | ⟨1, _⟩ => rfl

theorem pay9_eq (P : Points) (f : Fin 8 → Fin 4096) :
    k0_pay9 (F := Ideal) (plane P 0) (plane P 1) (plane P 2) (column f) = chosen P f 1 := by
  funext i
  obtain ⟨b, z, rfl⟩ : ∃ b z, i = ix2 b z := ⟨_, _, eq_ix2 i⟩
  obtain rfl : z = 0 := Subsingleton.elim _ _
  refine (extractStridedSlice_apply _ _ slices_S24x1_o8_0_S8x1 _ (ix2 (⟨8 * (1 : Fin 3).val + b.val, by omega⟩ : Fin 24) (0 : Fin 1)) ?_).trans (csum_apply P f 1 b)
  intro q
  match q with
  | ⟨0, _⟩ => rfl
  | ⟨1, _⟩ => rfl

theorem pay10_eq (P : Points) (f : Fin 8 → Fin 4096) :
    k0_pay10 (F := Ideal) (plane P 0) (plane P 1) (plane P 2) (column f) = chosen P f 2 := by
  funext i
  obtain ⟨b, z, rfl⟩ : ∃ b z, i = ix2 b z := ⟨_, _, eq_ix2 i⟩
  obtain rfl : z = 0 := Subsingleton.elim _ _
  refine (extractStridedSlice_apply _ _ slices_S24x1_o16_0_S8x1 _ (ix2 (⟨8 * (2 : Fin 3).val + b.val, by omega⟩ : Fin 24) (0 : Fin 1)) ?_).trans (csum_apply P f 2 b)
  intro q
  match q with
  | ⟨0, _⟩ => rfl
  | ⟨1, _⟩ => rfl

/-- A column laid as a row. -/
theorem row_apply (P : Points) (f : Fin 8 → Fin 4096) (a : Fin 3) (b : Fin 8) :
    shapeCast S1x8 (chosen P f a) shapeCasts_S8x1_S1x8 (ix2 (0 : Fin 1) b) = P b (f b) a :=
  shapeCast_apply _ _ _ (ix2 b (0 : Fin 1)) (by
    rw [Shape.rowMajor_val_two, Shape.rowMajor_val_two]; show b.val * 1 + 0 = 0 * 8 + b.val; omega)

/-! ## The distances -/

theorem pay14_eq (P : Points) (D : Fin 8 → Fin 4096 → EReal) (f : Fin 8 → Fin 4096) :
    k0_pay14 (F := Ideal) (plane P 0) (plane P 1) (plane P 2) (table D) (column f) = table (nearer P D f) := by
  unfold k0_pay14
  rw [pay8_eq, pay9_eq, pay10_eq]
  have h1 : k0_pay1 (F := Ideal) (plane P 0) = plane P 0 := shapeCast_self ..
  have h2 : k0_pay2 (F := Ideal) (plane P 1) = plane P 1 := shapeCast_self ..
  have h3 : k0_pay3 (F := Ideal) (plane P 2) = plane P 2 := shapeCast_self ..
  rw [h1, h2, h3]
  funext i
  obtain ⟨b, n, rfl⟩ : ∃ b n, i = ix2 b n := ⟨_, _, eq_ix2 i⟩
  have hb : ∀ a, broadcastTo S8x4096 (chosen P f a) broadcasts_S8x1_S8x4096 (ix2 b n) = P b (f b) a := by
    intro a
    refine broadcastTo_apply _ _ _ (ix2 b (0 : Fin 1)) ?_
    intro q
    match q with
    | ⟨0, _⟩ => rfl
    | ⟨1, _⟩ => rfl
  show min (D b n) (((P b n 0 - broadcastTo S8x4096 (chosen P f 0) broadcasts_S8x1_S8x4096 (ix2 b n)) * (P b n 0 - broadcastTo S8x4096 (chosen P f 0) broadcasts_S8x1_S8x4096 (ix2 b n))
      + (P b n 1 - broadcastTo S8x4096 (chosen P f 1) broadcasts_S8x1_S8x4096 (ix2 b n)) * (P b n 1 - broadcastTo S8x4096 (chosen P f 1) broadcasts_S8x1_S8x4096 (ix2 b n)))
      + (P b n 2 - broadcastTo S8x4096 (chosen P f 2) broadcasts_S8x1_S8x4096 (ix2 b n)) * (P b n 2 - broadcastTo S8x4096 (chosen P f 2) broadcasts_S8x1_S8x4096 (ix2 b n))) = _
  rw [hb 0, hb 1, hb 2]
  rfl

/-! ## The next point to pick -/

/-- A signed minimum over a set of words: at most each of them and the initial one, and one of these. -/
theorem fold_minsi {ι : Type} [DecidableEq ι] (g : ι → BitVec 32) (s : Finset ι) (z : BitVec 32) :
    (∀ i ∈ s, (s.fold IntOp.minsi z g).toInt ≤ (g i).toInt) ∧ (s.fold IntOp.minsi z g = z ∨ ∃ i ∈ s, s.fold IntOp.minsi z g = g i) := by
  induction s using Finset.induction_on with
  | empty => exact ⟨fun i hi => absurd hi (Finset.notMem_empty i), Or.inl (Finset.fold_empty ..)⟩
  | insert a s ha ih =>
    rw [Finset.fold_insert ha]
    have ht := SortNet.toInt_minsi (g a) (s.fold IntOp.minsi z g)
    refine ⟨fun i hi => ?_, ?_⟩
    · rcases Finset.mem_insert.mp hi with rfl | hi
      · rw [ht]; exact min_le_left _ _
      · rw [ht]; exact (min_le_right _ _).trans (ih.1 i hi)
    · have hc : IntOp.minsi (g a) (s.fold IntOp.minsi z g) = g a ∨ IntOp.minsi (g a) (s.fold IntOp.minsi z g) = s.fold IntOp.minsi z g := by
        show (if _ then _ else _) = _ ∨ (if _ then _ else _) = _
        split
        · exact Or.inl rfl
        · exact Or.inr rfl
      rcases hc with h | h
      · exact Or.inr ⟨a, Finset.mem_insert_self a s, h⟩
      · rw [h]
        rcases ih.2 with h' | ⟨i, hi, h'⟩
        · exact Or.inl h'
        · exact Or.inr ⟨i, Finset.mem_insert_of_mem hi, h'⟩

/-- A maximum over a row, from the least value: at least each entry, and one of them. -/
theorem fold_max (d : Fin 4096 → EReal) :
    (∀ n, d n ≤ Finset.univ.fold max ⊥ d) ∧ ∃ n, d n = Finset.univ.fold max ⊥ d := by
  have hs : Finset.univ.fold max ⊥ d = Finset.univ.sup d := rfl
  rw [hs]
  refine ⟨fun n => Finset.le_sup (Finset.mem_univ n), ?_⟩
  obtain ⟨n, -, hn⟩ := Finset.exists_mem_eq_sup Finset.univ ⟨(0 : Fin 4096), Finset.mem_univ _⟩ d
  exact ⟨n, hn.symm⟩

/-- The least place at which the row maximum stands. -/
theorem place_apply (D : Fin 8 → Fin 4096 → EReal) (b : Fin 8) :
    multiReductionI .minsi [1] S8
      (select (cmpf (F := Ideal) .oeq (table D) (broadcastTo S8x4096 (shapeCast S8x1
          (multiReduction .maximumf [1] S8 (table D) 0xFF800000#32 reduces_S8x4096_S8 (.inl rfl) rfl) shapeCasts_S8_S8x1) broadcasts_S8x1_S8x4096))
        (iota .tc S8x4096 32 [1] iota_S8x4096_d1_w32) (broadcast S8x4096 4096#32)) 2147483647#32 reduces_S8x4096_S8 rfl (ix1 b)
      = wordOf (first (D b)) := by
  obtain ⟨hle, g, hg⟩ := fold_max (D b)
  have hmax : ∀ n : Fin 4096, broadcastTo S8x4096 (shapeCast S8x1
      (multiReduction .maximumf [1] S8 (table D) 0xFF800000#32 reduces_S8x4096_S8 (.inl rfl) rfl) shapeCasts_S8_S8x1) broadcasts_S8x1_S8x4096 (ix2 b n)
      = Finset.univ.fold max ⊥ (D b) := by
    intro n
    refine (broadcastTo_apply _ _ _ (ix2 b (0 : Fin 1)) (fun q => by
      match q with
      | ⟨0, _⟩ => rfl
      | ⟨1, _⟩ => rfl)).trans ?_
    refine (shapeCast_apply _ _ _ (ix1 b) (by
      rw [Shape.rowMajor_val_one, Shape.rowMajor_val_two]; show b.val = b.val * 1 + 0; omega)).trans ?_
    refine (Ideal.multiReduction_maximumf_single _ _ _ _ _ _).trans ?_
    rfl
  have hsel : ∀ n : Fin 4096, (select (cmpf (F := Ideal) .oeq (table D) (broadcastTo S8x4096 (shapeCast S8x1
          (multiReduction .maximumf [1] S8 (table D) 0xFF800000#32 reduces_S8x4096_S8 (.inl rfl) rfl) shapeCasts_S8_S8x1) broadcasts_S8x1_S8x4096))
        (iota .tc S8x4096 32 [1] iota_S8x4096_d1_w32) (broadcast S8x4096 4096#32)) (ix2 b n)
      = if D b n = Finset.univ.fold max ⊥ (D b) then wordOf n else 4096#32 := by
    intro n
    rw [select_apply, show ∀ y : FVec Ideal S8x4096 .f32, cmpf .oeq (table D) y (ix2 b n) = Ideal.cmp .oeq (D b n) (y (ix2 b n)) from fun _ => rfl, hmax n]
    by_cases hn : D b n = Finset.univ.fold max ⊥ (D b)
    · rw [if_pos hn, show Ideal.cmp .oeq (D b n) (Finset.univ.fold max ⊥ (D b)) = 1#1 by simp [Ideal.cmp, hn]]
      exact congrArg (BitVec.ofNat 32) (Nat.zero_add n.val)
    · rw [if_neg hn, show Ideal.cmp .oeq (D b n) (Finset.univ.fold max ⊥ (D b)) = 0#1 by simp [Ideal.cmp, hn]]
      rfl
  generalize hM : Finset.univ.fold max ⊥ (D b) = M at hle hg hsel
  clear hmax
  generalize hS : (select (cmpf (F := Ideal) .oeq (table D) _) (iota .tc S8x4096 32 [1] iota_S8x4096_d1_w32) (broadcast S8x4096 4096#32)) = S at hsel ⊢
  refine (multiReductionI_eq_fold _ _ _ _ _ _).trans ?_
  have hmem : ∀ n : Fin 4096, (ix2 b n : S8x4096.Idx) ∈ Finset.univ.filter fun i : S8x4096.Idx => reduces_S8x4096_S8.drop i = ix1 b := by
    intro n
    refine Finset.mem_filter.mpr ⟨Finset.mem_univ _, ?_⟩
    funext q
    match q with
    | ⟨0, _⟩ => rfl
  have hrow : ∀ i ∈ Finset.univ.filter (fun i : S8x4096.Idx => reduces_S8x4096_S8.drop i = ix1 b), ∃ n, i = ix2 b n := by
    intro i hi
    have h0 := congrFun (Finset.mem_filter.mp hi).2 0
    exact ⟨i 1, (eq_ix2 i).trans (congrArg (fun x : Fin 8 => ix2 x (i 1)) h0)⟩
  obtain ⟨h1, h2⟩ := fold_minsi S (Finset.univ.filter fun i : S8x4096.Idx => reduces_S8x4096_S8.drop i = ix1 b) 2147483647#32
  change Finset.fold IntOp.minsi 2147483647#32 S _ = _
  generalize Finset.fold IntOp.minsi 2147483647#32 S (Finset.univ.filter fun i : S8x4096.Idx => reduces_S8x4096_S8.drop i = ix1 b) = R at h1 h2 ⊢
  have hR : R.toInt ≤ g.val := by
    have := h1 _ (hmem g)
    rwa [hsel g, if_pos hg, wordOf_toInt] at this
  rcases h2 with h2 | ⟨i, hi, h2⟩
  · rw [h2] at hR
    have : (2147483647#32 : BitVec 32).toInt = 2147483647 := by decide
    omega
  · obtain ⟨n, rfl⟩ := hrow i hi
    rw [hsel n] at h2
    by_cases hn : D b n = M
    · rw [if_pos hn] at h2
      have hf : IsFirst (D b) n := by
        refine ⟨fun k => hn ▸ hle k, fun k hk => ?_⟩
        have := h1 _ (hmem k)
        rw [hsel k, if_pos (hk.trans hn), h2, wordOf_toInt, wordOf_toInt] at this
        exact Fin.le_def.mpr (by omega)
      rw [h2, hf.eq]
    · rw [if_neg hn] at h2
      rw [h2] at hR
      have : (4096#32 : BitVec 32).toInt = 4096 := by decide
      omega

theorem pay15_eq (P : Points) (D : Fin 8 → Fin 4096 → EReal) (f : Fin 8 → Fin 4096) :
    k0_pay15 (F := Ideal) (plane P 0) (plane P 1) (plane P 2) (table D) (column f) = column fun b => first (nearer P D f b) := by
  unfold k0_pay15
  rw [pay14_eq]
  funext i
  obtain ⟨b, z, rfl⟩ : ∃ b z, i = ix2 b z := ⟨_, _, eq_ix2 i⟩
  obtain rfl : z = 0 := Subsingleton.elim _ _
  refine (shapeCast_apply _ _ _ (ix1 b) (by
    rw [Shape.rowMajor_val_one, Shape.rowMajor_val_two]; show b.val = b.val * 1 + 0; omega)).trans ?_
  exact place_apply (nearer P D f) b

end Cert.Proof.Fps

end
-- ==== Proof.FpsLoop.lean ====
/-
  The loop of the farthest point sampling kernel: what it carries before trip `k` is the mathematics' state before pick `k`, and
  what its stores leave in the three rows of the output are the coordinates of the points picked.
-/
module

public import proofs.«01_k».proof.Proof.FpsKernel
public import Idealize.ShloMosaic.Lib.WritesUnit
public import Idealize.ShloMosaic.Lib.VecWindow
public import Idealize.ShloMosaic.Lib.WordArith.Masks

@[expose] public section

set_option maxRecDepth 16384

namespace Cert.Proof.Fps

open Idealize.ShloMosaic hiding ix1 ix2 ix3 eq_ix2
open Idealize.ShloMosaic.ValueIdx (ix1 ix2 ix3 eq_ix2)
open Idealize.ShloMosaic.TcCoe Idealize.ShloMosaic.Pipeline Idealize.SL.Sem
open Cert.FpsIdeal Cert.FpsIdeal.Gen

noncomputable section

/-! ## The loop -/

section Loop

variable (𝒱 : Variants) (c : Dev nD) (bd : Option 𝒱.V) (arg0 : Memref sig .tc .vmem S8x4096 .f32) (harg0 : arg0.IsWhole) (arg1 : Memref sig .tc .vmem S8x4096 .f32) (harg1 : arg1.IsWhole) (arg2 : Memref sig .tc .vmem S8x4096 .f32) (harg2 : arg2.IsWhole) (arg3 : Memref sig .tc .vmem S1024x8 .i32) (harg3 : arg3.IsWhole) (arg4 : Memref sig .tc .vmem S1024x8 .f32) (harg4 : arg4.IsWhole) (arg5 : Memref sig .tc .vmem S1024x8 .f32) (harg5 : arg5.IsWhole) (arg6 : Memref sig .tc .vmem S1024x8 .f32) (harg6 : arg6.IsWhole)

/-- The loop's state before trip `k`, on the three planes of `P`. -/
abbrev trips (P : Points) (k : ℕ) :=
  st_k0_t1 (F := Ideal) 𝒱 c bd arg0 harg0 arg1 harg1 arg2 harg2 arg3 harg3 arg4 harg4 arg5 harg5 arg6 harg6 (plane P 0) (plane P 1) (plane P 2) (k0_pay4 (F := Ideal), k0_pay5) k

/-- The rows that trip `k` stores. -/
abbrev rows (k : Fin k0_t1_loop.trips) := Rect.unit (s := S1024x8) (k0_off1 k) S1x8.size (k0_off1_inb k)

theorem trips_succ (P : Points) (k : Fin k0_t1_loop.trips) :
    trips 𝒱 c bd arg0 harg0 arg1 harg1 arg2 harg2 arg3 harg3 arg4 harg4 arg5 harg5 arg6 harg6 P (k.val + 1)
      = ((k0_pay14 (F := Ideal) (plane P 0) (plane P 1) (plane P 2) (trips 𝒱 c bd arg0 harg0 arg1 harg1 arg2 harg2 arg3 harg3 arg4 harg4 arg5 harg5 arg6 harg6 P k.val).1.1 (trips 𝒱 c bd arg0 harg0 arg1 harg1 arg2 harg2 arg3 harg3 arg4 harg4 arg5 harg5 arg6 harg6 P k.val).1.2,
          k0_pay15 (F := Ideal) (plane P 0) (plane P 1) (plane P 2) (trips 𝒱 c bd arg0 harg0 arg1 harg1 arg2 harg2 arg3 harg3 arg4 harg4 arg5 harg5 arg6 harg6 P k.val).1.1 (trips 𝒱 c bd arg0 harg0 arg1 harg1 arg2 harg2 arg3 harg3 arg4 harg4 arg5 harg5 arg6 harg6 P k.val).1.2),
        ⟨rows k, k0_pay6 (trips 𝒱 c bd arg0 harg0 arg1 harg1 arg2 harg2 arg3 harg3 arg4 harg4 arg5 harg5 arg6 harg6 P k.val).1.2⟩ :: (trips 𝒱 c bd arg0 harg0 arg1 harg1 arg2 harg2 arg3 harg3 arg4 harg4 arg5 harg5 arg6 harg6 P k.val).2.1,
        ⟨rows k, k0_pay11 (F := Ideal) (plane P 0) (plane P 1) (plane P 2) (trips 𝒱 c bd arg0 harg0 arg1 harg1 arg2 harg2 arg3 harg3 arg4 harg4 arg5 harg5 arg6 harg6 P k.val).1.2⟩ :: (trips 𝒱 c bd arg0 harg0 arg1 harg1 arg2 harg2 arg3 harg3 arg4 harg4 arg5 harg5 arg6 harg6 P k.val).2.2.1,
        ⟨rows k, k0_pay12 (F := Ideal) (plane P 0) (plane P 1) (plane P 2) (trips 𝒱 c bd arg0 harg0 arg1 harg1 arg2 harg2 arg3 harg3 arg4 harg4 arg5 harg5 arg6 harg6 P k.val).1.2⟩ :: (trips 𝒱 c bd arg0 harg0 arg1 harg1 arg2 harg2 arg3 harg3 arg4 harg4 arg5 harg5 arg6 harg6 P k.val).2.2.2.1,
        ⟨rows k, k0_pay13 (F := Ideal) (plane P 0) (plane P 1) (plane P 2) (trips 𝒱 c bd arg0 harg0 arg1 harg1 arg2 harg2 arg3 harg3 arg4 harg4 arg5 harg5 arg6 harg6 P k.val).1.2⟩ :: (trips 𝒱 c bd arg0 harg0 arg1 harg1 arg2 harg2 arg3 harg3 arg4 harg4 arg5 harg5 arg6 harg6 P k.val).2.2.2.2) := by
  refine (st_k0_t1_succ ..).trans ?_
  unfold tripR_k0_t1 tripL_k0_t1 trip_k0_t1
  rfl

theorem trips_count : k0_t1_loop.trips = 1024 := by decide

theorem off_eq (k : Fin k0_t1_loop.trips) : k0_off1 k = ![k.val, 0] := by
  unfold k0_off1
  have hk := lt_of_lt_of_eq k.isLt trips_count
  dsimp only
  rw [show (Scalar.indexCast (Scf.iv 0#32 1#32 k.val) : Index).toNat = k.val from WordArith.toNat_iv_zero_one _ (by omega)]

/-- What the loop carries before trip `k` is the model's state. -/
theorem trips_carried (P : Points) : ∀ k : ℕ, k ≤ 1024 →
    (trips 𝒱 c bd arg0 harg0 arg1 harg1 arg2 harg2 arg3 harg3 arg4 harg4 arg5 harg5 arg6 harg6 P k).1 = (table (state P k).1, column (state P k).2)
  | 0, _ => rfl
  | k + 1, h => by
    rw [trips_succ 𝒱 c bd arg0 harg0 arg1 harg1 arg2 harg2 arg3 harg3 arg4 harg4 arg5 harg5 arg6 harg6 P ⟨k, by rw [trips_count]; exact h⟩]
    dsimp only
    rw [trips_carried P k (by omega)]
    dsimp only
    rw [pay14_eq, pay15_eq]
    rfl

theorem trips_read4 (P : Points) (v : View sig .tc .vmem S1024x8 .f32) (f : v.ty.Contents (Elt Ideal)) (j : Fin 1024) (b : Fin 8) :
    ∀ k : ℕ, j.val < k → k ≤ 1024 → v.read (Elt Ideal) (v.writes (Elt Ideal) f (trips 𝒱 c bd arg0 harg0 arg1 harg1 arg2 harg2 arg3 harg3 arg4 harg4 arg5 harg5 arg6 harg6 P k).2.2.1) (ix2 j b) = P b (pick P j.val b) 0
  | 0, h, _ => absurd h (Nat.not_lt_zero _)
  | k + 1, h, h' => by
    rw [trips_succ 𝒱 c bd arg0 harg0 arg1 harg1 arg2 harg2 arg3 harg3 arg4 harg4 arg5 harg5 arg6 harg6 P ⟨k, by rw [trips_count]; exact h'⟩]
    dsimp only
    by_cases hj : j.val = k
    · refine (View.read_writes_cons_rows_of_mem (o := k) v f _ _ _ (ix2 j b) (ix2 (0 : Fin 1) b) (off_eq _) (by show j.val = k + 0; exact hj) rfl).trans ?_
      rw [trips_carried 𝒱 c bd arg0 harg0 arg1 harg1 arg2 harg2 arg3 harg3 arg4 harg4 arg5 harg5 arg6 harg6 P k (by omega)]
      dsimp only
      unfold k0_pay11
      rw [pay8_eq]
      exact (row_apply P (state P k).2 0 b).trans (by rw [← hj])
    · refine (View.read_writes_cons_rows_of_not_mem (o := k) (W := 1) v f _ _ _ (ix2 j b) (off_eq _) rfl (by show j.val < k ∨ k + 1 ≤ j.val; omega)).trans ?_
      exact trips_read4 P v f j b k (by omega) (by omega)

theorem trips_read5 (P : Points) (v : View sig .tc .vmem S1024x8 .f32) (f : v.ty.Contents (Elt Ideal)) (j : Fin 1024) (b : Fin 8) :
    ∀ k : ℕ, j.val < k → k ≤ 1024 → v.read (Elt Ideal) (v.writes (Elt Ideal) f (trips 𝒱 c bd arg0 harg0 arg1 harg1 arg2 harg2 arg3 harg3 arg4 harg4 arg5 harg5 arg6 harg6 P k).2.2.2.1) (ix2 j b) = P b (pick P j.val b) 1
  | 0, h, _ => absurd h (Nat.not_lt_zero _)
  | k + 1, h, h' => by
    rw [trips_succ 𝒱 c bd arg0 harg0 arg1 harg1 arg2 harg2 arg3 harg3 arg4 harg4 arg5 harg5 arg6 harg6 P ⟨k, by rw [trips_count]; exact h'⟩]
    dsimp only
    by_cases hj : j.val = k
    · refine (View.read_writes_cons_rows_of_mem (o := k) v f _ _ _ (ix2 j b) (ix2 (0 : Fin 1) b) (off_eq _) (by show j.val = k + 0; exact hj) rfl).trans ?_
      rw [trips_carried 𝒱 c bd arg0 harg0 arg1 harg1 arg2 harg2 arg3 harg3 arg4 harg4 arg5 harg5 arg6 harg6 P k (by omega)]
      dsimp only
      unfold k0_pay12
      rw [pay9_eq]
      exact (row_apply P (state P k).2 1 b).trans (by rw [← hj])
    · refine (View.read_writes_cons_rows_of_not_mem (o := k) (W := 1) v f _ _ _ (ix2 j b) (off_eq _) rfl (by show j.val < k ∨ k + 1 ≤ j.val; omega)).trans ?_
      exact trips_read5 P v f j b k (by omega) (by omega)

theorem trips_read6 (P : Points) (v : View sig .tc .vmem S1024x8 .f32) (f : v.ty.Contents (Elt Ideal)) (j : Fin 1024) (b : Fin 8) :
    ∀ k : ℕ, j.val < k → k ≤ 1024 → v.read (Elt Ideal) (v.writes (Elt Ideal) f (trips 𝒱 c bd arg0 harg0 arg1 harg1 arg2 harg2 arg3 harg3 arg4 harg4 arg5 harg5 arg6 harg6 P k).2.2.2.2) (ix2 j b) = P b (pick P j.val b) 2
  | 0, h, _ => absurd h (Nat.not_lt_zero _)
  | k + 1, h, h' => by
    rw [trips_succ 𝒱 c bd arg0 harg0 arg1 harg1 arg2 harg2 arg3 harg3 arg4 harg4 arg5 harg5 arg6 harg6 P ⟨k, by rw [trips_count]; exact h'⟩]
    dsimp only
    by_cases hj : j.val = k
    · refine (View.read_writes_cons_rows_of_mem (o := k) v f _ _ _ (ix2 j b) (ix2 (0 : Fin 1) b) (off_eq _) (by show j.val = k + 0; exact hj) rfl).trans ?_
      rw [trips_carried 𝒱 c bd arg0 harg0 arg1 harg1 arg2 harg2 arg3 harg3 arg4 harg4 arg5 harg5 arg6 harg6 P k (by omega)]
      dsimp only
      unfold k0_pay13
      rw [pay10_eq]
      exact (row_apply P (state P k).2 2 b).trans (by rw [← hj])
    · refine (View.read_writes_cons_rows_of_not_mem (o := k) (W := 1) v f _ _ _ (ix2 j b) (off_eq _) rfl (by show j.val < k ∨ k + 1 ≤ j.val; omega)).trans ?_
      exact trips_read6 P v f j b k (by omega) (by omega)

end Loop

/-! ## What the body leaves in its outputs -/

section Outputs

variable (c : Dev nD) (arg0 : Memref sig .tc .vmem S8x4096 .f32) (harg0 : arg0.IsWhole) (arg1 : Memref sig .tc .vmem S8x4096 .f32) (harg1 : arg1.IsWhole) (arg2 : Memref sig .tc .vmem S8x4096 .f32) (harg2 : arg2.IsWhole) (arg3 : Memref sig .tc .vmem S1024x8 .i32) (harg3 : arg3.IsWhole) (arg4 : Memref sig .tc .vmem S1024x8 .f32) (harg4 : arg4.IsWhole) (arg5 : Memref sig .tc .vmem S1024x8 .f32) (harg5 : arg5.IsWhole) (arg6 : Memref sig .tc .vmem S1024x8 .f32) (harg6 : arg6.IsWhole)

theorem load_all (m : Memref sig .tc .vmem S8x4096 .f32) (h : m.IsWhole) (x : Vec Ideal S8x4096 .f32) :
    View.readAt (Elt Ideal) m.view (Rect.unit ![0, 0] ![8, 4096] inb_S8x4096_S8x4096_0_0).toLoadRect (h.unread x) = x :=
  (View.readAt_full m.view (h.unread x) (off := ![0, 0]) inb_S8x4096_S8x4096_0_0).trans (h.read_unread x)

theorem pieces4 (P : Points) : (kernelRun0_A (F := Ideal) c arg0 harg0 arg1 harg1 arg2 harg2 arg3 harg3 arg4 harg4 arg5 harg5 arg6 harg6 (plane P 0) (plane P 1) (plane P 2)).2.1
    = (trips Variants.none c none arg0 harg0 arg1 harg1 arg2 harg2 arg3 harg3 arg4 harg4 arg5 harg5 arg6 harg6 P 1024).2.2.1 := by
  unfold kernelRun0_A
  dsimp only
  rw [load_all arg0, load_all arg1, load_all arg2]
  rfl

theorem out4_apply (P : Points) (j : Fin 1024) (b : Fin 8) :
    out0_A_4 (F := Ideal) c arg0 harg0 arg1 harg1 arg2 harg2 arg3 harg3 arg4 harg4 arg5 harg5 arg6 harg6 (plane P 0) (plane P 1) (plane P 2) (ix2 j b) = P b (pick P j.val b) 0 := by
  unfold out0_A_4
  rw [pieces4]
  exact trips_read4 Variants.none c none arg0 harg0 arg1 harg1 arg2 harg2 arg3 harg3 arg4 harg4 arg5 harg5 arg6 harg6 P VO0_4 VO0_4.junk j b 1024 j.isLt le_rfl

theorem pieces5 (P : Points) : (kernelRun0_A (F := Ideal) c arg0 harg0 arg1 harg1 arg2 harg2 arg3 harg3 arg4 harg4 arg5 harg5 arg6 harg6 (plane P 0) (plane P 1) (plane P 2)).2.2.1
    = (trips Variants.none c none arg0 harg0 arg1 harg1 arg2 harg2 arg3 harg3 arg4 harg4 arg5 harg5 arg6 harg6 P 1024).2.2.2.1 := by
  unfold kernelRun0_A
  dsimp only
  rw [load_all arg0, load_all arg1, load_all arg2]
  rfl

theorem out5_apply (P : Points) (j : Fin 1024) (b : Fin 8) :
    out0_A_5 (F := Ideal) c arg0 harg0 arg1 harg1 arg2 harg2 arg3 harg3 arg4 harg4 arg5 harg5 arg6 harg6 (plane P 0) (plane P 1) (plane P 2) (ix2 j b) = P b (pick P j.val b) 1 := by
  unfold out0_A_5
  rw [pieces5]
  exact trips_read5 Variants.none c none arg0 harg0 arg1 harg1 arg2 harg2 arg3 harg3 arg4 harg4 arg5 harg5 arg6 harg6 P VO0_5 VO0_5.junk j b 1024 j.isLt le_rfl

theorem pieces6 (P : Points) : (kernelRun0_A (F := Ideal) c arg0 harg0 arg1 harg1 arg2 harg2 arg3 harg3 arg4 harg4 arg5 harg5 arg6 harg6 (plane P 0) (plane P 1) (plane P 2)).2.2.2.1
    = (trips Variants.none c none arg0 harg0 arg1 harg1 arg2 harg2 arg3 harg3 arg4 harg4 arg5 harg5 arg6 harg6 P 1024).2.2.2.2 := by
  unfold kernelRun0_A
  dsimp only
  rw [load_all arg0, load_all arg1, load_all arg2]
  rfl

theorem out6_apply (P : Points) (j : Fin 1024) (b : Fin 8) :
    out0_A_6 (F := Ideal) c arg0 harg0 arg1 harg1 arg2 harg2 arg3 harg3 arg4 harg4 arg5 harg5 arg6 harg6 (plane P 0) (plane P 1) (plane P 2) (ix2 j b) = P b (pick P j.val b) 2 := by
  unfold out0_A_6
  rw [pieces6]
  exact trips_read6 Variants.none c none arg0 harg0 arg1 harg1 arg2 harg2 arg3 harg3 arg4 harg4 arg5 harg5 arg6 harg6 P VO0_6 VO0_6.junk j b 1024 j.isLt le_rfl

end Outputs

end

end Cert.Proof.Fps

end
-- ==== Proof.FpsValue.lean ====
/-
  What the sampling program returns, over the extended reals: entry `(b, k, a)` of its result is coordinate `a` of the point that
  the model picks of group `b` at step `k`.
-/
module

public import proofs.«01_k».proof.Proof.FpsLoop

@[expose] public section

set_option maxRecDepth 16384

noncomputable section

namespace Cert.Proof.Fps

open Idealize.ShloMosaic hiding ix1 ix2 ix3 eq_ix2
open Idealize.ShloMosaic.ValueIdx (ix1 ix2 ix3 eq_ix2)
open Idealize.ShloMosaic.StableHlo
open Idealize.ShloMosaic.TcCoe Idealize.ShloMosaic.Pipeline Idealize.SL.Sem
open Cert.FpsIdeal Cert.FpsIdeal.Gen

/-- The points of an argument array. -/
abbrev pointsOf (x : FVec Ideal S8x4096x3 .f32) : Points := fun b n a => x (ix3 b n a)

/-! ## Before the region -/

/-- One coordinate of the points, as the lines before the region make it. -/
theorem plane_apply (x : FVec Ideal S8x4096x3 .f32) (a : Fin 3) (hs : S8x4096x3.Slices ![0, 0, a.val] S8x4096x1) (i : S8x4096.Idx) :
    shapeCast S8x4096 (extractStridedSlice S8x4096x1 ![0, 0, a.val] x hs) shapeCasts_S8x4096x1_S8x4096 i = plane (pointsOf x) a i := by
  obtain ⟨b, n, rfl⟩ : ∃ b n, i = ix2 b n := ⟨_, _, eq_ix2 i⟩
  refine (shapeCast_apply _ _ _ (ix3 b n (0 : Fin 1)) (by
    rw [Shape.rowMajor_val_two, Shape.rowMajor_val_three]; show (b.val * 4096 + n.val) * 1 + 0 = b.val * 4096 + n.val; omega)).trans ?_
  refine extractStridedSlice_apply _ _ hs _ (ix3 b n a) ?_
  intro q
  match q with
  | ⟨0, _⟩ => exact (Nat.zero_add b.val).symm
  | ⟨1, _⟩ => exact (Nat.zero_add n.val).symm
  | ⟨2, _⟩ => rfl

section Run

variable (m : (ℓ : Loc nD τ sig) → Buf (Elt Ideal) ℓ) (c : Dev nD)

/-- The points that core `c` is given. -/
abbrev given : Points := pointsOf (m (c.tc.loc main_arg0))

theorem V_plane0 : V m c main_v1 = plane (given m c) 0 := by
  have h : V m c main_v1 = shapeCast S8x4096 (extractStridedSlice S8x4096x1 ![0, 0, 0] (m (c.tc.loc main_arg0)) slices_S8x4096x3_S8x4096x1_0_0_0) shapeCasts_S8x4096x1_S8x4096 := by
    show after (List.flatten [hostOps0]) (fun b => m (c, b)) _ = _
    rw [List.flatten_cons, List.flatten_nil, List.append_nil]
    after_results
    rfl
  rw [h]
  exact funext fun i => plane_apply _ 0 slices_S8x4096x3_S8x4096x1_0_0_0 i

theorem V_plane1 : V m c main_v3 = plane (given m c) 1 := by
  have h : V m c main_v3 = shapeCast S8x4096 (extractStridedSlice S8x4096x1 ![0, 0, 1] (m (c.tc.loc main_arg0)) slices_S8x4096x3_S8x4096x1_0_0_1) shapeCasts_S8x4096x1_S8x4096 := by
    show after (List.flatten [hostOps0]) (fun b => m (c, b)) _ = _
    rw [List.flatten_cons, List.flatten_nil, List.append_nil]
    after_results
    rfl
  rw [h]
  exact funext fun i => plane_apply _ 1 slices_S8x4096x3_S8x4096x1_0_0_1 i

theorem V_plane2 : V m c main_v5 = plane (given m c) 2 := by
  have h : V m c main_v5 = shapeCast S8x4096 (extractStridedSlice S8x4096x1 ![0, 0, 2] (m (c.tc.loc main_arg0)) slices_S8x4096x3_S8x4096x1_0_0_2) shapeCasts_S8x4096x1_S8x4096 := by
    show after (List.flatten [hostOps0]) (fun b => m (c, b)) _ = _
    rw [List.flatten_cons, List.flatten_nil, List.append_nil]
    after_results
    rfl
  rw [h]
  exact funext fun i => plane_apply _ 2 slices_S8x4096x3_S8x4096x1_0_0_2 i

/-! ## The region -/

theorem iblk0 (t : Fin cfg0.N) : iblk m c 0 t = plane (given m c) 0 := by
  rw [← V_plane0 m c]
  funext y
  unfold iblk
  blk_simp
  refine congrArg (V m c main_v1) (funext fun a => Fin.ext ?_)
  exact (cfg0.win 0).rect_emb_val_of_index_zero t a ((by decide +kernel : ∀ (t : Fin cfg0.N) (a : Fin 2), (cfg0.win 0).index t a = 0) t a) y

theorem iblk1 (t : Fin cfg0.N) : iblk m c 1 t = plane (given m c) 1 := by
  rw [← V_plane1 m c]
  funext y
  unfold iblk
  blk_simp
  refine congrArg (V m c main_v3) (funext fun a => Fin.ext ?_)
  exact (cfg0.win 1).rect_emb_val_of_index_zero t a ((by decide +kernel : ∀ (t : Fin cfg0.N) (a : Fin 2), (cfg0.win 1).index t a = 0) t a) y

theorem iblk2 (t : Fin cfg0.N) : iblk m c 2 t = plane (given m c) 2 := by
  rw [← V_plane2 m c]
  funext y
  unfold iblk
  blk_simp
  refine congrArg (V m c main_v5) (funext fun a => Fin.ext ?_)
  exact (cfg0.win 2).rect_emb_val_of_index_zero t a ((by decide +kernel : ∀ (t : Fin cfg0.N) (a : Fin 2), (cfg0.win 2).index t a = 0) t a) y

/-- What the region leaves in the array of coordinate 0. -/
theorem final4 : (dats m 0 c).arrAt 4 cfg0.N = fun i : S1024x8.Idx => given m c (i 1) (pick (given m c) (i 0).val (i 1)) 0 := by
  refine (dats m 0 c).arrAt_eq_of_after_last 4 ⟨0, by decide +kernel⟩ (by decide +kernel) _ fun j => ?_
  rw [after0_4]
  unfold outsAt0
  dsimp only
  rw [iblk0, iblk1, iblk2]
  obtain ⟨k, b, rfl⟩ : ∃ k b, j = ix2 k b := ⟨_, _, eq_ix2 j⟩
  exact out4_apply c _ _ _ _ _ _ _ _ _ _ _ _ _ _ (given m c) k b

/-- What the region leaves in the array of coordinate 1. -/
theorem final5 : (dats m 0 c).arrAt 5 cfg0.N = fun i : S1024x8.Idx => given m c (i 1) (pick (given m c) (i 0).val (i 1)) 1 := by
  refine (dats m 0 c).arrAt_eq_of_after_last 5 ⟨0, by decide +kernel⟩ (by decide +kernel) _ fun j => ?_
  rw [after0_5]
  unfold outsAt0
  dsimp only
  rw [iblk0, iblk1, iblk2]
  obtain ⟨k, b, rfl⟩ : ∃ k b, j = ix2 k b := ⟨_, _, eq_ix2 j⟩
  exact out5_apply c _ _ _ _ _ _ _ _ _ _ _ _ _ _ (given m c) k b

/-- What the region leaves in the array of coordinate 2. -/
theorem final6 : (dats m 0 c).arrAt 6 cfg0.N = fun i : S1024x8.Idx => given m c (i 1) (pick (given m c) (i 0).val (i 1)) 2 := by
  refine (dats m 0 c).arrAt_eq_of_after_last 6 ⟨0, by decide +kernel⟩ (by decide +kernel) _ fun j => ?_
  rw [after0_6]
  unfold outsAt0
  dsimp only
  rw [iblk0, iblk1, iblk2]
  obtain ⟨k, b, rfl⟩ : ∃ k b, j = ix2 k b := ⟨_, _, eq_ix2 j⟩
  exact out6_apply c _ _ _ _ _ _ _ _ _ _ _ _ _ _ (given m c) k b

/-! ## After the region -/

/-- An array of the region, turned and given a last axis. -/
abbrev layer (x : FVec Ideal S1024x8 .f32) : FVec Ideal S8x1024x1 .f32 :=
  broadcastInDim S8x1024x1 ![0, 1] bcast_S8x1024_S8x1024x1_0_1 (transpose S8x1024 [1, 0] x transposes_S1024x8_S8x1024_1_0)

theorem layer_apply (x : FVec Ideal S1024x8 .f32) (b : Fin 8) (k : Fin 1024) : layer x (ix3 b k (0 : Fin 1)) = x (ix2 k b) := by
  refine (broadcastInDim_apply _ _ _ _ (ix2 b k) (fun q => by
    match q with
    | ⟨0, _⟩ => rfl
    | ⟨1, _⟩ => rfl)).trans ?_
  exact transpose_apply _ _ _ _ (ix2 k b) (fun q => by
    match q with
    | ⟨0, _⟩ => rfl
    | ⟨1, _⟩ => rfl)

theorem joined (X : Valuation τ sig (Elt Ideal)) : after hostOps1 X (Proc.devRef .tc main_v13)
    = concatenate S8x1024x3 2 [⟨S8x1024x1, layer (X (Proc.devRef .tc main_v6_1))⟩, ⟨S8x1024x1, layer (X (Proc.devRef .tc main_v6_2))⟩, ⟨S8x1024x1, layer (X (Proc.devRef .tc main_v6_3))⟩]
        concatenates_S8x1024x1_S8x1024x1_S8x1024x1_S8x1024x3_d2 := by
  after_results
  rfl

/-- The three coordinates, each put in its place. -/
theorem joined_apply (X : Valuation τ sig (Elt Ideal)) (b : Fin 8) (k : Fin 1024) (a : Fin 3) :
    (after hostOps1 X (Proc.devRef .tc main_v13) : FVec Ideal S8x1024x3 .f32) (ix3 b k a)
      = (![X (Proc.devRef .tc main_v6_1), X (Proc.devRef .tc main_v6_2), X (Proc.devRef .tc main_v6_3)] : Fin 3 → FVec Ideal S1024x8 .f32) a (ix2 k b) := by
  rw [joined X]
  have off : ∀ q : Fin 3, q.cast rfl ≠ (2 : Fin 3) → ((ix3 b k (0 : Fin 1) : S8x1024x1.Idx) q).val = ((ix3 b k a : S8x1024x3.Idx) (q.cast rfl)).val := by
    intro q hq
    match q with
    | ⟨0, _⟩ => rfl
    | ⟨1, _⟩ => rfl
    | ⟨2, _⟩ => exact absurd rfl hq
  match a with
  | ⟨0, _⟩ =>
    exact (concatenate_apply_piece (t := S8x1024x3) 2 [⟨S8x1024x1, layer (X (Proc.devRef .tc main_v6_1))⟩, ⟨S8x1024x1, layer (X (Proc.devRef .tc main_v6_2))⟩, ⟨S8x1024x1, layer (X (Proc.devRef .tc main_v6_3))⟩]
      concatenates_S8x1024x1_S8x1024x1_S8x1024x1_S8x1024x3_d2 _ 0 (show 0 < 3 by decide) S8x1024x1 (layer (X (Proc.devRef .tc main_v6_1))) rfl rfl 0 rfl (ix3 b k (0 : Fin 1)) off rfl).trans (layer_apply _ b k)
  | ⟨1, _⟩ =>
    exact (concatenate_apply_piece (t := S8x1024x3) 2 [⟨S8x1024x1, layer (X (Proc.devRef .tc main_v6_1))⟩, ⟨S8x1024x1, layer (X (Proc.devRef .tc main_v6_2))⟩, ⟨S8x1024x1, layer (X (Proc.devRef .tc main_v6_3))⟩]
      concatenates_S8x1024x1_S8x1024x1_S8x1024x1_S8x1024x3_d2 _ 1 (show 1 < 3 by decide) S8x1024x1 (layer (X (Proc.devRef .tc main_v6_2))) rfl rfl 1 rfl (ix3 b k (0 : Fin 1)) off rfl).trans (layer_apply _ b k)
  | ⟨2, _⟩ =>
    exact (concatenate_apply_piece (t := S8x1024x3) 2 [⟨S8x1024x1, layer (X (Proc.devRef .tc main_v6_1))⟩, ⟨S8x1024x1, layer (X (Proc.devRef .tc main_v6_2))⟩, ⟨S8x1024x1, layer (X (Proc.devRef .tc main_v6_3))⟩]
      concatenates_S8x1024x1_S8x1024x1_S8x1024x1_S8x1024x3_d2 _ 2 (show 2 < 3 by decide) S8x1024x1 (layer (X (Proc.devRef .tc main_v6_3))) rfl rfl 2 rfl (ix3 b k (0 : Fin 1)) off rfl).trans (layer_apply _ b k)

theorem result_apply (b : Fin 8) (k : Fin 1024) (a : Fin 3) :
    (afterTail₀ cfgs (dats m) 0 (V0 m) [hostOps1] c main_v13 : FVec Ideal S8x1024x3 .f32) (ix3 b k a) = given m c b (pick (given m c) k.val b) a := by
  unfold afterTail₀
  rw [List.flatten_cons, List.flatten_nil, List.append_nil]
  refine (joined_apply _ b k a).trans ?_
  have h4 := (withArrays_arr cfg0.spec launch0.win.arr_inj c (V0 m c) (fun w => (dats m 0 c).arrAt w cfg0.N) 4).trans (final4 m c)
  have h5 := (withArrays_arr cfg0.spec launch0.win.arr_inj c (V0 m c) (fun w => (dats m 0 c).arrAt w cfg0.N) 5).trans (final5 m c)
  have h6 := (withArrays_arr cfg0.spec launch0.win.arr_inj c (V0 m c) (fun w => (dats m 0 c).arrAt w cfg0.N) 6).trans (final6 m c)
  match a with
  | ⟨0, _⟩ => exact congrFun h4 (ix2 k b)
  | ⟨1, _⟩ => exact congrFun h5 (ix2 k b)
  | ⟨2, _⟩ => exact congrFun h6 (ix2 k b)

/-- The points that core `c` picks, in order. -/
abbrev picked : FVec Ideal S8x1024x3 .f32 := fun i => given m c (i 0) (pick (given m c) (i 1).val (i 0)) (i 2)

theorem result_eq : afterTail₀ cfgs (dats m) 0 (V0 m) [hostOps1] c main_v13 = picked m c := by
  funext i
  obtain ⟨b, k, a, rfl⟩ : ∃ b k a, i = ix3 b k a := ⟨_, _, _, ValueIdx.eq_ix3 i⟩
  exact result_apply m c b k a

end Run

/-- The sampling program ends with the picked points, and the points it was given as they were. -/
theorem run_value (m : (ℓ : Loc nD τ sig) → Buf (Elt Ideal) ℓ) (ρ) :
    θ_run defs (onTc (τ := τ) (main (F := Ideal))) ⟨m, fun _ => 0, ρ⟩ (fun r => ∀ c : Dev nD,
      r.2.mem (c.tc.loc main_v13) = picked m c ∧ r.2.mem (c.tc.loc main_arg0) = m (c.tc.loc main_arg0)) :=
  (θ_run defs _ _).mono (fun _ h c =>
    ⟨((h c).2 main_v13 (mem_restRefs_of main_v13 (by decide) (by decide))).trans (result_eq m c),
      ((h c).2 main_arg0 (mem_restRefs_of main_arg0 (by decide) (by decide))).trans (W_main_arg0 m (dats m) c)⟩) (run_main m ρ)

end Cert.Proof.Fps

end
-- ==== Proof.FpsRun.lean ====
/-
  The run of the reference of farthest point sampling: constants, one counted loop of 1024 trips, and a lookup. The program's own
  operations are listed in stretches, the loop's body in five (the two functions it calls are stretches of their own), and the run
  of a program with one counted loop says what every buffer holds at the end: the stretches before the loop, the body's stretches
  1024 times round, those after. The condition compares a counter, which holds `k` before trip `k`.
-/
module

public import proofs.«01_k».proof.Proof.Gen.RefFpsIdeal
public import Idealize.ShloMosaic.Lib.StableHlo.RunLoop
public import Idealize.ShloMosaic.Lib.Scf.ExitTest

@[expose] public section

noncomputable section

namespace Cert.Proof.FpsRef

open Cert.RefFpsIdeal Cert.RefFpsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo

variable {F : FTy → Type} [FloatOps F]

/-! ## The operations -/

/-- Before the loop: the constants, and the copies into the buffers that the loop carries. -/
abbrev preOps : List (HloOp τ sig (Elt F)) :=
  [ nullary main_c (constantI S_ 32 0#32),
    unary main_c main_v0 (broadcastInDim S8x1024 ![] bcast_S_S8x1024 : (⟨S_, .i32⟩ : BufTy).Contents (Elt F) → (⟨S8x1024, .i32⟩ : BufTy).Contents (Elt F)),
    nullary main_cst (constant S_ .f32 0x501502F9#32),
    unary main_cst main_v1 (broadcastInDim S8x4096 ![] bcast_S_S8x4096 : (⟨S_, .f32⟩ : BufTy).Contents (Elt F) → (⟨S8x4096, .f32⟩ : BufTy).Contents (Elt F)),
    nullary main_c_0 (constantI S_ 32 0#32),
    unary main_c_0 main_v2 (broadcastInDim S8 ![] bcast_S_S8 : (⟨S_, .i32⟩ : BufTy).Contents (Elt F) → (⟨S8, .i32⟩ : BufTy).Contents (Elt F)),
    nullary main_c_1 (constantI S_ 32 0#32),
    nullary main_c_2 (constantI S_ 32 0#32),
    unary main_arg0 main_v3_0 id,
    unary main_c_2 main_v3_1 id,
    unary main_c_1 main_v3_2 id,
    unary main_v0 main_v3_3 id,
    unary main_v1 main_v3_4 id,
    unary main_v2 main_v3_5 id ]

/-- The start of a trip: the next index of the output, the column of indices written, the farthest points laid out for the lookup. -/
abbrev pickOps : List (HloOp τ sig (Elt F)) :=
  [ nullary main_while0b_c_8 (constantI S_ 32 1#32),
    binary main_v3_2 main_while0b_c_8 main_while0b_v6 (addi : (⟨S_, .i32⟩ : BufTy).Contents (Elt F) → (⟨S_, .i32⟩ : BufTy).Contents (Elt F) → (⟨S_, .i32⟩ : BufTy).Contents (Elt F)),
    nullary main_while0b_c_9 (constantI S_ 32 0#32),
    binary main_v3_2 main_while0b_c_9 main_while0b_v7 (cmpi .slt : (⟨S_, .i32⟩ : BufTy).Contents (Elt F) → (⟨S_, .i32⟩ : BufTy).Contents (Elt F) → (⟨S_, .i1⟩ : BufTy).Contents (Elt F)),
    nullary main_while0b_c_10 (constantI S_ 32 1024#32),
    binary main_v3_2 main_while0b_c_10 main_while0b_v8 (addi : (⟨S_, .i32⟩ : BufTy).Contents (Elt F) → (⟨S_, .i32⟩ : BufTy).Contents (Elt F) → (⟨S_, .i32⟩ : BufTy).Contents (Elt F)),
    ternary main_while0b_v7 main_while0b_v8 main_v3_2 main_while0b_v9 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_while0b_v9 main_while0b_v10 (id : (⟨S_, .i32⟩ : BufTy).Contents (Elt F) → (⟨S_, .i32⟩ : BufTy).Contents (Elt F)),
    unary main_while0b_v10 main_while0b_v11 (broadcastInDim S1 ![] bcast_S_S1 : (⟨S_, .i32⟩ : BufTy).Contents (Elt F) → (⟨S1, .i32⟩ : BufTy).Contents (Elt F)),
    ternary main_v3_3 main_while0b_v11 main_v3_5 main_while0b_v12 ((fun x i u => Host.scatter scatter_S8x1024_S1_S8_0_1_1_0 (fun _ b => b) x i u) : (⟨S8x1024, .i32⟩ : BufTy).Contents (Elt F) → (⟨S1, .i32⟩ : BufTy).Contents (Elt F) → (⟨S8, .i32⟩ : BufTy).Contents (Elt F) → (⟨S8x1024, .i32⟩ : BufTy).Contents (Elt F)),
    unary main_v3_5 main_while0b_v13 (broadcastInDim S8x1x1 ![0] bcast_S8_S8x1x1_0 : (⟨S8, .i32⟩ : BufTy).Contents (Elt F) → (⟨S8x1x1, .i32⟩ : BufTy).Contents (Elt F)) ]

/-- The lookup of the farthest points. -/
abbrev takeOps : List (HloOp τ sig (Elt F)) :=
  [ nullary main_while0b_call0_c (constantI S_ 32 0#32),
    unary main_while0b_call0_c main_while0b_call0_v0 ((broadcastInDim S8x1x1 ![] bcast_S_S8x1x1) : (⟨S_, .i32⟩ : BufTy).Contents (Elt F) → (⟨S8x1x1, .i32⟩ : BufTy).Contents (Elt F)),
    binary main_while0b_v13 main_while0b_call0_v0 main_while0b_call0_v1 ((cmpi .slt) : (⟨S8x1x1, .i32⟩ : BufTy).Contents (Elt F) → (⟨S8x1x1, .i32⟩ : BufTy).Contents (Elt F) → (⟨S8x1x1, .i1⟩ : BufTy).Contents (Elt F)),
    nullary main_while0b_call0_c_0 (constantI S_ 32 4096#32),
    unary main_while0b_call0_c_0 main_while0b_call0_v2 ((broadcastInDim S8x1x1 ![] bcast_S_S8x1x1) : (⟨S_, .i32⟩ : BufTy).Contents (Elt F) → (⟨S8x1x1, .i32⟩ : BufTy).Contents (Elt F)),
    binary main_while0b_v13 main_while0b_call0_v2 main_while0b_call0_v3 (addi : (⟨S8x1x1, .i32⟩ : BufTy).Contents (Elt F) → (⟨S8x1x1, .i32⟩ : BufTy).Contents (Elt F) → (⟨S8x1x1, .i32⟩ : BufTy).Contents (Elt F)),
    ternary main_while0b_call0_v1 main_while0b_call0_v3 main_while0b_v13 main_while0b_call0_v4 (select : (⟨S8x1x1, .i1⟩ : BufTy).Contents (Elt F) → (⟨S8x1x1, .i32⟩ : BufTy).Contents (Elt F) → (⟨S8x1x1, .i32⟩ : BufTy).Contents (Elt F) → (⟨S8x1x1, .i32⟩ : BufTy).Contents (Elt F)),
    nullary main_while0b_call0_c_1 (constantI S1 32 4095#32),
    nullary main_while0b_call0_c_2 (constantI S_ 32 0#32),
    unary main_while0b_call0_c_2 main_while0b_call0_v5 ((broadcastInDim S8x1x1 ![] bcast_S_S8x1x1) : (⟨S_, .i32⟩ : BufTy).Contents (Elt F) → (⟨S8x1x1, .i32⟩ : BufTy).Contents (Elt F)),
    binary main_while0b_call0_v4 main_while0b_call0_v5 main_while0b_call0_v6 ((cmpi .sge) : (⟨S8x1x1, .i32⟩ : BufTy).Contents (Elt F) → (⟨S8x1x1, .i32⟩ : BufTy).Contents (Elt F) → (⟨S8x1x1, .i1⟩ : BufTy).Contents (Elt F)),
    unary main_while0b_call0_c_1 main_while0b_call0_v7 ((broadcastInDim S1x1x1 ![2] bcast_S1_S1x1x1_2) : (⟨S1, .i32⟩ : BufTy).Contents (Elt F) → (⟨S1x1x1, .i32⟩ : BufTy).Contents (Elt F)),
    unary main_while0b_call0_v7 main_while0b_call0_v8 ((broadcastInDim S8x1x1 ![0, 1, 2] bcast_S1x1x1_S8x1x1_0_1_2) : (⟨S1x1x1, .i32⟩ : BufTy).Contents (Elt F) → (⟨S8x1x1, .i32⟩ : BufTy).Contents (Elt F)),
    binary main_while0b_call0_v4 main_while0b_call0_v8 main_while0b_call0_v9 ((cmpi .sle) : (⟨S8x1x1, .i32⟩ : BufTy).Contents (Elt F) → (⟨S8x1x1, .i32⟩ : BufTy).Contents (Elt F) → (⟨S8x1x1, .i1⟩ : BufTy).Contents (Elt F)),
    binary main_while0b_call0_v6 main_while0b_call0_v9 main_while0b_call0_v10 (andi : (⟨S8x1x1, .i1⟩ : BufTy).Contents (Elt F) → (⟨S8x1x1, .i1⟩ : BufTy).Contents (Elt F) → (⟨S8x1x1, .i1⟩ : BufTy).Contents (Elt F)),
    nullary main_while0b_call0_c_3 (constantI S_ 1 1#1),
    binary main_while0b_call0_v10 main_while0b_call0_c_3 main_while0b_call0_v11 ((fun x v => Host.reduce IntOp.andi x v reducesTo_S8x1x1_S8x1_d2 h_S_) : (⟨S8x1x1, .i1⟩ : BufTy).Contents (Elt F) → (⟨S_, .i1⟩ : BufTy).Contents (Elt F) → (⟨S8x1, .i1⟩ : BufTy).Contents (Elt F)),
    binary main_v3_0 main_while0b_call0_v4 main_while0b_call0_v12 ((fun x i => Host.gather gather_S8x4096x3_S8x1x1_S8x1x3_2_1_0_0_1_2_113 x i) : (⟨S8x4096x3, .f32⟩ : BufTy).Contents (Elt F) → (⟨S8x1x1, .i32⟩ : BufTy).Contents (Elt F) → (⟨S8x1x3, .f32⟩ : BufTy).Contents (Elt F)),
    unary main_while0b_call0_v11 main_while0b_call0_v13 ((broadcastInDim S8x1x3 ![0, 1] bcast_S8x1_S8x1x3_0_1) : (⟨S8x1, .i1⟩ : BufTy).Contents (Elt F) → (⟨S8x1x3, .i1⟩ : BufTy).Contents (Elt F)),
    nullary main_while0b_call0_cst (constant S_ .f32 0x7FC00000#32),
    unary main_while0b_call0_cst main_while0b_call0_v14 ((broadcastInDim S8x1x3 ![] bcast_S_S8x1x3) : (⟨S_, .f32⟩ : BufTy).Contents (Elt F) → (⟨S8x1x3, .f32⟩ : BufTy).Contents (Elt F)),
    ternary main_while0b_call0_v13 main_while0b_call0_v12 main_while0b_call0_v14 main_while0b_v14 (select : (⟨S8x1x3, .i1⟩ : BufTy).Contents (Elt F) → (⟨S8x1x3, .f32⟩ : BufTy).Contents (Elt F) → (⟨S8x1x3, .f32⟩ : BufTy).Contents (Elt F) → (⟨S8x1x3, .f32⟩ : BufTy).Contents (Elt F)) ]

/-- The squared distances to them, and the minimum with those so far. -/
abbrev distOps : List (HloOp τ sig (Elt F)) :=
  [ unary main_while0b_v14 main_while0b_v15 (broadcastInDim S8x4096x3 ![0, 1, 2] bcast_S8x1x3_S8x4096x3_0_1_2 : (⟨S8x1x3, .f32⟩ : BufTy).Contents (Elt F) → (⟨S8x4096x3, .f32⟩ : BufTy).Contents (Elt F)),
    binary main_v3_0 main_while0b_v15 main_while0b_v16 (subf : (⟨S8x4096x3, .f32⟩ : BufTy).Contents (Elt F) → (⟨S8x4096x3, .f32⟩ : BufTy).Contents (Elt F) → (⟨S8x4096x3, .f32⟩ : BufTy).Contents (Elt F)),
    binary main_while0b_v16 main_while0b_v16 main_while0b_v17 (mulf : (⟨S8x4096x3, .f32⟩ : BufTy).Contents (Elt F) → (⟨S8x4096x3, .f32⟩ : BufTy).Contents (Elt F) → (⟨S8x4096x3, .f32⟩ : BufTy).Contents (Elt F)),
    nullary main_while0b_cst_11 (constant S_ .f32 0x00000000#32),
    binary main_while0b_v17 main_while0b_cst_11 main_while0b_v18 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    binary main_v3_4 main_while0b_v18 main_while0b_v19 (minimumf : (⟨S8x4096, .f32⟩ : BufTy).Contents (Elt F) → (⟨S8x4096, .f32⟩ : BufTy).Contents (Elt F) → (⟨S8x4096, .f32⟩ : BufTy).Contents (Elt F)) ]

/-- The first index at which the distances are greatest. -/
abbrev argOps : List (HloOp τ sig (Elt F)) :=
  [ nullary main_while0b_call1_v0 (iotaInDim S8x4096 32 1),
    nullary main_while0b_call1_cst (constant S_ .f32 0xFF800000#32),
    nullary main_while0b_call1_c (constantI S_ 32 0#32),
    quaternary main_while0b_v19 main_while0b_call1_v0 main_while0b_call1_cst main_while0b_call1_c main_while0b_call1_v1_0 ((fun x y u v j => (Host.argReduce reducer_argmax_f32_i32 x y u v reducesTo_S8x4096_S8_d1 h_S_ j).1) : (⟨S8x4096, .f32⟩ : BufTy).Contents (Elt F) → (⟨S8x4096, .i32⟩ : BufTy).Contents (Elt F) → (⟨S_, .f32⟩ : BufTy).Contents (Elt F) → (⟨S_, .i32⟩ : BufTy).Contents (Elt F) → (⟨S8, .f32⟩ : BufTy).Contents (Elt F)),
    quaternary main_while0b_v19 main_while0b_call1_v0 main_while0b_call1_cst main_while0b_call1_c main_while0b_v20 ((fun x y u v j => (Host.argReduce reducer_argmax_f32_i32 x y u v reducesTo_S8x4096_S8_d1 h_S_ j).2) : (⟨S8x4096, .f32⟩ : BufTy).Contents (Elt F) → (⟨S8x4096, .i32⟩ : BufTy).Contents (Elt F) → (⟨S_, .f32⟩ : BufTy).Contents (Elt F) → (⟨S_, .i32⟩ : BufTy).Contents (Elt F) → (⟨S8, .i32⟩ : BufTy).Contents (Elt F)) ]

/-- The end of a trip: the counter, and the copies back into the carried buffers. -/
abbrev backOps : List (HloOp τ sig (Elt F)) :=
  [ nullary main_while0b_c_12 (constantI S_ 32 1#32),
    binary main_v3_1 main_while0b_c_12 main_while0b_v21 (addi : (⟨S_, .i32⟩ : BufTy).Contents (Elt F) → (⟨S_, .i32⟩ : BufTy).Contents (Elt F) → (⟨S_, .i32⟩ : BufTy).Contents (Elt F)),
    unary main_while0b_v21 main_v3_1 id,
    unary main_while0b_v6 main_v3_2 id,
    unary main_while0b_v12 main_v3_3 id,
    unary main_while0b_v19 main_v3_4 id,
    unary main_while0b_v20 main_v3_5 id ]

/-- After the loop: the indices laid out for the lookup. -/
abbrev postOps : List (HloOp τ sig (Elt F)) :=
  [ unary main_v3_3 main_v4 (broadcastInDim S8x1024x1 ![0, 1] bcast_S8x1024_S8x1024x1_0_1 : (⟨S8x1024, .i32⟩ : BufTy).Contents (Elt F) → (⟨S8x1024x1, .i32⟩ : BufTy).Contents (Elt F)) ]

/-- The lookup of the points chosen. -/
abbrev lookOps : List (HloOp τ sig (Elt F)) :=
  [ nullary main_call2_c (constantI S_ 32 0#32),
    unary main_call2_c main_call2_v0 ((broadcastInDim S8x1024x1 ![] bcast_S_S8x1024x1) : (⟨S_, .i32⟩ : BufTy).Contents (Elt F) → (⟨S8x1024x1, .i32⟩ : BufTy).Contents (Elt F)),
    binary main_v4 main_call2_v0 main_call2_v1 ((cmpi .slt) : (⟨S8x1024x1, .i32⟩ : BufTy).Contents (Elt F) → (⟨S8x1024x1, .i32⟩ : BufTy).Contents (Elt F) → (⟨S8x1024x1, .i1⟩ : BufTy).Contents (Elt F)),
    nullary main_call2_c_0 (constantI S_ 32 4096#32),
    unary main_call2_c_0 main_call2_v2 ((broadcastInDim S8x1024x1 ![] bcast_S_S8x1024x1) : (⟨S_, .i32⟩ : BufTy).Contents (Elt F) → (⟨S8x1024x1, .i32⟩ : BufTy).Contents (Elt F)),
    binary main_v4 main_call2_v2 main_call2_v3 (addi : (⟨S8x1024x1, .i32⟩ : BufTy).Contents (Elt F) → (⟨S8x1024x1, .i32⟩ : BufTy).Contents (Elt F) → (⟨S8x1024x1, .i32⟩ : BufTy).Contents (Elt F)),
    ternary main_call2_v1 main_call2_v3 main_v4 main_call2_v4 (select : (⟨S8x1024x1, .i1⟩ : BufTy).Contents (Elt F) → (⟨S8x1024x1, .i32⟩ : BufTy).Contents (Elt F) → (⟨S8x1024x1, .i32⟩ : BufTy).Contents (Elt F) → (⟨S8x1024x1, .i32⟩ : BufTy).Contents (Elt F)),
    nullary main_call2_c_1 (constantI S1 32 4095#32),
    nullary main_call2_c_2 (constantI S_ 32 0#32),
    unary main_call2_c_2 main_call2_v5 ((broadcastInDim S8x1024x1 ![] bcast_S_S8x1024x1) : (⟨S_, .i32⟩ : BufTy).Contents (Elt F) → (⟨S8x1024x1, .i32⟩ : BufTy).Contents (Elt F)),
    binary main_call2_v4 main_call2_v5 main_call2_v6 ((cmpi .sge) : (⟨S8x1024x1, .i32⟩ : BufTy).Contents (Elt F) → (⟨S8x1024x1, .i32⟩ : BufTy).Contents (Elt F) → (⟨S8x1024x1, .i1⟩ : BufTy).Contents (Elt F)),
    unary main_call2_c_1 main_call2_v7 ((broadcastInDim S1x1x1 ![2] bcast_S1_S1x1x1_2) : (⟨S1, .i32⟩ : BufTy).Contents (Elt F) → (⟨S1x1x1, .i32⟩ : BufTy).Contents (Elt F)),
    unary main_call2_v7 main_call2_v8 ((broadcastInDim S8x1024x1 ![0, 1, 2] bcast_S1x1x1_S8x1024x1_0_1_2) : (⟨S1x1x1, .i32⟩ : BufTy).Contents (Elt F) → (⟨S8x1024x1, .i32⟩ : BufTy).Contents (Elt F)),
    binary main_call2_v4 main_call2_v8 main_call2_v9 ((cmpi .sle) : (⟨S8x1024x1, .i32⟩ : BufTy).Contents (Elt F) → (⟨S8x1024x1, .i32⟩ : BufTy).Contents (Elt F) → (⟨S8x1024x1, .i1⟩ : BufTy).Contents (Elt F)),
    binary main_call2_v6 main_call2_v9 main_call2_v10 (andi : (⟨S8x1024x1, .i1⟩ : BufTy).Contents (Elt F) → (⟨S8x1024x1, .i1⟩ : BufTy).Contents (Elt F) → (⟨S8x1024x1, .i1⟩ : BufTy).Contents (Elt F)),
    nullary main_call2_c_3 (constantI S_ 1 1#1),
    binary main_call2_v10 main_call2_c_3 main_call2_v11 ((fun x v => Host.reduce IntOp.andi x v reducesTo_S8x1024x1_S8x1024_d2 h_S_) : (⟨S8x1024x1, .i1⟩ : BufTy).Contents (Elt F) → (⟨S_, .i1⟩ : BufTy).Contents (Elt F) → (⟨S8x1024, .i1⟩ : BufTy).Contents (Elt F)),
    binary main_arg0 main_call2_v4 main_call2_v12 ((fun x i => Host.gather gather_S8x4096x3_S8x1024x1_S8x1024x3_2_1_0_0_1_2_113 x i) : (⟨S8x4096x3, .f32⟩ : BufTy).Contents (Elt F) → (⟨S8x1024x1, .i32⟩ : BufTy).Contents (Elt F) → (⟨S8x1024x3, .f32⟩ : BufTy).Contents (Elt F)),
    unary main_call2_v11 main_call2_v13 ((broadcastInDim S8x1024x3 ![0, 1] bcast_S8x1024_S8x1024x3_0_1) : (⟨S8x1024, .i1⟩ : BufTy).Contents (Elt F) → (⟨S8x1024x3, .i1⟩ : BufTy).Contents (Elt F)),
    nullary main_call2_cst (constant S_ .f32 0x7FC00000#32),
    unary main_call2_cst main_call2_v14 ((broadcastInDim S8x1024x3 ![] bcast_S_S8x1024x3) : (⟨S_, .f32⟩ : BufTy).Contents (Elt F) → (⟨S8x1024x3, .f32⟩ : BufTy).Contents (Elt F)),
    ternary main_call2_v13 main_call2_v12 main_call2_v14 main_v5 (select : (⟨S8x1024x3, .i1⟩ : BufTy).Contents (Elt F) → (⟨S8x1024x3, .f32⟩ : BufTy).Contents (Elt F) → (⟨S8x1024x3, .f32⟩ : BufTy).Contents (Elt F) → (⟨S8x1024x3, .f32⟩ : BufTy).Contents (Elt F)) ]

theorem preOps_sub : (preOps : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., nullary_bufs_sub .., unary_bufs_sub .., unary_bufs_sub .., unary_bufs_sub .., unary_bufs_sub .., unary_bufs_sub .., unary_bufs_sub ..⟩
theorem pickOps_sub : (pickOps : List (HloOp τ sig (Elt F))).Forall fun op => op.bufs ⊆ tcRefs τ sig :=
  ⟨nullary_bufs_sub .., binary_bufs_sub .., nullary_bufs_sub .., binary_bufs_sub .., nullary_bufs_sub .., binary_bufs_sub .., ternary_bufs_sub .., unary_bufs_sub .., unary_bufs_sub .., ternary_bufs_sub .., unary_bufs_sub ..⟩
theorem takeOps_sub : (takeOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem distOps_sub : (distOps : List (HloOp τ sig (Elt F))).Forall fun op => op.bufs ⊆ tcRefs τ sig :=
  ⟨unary_bufs_sub .., binary_bufs_sub .., binary_bufs_sub .., nullary_bufs_sub .., binary_bufs_sub .., binary_bufs_sub ..⟩
theorem argOps_sub : (argOps : List (HloOp τ sig (Elt F))).Forall fun op => op.bufs ⊆ tcRefs τ sig :=
  ⟨nullary_bufs_sub .., nullary_bufs_sub .., nullary_bufs_sub .., quaternary_bufs_sub .., quaternary_bufs_sub ..⟩
theorem backOps_sub : (backOps : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub ..⟩
theorem postOps_sub : (postOps : List (HloOp τ sig (Elt F))).Forall fun op => op.bufs ⊆ tcRefs τ sig :=
  unary_bufs_sub ..
theorem lookOps_sub : (lookOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The operations of the condition: the bound, and the comparison with it. -/
abbrev condOps : List (HloOp τ sig (Elt F)) :=
  [ nullary main_while0c_c_8 (constantI S_ 32 1024#32),
    binary main_v3_1 main_while0c_c_8 main_while0c_v6 (cmpi .slt : (⟨S_, .i32⟩ : BufTy).Contents (Elt F) → (⟨S_, .i32⟩ : BufTy).Contents (Elt F) → (⟨S_, .i1⟩ : BufTy).Contents (Elt F)) ]

/-- The stretches before the loop, of its body, and after it. -/
abbrev preI : List (List (HloOp τ sig (Elt F))) := [preOps]
abbrev bodyI : List (List (HloOp τ sig (Elt F))) := [pickOps, takeOps, distOps, argOps, backOps]
abbrev postI : List (List (HloOp τ sig (Elt F))) := [postOps, lookOps]

theorem preI_plain : Plain (preI (F := F)) := .cons preOps_sub .nil
theorem bodyI_plain : Plain (bodyI (F := F)) :=
  .cons pickOps_sub (.cons takeOps_sub (.cons distOps_sub (.cons argOps_sub (.cons backOps_sub .nil))))
theorem postI_plain : Plain (postI (F := F)) := .cons postOps_sub (.cons lookOps_sub .nil)

/-! ## The program is those stretches -/

theorem take_eq : fn_take_along_axis.body (F := F) (.of main_v3_0) (.of main_while0b_v13) main_while0b_call0 = seq takeOps := by
  chain_rfl

theorem look_eq : fn_take_along_axis_0.body (F := F) (.of main_arg0) (.of main_v4) main_call2 = seq lookOps := by
  chain_rfl

theorem arg_eq : fn_argmax.body (F := F) (.of main_while0b_v19) main_while0b_call1 = seq argOps := by
  chain_rfl

theorem main_chain (c : Dev nD) : main (F := F) c
    = Pipeline.chain ((preI.map fun ops => (seq ops : Prog _ PUnit)) ++ HostLoop.enter 0 :: postI.map fun ops => (seq ops : Prog _ PUnit)) := by
  show main (F := F) c = Pipeline.chain [seq preOps, HostLoop.enter 0, seq postOps, seq lookOps]
  rw [← look_eq]
  rewrite [chain_seq_cons, Pipeline.chain_cons, chain_seq_cons, Pipeline.chain_cons]
  chain_rfl

theorem body_chain : main_while0_body (F := F) = Pipeline.chain (bodyI.map fun ops => (seq ops : Prog _ PUnit)) := by
  show main_while0_body (F := F) = Pipeline.chain [seq pickOps, seq takeOps, seq distOps, seq argOps, seq backOps]
  rw [← take_eq, ← arg_eq]
  rewrite [chain_seq_cons, Pipeline.chain_cons, chain_seq_cons, Pipeline.chain_cons, chain_seq_cons]
  chain_rfl

/-! ## The counter -/

/-- A buffer that none of a list's operations writes. -/
theorem keep {ops : List (HloOp τ sig (Elt F))} {b : Ref sig .tc} (h : ∀ op ∈ ops, Proc.devRef .tc b ∉ op.writes)
    (X : Valuation τ sig (Elt F)) : after ops X b = X b :=
  after_of_forall_not_mem ops X h

theorem counter_cond : ∀ op ∈ (condOps (F := F)), Proc.devRef .tc main_v3_1 ∉ op.writes := by
  intro op hop; fin_cases hop <;> exact fun h => devRef_ne_of_ne (by decide) (Finset.mem_singleton.mp h)
theorem counter_pick : ∀ op ∈ (pickOps (F := F)), Proc.devRef .tc main_v3_1 ∉ op.writes := by
  intro op hop; fin_cases hop <;> exact fun h => devRef_ne_of_ne (by decide) (Finset.mem_singleton.mp h)
theorem counter_take : ∀ op ∈ (takeOps (F := F)), Proc.devRef .tc main_v3_1 ∉ op.writes := by
  intro op hop; fin_cases hop <;> exact fun h => devRef_ne_of_ne (by decide) (Finset.mem_singleton.mp h)
theorem counter_dist : ∀ op ∈ (distOps (F := F)), Proc.devRef .tc main_v3_1 ∉ op.writes := by
  intro op hop; fin_cases hop <;> exact fun h => devRef_ne_of_ne (by decide) (Finset.mem_singleton.mp h)
theorem counter_arg : ∀ op ∈ (argOps (F := F)), Proc.devRef .tc main_v3_1 ∉ op.writes := by
  intro op hop; fin_cases hop <;> exact fun h => devRef_ne_of_ne (by decide) (Finset.mem_singleton.mp h)

/-- The end of a trip adds one to the counter. -/
theorem counter_back (X : Valuation τ sig (Elt F)) :
    after backOps X main_v3_1 = addi (X main_v3_1) (constantI S_ 32 1#32) := by
  rw [backOps, after_cons, after_cons, after_cons, after_cons, after_cons, after_cons, after_cons, after_nil]
  rw [unary_result_ne _ _ _ _ _ _ (by decide), unary_result_ne _ _ _ _ _ _ (by decide), unary_result_ne _ _ _ _ _ _ (by decide),
    unary_result_ne _ _ _ _ _ _ (by decide), unary_result, binary_result, nullary_result_ne _ _ _ _ (by decide), nullary_result]
  rfl

/-- The counter is 0 at the loop's entry. -/
theorem counter_pre (X : Valuation τ sig (Elt F)) : after preOps X main_v3_1 = fun _ => (0#32 : BitVec 32) := by
  after_results
  rfl

/-- Before trip `k` the counter is `k`. -/
theorem counter (m : (ℓ : Loc nD τ sig) → Buf (Elt F) ℓ) (c : Dev nD) :
    ∀ k, atTrip condOps bodyI (entryContents preI m) k c main_v3_1 = fun _ => (BitVec.ofNat 32 k : BitVec 32)
  | 0 => by
    rw [atTrip_zero]
    exact counter_pre _
  | k + 1 => by
    rw [atTrip_succ]
    simp only [afterL_cons, afterL_nil]
    rw [counter_back, keep counter_arg, keep counter_dist, keep counter_take, keep counter_pick, keep counter_cond, counter m c k]
    funext i
    show BitVec.ofNat 32 k + 1#32 = BitVec.ofNat 32 (k + 1)
    rw [BitVec.ofNat_add]

/-- The comparison holds before trips 0 to 1023, and fails after them. -/
theorem below_iff (k : ℕ) (h : k ≤ 1024) : IntOp.cmpi .slt (BitVec.ofNat 32 k) 1024#32 = 1#1 ↔ k < 1024 := by
  have h1 : (BitVec.ofNat 32 k).toInt = k := by
    rw [BitVec.toInt_eq_toNat_of_lt (by rw [BitVec.toNat_ofNat]; omega), BitVec.toNat_ofNat]; omega
  have h2 : (1024#32 : BitVec 32).toInt = 1024 := by decide
  show BitVec.ofBool ((BitVec.ofNat 32 k).slt 1024#32) = 1#1 ↔ _
  rw [BitVec.slt_eq_decide, h1, h2]
  by_cases hk : k < 1024
  · simp [hk]
  · simp [hk]

/-! ## The condition, and the run -/

-- a rule stated for any thread is applied at the TensorCore's
set_option backward.isDefEq.respectTransparency.types false in
theorem cond_spec (m : (ℓ : Loc nD τ sig) → Buf (Elt F) ℓ) :
    CondSpec (pcfgs (F := F)) defs₀ loops main_while0_cond condOps bodyI (entryContents preI m) 1024 := by
  intro k hk c bd
  have hctr := counter m c k
  unfold main_while0_cond
  rw [wp_bind]
  iintro ⟨Hb, Hh⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps bodyI (entryContents preI m) k c) main_v3_1 HostLoop.idx0)
        (HloOp.result _ (atTrip condOps bodyI (entryContents preI m) k c) main_while0c_c_8 HostLoop.idx0) = 1#1) (k < 1024)
    rw [nullary_result_ne _ _ _ _ (by decide), nullary_result, hctr]
    exact below_iff k hk
  isplitl [Hb]; · iexact Hb
  rw [after_cons, after_cons, after_nil]
  iexact Hh

/-- What every buffer holds before trip `k`. -/
abbrev tripV (m : (ℓ : Loc nD τ sig) → Buf (Elt F) ℓ) (k : ℕ) (c : Dev nD) : Valuation τ sig (Elt F) :=
  atTrip condOps bodyI (entryContents preI m) k c

/-- The run: every buffer ends at the fold of the stretches. -/
theorem run [∀ e, Nonempty (Elt F e)] (m : (ℓ : Loc nD τ sig) → Buf (Elt F) ℓ) (ρ : Dev nD → PrngReg) :
    θ_run defs (onTc (τ := τ) (main (F := F))) ⟨m, fun _ => 0, ρ⟩
      (fun r => ∀ (c : Dev nD) (b : Ref sig .tc), r.2.mem (c.tc.loc b)
        = after lookOps (after postOps (after condOps (tripV m 1024 c))) (Proc.devRef .tc b)) := by
  refine (θ_run _ _ _).mono ?_ (run_loop pcfgs defs₀ loops main 0 main_while0_cond main_while0_body rfl preI bodyI postI condOps preI_plain
    bodyI_plain postI_plain main_chain body_chain 1024 m ρ (cond_spec m))
  intro r h c b
  rw [h c b (by revert b; decide)]
  rfl

end Cert.Proof.FpsRef

end
-- ==== Proof.FpsOps.lean ====
/-
  The operations of the reference of farthest point sampling, each read at an index: the lookup of one point of each cloud by a
  batched gather, the scatter that writes one column, the index of the first greatest entry of a row.
-/
module

public import proofs.«01_k».proof.Proof.FpsModel
public import Idealize.ShloMosaic.Lib.ValueIdx
public import Idealize.ShloMosaic.Lib.Routing.OpsSet
public import Idealize.ShloMosaic.Lib.ReduceAll
public import Idealize.ShloMosaic.PureOps.Ideal.Laws
public import Idealize.ShloMosaic.PureOps

@[expose] public section

noncomputable section

namespace Cert.Proof.FpsRef

open Idealize.ShloMosaic
open Idealize.ShloMosaic.ValueIdx (ix1 ix2 ix3 eq_ix2 select_apply)
open Cert.Proof.Fps

/-! ## The batched gather -/

section Gather
variable {α : Type}

/-- The dimension numbers of a lookup of `W` points of each cloud: the clouds are the batch, the points are looked up, a point's
    three coordinates are the slice. -/
abbrev cloudDims (W : ℕ) (wf : GatherDims.WF ⟨3, ![8, 4096, 3]⟩ ⟨3, ![8, W, 1]⟩ ⟨3, ![8, W, 3]⟩ [2] [1] [0] [1] [0] 2 ![1, 1, 3]) :
    GatherDims ⟨3, ![8, 4096, 3]⟩ ⟨3, ![8, W, 1]⟩ ⟨3, ![8, W, 3]⟩ where
  offsetDims := [2]
  collapsedSliceDims := [1]
  operandBatchingDims := [0]
  startIndicesBatchingDims := [0]
  startIndexMap := [1]
  indexVectorDim := 2
  sliceSizes := ![1, 1, 3]
  wf := wf

/-- The lookup at an index: the point of cloud `b` that the word at `(b, j)` names. -/
theorem lookup_apply {W : ℕ} (wf : GatherDims.WF ⟨3, ![8, 4096, 3]⟩ ⟨3, ![8, W, 1]⟩ ⟨3, ![8, W, 3]⟩ [2] [1] [0] [1] [0] 2 ![1, 1, 3])
    (x : (⟨3, ![8, 4096, 3]⟩ : Shape).Idx → α) (q : IVec ⟨3, ![8, W, 1]⟩ 32) (b : Fin 8) (j : Fin W) (a : Fin 3) (f : Fin 4096)
    (hq : q (ix3 b j 0) = wordOf f) :
    Host.gather (cloudDims W wf) x q (ix3 b j a) = x (ix3 b f a) := by
  unfold Host.gather
  refine congrArg x (funext fun p => Fin.ext ?_)
  show (cloudDims W wf).start (ix3 b j a) q p + (cloudDims W wf).batchCoord (ix3 b j a) p + (cloudDims W wf).offCoord (ix3 b j a) p = _
  have h012 : p = 0 ∨ p = 1 ∨ p = 2 := by
    match p with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (List.mem_singleton.mpr rfl), Nat.zero_add, Nat.add_zero]
    rfl
  · rw [GatherDims.batchCoord_eq_zero _ _ _ (fun h => by simp at h),
      GatherDims.offCoord_eq_zero _ _ _ (fun h => ((GatherDims.mem_sKept _ _).mp h).1 (List.mem_singleton.mpr rfl))]
    unfold GatherDims.start
    rw [dif_pos (show (1 : Fin 3) ∈ (cloudDims W wf).startIndexMap from List.mem_singleton.mpr rfl)]
    have e : (cloudDims W wf).siIdx (ix3 b j a) ⟨List.idxOf (1 : Fin 3) (cloudDims W wf).startIndexMap,
        List.idxOf_lt_length_iff.2 (List.mem_singleton.mpr rfl)⟩ = ix3 b j 0 := by
      funext r
      refine Fin.ext ?_
      match r with
      | ⟨0, _⟩ => rfl
      | ⟨1, _⟩ => rfl
      | ⟨2, _⟩ => rfl
    simp only [Nat.add_zero]
    rw [e, hq, wordOf_toInt]
    show min f.val 4095 = f.val
    omega
  · rw [GatherDims.batchCoord_eq_zero _ _ _ (fun h => by simp at h)]
    unfold GatherDims.start GatherDims.offCoord
    rw [dif_neg (fun h => by simp at h), dif_pos ((GatherDims.mem_sKept _ _).mpr ⟨fun h => by simp at h, fun h => by simp at h⟩)]
    simp only [Nat.zero_add]
    rfl

end Gather

/-! ## The words of places -/

theorem wordOf_not_neg (f : Fin 4096) : IntOp.cmpi .slt (wordOf f) 0#32 = 0#1 := by
  show BitVec.ofBool ((wordOf f).slt 0#32) = 0#1
  rw [BitVec.slt_eq_decide, wordOf_toInt, show (0#32 : BitVec 32).toInt = 0 by decide, decide_eq_false (by omega)]
  rfl

theorem wordOf_ge (f : Fin 4096) : IntOp.cmpi .sge (wordOf f) 0#32 = 1#1 := by
  show BitVec.ofBool ((0#32 : BitVec 32).sle (wordOf f)) = 1#1
  rw [BitVec.sle_eq_decide, wordOf_toInt]
  simp

theorem wordOf_le (f : Fin 4096) : IntOp.cmpi .sle (wordOf f) 4095#32 = 1#1 := by
  show BitVec.ofBool ((wordOf f).sle 4095#32) = 1#1
  rw [BitVec.sle_eq_decide, wordOf_toInt, show (4095#32 : BitVec 32).toInt = 4095 by decide]
  have := f.isLt
  rw [decide_eq_true (by omega)]
  rfl

/-! ## The scatter of one column -/

section Scatter
variable {α : Type}

/-- The dimension numbers of writing one column of an 8 by 1024 array. -/
abbrev columnDims (wf : ScatterDims.WF ⟨2, ![8, 1024]⟩ ⟨1, ![1]⟩ ⟨1, ![8]⟩ [0] [1] [1] 0) :
    ScatterDims ⟨2, ![8, 1024]⟩ ⟨1, ![1]⟩ ⟨1, ![8]⟩ where
  updateWindowDims := [0]
  insertedWindowDims := [1]
  scatterDimsToOperandDims := [1]
  indexVectorDim := 0
  wf := wf

theorem column_lands (wf : ScatterDims.WF ⟨2, ![8, 1024]⟩ ⟨1, ![1]⟩ ⟨1, ![8]⟩ [0] [1] [1] 0) (q : IVec ⟨1, ![1]⟩ 32)
    (r b : Fin 8) (e : Fin 1024) :
    (columnDims wf).resultIdx? (ix1 r) q = some (ix2 b e) ↔ r = b ∧ (q (ix1 0)).toInt = e.val := by
  rw [Routing.resultIdx?_eq_some]
  have h0 : (columnDims wf).start (ix1 r) q 0 + ((columnDims wf).window (ix1 r) 0 : Int) = r.val := by
    unfold ScatterDims.start ScatterDims.window
    rw [dif_neg (fun h => by simp at h), dif_pos (show (0 : Fin 2) ∈ (columnDims wf).sKept by simp [ScatterDims.sKept, Shape.kept])]
    rw [Int.zero_add]
    rfl
  have h1 : (columnDims wf).start (ix1 r) q 1 + ((columnDims wf).window (ix1 r) 1 : Int) = (q (ix1 0)).toInt := by
    unfold ScatterDims.start ScatterDims.window
    rw [dif_pos (show (1 : Fin 2) ∈ (columnDims wf).scatterDimsToOperandDims from List.mem_singleton.mpr rfl),
      dif_neg (show ¬ (1 : Fin 2) ∈ (columnDims wf).sKept by simp [ScatterDims.sKept, Shape.kept])]
    have e' : (columnDims wf).siIdx (ix1 r) ⟨List.idxOf (1 : Fin 2) (columnDims wf).scatterDimsToOperandDims,
        List.idxOf_lt_length_iff.2 (List.mem_singleton.mpr rfl)⟩ = ix1 0 := by
      funext p
      refine Fin.ext ?_
      match p with
      | ⟨0, _⟩ => rfl
    rw [e']
    simp
  constructor
  · intro h
    have a := h 0
    have c := h 1
    rw [h0] at a
    rw [h1] at c
    exact ⟨Fin.ext (by exact_mod_cast a), c⟩
  · rintro ⟨rfl, h⟩ p
    match p with
    | ⟨0, _⟩ => exact h0
    | ⟨1, _⟩ => exact h1.trans h

/-- The column written holds the update, the others what they held. -/
theorem column_apply (wf : ScatterDims.WF ⟨2, ![8, 1024]⟩ ⟨1, ![1]⟩ ⟨1, ![8]⟩ [0] [1] [1] 0) (x : (⟨2, ![8, 1024]⟩ : Shape).Idx → α)
    (q : IVec ⟨1, ![1]⟩ 32) (u : (⟨1, ![8]⟩ : Shape).Idx → α) (b : Fin 8) (e : Fin 1024) :
    Host.scatter (columnDims wf) (fun _ b => b) x q u (ix2 b e) = if (q (ix1 0)).toInt = e.val then u (ix1 b) else x (ix2 b e) := by
  have one (k : (⟨1, ![8]⟩ : Shape).Idx) : k = ix1 (k 0) := by
    funext p
    match p with
    | ⟨0, _⟩ => rfl
  split
  · next h =>
    refine Routing.scatter_set_hit _ _ _ _ _ _ (fun k hk => ?_) (ix1 b) ((column_lands wf q b b e).2 ⟨rfl, h⟩)
    rw [one k] at hk ⊢
    exact congrArg (fun r => u (ix1 r)) ((column_lands wf q _ b e).1 hk).1
  · next h =>
    refine Routing.scatter_set_miss _ _ _ _ _ fun k hk => ?_
    rw [one k] at hk
    exact h ((column_lands wf q _ b e).1 hk).2

end Scatter

/-! ## The first greatest entry of a row -/

/-- The greater value with its index; of equal values the lesser index. -/
def greater (a b : EReal × BitVec 32) : EReal × BitVec 32 :=
  let v := IntOp.ori (Ideal.cmp .ogt a.1 b.1) (Ideal.cmp .une a.1 a.1)
  (Scalar.select v a.1 b.1, Scalar.select (IntOp.ori v (IntOp.andi (Ideal.cmp .oeq a.1 b.1) (IntOp.cmpi .slt a.2 b.2))) a.2 b.2)

theorem greater_of_lt {a b : EReal × BitVec 32} (h : b.1 < a.1) : greater a b = a := by
  have h1 : Ideal.cmp .ogt a.1 b.1 = 1#1 := by simp [Ideal.cmp, h]
  have h2 : Ideal.cmp .une a.1 a.1 = 0#1 := by simp [Ideal.cmp]
  have h3 : Ideal.cmp .oeq a.1 b.1 = 0#1 := by simp [Ideal.cmp, h.ne']
  unfold greater
  rw [h1, h2, h3]
  generalize IntOp.cmpi .slt a.2 b.2 = c
  show (Scalar.select (1#1 ||| 0#1) a.1 b.1, Scalar.select ((1#1 ||| 0#1) ||| (0#1 &&& c)) a.2 b.2) = a
  rw [show (0#1 &&& c) = 0#1 by revert c; decide]
  rfl

theorem greater_of_gt {a b : EReal × BitVec 32} (h : a.1 < b.1) : greater a b = b := by
  have h1 : Ideal.cmp .ogt a.1 b.1 = 0#1 := by simp [Ideal.cmp, not_lt.2 h.le]
  have h2 : Ideal.cmp .une a.1 a.1 = 0#1 := by simp [Ideal.cmp]
  have h3 : Ideal.cmp .oeq a.1 b.1 = 0#1 := by simp [Ideal.cmp, h.ne]
  unfold greater
  rw [h1, h2, h3]
  generalize IntOp.cmpi .slt a.2 b.2 = c
  show (Scalar.select (0#1 ||| 0#1) a.1 b.1, Scalar.select ((0#1 ||| 0#1) ||| (0#1 &&& c)) a.2 b.2) = b
  rw [show (0#1 &&& c) = 0#1 by revert c; decide]
  rfl

theorem greater_of_eq {a b : EReal × BitVec 32} (h : a.1 = b.1) : greater a b = (b.1, if a.2.slt b.2 then a.2 else b.2) := by
  have h1 : Ideal.cmp .ogt a.1 b.1 = 0#1 := by simp [Ideal.cmp, h]
  have h2 : Ideal.cmp .une a.1 a.1 = 0#1 := by simp [Ideal.cmp]
  have h3 : Ideal.cmp .oeq a.1 b.1 = 1#1 := by simp [Ideal.cmp, h]
  unfold greater
  rw [h1, h2, h3]
  show (b.1, Scalar.select ((0#1 ||| 0#1) ||| (1#1 &&& BitVec.ofBool (a.2.slt b.2))) a.2 b.2) = _
  cases a.2.slt b.2 <;> rfl

theorem word_slt (f e : Fin 4096) : (wordOf f).slt (wordOf e) = decide (f < e) := by
  rw [BitVec.slt_eq_decide, wordOf_toInt, wordOf_toInt]
  exact decide_eq_decide.2 (by rw [Fin.lt_def]; exact Int.ofNat_lt)

/-- The fold over places in increasing order, from an earlier place: it ends at the first place at which `d` is greatest. -/
theorem fold_greater (d : Fin 4096 → EReal) : ∀ (l : List (Fin 4096)) (f : Fin 4096), l.Pairwise (· < ·) → (∀ e ∈ l, f < e) →
    ∃ g, (l.map fun e => (d e, wordOf e)).foldl greater (d f, wordOf f) = (d g, wordOf g)
      ∧ ∀ e, e = f ∨ e ∈ l → d e ≤ d g ∧ (d e = d g → g ≤ e)
  | [], f, _, _ => ⟨f, rfl, fun e h => by
      have : e = f := by simpa using h
      subst this
      exact ⟨le_rfl, fun _ => le_rfl⟩⟩
  | a :: l, f, hp, hf => by
    have hfa : f < a := hf a (List.mem_cons_self ..)
    have hl := List.pairwise_cons.1 hp
    rw [List.map_cons, List.foldl_cons]
    rcases lt_trichotomy (d f) (d a) with h | h | h
    · rw [greater_of_gt (show (d f, wordOf f).1 < (d a, wordOf a).1 from h)]
      obtain ⟨g, e1, e2⟩ := fold_greater d l a hl.2 hl.1
      refine ⟨g, e1, fun e he => ?_⟩
      have ha := e2 a (Or.inl rfl)
      rcases he with rfl | he
      · exact ⟨h.le.trans ha.1, fun q => absurd (q ▸ ha.1) (not_le.2 h)⟩
      · exact e2 e (by simpa using he)
    · rw [greater_of_eq (show (d f, wordOf f).1 = (d a, wordOf a).1 from h), word_slt, decide_eq_true hfa, if_pos rfl]
      show ∃ g, List.foldl greater (d a, wordOf f) _ = _ ∧ _
      rw [← h]
      obtain ⟨g, e1, e2⟩ := fold_greater d l f hl.2 (fun e he => hf e (List.mem_cons_of_mem _ he))
      refine ⟨g, e1, fun e he => ?_⟩
      have h0 := e2 f (Or.inl rfl)
      rcases he with rfl | he
      · exact h0
      · rcases List.mem_cons.1 he with rfl | he
        · rw [← h]
          exact ⟨h0.1, fun q => (h0.2 q).trans hfa.le⟩
        · exact e2 e (Or.inr he)
    · rw [greater_of_lt (show (d a, wordOf a).1 < (d f, wordOf f).1 from h)]
      obtain ⟨g, e1, e2⟩ := fold_greater d l f hl.2 (fun e he => hf e (List.mem_cons_of_mem _ he))
      refine ⟨g, e1, fun e he => ?_⟩
      have h0 := e2 f (Or.inl rfl)
      rcases he with rfl | he
      · exact h0
      · rcases List.mem_cons.1 he with rfl | he
        · exact ⟨h.le.trans h0.1, fun q => absurd (q ▸ h0.1) (not_le.2 h)⟩
        · exact e2 e (Or.inr he)

/-- The fold over all the places, from the least value and index 0. -/
theorem fold_first (d : Fin 4096 → EReal) (l : List (Fin 4096)) (hp : l.Pairwise (· < ·)) (hm : ∀ e, e ∈ l) :
    (l.map fun e => (d e, wordOf e)).foldl greater (⊥, 0#32) = (d (first d), wordOf (first d)) := by
  match l, hp, hm with
  | [], _, hm => exact absurd (hm 0) (List.not_mem_nil)
  | a :: l, hp, hm =>
    have hl := List.pairwise_cons.1 hp
    have ha : a = 0 := by
      rcases List.mem_cons.1 (hm 0) with h | h
      · exact h.symm
      · exact absurd (hl.1 0 h) (by simp)
    have e0 : greater (⊥, 0#32) (d a, wordOf a) = (d a, wordOf a) := by
      subst ha
      rcases eq_or_lt_of_le (bot_le : (⊥ : EReal) ≤ d 0) with h | h
      · rw [greater_of_eq (show ((⊥ : EReal), 0#32).1 = (d 0, wordOf 0).1 from h)]
        rfl
      · exact greater_of_gt (show ((⊥ : EReal), 0#32).1 < (d 0, wordOf 0).1 from h)
    rw [List.map_cons, List.foldl_cons, e0]
    obtain ⟨g, e1, e2⟩ := fold_greater d l a hl.2 hl.1
    have hg : IsFirst d g := ⟨fun n => (e2 n (by simpa using hm n)).1, fun n => (e2 n (by simpa using hm n)).2⟩
    rw [e1, hg.eq]

/-- The index of the first greatest entry of row `b`, by a fold over the row's entries in order. -/
theorem argmax_apply (h' : (⟨2, ![8, 4096]⟩ : Shape).ReducesTo [1] ⟨1, ![8]⟩) (h : (⟨2, ![8, 4096]⟩ : Shape).Reduces [1] ⟨1, ![8]⟩)
    (f : EReal × BitVec 32 → EReal × BitVec 32 → EReal × BitVec 32) (hf : f = greater)
    {u : Shape} (hu : 0 < u.numel) (x : FVec Ideal ⟨2, ![8, 4096]⟩ .f32) (y : IVec ⟨2, ![8, 4096]⟩ 32) (hy : ∀ b e, y (ix2 b e) = wordOf e)
    (ix : FVec Ideal u .f32) (iy : IVec u 32) (hix : ix (Shape.Idx.first hu) = (⊥ : EReal)) (hiy : iy (Shape.Idx.first hu) = 0#32) (b : Fin 8) :
    (Host.argReduce f x y ix iy h' hu (ix1 b)).2 = wordOf (first fun e => x (ix2 b e)) := by
  subst hf
  have hlift (e : Fin 4096) : h.lift (ix1 b) e = ix2 b e := by
    funext q
    match q with
    | ⟨0, _⟩ => rfl
    | ⟨1, _⟩ => rfl
  have hrow (i : (⟨2, ![8, 4096]⟩ : Shape).Idx) (hi : h'.drop i = ix1 b) : ∃ k : Fin 4096, i = ix2 b k :=
    ⟨i 1, ((congrArg (fun r => h.lift r (i 1)) (show h.drop i = ix1 b from hi)).symm.trans (h.lift_drop i)).symm.trans (hlift (i 1))⟩
  have hdrop (e : Fin 4096) : h'.drop (ix2 b e) = ix1 b :=
    (congrArg h.drop (hlift e).symm).trans (h.drop_lift (ix1 b) e)
  rw [Ideal.argReduce_eq_reduce2, Host.reduce2_eq_foldl_fiber, hix, hiy]
  unfold Host.argReduceFiber
  have hmap : (((List.finRange (⟨2, ![8, 4096]⟩ : Shape).numel).filter
        fun n => h'.drop ((⟨2, ![8, 4096]⟩ : Shape).rowMajor.symm n) = ix1 b).map
        fun n => (x ((⟨2, ![8, 4096]⟩ : Shape).rowMajor.symm n), y ((⟨2, ![8, 4096]⟩ : Shape).rowMajor.symm n)))
      = (((List.finRange (⟨2, ![8, 4096]⟩ : Shape).numel).filter
        fun n => h'.drop ((⟨2, ![8, 4096]⟩ : Shape).rowMajor.symm n) = ix1 b).map
        fun n => ((⟨2, ![8, 4096]⟩ : Shape).rowMajor.symm n 1 : Fin 4096)).map fun e => ((x (ix2 b e) : EReal), wordOf e) := by
    refine Eq.trans ?_ (List.map_map (f := fun n => ((⟨2, ![8, 4096]⟩ : Shape).rowMajor.symm n 1 : Fin 4096))
      (g := fun e => ((x (ix2 b e) : EReal), wordOf e))).symm
    refine List.map_congr_left fun n hn => ?_
    have hn' := of_decide_eq_true (List.mem_filter.1 hn).2
    obtain ⟨k, e⟩ := hrow _ hn'
    show _ = (fun e : Fin 4096 => ((x (ix2 b e) : EReal), wordOf e)) ((⟨2, ![8, 4096]⟩ : Shape).rowMajor.symm n 1)
    rw [e, hy]
  rw [hmap]
  refine congrArg Prod.snd (fold_first (fun e => x (ix2 b e)) _ ?_ ?_)
  · refine List.pairwise_map.2 (((List.pairwise_lt_finRange _).filter _).imp_of_mem fun {n n'} hn hn' hlt => ?_)
    have val (n : Fin (⟨2, ![8, 4096]⟩ : Shape).numel) (h1 : h'.drop ((⟨2, ![8, 4096]⟩ : Shape).rowMajor.symm n) = ix1 b) :
        n.val = b.val * 4096 + ((⟨2, ![8, 4096]⟩ : Shape).rowMajor.symm n 1).val := by
      obtain ⟨k, hk⟩ := hrow _ h1
      have e := congrArg (fun i => ((⟨2, ![8, 4096]⟩ : Shape).rowMajor i).val) hk
      simp only [Equiv.apply_symm_apply] at e
      rw [Shape.rowMajor_val_two] at e
      rw [hk]
      exact e
    have e1 := val n (of_decide_eq_true (List.mem_filter.1 hn).2)
    have e2 := val n' (of_decide_eq_true (List.mem_filter.1 hn').2)
    have e3 : n.val < n'.val := hlt
    show ((⟨2, ![8, 4096]⟩ : Shape).rowMajor.symm n 1).val < ((⟨2, ![8, 4096]⟩ : Shape).rowMajor.symm n' 1).val
    omega
  · intro e
    refine List.mem_map.2 ⟨(⟨2, ![8, 4096]⟩ : Shape).rowMajor (ix2 b e), List.mem_filter.2 ⟨List.mem_finRange _, ?_⟩, ?_⟩
    · rw [Equiv.symm_apply_apply]
      exact decide_eq_true (hdrop e)
    · rw [Equiv.symm_apply_apply]

end Cert.Proof.FpsRef

end
-- ==== Proof.FpsRef.lean ====
/-
  The values of the reference of farthest point sampling: each stretch of the loop's body as a function of what the buffers hold,
  then the carried buffers before trip `k`, by induction, and the points looked up at the end.
-/
module

public import proofs.«01_k».proof.Proof.FpsRun
public import proofs.«01_k».proof.Proof.FpsOps
public import Idealize.ShloMosaic.Lib.Pointwise

@[expose] public section

noncomputable section

namespace Cert.Proof.FpsRef

open Cert.RefFpsIdeal Cert.RefFpsIdeal.Gen
open Idealize.ShloMosaic hiding ix1 ix2 ix3 eq_ix2
open Idealize.ShloMosaic.ValueIdx (ix1 ix2 ix3 eq_ix2 select_apply)
open Idealize.ShloMosaic.TcCoe Idealize.ShloMosaic.Tactic
open Idealize.SL Idealize.SL.Sem
open Idealize.ShloMosaic.StableHlo
open Cert.Proof.Fps

/-! ## The lookups -/

/-- A wrapped index is the index, when it names a place. -/
theorem wrap_eq {s : Shape} (q z w : IVec s 32) (hz : ∀ i, z i = 0#32) (g : s.Idx → Fin 4096) (hq : ∀ i, q i = wordOf (g i)) :
    select (cmpi .slt q z) (addi q w) q = q := by
  funext i
  show Scalar.select (IntOp.cmpi .slt (q i) (z i)) (IntOp.addi (q i) (w i)) (q i) = q i
  rw [hz, hq, wordOf_not_neg]
  rfl

/-- The places are in range. -/
theorem inside_one {s : Shape} (q z w : IVec s 32) (hz : ∀ i, z i = 0#32) (hw : ∀ i, w i = 4095#32) (g : s.Idx → Fin 4096)
    (hq : ∀ i, q i = wordOf (g i)) (i : s.Idx) : andi (cmpi .sge q z) (cmpi .sle q w) i = 1#1 := by
  show IntOp.andi (IntOp.cmpi .sge (q i) (z i)) (IntOp.cmpi .sle (q i) (w i)) = 1#1
  rw [hz, hw, hq, wordOf_ge, wordOf_le]
  rfl

/-- A lookup in range, at an index. -/
theorem look_apply {W : ℕ} (wf : GatherDims.WF ⟨3, ![8, 4096, 3]⟩ ⟨3, ![8, W, 1]⟩ ⟨3, ![8, W, 3]⟩ [2] [1] [0] [1] [0] 2 ![1, 1, 3])
    (x : FVec Ideal ⟨3, ![8, 4096, 3]⟩ .f32) (mask : IVec ⟨3, ![8, W, 3]⟩ 1) (hm : ∀ i, mask i = 1#1) (nan : FVec Ideal ⟨3, ![8, W, 3]⟩ .f32)
    (q' q : IVec ⟨3, ![8, W, 1]⟩ 32) (h : q' = q) (b : Fin 8) (j : Fin W) (a : Fin 3) (f : Fin 4096) (hq : q (ix3 b j 0) = wordOf f) :
    select mask (Host.gather (cloudDims W wf) x q') nan (ix3 b j a) = x (ix3 b f a) := by
  rw [select_apply, hm]
  subst h
  exact lookup_apply wf x q' b j a f hq

/-- The lookup of a trip: of each cloud the point that its word names. -/
theorem take_value (X : Valuation τ sig (Elt Ideal)) (g : Fin 8 → Fin 4096)
    (hq : ∀ i, (X main_while0b_v13 : IVec S8x1x1 32) i = wordOf (g (i 0))) (b : Fin 8) (a : Fin 3) :
    (after takeOps X main_while0b_v14 : FVec Ideal S8x1x3 .f32) (ix3 b 0 a) = (X main_v3_0 : FVec Ideal S8x4096x3 .f32) (ix3 b (g b) a) := by
  after_results
  have w := wrap_eq (X main_while0b_v13 : IVec S8x1x1 32) (broadcastInDim S8x1x1 ![] bcast_S_S8x1x1 (constantI S_ 32 0#32))
    (broadcastInDim S8x1x1 ![] bcast_S_S8x1x1 (constantI S_ 32 4096#32)) (fun _ => rfl) (fun i => g (i 0)) hq
  refine look_apply gather_S8x4096x3_S8x1x1_S8x1x3_2_1_0_0_1_2_113_wf _ _ (fun i => ?_) _ _ _ w b 0 a (g b) (hq _)
  refine Host.reduce_andi_one _ _ _ _ _ rfl fun i => ?_
  exact inside_one _ _ _ (fun _ => rfl) (fun _ => rfl) (fun i => g (i 0)) (fun i => (congrFun w i).trans (hq i)) i

/-- The last lookup: of each cloud the points that its words name. -/
theorem look_value (X : Valuation τ sig (Elt Ideal)) (g : Fin 8 → Fin 1024 → Fin 4096)
    (hq : ∀ i, (X main_v4 : IVec S8x1024x1 32) i = wordOf (g (i 0) (i 1))) (b : Fin 8) (j : Fin 1024) (a : Fin 3) :
    (after lookOps X main_v5 : FVec Ideal S8x1024x3 .f32) (ix3 b j a) = (X main_arg0 : FVec Ideal S8x4096x3 .f32) (ix3 b (g b j) a) := by
  after_results
  have w := wrap_eq (X main_v4 : IVec S8x1024x1 32) (broadcastInDim S8x1024x1 ![] bcast_S_S8x1024x1 (constantI S_ 32 0#32))
    (broadcastInDim S8x1024x1 ![] bcast_S_S8x1024x1 (constantI S_ 32 4096#32)) (fun _ => rfl) (fun i => g (i 0) (i 1)) hq
  refine look_apply gather_S8x4096x3_S8x1024x1_S8x1024x3_2_1_0_0_1_2_113_wf _ _ (fun i => ?_) _ _ _ w b j a (g b j) (hq _)
  refine Host.reduce_andi_one _ _ _ _ _ rfl fun i => ?_
  exact inside_one _ _ _ (fun _ => rfl) (fun _ => rfl) (fun i => g (i 0) (i 1)) (fun i => (congrFun w i).trans (hq i)) i

/-! ## The other stretches -/

/-- The coordinates of an array of clouds. -/
def cloudsOf (x : FVec Ideal S8x4096x3 .f32) : Points := fun b n a => x (ix3 b n a)

theorem pick_next (X : Valuation τ sig (Elt Ideal)) (k : ℕ) (h : (X main_v3_2 : IVec S_ 32) = fun _ => BitVec.ofNat 32 k) :
    (after pickOps X main_while0b_v6 : IVec S_ 32) = fun _ => BitVec.ofNat 32 (k + 1) := by
  after_results
  funext i
  show IntOp.addi ((X main_v3_2 : IVec S_ 32) i) 1#32 = BitVec.ofNat 32 (k + 1)
  rw [h]
  show BitVec.ofNat 32 k + 1#32 = BitVec.ofNat 32 (k + 1)
  rw [BitVec.ofNat_add]

theorem small_toInt {k : ℕ} (h : k < 1024) : (BitVec.ofNat 32 k).toInt = k := by
  rw [BitVec.toInt_eq_toNat_of_lt (by rw [BitVec.toNat_ofNat]; omega), BitVec.toNat_ofNat]; omega

theorem pick_column (X : Valuation τ sig (Elt Ideal)) (k : ℕ) (hk : k < 1024) (h : (X main_v3_2 : IVec S_ 32) = fun _ => BitVec.ofNat 32 k)
    (b : Fin 8) (e : Fin 1024) : (after pickOps X main_while0b_v12 : IVec S8x1024 32) (ix2 b e)
      = if e.val = k then (X main_v3_5 : IVec S8 32) (ix1 b) else (X main_v3_3 : IVec S8x1024 32) (ix2 b e) := by
  after_results
  refine (column_apply scatter_S8x1024_S1_S8_0_1_1_0_wf (X main_v3_3 : IVec S8x1024 32) _ (X main_v3_5 : IVec S8 32) b e).trans ?_
  have hs : IntOp.cmpi .slt (BitVec.ofNat 32 k) 0#32 = 0#1 := wordOf_not_neg ⟨k, by omega⟩
  refine if_congr ?_ rfl rfl
  show (Scalar.select (IntOp.cmpi .slt ((X main_v3_2 : IVec S_ 32) _) 0#32) _ ((X main_v3_2 : IVec S_ 32) _)).toInt = _ ↔ _
  rw [h, hs]
  show (BitVec.ofNat 32 k).toInt = _ ↔ _
  rw [small_toInt hk]
  exact ⟨fun q => by exact_mod_cast q.symm, fun q => by exact_mod_cast q.symm⟩

theorem pick_words (X : Valuation τ sig (Elt Ideal)) (g : Fin 8 → Fin 4096) (h : ∀ b, (X main_v3_5 : IVec S8 32) (ix1 b) = wordOf (g b)) (i : S8x1x1.Idx) :
    (after pickOps X main_while0b_v13 : IVec S8x1x1 32) i = wordOf (g (i 0)) := by
  after_results
  refine (broadcastInDim_apply _ _ _ i (ix1 (i 0)) (fun q => ?_)).trans (h _)
  match q with
  | ⟨0, _⟩ => rfl

theorem dist_value (X : Valuation τ sig (Elt Ideal)) (P : Points) (g : Fin 8 → Fin 4096)
    (hx : ∀ b n a, (X main_v3_0 : FVec Ideal S8x4096x3 .f32) (ix3 b n a) = P b n a)
    (hf : ∀ b a, (X main_while0b_v14 : FVec Ideal S8x1x3 .f32) (ix3 b 0 a) = P b (g b) a) (b : Fin 8) (n : Fin 4096) :
    (after distOps X main_while0b_v19 : FVec Ideal S8x4096 .f32) (ix2 b n)
      = @min EReal _ ((X main_v3_4 : FVec Ideal S8x4096 .f32) (ix2 b n)) (sq P b n (g b)) := by
  after_results
  refine congrArg (@min EReal _ _) ?_
  have hr : S8x4096x3.Reduces [2] S8x4096 := by decide
  refine (Ideal.hostReduceAdd_single reducesTo_S8x4096x3_S8x4096_d2 hr _ _ (ix2 b n)).trans ?_
  have term (a : Fin 3) : (mulf (subf (X main_v3_0 : FVec Ideal S8x4096x3 .f32) (broadcastInDim S8x4096x3 ![0, 1, 2] bcast_S8x1x3_S8x4096x3_0_1_2 (X main_while0b_v14 : FVec Ideal S8x1x3 .f32)))
      (subf (X main_v3_0 : FVec Ideal S8x4096x3 .f32) (broadcastInDim S8x4096x3 ![0, 1, 2] bcast_S8x1x3_S8x4096x3_0_1_2 (X main_while0b_v14 : FVec Ideal S8x1x3 .f32)))
      : FVec Ideal S8x4096x3 .f32) (hr.lift (ix2 b n) a) = (P b n a - P b (g b) a) * (P b n a - P b (g b) a) := by
    have e : hr.lift (ix2 b n) a = ix3 b n a := by
      funext q
      match q with
      | ⟨0, _⟩ => rfl
      | ⟨1, _⟩ => rfl
      | ⟨2, _⟩ => rfl
    have e2 : (broadcastInDim S8x4096x3 ![0, 1, 2] bcast_S8x1x3_S8x4096x3_0_1_2 (X main_while0b_v14 : FVec Ideal S8x1x3 .f32)) (ix3 b n a) = P b (g b) a := by
      refine (broadcastInDim_apply _ _ _ (ix3 b n a) (ix3 b 0 a) (fun q => ?_)).trans (hf b a)
      match q with
      | ⟨0, _⟩ => rfl
      | ⟨1, _⟩ => rfl
      | ⟨2, _⟩ => rfl
    have e3 : (subf (X main_v3_0 : FVec Ideal S8x4096x3 .f32) (broadcastInDim S8x4096x3 ![0, 1, 2] bcast_S8x1x3_S8x4096x3_0_1_2 (X main_while0b_v14 : FVec Ideal S8x1x3 .f32)) : FVec Ideal S8x4096x3 .f32) (ix3 b n a)
        = P b n a - P b (g b) a :=
      congrArg₂ (fun u v : EReal => u - v) (hx b n a) e2
    refine (congrArg _ e).trans ?_
    show (_ : EReal) * _ = _
    rw [e3]
  refine (congrArg₂ (fun u v : EReal => u + v) Ideal.ofBits_zero_f32 (Finset.sum_congr rfl fun a _ => term a)).trans ?_
  refine (zero_add _).trans ((Fin.sum_univ_three _).trans rfl)

theorem arg_value (X : Valuation τ sig (Elt Ideal)) (b : Fin 8) :
    (after argOps X main_while0b_v20 : IVec S8 32) (ix1 b) = wordOf (first fun e => (X main_while0b_v19 : FVec Ideal S8x4096 .f32) (ix2 b e)) := by
  after_results
  refine argmax_apply reducesTo_S8x4096_S8_d1 (by decide) _ rfl h_S_ _ _ (fun b e => ?_) _ _ ?_ rfl b
  · exact congrArg (BitVec.ofNat 32) rfl
  · show Ideal.ofBits .f32 0xFF800000#32 = ⊥
    simp [Ideal.ofBits, Ideal.ieee]

/-! ## Buffers that a stretch keeps -/

theorem cond_keeps_arg0 (X : Valuation τ sig (Elt Ideal)) : after condOps X main_arg0 = X main_arg0 := by
  after_results
theorem cond_keeps_v3_0 (X : Valuation τ sig (Elt Ideal)) : after condOps X main_v3_0 = X main_v3_0 := by
  after_results
theorem cond_keeps_v3_2 (X : Valuation τ sig (Elt Ideal)) : after condOps X main_v3_2 = X main_v3_2 := by
  after_results
theorem cond_keeps_v3_3 (X : Valuation τ sig (Elt Ideal)) : after condOps X main_v3_3 = X main_v3_3 := by
  after_results
theorem cond_keeps_v3_4 (X : Valuation τ sig (Elt Ideal)) : after condOps X main_v3_4 = X main_v3_4 := by
  after_results
theorem cond_keeps_v3_5 (X : Valuation τ sig (Elt Ideal)) : after condOps X main_v3_5 = X main_v3_5 := by
  after_results
theorem pick_keeps_arg0 (X : Valuation τ sig (Elt Ideal)) : after pickOps X main_arg0 = X main_arg0 := by
  after_results
theorem pick_keeps_v3_0 (X : Valuation τ sig (Elt Ideal)) : after pickOps X main_v3_0 = X main_v3_0 := by
  after_results
theorem pick_keeps_v3_4 (X : Valuation τ sig (Elt Ideal)) : after pickOps X main_v3_4 = X main_v3_4 := by
  after_results
theorem take_keeps_arg0 (X : Valuation τ sig (Elt Ideal)) : after takeOps X main_arg0 = X main_arg0 := by
  after_results
theorem take_keeps_v3_0 (X : Valuation τ sig (Elt Ideal)) : after takeOps X main_v3_0 = X main_v3_0 := by
  after_results
theorem take_keeps_v3_4 (X : Valuation τ sig (Elt Ideal)) : after takeOps X main_v3_4 = X main_v3_4 := by
  after_results
theorem take_keeps_while0b_v6 (X : Valuation τ sig (Elt Ideal)) : after takeOps X main_while0b_v6 = X main_while0b_v6 := by
  after_results
theorem take_keeps_while0b_v12 (X : Valuation τ sig (Elt Ideal)) : after takeOps X main_while0b_v12 = X main_while0b_v12 := by
  after_results
theorem dist_keeps_arg0 (X : Valuation τ sig (Elt Ideal)) : after distOps X main_arg0 = X main_arg0 := by
  after_results
theorem dist_keeps_v3_0 (X : Valuation τ sig (Elt Ideal)) : after distOps X main_v3_0 = X main_v3_0 := by
  after_results
theorem dist_keeps_while0b_v6 (X : Valuation τ sig (Elt Ideal)) : after distOps X main_while0b_v6 = X main_while0b_v6 := by
  after_results
theorem dist_keeps_while0b_v12 (X : Valuation τ sig (Elt Ideal)) : after distOps X main_while0b_v12 = X main_while0b_v12 := by
  after_results
theorem arg_keeps_arg0 (X : Valuation τ sig (Elt Ideal)) : after argOps X main_arg0 = X main_arg0 := by
  after_results
theorem arg_keeps_v3_0 (X : Valuation τ sig (Elt Ideal)) : after argOps X main_v3_0 = X main_v3_0 := by
  after_results
theorem arg_keeps_while0b_v6 (X : Valuation τ sig (Elt Ideal)) : after argOps X main_while0b_v6 = X main_while0b_v6 := by
  after_results
theorem arg_keeps_while0b_v12 (X : Valuation τ sig (Elt Ideal)) : after argOps X main_while0b_v12 = X main_while0b_v12 := by
  after_results
theorem arg_keeps_while0b_v19 (X : Valuation τ sig (Elt Ideal)) : after argOps X main_while0b_v19 = X main_while0b_v19 := by
  after_results
theorem back_keeps_arg0 (X : Valuation τ sig (Elt Ideal)) : after backOps X main_arg0 = X main_arg0 := by
  after_results
theorem back_keeps_v3_0 (X : Valuation τ sig (Elt Ideal)) : after backOps X main_v3_0 = X main_v3_0 := by
  after_results
theorem post_keeps_arg0 (X : Valuation τ sig (Elt Ideal)) : after postOps X main_arg0 = X main_arg0 := by
  after_results
theorem look_keeps_arg0 (X : Valuation τ sig (Elt Ideal)) : after lookOps X main_arg0 = X main_arg0 := by
  after_results
theorem pre_keeps_arg0 (X : Valuation τ sig (Elt Ideal)) : after preOps X main_arg0 = X main_arg0 := by
  after_results

/-! ## The end of a trip, the start, the layout for the last lookup -/

theorem back_index (X : Valuation τ sig (Elt Ideal)) : after backOps X main_v3_2 = X main_while0b_v6 := by
  after_results
  rfl
theorem back_columns (X : Valuation τ sig (Elt Ideal)) : after backOps X main_v3_3 = X main_while0b_v12 := by
  after_results
  rfl
theorem back_distances (X : Valuation τ sig (Elt Ideal)) : after backOps X main_v3_4 = X main_while0b_v19 := by
  after_results
  rfl
theorem back_words (X : Valuation τ sig (Elt Ideal)) : after backOps X main_v3_5 = X main_while0b_v20 := by
  after_results
  rfl
theorem post_words (X : Valuation τ sig (Elt Ideal)) (g : Fin 8 → Fin 1024 → Fin 4096)
    (h : ∀ b e, (X main_v3_3 : IVec S8x1024 32) (ix2 b e) = wordOf (g b e)) (i : S8x1024x1.Idx) :
    (after postOps X main_v4 : IVec S8x1024x1 32) i = wordOf (g (i 0) (i 1)) := by
  after_results
  refine (broadcastInDim_apply _ _ _ i (ix2 (i 0) (i 1)) (fun q => ?_)).trans (h _ _)
  match q with
  | ⟨0, _⟩ => rfl
  | ⟨1, _⟩ => rfl
theorem pre_points (X : Valuation τ sig (Elt Ideal)) : after preOps X main_v3_0 = X main_arg0 := by
  after_results
  rfl
theorem pre_index (X : Valuation τ sig (Elt Ideal)) : (after preOps X main_v3_2 : IVec S_ 32) = fun _ => BitVec.ofNat 32 0 := by
  after_results
  rfl
theorem pre_distances (X : Valuation τ sig (Elt Ideal)) (b : Fin 8) (n : Fin 4096) :
    (after preOps X main_v3_4 : FVec Ideal S8x4096 .f32) (ix2 b n) = Ideal.ofBits .f32 0x501502F9#32 := by
  after_results
  rfl
theorem pre_words (X : Valuation τ sig (Elt Ideal)) (b : Fin 8) : (after preOps X main_v3_5 : IVec S8 32) (ix1 b) = wordOf 0 := by
  after_results
  rfl

/-! ## The carried buffers before trip `k` -/

/-- What the carried buffers hold before trip `k`, of clouds `x`: the clouds, the index, the columns already written, the distances, the next points. -/
structure Carried (x : FVec Ideal S8x4096x3 .f32) (k : ℕ) (X : Valuation τ sig (Elt Ideal)) : Prop where
  arg : (X main_arg0 : FVec Ideal S8x4096x3 .f32) = x
  points : (X main_v3_0 : FVec Ideal S8x4096x3 .f32) = x
  index : (X main_v3_2 : IVec S_ 32) = fun _ => BitVec.ofNat 32 k
  columns : ∀ (b : Fin 8) (e : Fin 1024), e.val < k → (X main_v3_3 : IVec S8x1024 32) (ix2 b e) = wordOf (pick (cloudsOf x) e.val b)
  distances : ∀ (b : Fin 8) (n : Fin 4096), (X main_v3_4 : FVec Ideal S8x4096 .f32) (ix2 b n) = (state (cloudsOf x) k).1 b n
  words : ∀ b : Fin 8, (X main_v3_5 : IVec S8 32) (ix1 b) = wordOf (pick (cloudsOf x) k b)

theorem carried_start (X : Valuation τ sig (Elt Ideal)) : Carried (X main_arg0) 0 (after preOps X) where
  arg := pre_keeps_arg0 X
  points := pre_points X
  index := pre_index X
  columns := fun _ _ h => absurd h (Nat.not_lt_zero _)
  distances := pre_distances X
  words := pre_words X

/-- The condition keeps the carried buffers. -/
theorem carried_cond {x : FVec Ideal S8x4096x3 .f32} {k : ℕ} {X : Valuation τ sig (Elt Ideal)} (h : Carried x k X) : Carried x k (after condOps X) where
  arg := (cond_keeps_arg0 X).trans h.arg
  points := (cond_keeps_v3_0 X).trans h.points
  index := (cond_keeps_v3_2 X).trans h.index
  columns := fun b e he => (congrFun (cond_keeps_v3_3 X) (ix2 b e)).trans (h.columns b e he)
  distances := fun b n => (congrFun (cond_keeps_v3_4 X) (ix2 b n)).trans (h.distances b n)
  words := fun b => (congrFun (cond_keeps_v3_5 X) (ix1 b)).trans (h.words b)

/-- A trip. -/
theorem carried_trip {x : FVec Ideal S8x4096x3 .f32} {k : ℕ} (hk : k < 1024) {X : Valuation τ sig (Elt Ideal)} (h : Carried x k X) :
    Carried x (k + 1) (after backOps (after argOps (after distOps (after takeOps (after pickOps X))))) := by
  have hp : after takeOps (after pickOps X) main_v3_0 = x := (take_keeps_v3_0 _).trans ((pick_keeps_v3_0 X).trans h.points)
  have hf (b : Fin 8) (a : Fin 3) : (after takeOps (after pickOps X) main_while0b_v14 : FVec Ideal S8x1x3 .f32) (ix3 b 0 a)
      = cloudsOf x b (pick (cloudsOf x) k b) a :=
    (take_value (after pickOps X) (fun b => pick (cloudsOf x) k b) (pick_words X _ h.words) b a).trans
      (congrFun ((pick_keeps_v3_0 X).trans h.points) _)
  have hd (b : Fin 8) (n : Fin 4096) : (after distOps (after takeOps (after pickOps X)) main_while0b_v19 : FVec Ideal S8x4096 .f32) (ix2 b n)
      = (state (cloudsOf x) (k + 1)).1 b n := by
    refine (dist_value _ (cloudsOf x) (fun b => pick (cloudsOf x) k b) (fun b n a => congrFun hp (ix3 b n a)) hf b n).trans ?_
    refine congrArg (fun u : EReal => min u (sq (cloudsOf x) b n (pick (cloudsOf x) k b))) ?_
    exact (congrFun ((take_keeps_v3_4 _).trans (pick_keeps_v3_4 X)) (ix2 b n)).trans (h.distances b n)
  refine ⟨?_, ?_, ?_, ?_, ?_, ?_⟩
  · exact (back_keeps_arg0 _).trans ((arg_keeps_arg0 _).trans ((dist_keeps_arg0 _).trans ((take_keeps_arg0 _).trans ((pick_keeps_arg0 X).trans h.arg))))
  · exact (back_keeps_v3_0 _).trans ((arg_keeps_v3_0 _).trans ((dist_keeps_v3_0 _).trans hp))
  · exact (back_index _).trans ((arg_keeps_while0b_v6 _).trans ((dist_keeps_while0b_v6 _).trans ((take_keeps_while0b_v6 _).trans (pick_next X k h.index))))
  · intro b e he
    refine (congrFun ((back_columns _).trans ((arg_keeps_while0b_v12 _).trans ((dist_keeps_while0b_v12 _).trans (take_keeps_while0b_v12 _)))) (ix2 b e)).trans ?_
    refine (pick_column X k hk h.index b e).trans ?_
    split
    · next hek => exact (h.words b).trans (by rw [hek])
    · next hek => exact h.columns b e (by omega)
  · intro b n
    exact (congrFun ((back_distances _).trans (arg_keeps_while0b_v19 _)) (ix2 b n)).trans (hd b n)
  · intro b
    refine (congrFun (back_words _) (ix1 b)).trans ((arg_value _ b).trans ?_)
    refine congrArg (fun d => wordOf (first d)) (funext fun n => ?_)
    exact hd b n

/-- The carried buffers before trip `k`. -/
theorem carried (m : (ℓ : Loc nD τ sig) → Buf (Elt Ideal) ℓ) (c : Dev nD) : ∀ k, k ≤ 1024 → Carried (m (c.tc.loc main_arg0)) k (tripV m k c)
  | 0, _ => by
    rw [tripV, atTrip_zero]
    exact carried_start (launchContents m c)
  | k + 1, hk => by
    rw [tripV, atTrip_succ]
    simp only [afterL_cons, afterL_nil]
    exact carried_trip (by omega) (carried_cond (carried m c k (by omega)))

/-! ## The run -/

/-- The clouds of a memory, and the points picked of them. -/
def given (m : (ℓ : Loc nD τ sig) → Buf (Elt Ideal) ℓ) (c : Dev nD) : Points := cloudsOf (m (c.tc.loc main_arg0))

def picked (m : (ℓ : Loc nD τ sig) → Buf (Elt Ideal) ℓ) (c : Dev nD) : FVec Ideal S8x1024x3 .f32 :=
  fun i => given m c (i 0) (pick (given m c) (i 1).val (i 0)) (i 2)

/-- The reference returns the points picked, and keeps its argument. -/
theorem run_value (m : (ℓ : Loc nD τ sig) → Buf (Elt Ideal) ℓ) (ρ : Dev nD → PrngReg) :
    θ_run defs (onTc (τ := τ) (main (F := Ideal))) ⟨m, fun _ => 0, ρ⟩
      (fun r => ∀ c, r.2.mem (c.tc.loc main_v5) = picked m c ∧ r.2.mem (c.tc.loc main_arg0) = m (c.tc.loc main_arg0)) := by
  refine (θ_run _ _ _).mono (fun r h c => ⟨(h c main_v5).trans ?_, (h c main_arg0).trans ?_⟩) (run m ρ)
  · have hc := carried_cond (carried m c 1024 le_rfl)
    funext i
    obtain ⟨b, j, a, rfl⟩ : ∃ (b : Fin 8) (j : Fin 1024) (a : Fin 3), i = ix3 b j a := ⟨i 0, i 1, i 2, ValueIdx.eq_ix3 i⟩
    refine (look_value _ (fun b e => pick (given m c) e.val b) (post_words _ _ fun b e => hc.columns b e e.isLt) b j a).trans ?_
    exact congrFun ((post_keeps_arg0 _).trans hc.arg) _
  · have hc := carried_cond (carried m c 1024 le_rfl)
    exact (look_keeps_arg0 _).trans ((post_keeps_arg0 _).trans hc.arg)

end Cert.Proof.FpsRef

end
-- ==== Proof.MlpHost.lean ====
/-
  What the host computes between the launches, over the extended reals: the padded weights and the reshaped arguments before the
  first launch, each normalization's scale and shift before the next, and the last reshape.
-/
module

public import Idealize.ShloMosaic.Lib.Pointwise
public import proofs.«01_k».proof.Proof.Gen.MlpIdeal.Frame

@[expose] public section

set_option maxRecDepth 16384

noncomputable section

namespace Cert.Proof.Mlp

open Cert.MlpIdeal Cert.MlpIdeal.Gen
open Idealize.ShloMosaic Idealize.ShloMosaic.StableHlo Idealize.ShloMosaic.TcCoe Idealize.SL.Sem
open scoped BigOperators

/-- The number of rows, and the variance's guard, as their single precision literals. -/
abbrev rowsLit : EReal := Ideal.ofBits .f32 0x48800000#32
abbrev epsLit : EReal := Ideal.ofBits .f32 0x3727C5AC#32

/-- A channel's scale, from its sum, its sum of squares and its gain. -/
def scaleOf (s ss g : EReal) : EReal :=
  Ideal.div g (Ideal.sqrt (Ideal.div ss rowsLit - Ideal.div s rowsLit * Ideal.div s rowsLit + epsLit))

/-- A channel's shift. -/
def shiftOf (s ss g be : EReal) : EReal := be - Ideal.div s rowsLit * scaleOf s ss g

variable (U : Valuation τ sig (Elt Ideal))

theorem host0_v2 (k : Fin 128) (j : Fin 64) : (after hostOps0 U (Proc.devRef .tc main_v2) : Vec Ideal S128x64 .bf16) (ix2 k j)
    = if h : k.val < 67 then (U (Proc.devRef .tc main_arg2) : Vec Ideal S67x64 .f32) (ix2 ⟨k.val, h⟩ j) else (0 : EReal) := by
  after_results
  pointwise

theorem host0_v3 (g : Fin 8192) (a : Fin 3) : (after hostOps0 U (Proc.devRef .tc main_v3) : Vec Ideal S8192x3 .f32) (ix2 g a)
    = (U (Proc.devRef .tc main_arg1) : Vec Ideal S8x1024x3 .f32)
        (ix3 (⟨g.val / 1024, by have := g.isLt; omega⟩ : Fin 8) (⟨g.val % 1024, Nat.mod_lt _ (by decide)⟩ : Fin 1024) a) := by
  after_results
  pointwise

theorem host0_v4 (j : Fin 64) : (after hostOps0 U (Proc.devRef .tc main_v4) : Vec Ideal S1x64 .f32) (ix2 0 j)
    = (U (Proc.devRef .tc main_arg3) : Vec Ideal S64 .f32) (ix1 j) := by
  after_results
  pointwise

theorem host1_v16 (j : Fin 64) : (after hostOps1 U (Proc.devRef .tc main_v16) : Vec Ideal S1x64 .f32) (ix2 0 j)
    = scaleOf ((U (Proc.devRef .tc main_v5_1) : Vec Ideal S1x64 .f32) (ix2 0 j)) ((U (Proc.devRef .tc main_v5_2) : Vec Ideal S1x64 .f32) (ix2 0 j))
        ((U (Proc.devRef .tc main_arg4) : Vec Ideal S64 .f32) (ix1 j)) := by
  after_results
  pointwise [scaleOf]

theorem host1_v19 (j : Fin 64) : (after hostOps1 U (Proc.devRef .tc main_v19) : Vec Ideal S1x64 .f32) (ix2 0 j)
    = shiftOf ((U (Proc.devRef .tc main_v5_1) : Vec Ideal S1x64 .f32) (ix2 0 j)) ((U (Proc.devRef .tc main_v5_2) : Vec Ideal S1x64 .f32) (ix2 0 j))
        ((U (Proc.devRef .tc main_arg4) : Vec Ideal S64 .f32) (ix1 j)) ((U (Proc.devRef .tc main_arg5) : Vec Ideal S64 .f32) (ix1 j)) := by
  after_results
  pointwise [scaleOf, shiftOf]

theorem host1_v20 : (after hostOps1 U (Proc.devRef .tc main_v20) : Vec Ideal S64x64 .bf16)
    = (U (Proc.devRef .tc main_arg6) : Vec Ideal S64x64 .f32) := by
  after_results
  rfl

theorem host2_v32 (j : Fin 64) : (after hostOps2 U (Proc.devRef .tc main_v32) : Vec Ideal S1x64 .f32) (ix2 0 j)
    = scaleOf ((U (Proc.devRef .tc main_v21_1) : Vec Ideal S1x64 .f32) (ix2 0 j)) ((U (Proc.devRef .tc main_v21_2) : Vec Ideal S1x64 .f32) (ix2 0 j))
        ((U (Proc.devRef .tc main_arg8) : Vec Ideal S64 .f32) (ix1 j)) := by
  after_results
  pointwise [scaleOf]

theorem host2_v35 (j : Fin 64) : (after hostOps2 U (Proc.devRef .tc main_v35) : Vec Ideal S1x64 .f32) (ix2 0 j)
    = shiftOf ((U (Proc.devRef .tc main_v21_1) : Vec Ideal S1x64 .f32) (ix2 0 j)) ((U (Proc.devRef .tc main_v21_2) : Vec Ideal S1x64 .f32) (ix2 0 j))
        ((U (Proc.devRef .tc main_arg8) : Vec Ideal S64 .f32) (ix1 j)) ((U (Proc.devRef .tc main_arg9) : Vec Ideal S64 .f32) (ix1 j)) := by
  after_results
  pointwise [scaleOf, shiftOf]

theorem host2_v36 : (after hostOps2 U (Proc.devRef .tc main_v36) : Vec Ideal S64x128 .bf16)
    = (U (Proc.devRef .tc main_arg10) : Vec Ideal S64x128 .f32) := by
  after_results
  rfl

theorem host3_v48 (j : Fin 128) : (after hostOps3 U (Proc.devRef .tc main_v48) : Vec Ideal S1x128 .f32) (ix2 0 j)
    = scaleOf ((U (Proc.devRef .tc main_v37_1) : Vec Ideal S1x128 .f32) (ix2 0 j)) ((U (Proc.devRef .tc main_v37_2) : Vec Ideal S1x128 .f32) (ix2 0 j))
        ((U (Proc.devRef .tc main_arg12) : Vec Ideal S128 .f32) (ix1 j)) := by
  after_results
  pointwise [scaleOf]

theorem host3_v51 (j : Fin 128) : (after hostOps3 U (Proc.devRef .tc main_v51) : Vec Ideal S1x128 .f32) (ix2 0 j)
    = shiftOf ((U (Proc.devRef .tc main_v37_1) : Vec Ideal S1x128 .f32) (ix2 0 j)) ((U (Proc.devRef .tc main_v37_2) : Vec Ideal S1x128 .f32) (ix2 0 j))
        ((U (Proc.devRef .tc main_arg12) : Vec Ideal S128 .f32) (ix1 j)) ((U (Proc.devRef .tc main_arg13) : Vec Ideal S128 .f32) (ix1 j)) := by
  after_results
  pointwise [scaleOf, shiftOf]

theorem host4_v53 (b : Fin 8) (s : Fin 1024) (j : Fin 128) : (after hostOps4 U (Proc.devRef .tc main_v53) : Vec Ideal S8x1024x128 .f32) (ix3 b s j)
    = (U (Proc.devRef .tc main_v52) : Vec Ideal S8192x128 .f32)
        (ix2 (⟨b.val * 1024 + s.val, by have := b.isLt; have := s.isLt; omega⟩ : Fin 8192) j) := by
  after_results
  pointwise

end Cert.Proof.Mlp

end
-- ==== Proof.MlpReal.lean ====
/-
  Normalizing one channel, in real numbers and over the extended reals: the scale and shift made from the sum and the sum of
  squares give what dividing the deviation from the mean by the deviation's size gives. A constant added to a channel goes away.
-/
module

public import Idealize.ShloMosaic.Lib.Pointwise
public import proofs.«01_k».proof.Proof.MlpHost

@[expose] public section

set_option maxRecDepth 16384

noncomputable section

namespace Cert.Proof.Mlp

open Idealize.ShloMosaic
open scoped BigOperators

/-- The guard added to a variance, as a real number. -/
def eps : ℝ := epsLit.toReal

theorem rowsLit_eq : rowsLit = ((262144 : ℝ) : EReal) := by
  simp [rowsLit, Ideal.ofBits, Ideal.ieee]
  rw [← EReal.coe_mul]
  norm_num

theorem eps_spec : 0 < eps ∧ epsLit = (eps : EReal) := by
  have h : epsLit = ((10995116 * (2 ^ 40)⁻¹ : ℝ) : EReal) := by
    simp [epsLit, Ideal.ofBits, Ideal.ieee]
  unfold eps
  rw [h, EReal.toReal_coe]
  exact ⟨by norm_num, rfl⟩

/-- The mean, the variance and the normalized entries of a channel. -/
def mean (y : Fin 262144 → ℝ) : ℝ := (∑ n, y n) / 262144
def var (y : Fin 262144 → ℝ) : ℝ := (∑ n, (y n - mean y) * (y n - mean y)) / 262144
def norm (y : Fin 262144 → ℝ) (g be : ℝ) (n : Fin 262144) : ℝ := (y n - mean y) / √(var y + eps) * g + be

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

theorem var_nonneg (y : Fin 262144 → ℝ) : 0 ≤ var y :=
  div_nonneg (Finset.sum_nonneg fun n _ => mul_self_nonneg _) (by norm_num)

theorem root_pos (y : Fin 262144 → ℝ) : 0 < √(var y + eps) :=
  Real.sqrt_pos.mpr (add_pos_of_nonneg_of_pos (var_nonneg y) eps_spec.1)

/-- The variance from the sum and the sum of squares. -/
theorem var_eq (y : Fin 262144 → ℝ) : (∑ n, y n * y n) / 262144 - mean y * mean y = var y := by
  have h : ∑ n, (y n - mean y) * (y n - mean y) = (∑ n, y n * y n) - 262144 * (mean y * mean y) := by
    have h1 : ∀ n, (y n - mean y) * (y n - mean y) = y n * y n - 2 * mean y * y n + mean y * mean y := fun n => by ring
    rw [Finset.sum_congr rfl fun n _ => h1 n, Finset.sum_add_distrib, Finset.sum_sub_distrib, ← Finset.mul_sum,
      Finset.sum_const, Finset.card_univ, Fintype.card_fin, nsmul_eq_mul]
    have h2 : ∑ n, y n = 262144 * mean y := by unfold mean; field_simp
    rw [h2]; push_cast; ring
  unfold var
  rw [h]; field_simp

theorem div_real (a : ℝ) {b : ℝ} (hb : b ≠ 0) : Ideal.div (a : EReal) (b : EReal) = ((a / b : ℝ) : EReal) := by
  rw [Ideal.div_coe hb, ← EReal.coe_mul]
  congr 1; ring

theorem sqrt_real {a : ℝ} (ha : 0 ≤ a) : Ideal.sqrt (a : EReal) = ((√a : ℝ) : EReal) := by
  rw [Ideal.sqrt_coe, if_neg (not_lt.mpr ha)]

theorem scaleOf_real (y : Fin 262144 → ℝ) (g : ℝ) :
    scaleOf (∑ n, (y n : EReal)) (∑ n, (y n : EReal) * (y n : EReal)) g = ((g / √(var y + eps) : ℝ) : EReal) := by
  have h : ∑ n, (y n : EReal) * (y n : EReal) = ((∑ n, y n * y n : ℝ) : EReal) := by
    rw [← coe_sum]; exact Finset.sum_congr rfl fun n _ => (EReal.coe_mul _ _).symm
  unfold scaleOf
  rw [h, coe_sum, rowsLit_eq, div_real _ (by norm_num), div_real _ (by norm_num), eps_spec.2, ← EReal.coe_mul, ← EReal.coe_sub,
    ← EReal.coe_add, show (∑ n, y n) / 262144 = mean y from rfl, var_eq,
    sqrt_real (add_nonneg (var_nonneg y) eps_spec.1.le), div_real _ (root_pos y).ne']

theorem shiftOf_real (y : Fin 262144 → ℝ) (g be : ℝ) :
    shiftOf (∑ n, (y n : EReal)) (∑ n, (y n : EReal) * (y n : EReal)) g be
      = ((be - mean y * (g / √(var y + eps)) : ℝ) : EReal) := by
  unfold shiftOf
  rw [scaleOf_real, coe_sum, rowsLit_eq, div_real _ (by norm_num), ← EReal.coe_mul, ← EReal.coe_sub]
  rfl

/-- Scaling and shifting is normalizing. -/
theorem scaled (y : Fin 262144 → ℝ) (g be : ℝ) (n : Fin 262144) :
    (y n : EReal) * scaleOf (∑ n, (y n : EReal)) (∑ n, (y n : EReal) * (y n : EReal)) g
        + shiftOf (∑ n, (y n : EReal)) (∑ n, (y n : EReal) * (y n : EReal)) g be
      = (norm y g be n : EReal) := by
  rw [scaleOf_real, shiftOf_real, ← EReal.coe_mul, ← EReal.coe_add]
  congr 1
  unfold norm
  have := (root_pos y).ne'
  field_simp
  ring

/-- A constant added to every entry of a channel leaves the normalized entries as they are. -/
theorem norm_add (y : Fin 262144 → ℝ) (b g be : ℝ) (n : Fin 262144) : norm (fun n => y n + b) g be n = norm y g be n := by
  have hm : mean (fun n => y n + b) = mean y + b := by
    unfold mean
    rw [Finset.sum_add_distrib, Finset.sum_const, Finset.card_univ, Fintype.card_fin, nsmul_eq_mul]
    push_cast; field_simp
  have hs : ∀ n, y n + b - (mean y + b) = y n - mean y := fun n => by ring
  have hv : var (fun n => y n + b) = var y := by
    unfold var
    rw [hm]; simp only [hs]
  unfold norm
  rw [hm, hv, hs]

end Cert.Proof.Mlp

end
-- ==== Proof.MlpRegion0.lean ====
/-
  The first layer's launch, over the extended reals: what its three result arrays hold once it has run, as functions of the
  arrays it is given. A grid point handles 1024 rows, and the two sums are carried from one point to the next.
-/
module

public import Idealize.ShloMosaic.Lib.Pipeline.ValueKit
public import Idealize.ShloMosaic.Lib.Pipeline.Covers
public import Idealize.ShloMosaic.Lib.Pointwise
public import proofs.«01_k».proof.Proof.Gen.MlpIdeal.Frame

@[expose] public section

set_option maxRecDepth 16384

noncomputable section

namespace Cert.Proof.Mlp

open Cert.MlpIdeal Cert.MlpIdeal.Gen
open Idealize.ShloMosaic Idealize.ShloMosaic.TcCoe Idealize.SL.Sem
open scoped BigOperators

/-- The first layer before normalization, at row `n` and channel `j`: the gathered row against the padded weights, and what the
    row's query point takes away. -/
def first (X : Vec Ideal S262144x128 .f32) (W : Vec Ideal S128x64 .bf16) (B : Vec Ideal S1x64 .f32)
    (Q : Vec Ideal S8192x3 .f32) (n : Fin 262144) (j : Fin 64) : EReal :=
  (∑ k : Fin 128, X (ix2 n k) * W (ix2 k j))
    + (B (ix2 0 j) - (Q (ix2 (⟨n.val / 32, by have := n.isLt; omega⟩ : Fin 8192) 0) * W (ix2 64 j)
        + Q (ix2 (⟨n.val / 32, by have := n.isLt; omega⟩ : Fin 8192) 1) * W (ix2 65 j)
        + Q (ix2 (⟨n.val / 32, by have := n.isLt; omega⟩ : Fin 8192) 2) * W (ix2 66 j)))

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, 0] ∧ win0_6.index t = ![0, 0] :=
  (by decide +kernel : ∀ t : Fin grid0.N, _)

/-- The grid point and the row within it that handle row `n`. -/
theorem row_lt (t : Fin cfg0.N) (r : Fin 1024) : t.val * 1024 + r.val < 262144 := by
  have := t.isLt; have h : cfg0.N = 256 := N_0; have := r.isLt; omega

set_option maxHeartbeats 1000000 in
/-- What a point writes of its block of rows. -/
theorem block0_4 (t : Fin cfg0.N) (y : S1024x64.Idx) :
    k0_pay5 (F := Ideal) (iblk0 V c 0 t) (iblk0 V c 1 t) (iblk0 V c 3 t) (iblk0 V c 2 t)
        (View.ld (iblk0 V c 1 t) (Rect.unit (s := S128x64) ![64, 0] S1x64.size (by decide)))
        (View.ld (iblk0 V c 1 t) (Rect.unit (s := S128x64) ![65, 0] S1x64.size (by decide)))
        (View.ld (iblk0 V c 1 t) (Rect.unit (s := S128x64) ![66, 0] S1x64.size (by decide))) y
      = first (V c main_arg0) (V c main_v2) (V c main_v4) (V c main_v3) ⟨t.val * 1024 + (y 0).val, row_lt t (y 0)⟩ (y 1) := by
  have hN : cfg0.N = 256 := N_0
  pointwise [k0_pay5, first]
  blk_point [iblk0, idx0 t]

theorem outs0_4 (t : Fin cfg0.N) (y : S1024x64.Idx) :
    (outsAt0 V c t.val t.isLt).1 y
      = first (V c main_arg0) (V c main_v2) (V c main_v4) (V c main_v3) ⟨t.val * 1024 + (y 0).val, row_lt t (y 0)⟩ (y 1) := by
  by_cases h : t.val % 256 = 0
  · rw [outsAt0_A V c t h]
    frame_out
    exact block0_4 V c t y
  · rw [outsAt0_B V c t h]
    frame_out
    exact block0_4 V c t y

/-- The rows of the points, counted at once. -/
theorem sum_rows (f : Fin 262144 → EReal) :
    ∑ t : Fin cfg0.N, ∑ r : Fin 1024, f ⟨t.val * 1024 + r.val, row_lt t r⟩ = ∑ n : Fin 262144, f n := by
  rw [← Finset.sum_product', Finset.univ_product_univ]
  refine Fintype.sum_equiv (finProdFinEquiv (m := 256) (n := 1024)) _ _ fun q => congrArg f (Fin.ext ?_)
  show q.1.val * 1024 + q.2.val = q.2.val + 1024 * q.1.val
  omega

/-- A running sum's step over the rows of a point. -/
theorem step0_5 (y : FVec Ideal S1024x64 .f32) (s : Vec Ideal S1x64 .f32) (j : S1x64.Idx) :
    k0_pay3 y s j = s j + ∑ r : Fin 1024, y (ix2 r (j 1)) := by
  pointwise [k0_pay3]

theorem step0_6 (y : FVec Ideal S1024x64 .f32) (s : Vec Ideal S1x64 .f32) (j : S1x64.Idx) :
    k0_pay4 y s j = s j + ∑ r : Fin 1024, y (ix2 r (j 1)) * y (ix2 r (j 1)) := by
  pointwise [k0_pay4]

theorem zero0_5 (j : S1x64.Idx) : k0_pay1 (F := Ideal) j = 0 := by
  pointwise [k0_pay1]

theorem zero0_6 (j : S1x64.Idx) : k0_pay2 (F := Ideal) j = 0 := by
  pointwise [k0_pay2]

/-- The carried sum of the rows' entries, at the last point. -/
theorem outs0_5 (t : Fin cfg0.N) (ht : t.val + 1 = cfg0.N) (j : S1x64.Idx) :
    (outsAt0 V c t.val t.isLt).2.1 j
      = ∑ n : Fin 262144, first (V c main_arg0) (V c main_v2) (V c main_v4) (V c main_v3) n (j 1) := by
  refine (Pipeline.eq_sum_fin_of_reset_step_apply_last (fun n h => (outsAt0 V c n h).2.1) 256 (fun _ => 0)
    (fun t j => ∑ r : Fin 1024, first (V c main_arg0) (V c main_v2) (V c main_v4) (V c main_v3) ⟨t.val * 1024 + r.val, row_lt t r⟩ (j 1))
    (fun t h j => ?_) (fun t h j => ?_) (le_of_eq N_0) t ht j).trans ?_
  · rw [outsAt0_A V c t h]
    frame_out
    rw [step0_5, zero0_5]
    exact congrArg₂ _ rfl (Finset.sum_congr rfl fun r _ => block0_4 V c t (ix2 r (j 1)))
  · rw [outsAt0_B V c t h]
    frame_out
    rw [step0_5]
    exact congrArg₂ _ rfl (Finset.sum_congr rfl fun r _ => block0_4 V c t (ix2 r (j 1)))
  · rw [zero_add]
    exact sum_rows fun n => first (V c main_arg0) (V c main_v2) (V c main_v4) (V c main_v3) n (j 1)

/-- The carried sum of their squares. -/
theorem outs0_6 (t : Fin cfg0.N) (ht : t.val + 1 = cfg0.N) (j : S1x64.Idx) :
    (outsAt0 V c t.val t.isLt).2.2 j
      = ∑ n : Fin 262144, first (V c main_arg0) (V c main_v2) (V c main_v4) (V c main_v3) n (j 1)
          * first (V c main_arg0) (V c main_v2) (V c main_v4) (V c main_v3) n (j 1) := by
  refine (Pipeline.eq_sum_fin_of_reset_step_apply_last (fun n h => (outsAt0 V c n h).2.2) 256 (fun _ => 0)
    (fun t j => ∑ r : Fin 1024, first (V c main_arg0) (V c main_v2) (V c main_v4) (V c main_v3) ⟨t.val * 1024 + r.val, row_lt t r⟩ (j 1)
      * first (V c main_arg0) (V c main_v2) (V c main_v4) (V c main_v3) ⟨t.val * 1024 + r.val, row_lt t r⟩ (j 1))
    (fun t h j => ?_) (fun t h j => ?_) (le_of_eq N_0) t ht j).trans ?_
  · rw [outsAt0_A V c t h]
    frame_out
    rw [step0_6, zero0_6]
    exact congrArg₂ _ rfl (Finset.sum_congr rfl fun r _ =>
      congrArg₂ (fun u v : EReal => u * v) (block0_4 V c t (ix2 r (j 1))) (block0_4 V c t (ix2 r (j 1))))
  · rw [outsAt0_B V c t h]
    frame_out
    rw [step0_6]
    exact congrArg₂ _ rfl (Finset.sum_congr rfl fun r _ =>
      congrArg₂ (fun u v : EReal => u * v) (block0_4 V c t (ix2 r (j 1))) (block0_4 V c t (ix2 r (j 1))))
  · rw [zero_add]
    exact sum_rows fun n => first (V c main_arg0) (V c main_v2) (V c main_v4) (V c main_v3) n (j 1)
      * first (V c main_arg0) (V c main_v2) (V c main_v4) (V c main_v3) n (j 1)

/-- The last grid point. -/
def last0 : Fin cfg0.N := ⟨255, by decide +kernel⟩

theorem last0_val : last0.val + 1 = cfg0.N := by decide +kernel

theorem arr0_4 : (dat0 V c).arrAt 4 cfg0.N
    = fun i : S262144x64.Idx => first (V c main_arg0) (V c main_v2) (V c main_v4) (V c main_v3) (i 0) (i 1) := by
  refine (dat0 V c).arrAt_eq_of_covers 4 _ (by decide +kernel) fun t hf y => ?_
  blk_simp
  rw [after0_4, outs0_4]
  refine congrArg₂ (first (V c main_arg0) (V c main_v2) (V c main_v4) (V c main_v3)) (Fin.ext ?_) (Fin.ext ?_)
  · blk_ext [idx0 t]
  · blk_ext [idx0 t]

theorem arr0_5 : (dat0 V c).arrAt 5 cfg0.N
    = fun i : S1x64.Idx => ∑ n : Fin 262144, first (V c main_arg0) (V c main_v2) (V c main_v4) (V c main_v3) n (i 1) := by
  refine (dat0 V c).arrAt_eq_of_after_last 5 last0 (by decide +kernel) _ fun j => ?_
  blk_simp
  rw [after0_5]
  exact outs0_5 V c _ last0_val j

theorem arr0_6 : (dat0 V c).arrAt 6 cfg0.N
    = fun i : S1x64.Idx => ∑ n : Fin 262144, first (V c main_arg0) (V c main_v2) (V c main_v4) (V c main_v3) n (i 1)
        * first (V c main_arg0) (V c main_v2) (V c main_v4) (V c main_v3) n (i 1) := by
  refine (dat0 V c).arrAt_eq_of_after_last 6 last0 (by decide +kernel) _ fun j => ?_
  blk_simp
  rw [after0_6]
  exact outs0_6 V c _ last0_val j

end Cert.Proof.Mlp

end
-- ==== Proof.MlpRegion1.lean ====
/-
  The second layer's launch, over the extended reals: what its three result arrays hold once it has run, as functions of the
  arrays it is given. The layer before is scaled, shifted and rectified as it is read.
-/
module

public import Idealize.ShloMosaic.Lib.Pipeline.ValueKit
public import Idealize.ShloMosaic.Lib.Pipeline.Covers
public import Idealize.ShloMosaic.Lib.Pointwise
public import proofs.«01_k».proof.Proof.Gen.MlpIdeal.Frame

@[expose] public section

set_option maxRecDepth 16384

noncomputable section

namespace Cert.Proof.Mlp

open Cert.MlpIdeal Cert.MlpIdeal.Gen
open Idealize.ShloMosaic Idealize.ShloMosaic.TcCoe Idealize.SL.Sem
open scoped BigOperators

/-- The second layer before normalization, at row `n` and channel `j`, without its bias. -/
def second (Y : Vec Ideal S262144x64 .bf16) (A S : Vec Ideal S1x64 .f32) (W : Vec Ideal S64x64 .bf16)
    (n : Fin 262144) (j : Fin 64) : EReal :=
  ∑ k : Fin 64, max (Y (ix2 n k) * A (ix2 0 k) + S (ix2 0 k)) 0 * W (ix2 k j)

variable (V : (c : Dev nD) → (b : Ref sig .tc) → Buf (Elt Ideal) ((c : Thread nD τ).loc b)) (c : Dev nD)

theorem idx1 : ∀ t : Fin cfg1.N, win1_0.index t = ![t.val, 0] ∧ win1_1.index t = ![0, 0] ∧ win1_2.index t = ![0, 0]
    ∧ win1_3.index t = ![0, 0] ∧ win1_4.index t = ![t.val, 0] ∧ win1_5.index t = ![0, 0] ∧ win1_6.index t = ![0, 0] :=
  (by decide +kernel : ∀ t : Fin grid1.N, _)

theorem row_lt1 (t : Fin cfg1.N) (r : Fin 1024) : t.val * 1024 + r.val < 262144 := by
  have := t.isLt; have h : cfg1.N = 256 := N_1; have := r.isLt; omega

set_option maxHeartbeats 1000000 in
/-- What a point computes of its block of rows. -/
theorem block1_4 (t : Fin cfg1.N) (y : S1024x64.Idx) :
    k1_pay1 (F := Ideal) (iblk1 V c 0 t) (iblk1 V c 1 t) (iblk1 V c 2 t) (iblk1 V c 3 t) y
      = second (V c main_v5_0) (V c main_v16) (V c main_v19) (V c main_v20) ⟨t.val * 1024 + (y 0).val, row_lt1 t (y 0)⟩ (y 1) := by
  have hN : cfg1.N = 256 := N_1
  pointwise [k1_pay1, second]
  blk_point [iblk1, idx1 t]

theorem outs1_4 (t : Fin cfg1.N) (y : S1024x64.Idx) :
    (outsAt1 V c t.val t.isLt).1 y
      = second (V c main_v5_0) (V c main_v16) (V c main_v19) (V c main_v20) ⟨t.val * 1024 + (y 0).val, row_lt1 t (y 0)⟩ (y 1) := by
  by_cases h : t.val % 256 = 0
  · rw [outsAt1_A V c t h]
    frame_out
    exact block1_4 V c t y
  · rw [outsAt1_B V c t h]
    frame_out
    exact block1_4 V c t y

/-- The rows of the points, counted at once. -/
theorem sum_rows1 (f : Fin 262144 → EReal) :
    ∑ t : Fin cfg1.N, ∑ r : Fin 1024, f ⟨t.val * 1024 + r.val, row_lt1 t r⟩ = ∑ n : Fin 262144, f n := by
  rw [← Finset.sum_product', Finset.univ_product_univ]
  refine Fintype.sum_equiv (finProdFinEquiv (m := 256) (n := 1024)) _ _ fun q => congrArg f (Fin.ext ?_)
  show q.1.val * 1024 + q.2.val = q.2.val + 1024 * q.1.val
  omega

/-- A running sum's step over the rows of a point. -/
theorem step1_5 (y : Vec Ideal S1024x64 .bf16) (a s : Vec Ideal S1x64 .f32) (w : Vec Ideal S64x64 .bf16)
    (z : Vec Ideal S1x64 .f32) (j : S1x64.Idx) :
    k1_pay5 y a s w z j = z j + ∑ r : Fin 1024, k1_pay1 y a s w (ix2 r (j 1)) := by
  unfold k1_pay5
  generalize k1_pay1 y a s w = p
  pointwise

theorem step1_6 (y : Vec Ideal S1024x64 .bf16) (a s : Vec Ideal S1x64 .f32) (w : Vec Ideal S64x64 .bf16)
    (z : Vec Ideal S1x64 .f32) (j : S1x64.Idx) :
    k1_pay6 y a s w z j
      = z j + ∑ r : Fin 1024, k1_pay1 y a s w (ix2 r (j 1)) * k1_pay1 y a s w (ix2 r (j 1)) := by
  unfold k1_pay6
  generalize k1_pay1 y a s w = p
  pointwise

theorem zero1_5 (j : S1x64.Idx) : k1_pay3 (F := Ideal) j = 0 := by
  pointwise [k1_pay3]

theorem zero1_6 (j : S1x64.Idx) : k1_pay4 (F := Ideal) j = 0 := by
  pointwise [k1_pay4]

/-- The carried sum of the rows' entries, at the last point. -/
theorem outs1_5 (t : Fin cfg1.N) (ht : t.val + 1 = cfg1.N) (j : S1x64.Idx) :
    (outsAt1 V c t.val t.isLt).2.1 j = ∑ n : Fin 262144, second (V c main_v5_0) (V c main_v16) (V c main_v19) (V c main_v20) n (j 1) := by
  refine (Pipeline.eq_sum_fin_of_reset_step_apply_last (fun n h => (outsAt1 V c n h).2.1) 256 (fun _ => 0)
    (fun t j => ∑ r : Fin 1024, second (V c main_v5_0) (V c main_v16) (V c main_v19) (V c main_v20) ⟨t.val * 1024 + r.val, row_lt1 t r⟩ (j 1))
    (fun t h j => ?_) (fun t h j => ?_) (le_of_eq N_1) t ht j).trans ?_
  · rw [outsAt1_A V c t h]
    frame_out
    rw [step1_5, zero1_5]
    exact congrArg₂ _ rfl (Finset.sum_congr rfl fun r _ => block1_4 V c t (ix2 r (j 1)))
  · rw [outsAt1_B V c t h]
    frame_out
    rw [step1_5]
    exact congrArg₂ _ rfl (Finset.sum_congr rfl fun r _ => block1_4 V c t (ix2 r (j 1)))
  · rw [zero_add]
    exact sum_rows1 fun n => second (V c main_v5_0) (V c main_v16) (V c main_v19) (V c main_v20) n (j 1)

/-- The carried sum of their squares. -/
theorem outs1_6 (t : Fin cfg1.N) (ht : t.val + 1 = cfg1.N) (j : S1x64.Idx) :
    (outsAt1 V c t.val t.isLt).2.2 j = ∑ n : Fin 262144, second (V c main_v5_0) (V c main_v16) (V c main_v19) (V c main_v20) n (j 1) * second (V c main_v5_0) (V c main_v16) (V c main_v19) (V c main_v20) n (j 1) := by
  refine (Pipeline.eq_sum_fin_of_reset_step_apply_last (fun n h => (outsAt1 V c n h).2.2) 256 (fun _ => 0)
    (fun t j => ∑ r : Fin 1024, second (V c main_v5_0) (V c main_v16) (V c main_v19) (V c main_v20) ⟨t.val * 1024 + r.val, row_lt1 t r⟩ (j 1)
      * second (V c main_v5_0) (V c main_v16) (V c main_v19) (V c main_v20) ⟨t.val * 1024 + r.val, row_lt1 t r⟩ (j 1))
    (fun t h j => ?_) (fun t h j => ?_) (le_of_eq N_1) t ht j).trans ?_
  · rw [outsAt1_A V c t h]
    frame_out
    rw [step1_6, zero1_6]
    exact congrArg₂ _ rfl (Finset.sum_congr rfl fun r _ =>
      congrArg₂ (fun u v : EReal => u * v) (block1_4 V c t (ix2 r (j 1))) (block1_4 V c t (ix2 r (j 1))))
  · rw [outsAt1_B V c t h]
    frame_out
    rw [step1_6]
    exact congrArg₂ _ rfl (Finset.sum_congr rfl fun r _ =>
      congrArg₂ (fun u v : EReal => u * v) (block1_4 V c t (ix2 r (j 1))) (block1_4 V c t (ix2 r (j 1))))
  · rw [zero_add]
    exact sum_rows1 fun n => second (V c main_v5_0) (V c main_v16) (V c main_v19) (V c main_v20) n (j 1) * second (V c main_v5_0) (V c main_v16) (V c main_v19) (V c main_v20) n (j 1)

/-- The last grid point. -/
def last1 : Fin cfg1.N := ⟨255, by decide +kernel⟩

theorem last1_val : last1.val + 1 = cfg1.N := by decide +kernel

theorem arr1_4 : (dat1 V c).arrAt 4 cfg1.N = fun i : S262144x64.Idx => second (V c main_v5_0) (V c main_v16) (V c main_v19) (V c main_v20) (i 0) (i 1) := by
  refine (dat1 V c).arrAt_eq_of_covers 4 _ (by decide +kernel) fun t hf y => ?_
  blk_simp
  rw [after1_4, outs1_4]
  refine congrArg₂ (second (V c main_v5_0) (V c main_v16) (V c main_v19) (V c main_v20)) (Fin.ext ?_) (Fin.ext ?_)
  · blk_ext [idx1 t]
  · blk_ext [idx1 t]

theorem arr1_5 : (dat1 V c).arrAt 5 cfg1.N = fun i : S1x64.Idx => ∑ n : Fin 262144, second (V c main_v5_0) (V c main_v16) (V c main_v19) (V c main_v20) n (i 1) := by
  refine (dat1 V c).arrAt_eq_of_after_last 5 last1 (by decide +kernel) _ fun j => ?_
  blk_simp
  rw [after1_5]
  exact outs1_5 V c _ last1_val j

theorem arr1_6 : (dat1 V c).arrAt 6 cfg1.N
    = fun i : S1x64.Idx => ∑ n : Fin 262144, second (V c main_v5_0) (V c main_v16) (V c main_v19) (V c main_v20) n (i 1) * second (V c main_v5_0) (V c main_v16) (V c main_v19) (V c main_v20) n (i 1) := by
  refine (dat1 V c).arrAt_eq_of_after_last 6 last1 (by decide +kernel) _ fun j => ?_
  blk_simp
  rw [after1_6]
  exact outs1_6 V c _ last1_val j

end Cert.Proof.Mlp

end
-- ==== Proof.MlpRegion2.lean ====
/-
  The third layer's launch, over the extended reals: what its three result arrays hold once it has run, as functions of the
  arrays it is given. The layer before is scaled, shifted and rectified as it is read.
-/
module

public import Idealize.ShloMosaic.Lib.Pipeline.ValueKit
public import Idealize.ShloMosaic.Lib.Pipeline.Covers
public import Idealize.ShloMosaic.Lib.Pointwise
public import proofs.«01_k».proof.Proof.Gen.MlpIdeal.Frame

@[expose] public section

set_option maxRecDepth 16384

noncomputable section

namespace Cert.Proof.Mlp

open Cert.MlpIdeal Cert.MlpIdeal.Gen
open Idealize.ShloMosaic Idealize.ShloMosaic.TcCoe Idealize.SL.Sem
open scoped BigOperators

/-- The third layer before normalization, at row `n` and channel `j`, without its bias. -/
def third (Y : Vec Ideal S262144x64 .bf16) (A S : Vec Ideal S1x64 .f32) (W : Vec Ideal S64x128 .bf16)
    (n : Fin 262144) (j : Fin 128) : EReal :=
  ∑ k : Fin 64, max (Y (ix2 n k) * A (ix2 0 k) + S (ix2 0 k)) 0 * W (ix2 k j)

variable (V : (c : Dev nD) → (b : Ref sig .tc) → Buf (Elt Ideal) ((c : Thread nD τ).loc b)) (c : Dev nD)

theorem idx2 : ∀ t : Fin cfg2.N, win2_0.index t = ![t.val, 0] ∧ win2_1.index t = ![0, 0] ∧ win2_2.index t = ![0, 0]
    ∧ win2_3.index t = ![0, 0] ∧ win2_4.index t = ![t.val, 0] ∧ win2_5.index t = ![0, 0] ∧ win2_6.index t = ![0, 0] :=
  (by decide +kernel : ∀ t : Fin grid2.N, _)

theorem row_lt2 (t : Fin cfg2.N) (r : Fin 1024) : t.val * 1024 + r.val < 262144 := by
  have := t.isLt; have h : cfg2.N = 256 := N_2; have := r.isLt; omega

set_option maxHeartbeats 1000000 in
/-- What a point computes of its block of rows. -/
theorem block2_4 (t : Fin cfg2.N) (y : S1024x128.Idx) :
    k2_pay1 (F := Ideal) (iblk2 V c 0 t) (iblk2 V c 1 t) (iblk2 V c 2 t) (iblk2 V c 3 t) y
      = third (V c main_v21_0) (V c main_v32) (V c main_v35) (V c main_v36) ⟨t.val * 1024 + (y 0).val, row_lt2 t (y 0)⟩ (y 1) := by
  have hN : cfg2.N = 256 := N_2
  pointwise [k2_pay1, third]
  blk_point [iblk2, idx2 t]

theorem outs2_4 (t : Fin cfg2.N) (y : S1024x128.Idx) :
    (outsAt2 V c t.val t.isLt).1 y
      = third (V c main_v21_0) (V c main_v32) (V c main_v35) (V c main_v36) ⟨t.val * 1024 + (y 0).val, row_lt2 t (y 0)⟩ (y 1) := by
  by_cases h : t.val % 256 = 0
  · rw [outsAt2_A V c t h]
    frame_out
    exact block2_4 V c t y
  · rw [outsAt2_B V c t h]
    frame_out
    exact block2_4 V c t y

/-- The rows of the points, counted at once. -/
theorem sum_rows2 (f : Fin 262144 → EReal) :
    ∑ t : Fin cfg2.N, ∑ r : Fin 1024, f ⟨t.val * 1024 + r.val, row_lt2 t r⟩ = ∑ n : Fin 262144, f n := by
  rw [← Finset.sum_product', Finset.univ_product_univ]
  refine Fintype.sum_equiv (finProdFinEquiv (m := 256) (n := 1024)) _ _ fun q => congrArg f (Fin.ext ?_)
  show q.1.val * 1024 + q.2.val = q.2.val + 1024 * q.1.val
  omega

/-- A running sum's step over the rows of a point. -/
theorem step2_5 (y : Vec Ideal S1024x64 .bf16) (a s : Vec Ideal S1x64 .f32) (w : Vec Ideal S64x128 .bf16)
    (z : Vec Ideal S1x128 .f32) (j : S1x128.Idx) :
    k2_pay5 y a s w z j = z j + ∑ r : Fin 1024, k2_pay1 y a s w (ix2 r (j 1)) := by
  unfold k2_pay5
  generalize k2_pay1 y a s w = p
  pointwise

theorem step2_6 (y : Vec Ideal S1024x64 .bf16) (a s : Vec Ideal S1x64 .f32) (w : Vec Ideal S64x128 .bf16)
    (z : Vec Ideal S1x128 .f32) (j : S1x128.Idx) :
    k2_pay6 y a s w z j
      = z j + ∑ r : Fin 1024, k2_pay1 y a s w (ix2 r (j 1)) * k2_pay1 y a s w (ix2 r (j 1)) := by
  unfold k2_pay6
  generalize k2_pay1 y a s w = p
  pointwise

theorem zero2_5 (j : S1x128.Idx) : k2_pay3 (F := Ideal) j = 0 := by
  pointwise [k2_pay3]

theorem zero2_6 (j : S1x128.Idx) : k2_pay4 (F := Ideal) j = 0 := by
  pointwise [k2_pay4]

/-- The carried sum of the rows' entries, at the last point. -/
theorem outs2_5 (t : Fin cfg2.N) (ht : t.val + 1 = cfg2.N) (j : S1x128.Idx) :
    (outsAt2 V c t.val t.isLt).2.1 j = ∑ n : Fin 262144, third (V c main_v21_0) (V c main_v32) (V c main_v35) (V c main_v36) n (j 1) := by
  refine (Pipeline.eq_sum_fin_of_reset_step_apply_last (fun n h => (outsAt2 V c n h).2.1) 256 (fun _ => 0)
    (fun t j => ∑ r : Fin 1024, third (V c main_v21_0) (V c main_v32) (V c main_v35) (V c main_v36) ⟨t.val * 1024 + r.val, row_lt2 t r⟩ (j 1))
    (fun t h j => ?_) (fun t h j => ?_) (le_of_eq N_2) t ht j).trans ?_
  · rw [outsAt2_A V c t h]
    frame_out
    rw [step2_5, zero2_5]
    exact congrArg₂ _ rfl (Finset.sum_congr rfl fun r _ => block2_4 V c t (ix2 r (j 1)))
  · rw [outsAt2_B V c t h]
    frame_out
    rw [step2_5]
    exact congrArg₂ _ rfl (Finset.sum_congr rfl fun r _ => block2_4 V c t (ix2 r (j 1)))
  · rw [zero_add]
    exact sum_rows2 fun n => third (V c main_v21_0) (V c main_v32) (V c main_v35) (V c main_v36) n (j 1)

/-- The carried sum of their squares. -/
theorem outs2_6 (t : Fin cfg2.N) (ht : t.val + 1 = cfg2.N) (j : S1x128.Idx) :
    (outsAt2 V c t.val t.isLt).2.2 j = ∑ n : Fin 262144, third (V c main_v21_0) (V c main_v32) (V c main_v35) (V c main_v36) n (j 1) * third (V c main_v21_0) (V c main_v32) (V c main_v35) (V c main_v36) n (j 1) := by
  refine (Pipeline.eq_sum_fin_of_reset_step_apply_last (fun n h => (outsAt2 V c n h).2.2) 256 (fun _ => 0)
    (fun t j => ∑ r : Fin 1024, third (V c main_v21_0) (V c main_v32) (V c main_v35) (V c main_v36) ⟨t.val * 1024 + r.val, row_lt2 t r⟩ (j 1)
      * third (V c main_v21_0) (V c main_v32) (V c main_v35) (V c main_v36) ⟨t.val * 1024 + r.val, row_lt2 t r⟩ (j 1))
    (fun t h j => ?_) (fun t h j => ?_) (le_of_eq N_2) t ht j).trans ?_
  · rw [outsAt2_A V c t h]
    frame_out
    rw [step2_6, zero2_6]
    exact congrArg₂ _ rfl (Finset.sum_congr rfl fun r _ =>
      congrArg₂ (fun u v : EReal => u * v) (block2_4 V c t (ix2 r (j 1))) (block2_4 V c t (ix2 r (j 1))))
  · rw [outsAt2_B V c t h]
    frame_out
    rw [step2_6]
    exact congrArg₂ _ rfl (Finset.sum_congr rfl fun r _ =>
      congrArg₂ (fun u v : EReal => u * v) (block2_4 V c t (ix2 r (j 1))) (block2_4 V c t (ix2 r (j 1))))
  · rw [zero_add]
    exact sum_rows2 fun n => third (V c main_v21_0) (V c main_v32) (V c main_v35) (V c main_v36) n (j 1) * third (V c main_v21_0) (V c main_v32) (V c main_v35) (V c main_v36) n (j 1)

/-- The last grid point. -/
def last2 : Fin cfg2.N := ⟨255, by decide +kernel⟩

theorem last2_val : last2.val + 1 = cfg2.N := by decide +kernel

theorem arr2_4 : (dat2 V c).arrAt 4 cfg2.N = fun i : S262144x128.Idx => third (V c main_v21_0) (V c main_v32) (V c main_v35) (V c main_v36) (i 0) (i 1) := by
  refine (dat2 V c).arrAt_eq_of_covers 4 _ (by decide +kernel) fun t hf y => ?_
  blk_simp
  rw [after2_4, outs2_4]
  refine congrArg₂ (third (V c main_v21_0) (V c main_v32) (V c main_v35) (V c main_v36)) (Fin.ext ?_) (Fin.ext ?_)
  · blk_ext [idx2 t]
  · blk_ext [idx2 t]

theorem arr2_5 : (dat2 V c).arrAt 5 cfg2.N = fun i : S1x128.Idx => ∑ n : Fin 262144, third (V c main_v21_0) (V c main_v32) (V c main_v35) (V c main_v36) n (i 1) := by
  refine (dat2 V c).arrAt_eq_of_after_last 5 last2 (by decide +kernel) _ fun j => ?_
  blk_simp
  rw [after2_5]
  exact outs2_5 V c _ last2_val j

theorem arr2_6 : (dat2 V c).arrAt 6 cfg2.N
    = fun i : S1x128.Idx => ∑ n : Fin 262144, third (V c main_v21_0) (V c main_v32) (V c main_v35) (V c main_v36) n (i 1) * third (V c main_v21_0) (V c main_v32) (V c main_v35) (V c main_v36) n (i 1) := by
  refine (dat2 V c).arrAt_eq_of_after_last 6 last2 (by decide +kernel) _ fun j => ?_
  blk_simp
  rw [after2_6]
  exact outs2_6 V c _ last2_val j

end Cert.Proof.Mlp

end
-- ==== Proof.MlpRegion3.lean ====
/-
  The last launch, over the extended reals: the third layer is scaled, shifted and rectified, and each query point's 32 rows are
  reduced by the greatest.
-/
module

public import Idealize.ShloMosaic.Lib.Pipeline.ValueKit
public import Idealize.ShloMosaic.Lib.Pipeline.Covers
public import Idealize.ShloMosaic.Lib.Pointwise
public import proofs.«01_k».proof.Proof.Gen.MlpIdeal.Frame

@[expose] public section

set_option maxRecDepth 16384

noncomputable section

namespace Cert.Proof.Mlp

open Cert.MlpIdeal Cert.MlpIdeal.Gen
open Idealize.ShloMosaic Idealize.ShloMosaic.TcCoe Idealize.SL.Sem
open scoped BigOperators

theorem member_lt (g : Fin 8192) (k : Fin 32) : g.val * 32 + k.val < 262144 := by
  have := g.isLt; have := k.isLt; omega

/-- The greatest of a query point's 32 normalized rows, channel `j`. -/
def greatest (Y : Vec Ideal S262144x128 .bf16) (A S : Vec Ideal S1x128 .f32) (g : Fin 8192) (j : Fin 128) : EReal :=
  Finset.univ.fold max (Ideal.ofBits .f32 0xFF800000#32) fun k : Fin 32 =>
    max (Y (ix2 (⟨g.val * 32 + k.val, member_lt g k⟩ : Fin 262144) j) * A (ix2 0 j) + S (ix2 0 j)) 0

variable (V : (c : Dev nD) → (b : Ref sig .tc) → Buf (Elt Ideal) ((c : Thread nD τ).loc b)) (c : Dev nD)

theorem idx3 : ∀ t : Fin cfg3.N, win3_0.index t = ![t.val, 0] ∧ win3_1.index t = ![0, 0] ∧ win3_2.index t = ![0, 0]
    ∧ win3_3.index t = ![t.val, 0] :=
  (by decide +kernel : ∀ t : Fin grid3.N, _)

theorem row_lt3 (t : Fin cfg3.N) (r : Fin 32) : t.val * 32 + r.val < 8192 := by
  have := t.isLt; have h : cfg3.N = 256 := N_3; have := r.isLt; omega

set_option maxHeartbeats 1000000 in
theorem block3_3 (t : Fin cfg3.N) (y : S32x128.Idx) :
    k3_pay1 (F := Ideal) (iblk3 V c 0 t) (iblk3 V c 1 t) (iblk3 V c 2 t) y
      = greatest (V c main_v37_0) (V c main_v48) (V c main_v51) ⟨t.val * 32 + (y 0).val, row_lt3 t (y 0)⟩ (y 1) := by
  have hN : cfg3.N = 256 := N_3
  pointwise [k3_pay1, greatest]
  blk_point [iblk3, idx3 t]

theorem arr3_3 : (dat3 V c).arrAt 3 cfg3.N
    = fun i : S8192x128.Idx => greatest (V c main_v37_0) (V c main_v48) (V c main_v51) (i 0) (i 1) := by
  refine (dat3 V c).arrAt_eq_of_covers 3 _ (by decide +kernel) fun t hf y => ?_
  blk_simp
  rw [after3_3]
  frame_out
  refine (block3_3 V c t y).trans ?_
  refine congrArg₂ (greatest (V c main_v37_0) (V c main_v48) (V c main_v51)) (Fin.ext ?_) (Fin.ext ?_)
  · blk_ext [idx3 t]
  · blk_ext [idx3 t]

end Cert.Proof.Mlp

end
-- ==== Proof.MlpSpec.lean ====
/-
  The three layers in real numbers, and what the launches' formulas are of real arrays.
-/
module

public import proofs.«01_k».proof.Proof.MlpReal
public import proofs.«01_k».proof.Proof.MlpRegion0
public import proofs.«01_k».proof.Proof.MlpRegion1
public import proofs.«01_k».proof.Proof.MlpRegion2
public import proofs.«01_k».proof.Proof.MlpRegion3

@[expose] public section

set_option maxRecDepth 16384

noncomputable section

namespace Cert.Proof.Mlp

open Cert.MlpIdeal
open Idealize.ShloMosaic
open scoped BigOperators

/-- The first layer: the row's features and its point's offset from the query point, against the weights. -/
def layer1 (x : Fin 262144 → Fin 67 → ℝ) (q : Fin 8 → Fin 1024 → Fin 3 → ℝ) (w : Fin 67 → Fin 64 → ℝ) (b : Fin 64 → ℝ)
    (n : Fin 262144) (j : Fin 64) : ℝ :=
  ∑ k : Fin 64, x n (Fin.castAdd 3 k) * w (Fin.castAdd 3 k) j
    + ∑ a : Fin 3, (x n (Fin.natAdd 64 a)
        - q (⟨n.val / 32 / 1024, by have := n.isLt; omega⟩ : Fin 8) (⟨n.val / 32 % 1024, Nat.mod_lt _ (by decide)⟩ : Fin 1024) a)
          * w (Fin.natAdd 64 a) j
    + b j

/-- A later layer. -/
def layer {J : ℕ} (z : Fin 262144 → Fin 64 → ℝ) (w : Fin 64 → Fin J → ℝ) (b : Fin J → ℝ) (n : Fin 262144) (j : Fin J) : ℝ :=
  ∑ k : Fin 64, z n k * w k j + b j

/-- Normalized and rectified. -/
def act {J : ℕ} (y : Fin 262144 → Fin J → ℝ) (g be : Fin J → ℝ) (n : Fin 262144) (j : Fin J) : ℝ :=
  max (norm (fun n => y n j) (g j) (be j) n) 0

/-- A layer's bias goes away in its normalization. -/
theorem act_layer {J : ℕ} (z : Fin 262144 → Fin 64 → ℝ) (w : Fin 64 → Fin J → ℝ) (b g be : Fin J → ℝ) :
    act (layer z w b) g be = act (fun n j => ∑ k : Fin 64, z n k * w k j) g be := by
  funext n j
  exact congrArg (max · 0) (norm_add (fun n => ∑ k : Fin 64, z n k * w k j) (b j) (g j) (be j) n)

/-- The first launch's formula. -/
theorem first_real {X : Vec Ideal S262144x128 .f32} {W : Vec Ideal S128x64 .bf16} {B : Vec Ideal S1x64 .f32}
    {Q : Vec Ideal S8192x3 .f32} {x : Fin 262144 → Fin 67 → ℝ} {q : Fin 8 → Fin 1024 → Fin 3 → ℝ} {w : Fin 67 → Fin 64 → ℝ}
    {b : Fin 64 → ℝ}
    (hX : ∀ (n : Fin 262144) (k : Fin 67), X (ix2 n (Fin.castAdd 61 k)) = ((x n k : ℝ) : EReal))
    (hW : ∀ (k : Fin 67) (j : Fin 64), W (ix2 (Fin.castAdd 61 k) j) = ((w k j : ℝ) : EReal))
    (hZ : ∀ (k : Fin 61) (j : Fin 64), W (ix2 (Fin.natAdd 67 k) j) = (0 : EReal))
    (hB : ∀ j, B (ix2 0 j) = ((b j : ℝ) : EReal))
    (hQ : ∀ (g : Fin 8192) (a : Fin 3), Q (ix2 g a)
      = ((q (⟨g.val / 1024, by have := g.isLt; omega⟩ : Fin 8) (⟨g.val % 1024, Nat.mod_lt _ (by decide)⟩ : Fin 1024) a : ℝ) : EReal))
    (n : Fin 262144) (j : Fin 64) : first X W B Q n j = ((layer1 x q w b n j : ℝ) : EReal) := by
  have h128 : ∑ k : Fin 128, X (ix2 n k) * W (ix2 k j) = ((∑ k : Fin 67, x n k * w k j : ℝ) : EReal) := by
    rw [show (∑ k : Fin 128, X (ix2 n k) * W (ix2 k j)) = ∑ k : Fin (67 + 61), X (ix2 n k) * W (ix2 k j) from rfl,
      Fin.sum_univ_add]
    rw [Finset.sum_congr rfl fun k _ => congrArg₂ (fun u v : EReal => u * v) (hX n k) (hW k j),
      Finset.sum_eq_zero (s := Finset.univ) (f := fun k : Fin 61 => X (ix2 n (Fin.natAdd 67 k)) * W (ix2 (Fin.natAdd 67 k) j))
        (fun k _ => by rw [hZ k j, mul_zero]), add_zero, ← coe_sum]
    exact Finset.sum_congr rfl fun k _ => (EReal.coe_mul _ _).symm
  have h64 : W (ix2 64 j) = ((w (Fin.natAdd 64 (0 : Fin 3)) j : ℝ) : EReal) := hW 64 j
  have h65 : W (ix2 65 j) = ((w (Fin.natAdd 64 (1 : Fin 3)) j : ℝ) : EReal) := hW 65 j
  have h66 : W (ix2 66 j) = ((w (Fin.natAdd 64 (2 : Fin 3)) j : ℝ) : EReal) := hW 66 j
  unfold first
  rw [h128, h64, h65, h66, hB, hQ, hQ, hQ, ← EReal.coe_mul, ← EReal.coe_mul, ← EReal.coe_mul, ← EReal.coe_add, ← EReal.coe_add,
    ← EReal.coe_sub, ← EReal.coe_add]
  refine congrArg _ ?_
  unfold layer1
  rw [show (∑ k : Fin 67, x n k * w k j) = ∑ k : Fin (64 + 3), x n k * w k j from rfl, Fin.sum_univ_add, Fin.sum_univ_three,
    Fin.sum_univ_three]
  ring

/-- A normalization read as a scale and a shift, then rectified. -/
theorem act_real {J : ℕ} (y : Fin 262144 → Fin J → ℝ) (g be : Fin J → ℝ) (n : Fin 262144) (k : Fin J) :
    max ((y n k : EReal) * scaleOf (∑ n, (y n k : EReal)) (∑ n, (y n k : EReal) * (y n k : EReal)) (g k)
        + shiftOf (∑ n, (y n k : EReal)) (∑ n, (y n k : EReal) * (y n k : EReal)) (g k) (be k)) 0
      = ((act y g be n k : ℝ) : EReal) := by
  rw [scaled (fun n => y n k), ← EReal.coe_zero, coe_max]
  rfl

section

variable {Y : Vec Ideal S262144x64 .bf16} {A S : Vec Ideal S1x64 .f32} {y : Fin 262144 → Fin 64 → ℝ} {g be : Fin 64 → ℝ}
  (hY : ∀ n k, Y (ix2 n k) = ((y n k : ℝ) : EReal))
  (hA : ∀ k, A (ix2 0 k) = scaleOf (∑ n, (y n k : EReal)) (∑ n, (y n k : EReal) * (y n k : EReal)) (g k))
  (hS : ∀ k, S (ix2 0 k) = shiftOf (∑ n, (y n k : EReal)) (∑ n, (y n k : EReal) * (y n k : EReal)) (g k) (be k))

include hY hA hS

theorem second_real {W : Vec Ideal S64x64 .bf16} {w : Fin 64 → Fin 64 → ℝ} (hW : ∀ k j, W (ix2 k j) = ((w k j : ℝ) : EReal))
    (n : Fin 262144) (j : Fin 64) : second Y A S W n j = ((∑ k : Fin 64, act y g be n k * w k j : ℝ) : EReal) := by
  unfold second
  rw [← coe_sum]
  refine Finset.sum_congr rfl fun k _ => ?_
  rw [hY, hA, hS, hW, act_real, EReal.coe_mul]

theorem third_real {W : Vec Ideal S64x128 .bf16} {w : Fin 64 → Fin 128 → ℝ} (hW : ∀ k j, W (ix2 k j) = ((w k j : ℝ) : EReal))
    (n : Fin 262144) (j : Fin 128) : third Y A S W n j = ((∑ k : Fin 64, act y g be n k * w k j : ℝ) : EReal) := by
  unfold third
  rw [← coe_sum]
  refine Finset.sum_congr rfl fun k _ => ?_
  rw [hY, hA, hS, hW, act_real, EReal.coe_mul]

end

/-- The greatest of the 32 rows of query point `g`, channel `j`. -/
def greatestOf (z : Fin 262144 → Fin 128 → ℝ) (g : Fin 8192) (j : Fin 128) : EReal :=
  Finset.univ.fold max (Ideal.ofBits .f32 0xFF800000#32) fun k : Fin 32 =>
    ((z (⟨g.val * 32 + k.val, member_lt g k⟩ : Fin 262144) j : ℝ) : EReal)

theorem greatest_real {Y : Vec Ideal S262144x128 .bf16} {A S : Vec Ideal S1x128 .f32} {y : Fin 262144 → Fin 128 → ℝ}
    {g be : Fin 128 → ℝ} (hY : ∀ n k, Y (ix2 n k) = ((y n k : ℝ) : EReal))
    (hA : ∀ k, A (ix2 0 k) = scaleOf (∑ n, (y n k : EReal)) (∑ n, (y n k : EReal) * (y n k : EReal)) (g k))
    (hS : ∀ k, S (ix2 0 k) = shiftOf (∑ n, (y n k : EReal)) (∑ n, (y n k : EReal) * (y n k : EReal)) (g k) (be k))
    (p : Fin 8192) (j : Fin 128) : greatest Y A S p j = greatestOf (act y g be) p j := by
  unfold greatest greatestOf
  refine congrArg (fun f => Finset.univ.fold max (Ideal.ofBits .f32 0xFF800000#32) f) (funext fun k => ?_)
  rw [hY, hA, hS, act_real]

/-! ## The arguments as real numbers -/

/-- The fourteen arguments. -/
structure Args where
  x : (⟨2, ![262144, 128]⟩ : Shape).Idx → EReal
  q : (⟨3, ![8, 1024, 3]⟩ : Shape).Idx → EReal
  w0 : (⟨2, ![67, 64]⟩ : Shape).Idx → EReal
  b0 : (⟨1, ![64]⟩ : Shape).Idx → EReal
  g0 : (⟨1, ![64]⟩ : Shape).Idx → EReal
  e0 : (⟨1, ![64]⟩ : Shape).Idx → EReal
  w1 : (⟨2, ![64, 64]⟩ : Shape).Idx → EReal
  b1 : (⟨1, ![64]⟩ : Shape).Idx → EReal
  g1 : (⟨1, ![64]⟩ : Shape).Idx → EReal
  e1 : (⟨1, ![64]⟩ : Shape).Idx → EReal
  w2 : (⟨2, ![64, 128]⟩ : Shape).Idx → EReal
  b2 : (⟨1, ![128]⟩ : Shape).Idx → EReal
  g2 : (⟨1, ![128]⟩ : Shape).Idx → EReal
  e2 : (⟨1, ![128]⟩ : Shape).Idx → EReal

/-- An extended real that is a real number. -/
def IsReal (v : EReal) : Prop := v = ((v.toReal : ℝ) : EReal)

/-- Every entry that is read is a real number; of the gathered rows the first 67 columns are read. -/
structure Args.Real (a : Args) : Prop where
  x : ∀ (n : Fin 262144) (k : Fin 67), IsReal (a.x (ix2 n (Fin.castAdd 61 k)))
  q : ∀ i, IsReal (a.q i)
  w0 : ∀ i, IsReal (a.w0 i)
  b0 : ∀ i, IsReal (a.b0 i)
  g0 : ∀ i, IsReal (a.g0 i)
  e0 : ∀ i, IsReal (a.e0 i)
  w1 : ∀ i, IsReal (a.w1 i)
  b1 : ∀ i, IsReal (a.b1 i)
  g1 : ∀ i, IsReal (a.g1 i)
  e1 : ∀ i, IsReal (a.e1 i)
  w2 : ∀ i, IsReal (a.w2 i)
  b2 : ∀ i, IsReal (a.b2 i)
  g2 : ∀ i, IsReal (a.g2 i)
  e2 : ∀ i, IsReal (a.e2 i)

variable (a : Args)

/-- The first layer of the arguments, before normalization. -/
def Args.y0 : Fin 262144 → Fin 64 → ℝ :=
  layer1 (fun n k => (a.x (ix2 n (Fin.castAdd 61 k))).toReal) (fun b s p => (a.q (ix3 b s p)).toReal)
    (fun k j => (a.w0 (ix2 k j)).toReal) (fun j => (a.b0 (ix1 j)).toReal)

def Args.z0 : Fin 262144 → Fin 64 → ℝ := act a.y0 (fun j => (a.g0 (ix1 j)).toReal) (fun j => (a.e0 (ix1 j)).toReal)

/-- The second layer, without its bias and then normalized. -/
def Args.y1 (n : Fin 262144) (j : Fin 64) : ℝ := ∑ k : Fin 64, a.z0 n k * (a.w1 (ix2 k j)).toReal

def Args.z1 : Fin 262144 → Fin 64 → ℝ := act a.y1 (fun j => (a.g1 (ix1 j)).toReal) (fun j => (a.e1 (ix1 j)).toReal)

/-- The third layer, without its bias and then normalized. -/
def Args.y2 (n : Fin 262144) (j : Fin 128) : ℝ := ∑ k : Fin 64, a.z1 n k * (a.w2 (ix2 k j)).toReal

def Args.z2 : Fin 262144 → Fin 128 → ℝ := act a.y2 (fun j => (a.g2 (ix1 j)).toReal) (fun j => (a.e2 (ix1 j)).toReal)

/-- What is returned for query point `s` of cloud `b`, channel `j`. -/
def Args.result (b : Fin 8) (s : Fin 1024) (j : Fin 128) : EReal :=
  greatestOf a.z2 ⟨b.val * 1024 + s.val, by have := b.isLt; have := s.isLt; omega⟩ j

end Cert.Proof.Mlp

end
-- ==== Proof.MlpPre.lean ====
/-
  The precondition read back: each entry that is compared with infinity is a real number.
-/
module

public import Idealize.ShloMosaic.Lib.Pointwise
public import Idealize.ShloMosaic.Lib.ReduceAll
public import proofs.«01_k».proof.Pre_all_finite
public import proofs.«01_k».proof.Proof.MlpSpec

@[expose] public section

set_option maxRecDepth 16384

noncomputable section

namespace Cert.Proof.Mlp

open Cert.Pre_all_finite
open Idealize.ShloMosaic Idealize.ShloMosaic.StableHlo

/-- An extended real whose absolute value is below infinity is a real number. -/
theorem isReal_of_lt {v : EReal} (h : Ideal.cmp .olt (max v (-v)) (Ideal.ofBits .f32 0x7F800000#32) = 1#1) : IsReal v := by
  have inf : Ideal.ofBits .f32 0x7F800000#32 = ⊤ := by simp [Ideal.ofBits, Ideal.ieee]
  have below : max v (-v) < ⊤ := by
    by_contra hn
    rw [inf] at h
    have hz : Ideal.cmp .olt (max v (-v)) ⊤ = 0#1 := by
      show BitVec.ofBool (decide (max v (-v) < ⊤)) = 0#1
      rw [decide_eq_false hn]
      rfl
    exact absurd (hz.symm.trans h) (by decide)
  obtain ⟨hv, hw⟩ := max_lt_iff.mp below
  refine (EReal.coe_toReal hv.ne ?_).symm
  rintro rfl
  exact hw.ne (by simp)

/-- One of the fourteen comparisons. -/
theorem real_of_all {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .f32 0x7F800000#32)))
      (constantI S_ 1 1#1) hr hu = fun _ => 1#1) (i : s.Idx) : IsReal (x i) := by
  haveI : Subsingleton S_.Idx := ⟨fun a b => funext fun k => k.elim0⟩
  have e := Host.reduce_andi_all _ _ _ _ _ (congrFun h (fun a => a.elim0)) i
  refine isReal_of_lt ?_
  exact e

/-- The two sides of a conjunction of the comparisons. -/
theorem both {a b : IVec S_ 1} (h : andi a b = fun _ => 1#1) : (a = fun _ => 1#1) ∧ b = fun _ => 1#1 := by
  have key : ∀ p q : BitVec 1, IntOp.andi p q = 1#1 → p = 1#1 ∧ q = 1#1 := by decide
  exact ⟨funext fun i => (key _ _ (congrFun h i)).1, funext fun i => (key _ _ (congrFun h i)).2⟩

variable [Facts]

/-- The columns that are compared. -/
theorem columns_apply (x : FVec Ideal S262144x128 .f32) (n : Fin 262144) (k : Fin 67) :
    extractStridedSlice S262144x67 ![0, 0] x Facts.slices_S262144x128_S262144x67_0_0 (ix2 n k) = x (ix2 n (Fin.castAdd 61 k)) := by
  pointwise
  rfl

/-- The precondition says that every entry that is read is a real number. -/
theorem real_of_pre (a : Args)
    (h : fn (F := Ideal) a.x a.q a.w0 a.b0 a.g0 a.e0 a.w1 a.b1 a.g1 a.e1 a.w2 a.b2 a.g2 a.e2 = fun _ => 1#1) : a.Real := by
  unfold fn fn_part1 fn_part2 fn_part3 fn_part4 at h
  obtain ⟨h, h13⟩ := both h
  obtain ⟨h, h12⟩ := both h
  obtain ⟨h, h11⟩ := both h
  obtain ⟨h, h10⟩ := both h
  obtain ⟨h, h9⟩ := both h
  obtain ⟨h, h8⟩ := both h
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h, h1⟩ := both h
  refine ⟨fun n k => ?_, real_of_all _ _ _ _ h1, real_of_all _ _ _ _ h2, real_of_all _ _ _ _ h3, real_of_all _ _ _ _ h4,
    real_of_all _ _ _ _ h5, real_of_all _ _ _ _ h6, real_of_all _ _ _ _ h7, real_of_all _ _ _ _ h8, real_of_all _ _ _ _ h9,
    real_of_all _ _ _ _ h10, real_of_all _ _ _ _ h11, real_of_all _ _ _ _ h12, real_of_all _ _ _ _ h13⟩
  have e := real_of_all _ _ _ _ h (ix2 n k)
  exact (columns_apply a.x n k) ▸ e

end Cert.Proof.Mlp

end
-- ==== Proof.MlpRun.lean ====
/-
  The run of the three layers: the four launches among their stretches of host operations, with all that the unscoped buffers
  hold at the end. The frame's fold through the segments names every buffer at every boundary, so that the last boundary's
  contents say what the result is.
-/
module

public import proofs.«01_k».proof.Proof.Gen.MlpIdeal.Frame

@[expose] public section

set_option maxRecDepth 16384

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch deals core `c`: its unscoped buffers as the memory has them, the generator register, nothing owed. -/
theorem start_of (c : Dev nD) :
    iprop(StableHlo.held (c : Thread nD τ) (Pipeline.ucRefs τ sig) (W0 m ρ c) ∗ (∃ r, prngReg c r)
        ∗ ∃ W, owes (c : Thread nD τ) (0 : CellTallies nD τ sig Unit) W)
      ⊢ (iprop(StableHlo.held (c : Thread nD τ) (Pipeline.ucRefs τ sig) (W0 m ρ c) ∗ R c) : sProp 𝕄) := .rfl

set_option backward.isDefEq.respectTransparency.types false in
/-- Every run ends, with every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        dsimp only [Pipeline.Seg.post, hseg, Pipeline.HostSeg.ofOps]
        iintro ⟨Hbufs, Hreg, Howe⟩
        isplitl [Hbufs Hreg]
        · isplitl [Hbufs]
          · iexact Hbufs
          · iexact Hreg
        · iexact Howe⟩)
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hbufs, -, Howe, -, Hreg, -⟩, -⟩
      imodintro
      iapply (start_of m ρ c)
      isplitl [Hbufs]
      · iexact Hbufs
      isplitl [Hreg]
      · iexists _
        iexact Hreg
      · iexists ∅
        iexact Howe)
    (QY := fun c s => ∀ b ∈ Pipeline.ucRefs τ sig, s.mem (((c : Thread nD τ)).1, b) = W9 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W9 m ρ c) s')
      isplitl [Hbufs] <;> iassumption)
    (hQ := fun s h _ => h)

/-- A buffer of the TensorCore's own at the end of the run. -/
theorem run_at {b : Ref sig .tc} (hb : ¬ (Proc.devRef .tc b : DevRef τ sig).isScoped) :
    θ_run defs (onTc (τ := τ) (main (F := F))) ⟨m, fun _ => 0, ρ⟩
      (fun r => ∀ c : Dev nD, r.2.mem ((c : Thread nD τ).loc b) = W9 m ρ c (Proc.devRef .tc b)) :=
  (θ_run defs _ _).mono (fun r h c => h c _ (mem_uc b hb)) (run_all m ρ)

end Cert.Proof.Mlp

end
-- ==== Proof.MlpKernel.lean ====
/-
  What the four launches return, over the extended reals: the arrays are followed from one boundary to the next, each as real
  numbers, when the arguments are real numbers.
-/
module

public import proofs.«01_k».proof.Proof.MlpRun
public import proofs.«01_k».proof.Proof.MlpSpec

@[expose] public section

set_option maxRecDepth 16384

noncomputable section

namespace Cert.Proof.Mlp

open Cert.MlpIdeal Cert.MlpIdeal.Gen
open Idealize.ShloMosaic Idealize.ShloMosaic.StableHlo Idealize.ShloMosaic.TcCoe Idealize.SL.Sem
open scoped BigOperators

variable (m : (ℓ : Loc nD τ sig) → Buf (Elt Ideal) ℓ) (ρ : Dev nD → PrngReg) (c : Dev nD)

/-- The arguments of core `c`. -/
def given : Args where
  x := m ((c : Thread nD τ).loc main_arg0)
  q := m ((c : Thread nD τ).loc main_arg1)
  w0 := m ((c : Thread nD τ).loc main_arg2)
  b0 := m ((c : Thread nD τ).loc main_arg3)
  g0 := m ((c : Thread nD τ).loc main_arg4)
  e0 := m ((c : Thread nD τ).loc main_arg5)
  w1 := m ((c : Thread nD τ).loc main_arg6)
  b1 := m ((c : Thread nD τ).loc main_arg7)
  g1 := m ((c : Thread nD τ).loc main_arg8)
  e1 := m ((c : Thread nD τ).loc main_arg9)
  w2 := m ((c : Thread nD τ).loc main_arg10)
  b2 := m ((c : Thread nD τ).loc main_arg11)
  g2 := m ((c : Thread nD τ).loc main_arg12)
  e2 := m ((c : Thread nD τ).loc main_arg13)

variable (h : (given m c).Real)
include h

/-- The first launch's formula at the contents it is entered with. -/
theorem first_at (n : Fin 262144) (j : Fin 64) :
    first (V1 m ρ c main_arg0) (V1 m ρ c main_v2) (V1 m ρ c main_v4) (V1 m ρ c main_v3) n j = (((given m c).y0 n j : ℝ) : EReal) := by
  refine first_real (fun n k => ?_) (fun k j => ?_) (fun k j => ?_) (fun j => ?_) (fun g p => ?_) n j
  · exact (congrFun (W1_args m ρ c main_arg0 (by decide)) (ix2 n (Fin.castAdd 61 k))).trans (h.x n k)
  · refine (host0_v2 (W0 m ρ c) (Fin.castAdd 61 k) j).trans ((dif_pos k.isLt).trans ?_)
    exact h.w0 (ix2 k j)
  · exact (host0_v2 (W0 m ρ c) (Fin.natAdd 67 k) j).trans (dif_neg (by show ¬ (67 + k.val < 67); omega))
  · exact (host0_v4 (W0 m ρ c) j).trans (h.b0 (ix1 j))
  · exact (host0_v3 (W0 m ρ c) g p).trans (h.q _)

theorem y0_at (n : Fin 262144) (j : Fin 64) :
    (W2 m ρ c (Proc.devRef .tc main_v5_0) : Vec Ideal S262144x64 .bf16) (ix2 n j) = (((given m c).y0 n j : ℝ) : EReal) :=
  (congrFun ((W2_arr m ρ c 4).trans (arr0_4 (V1 m ρ) c)) (ix2 n j)).trans (first_at m ρ c h n j)

theorem s0_at (j : Fin 64) : (W2 m ρ c (Proc.devRef .tc main_v5_1) : Vec Ideal S1x64 .f32) (ix2 0 j)
    = ∑ n, (((given m c).y0 n j : ℝ) : EReal) := by
  refine (congrFun ((W2_arr m ρ c 5).trans (arr0_5 (V1 m ρ) c)) (ix2 0 j)).trans ?_
  show (∑ n, first (V1 m ρ c main_arg0) (V1 m ρ c main_v2) (V1 m ρ c main_v4) (V1 m ρ c main_v3) n j : EReal) = _
  exact Finset.sum_congr rfl fun n _ => first_at m ρ c h n j

theorem ss0_at (j : Fin 64) : (W2 m ρ c (Proc.devRef .tc main_v5_2) : Vec Ideal S1x64 .f32) (ix2 0 j)
    = ∑ n, (((given m c).y0 n j : ℝ) : EReal) * (((given m c).y0 n j : ℝ) : EReal) := by
  refine (congrFun ((W2_arr m ρ c 6).trans (arr0_6 (V1 m ρ) c)) (ix2 0 j)).trans ?_
  show (∑ n, first (V1 m ρ c main_arg0) (V1 m ρ c main_v2) (V1 m ρ c main_v4) (V1 m ρ c main_v3) n j * first (V1 m ρ c main_arg0) (V1 m ρ c main_v2) (V1 m ρ c main_v4) (V1 m ρ c main_v3) n j : EReal) = _
  exact Finset.sum_congr rfl fun n _ => congrArg₂ (fun u v : EReal => u * v) (first_at m ρ c h n j) (first_at m ρ c h n j)

/-- The second launch's formula at the contents it is entered with. -/
theorem second_at (n : Fin 262144) (j : Fin 64) :
    second (V3 m ρ c main_v5_0) (V3 m ρ c main_v16) (V3 m ρ c main_v19) (V3 m ρ c main_v20) n j
      = (((given m c).y1 n j : ℝ) : EReal) := by
  have hg : ∀ j : Fin 64, (W2 m ρ c (Proc.devRef .tc main_arg4) : Vec Ideal S64 .f32) (ix1 j) = _ := fun j =>
    (congrFun (W2_args m ρ c main_arg4 (by decide)) (ix1 j)).trans (h.g0 (ix1 j))
  have he : ∀ j : Fin 64, (W2 m ρ c (Proc.devRef .tc main_arg5) : Vec Ideal S64 .f32) (ix1 j) = _ := fun j =>
    (congrFun (W2_args m ρ c main_arg5 (by decide)) (ix1 j)).trans (h.e0 (ix1 j))
  unfold Args.y1 Args.z0
  refine second_real (y := (given m c).y0) (g := fun j => ((given m c).g0 (ix1 j)).toReal)
    (be := fun j => ((given m c).e0 (ix1 j)).toReal) (w := fun k j => ((given m c).w1 (ix2 k j)).toReal) (fun n k => ?_) (fun k => ?_) (fun k => ?_) (fun k j => ?_) n j
  · exact (congrFun (W3_of m ρ c main_v5_0 (by decide)) (ix2 n k)).trans (y0_at m ρ c h n k)
  · refine (host1_v16 (W2 m ρ c) k).trans ?_
    rw [s0_at m ρ c h, ss0_at m ρ c h, hg]
  · refine (host1_v19 (W2 m ρ c) k).trans ?_
    rw [s0_at m ρ c h, ss0_at m ρ c h, hg, he]
  · exact (congrFun ((host1_v20 (W2 m ρ c)).trans (W2_args m ρ c main_arg6 (by decide))) (ix2 k j)).trans (h.w1 (ix2 k j))

theorem y1_at (n : Fin 262144) (j : Fin 64) :
    (W4 m ρ c (Proc.devRef .tc main_v21_0) : Vec Ideal S262144x64 .bf16) (ix2 n j) = (((given m c).y1 n j : ℝ) : EReal) :=
  (congrFun ((W4_arr m ρ c 4).trans (arr1_4 (V3 m ρ) c)) (ix2 n j)).trans (second_at m ρ c h n j)

theorem s1_at (j : Fin 64) : (W4 m ρ c (Proc.devRef .tc main_v21_1) : Vec Ideal S1x64 .f32) (ix2 0 j)
    = ∑ n, (((given m c).y1 n j : ℝ) : EReal) := by
  refine (congrFun ((W4_arr m ρ c 5).trans (arr1_5 (V3 m ρ) c)) (ix2 0 j)).trans ?_
  show (∑ n, second (V3 m ρ c main_v5_0) (V3 m ρ c main_v16) (V3 m ρ c main_v19) (V3 m ρ c main_v20) n j : EReal) = _
  exact Finset.sum_congr rfl fun n _ => second_at m ρ c h n j

theorem ss1_at (j : Fin 64) : (W4 m ρ c (Proc.devRef .tc main_v21_2) : Vec Ideal S1x64 .f32) (ix2 0 j)
    = ∑ n, (((given m c).y1 n j : ℝ) : EReal) * (((given m c).y1 n j : ℝ) : EReal) := by
  refine (congrFun ((W4_arr m ρ c 6).trans (arr1_6 (V3 m ρ) c)) (ix2 0 j)).trans ?_
  show (∑ n, second (V3 m ρ c main_v5_0) (V3 m ρ c main_v16) (V3 m ρ c main_v19) (V3 m ρ c main_v20) n j * second (V3 m ρ c main_v5_0) (V3 m ρ c main_v16) (V3 m ρ c main_v19) (V3 m ρ c main_v20) n j : EReal) = _
  exact Finset.sum_congr rfl fun n _ => congrArg₂ (fun u v : EReal => u * v) (second_at m ρ c h n j) (second_at m ρ c h n j)

/-- The third launch's formula at the contents it is entered with. -/
theorem third_at (n : Fin 262144) (j : Fin 128) :
    third (V5 m ρ c main_v21_0) (V5 m ρ c main_v32) (V5 m ρ c main_v35) (V5 m ρ c main_v36) n j
      = (((given m c).y2 n j : ℝ) : EReal) := by
  have hg : ∀ j : Fin 64, (W4 m ρ c (Proc.devRef .tc main_arg8) : Vec Ideal S64 .f32) (ix1 j) = _ := fun j =>
    (congrFun (W4_args m ρ c main_arg8 (by decide)) (ix1 j)).trans (h.g1 (ix1 j))
  have he : ∀ j : Fin 64, (W4 m ρ c (Proc.devRef .tc main_arg9) : Vec Ideal S64 .f32) (ix1 j) = _ := fun j =>
    (congrFun (W4_args m ρ c main_arg9 (by decide)) (ix1 j)).trans (h.e1 (ix1 j))
  unfold Args.y2 Args.z1
  refine third_real (y := (given m c).y1) (g := fun j => ((given m c).g1 (ix1 j)).toReal)
    (be := fun j => ((given m c).e1 (ix1 j)).toReal) (w := fun k j => ((given m c).w2 (ix2 k j)).toReal) (fun n k => ?_) (fun k => ?_) (fun k => ?_) (fun k j => ?_) n j
  · exact (congrFun (W5_of m ρ c main_v21_0 (by decide)) (ix2 n k)).trans (y1_at m ρ c h n k)
  · refine (host2_v32 (W4 m ρ c) k).trans ?_
    rw [s1_at m ρ c h, ss1_at m ρ c h, hg]
  · refine (host2_v35 (W4 m ρ c) k).trans ?_
    rw [s1_at m ρ c h, ss1_at m ρ c h, hg, he]
  · exact (congrFun ((host2_v36 (W4 m ρ c)).trans (W4_args m ρ c main_arg10 (by decide))) (ix2 k j)).trans (h.w2 (ix2 k j))

theorem y2_at (n : Fin 262144) (j : Fin 128) :
    (W6 m ρ c (Proc.devRef .tc main_v37_0) : Vec Ideal S262144x128 .bf16) (ix2 n j) = (((given m c).y2 n j : ℝ) : EReal) :=
  (congrFun ((W6_arr m ρ c 4).trans (arr2_4 (V5 m ρ) c)) (ix2 n j)).trans (third_at m ρ c h n j)

theorem s2_at (j : Fin 128) : (W6 m ρ c (Proc.devRef .tc main_v37_1) : Vec Ideal S1x128 .f32) (ix2 0 j)
    = ∑ n, (((given m c).y2 n j : ℝ) : EReal) := by
  refine (congrFun ((W6_arr m ρ c 5).trans (arr2_5 (V5 m ρ) c)) (ix2 0 j)).trans ?_
  show (∑ n, third (V5 m ρ c main_v21_0) (V5 m ρ c main_v32) (V5 m ρ c main_v35) (V5 m ρ c main_v36) n j : EReal) = _
  exact Finset.sum_congr rfl fun n _ => third_at m ρ c h n j

theorem ss2_at (j : Fin 128) : (W6 m ρ c (Proc.devRef .tc main_v37_2) : Vec Ideal S1x128 .f32) (ix2 0 j)
    = ∑ n, (((given m c).y2 n j : ℝ) : EReal) * (((given m c).y2 n j : ℝ) : EReal) := by
  refine (congrFun ((W6_arr m ρ c 6).trans (arr2_6 (V5 m ρ) c)) (ix2 0 j)).trans ?_
  show (∑ n, third (V5 m ρ c main_v21_0) (V5 m ρ c main_v32) (V5 m ρ c main_v35) (V5 m ρ c main_v36) n j * third (V5 m ρ c main_v21_0) (V5 m ρ c main_v32) (V5 m ρ c main_v35) (V5 m ρ c main_v36) n j : EReal) = _
  exact Finset.sum_congr rfl fun n _ => congrArg₂ (fun u v : EReal => u * v) (third_at m ρ c h n j) (third_at m ρ c h n j)

/-- The last launch's formula at the contents it is entered with. -/
theorem greatest_at (p : Fin 8192) (j : Fin 128) :
    greatest (V7 m ρ c main_v37_0) (V7 m ρ c main_v48) (V7 m ρ c main_v51) p j = greatestOf (given m c).z2 p j := by
  have hg : ∀ j : Fin 128, (W6 m ρ c (Proc.devRef .tc main_arg12) : Vec Ideal S128 .f32) (ix1 j) = _ := fun j =>
    (congrFun (W6_args m ρ c main_arg12 (by decide)) (ix1 j)).trans (h.g2 (ix1 j))
  have he : ∀ j : Fin 128, (W6 m ρ c (Proc.devRef .tc main_arg13) : Vec Ideal S128 .f32) (ix1 j) = _ := fun j =>
    (congrFun (W6_args m ρ c main_arg13 (by decide)) (ix1 j)).trans (h.e2 (ix1 j))
  unfold Args.z2
  refine greatest_real (y := (given m c).y2) (fun n k => ?_) (fun k => ?_) (fun k => ?_) p j
  · exact (congrFun (W7_of m ρ c main_v37_0 (by decide)) (ix2 n k)).trans (y2_at m ρ c h n k)
  · refine (host3_v48 (W6 m ρ c) k).trans ?_
    rw [s2_at m ρ c h, ss2_at m ρ c h, hg]
  · refine (host3_v51 (W6 m ρ c) k).trans ?_
    rw [s2_at m ρ c h, ss2_at m ρ c h, hg, he]

/-- The result array at the end of the run. -/
theorem result_at : (W9 m ρ c (Proc.devRef .tc main_v53) : Vec Ideal S8x1024x128 .f32)
    = fun i : S8x1024x128.Idx => (given m c).result (i 0) (i 1) (i 2) := by
  funext i
  obtain ⟨b, s, j, rfl⟩ : ∃ b s j, i = ix3 b s j := ⟨_, _, _, eq_ix3 i⟩
  refine (host4_v53 (W8 m ρ c) b s j).trans ?_
  exact (congrFun ((W8_arr m ρ c 3).trans (arr3_3 (V7 m ρ) c)) (ix2 _ j)).trans (greatest_at m ρ c h _ j)

end Cert.Proof.Mlp

end
-- ==== Proof.MlpRef.lean ====
/-
  The reference's layers, over the extended reals: each linear layer read at an index, and each normalization as the real one.
-/
module

public import Idealize.ShloMosaic.Lib.Pointwise
public import proofs.«01_k».proof.Proof.Gen.RefMlpIdeal.Run
public import proofs.«01_k».proof.Proof.MlpReal

@[expose] public section

set_option maxRecDepth 16384

noncomputable section

namespace Cert.Proof.Mlp.Ref

open Cert.RefMlpIdeal Cert.RefMlpIdeal.Gen Cert.RefMlpIdeal.Value
open Idealize.ShloMosaic Idealize.ShloMosaic.StableHlo Idealize.ShloMosaic.TcCoe Idealize.SL.Sem
open scoped BigOperators

/-- The row of neighbour `k` of query point `s` of cloud `b`. -/
def flat (b : Fin 8) (s : Fin 1024) (k : Fin 32) : Fin 262144 :=
  ⟨b.val * 32768 + s.val * 32 + k.val, by have := b.isLt; have := s.isLt; have := k.isLt; omega⟩

/-- Where row `n` and channel `j` stand among the clouds, the query points and their neighbours. -/
def place {J : ℕ} (n : Fin 262144) (j : Fin J) : (⟨4, ![8, 1024, 32, J]⟩ : Shape).Idx :=
  ix4 (⟨n.val / 32768, by have := n.isLt; omega⟩ : Fin 8) (⟨n.val / 32 % 1024, Nat.mod_lt _ (by decide)⟩ : Fin 1024)
    (⟨n.val % 32, Nat.mod_lt _ (by decide)⟩ : Fin 32) j

theorem flat_place (n : Fin 262144) :
    flat (⟨n.val / 32768, by have := n.isLt; omega⟩ : Fin 8) (⟨n.val / 32 % 1024, Nat.mod_lt _ (by decide)⟩ : Fin 1024)
      (⟨n.val % 32, Nat.mod_lt _ (by decide)⟩ : Fin 32) = n :=
  Fin.ext (by show n.val / 32768 * 32768 + n.val / 32 % 1024 * 32 + n.val % 32 = n.val; omega)

/-- The indices that reduce to channel `j`, one for each row. -/
theorem fiber {J : ℕ} (h : (⟨4, ![8, 1024, 32, J]⟩ : Shape).ReducesTo [0, 1, 2] (⟨1, ![J]⟩ : Shape)) (j : Fin J)
    (i : (⟨4, ![8, 1024, 32, J]⟩ : Shape).Idx) : h.drop i = ix1 j ↔ ∃ n : Fin 262144, place n j = i := by
  constructor
  · intro e
    refine ⟨flat (i 0) (i 1) (i 2), ?_⟩
    have h0 : (i 0).val < 8 := (i 0).isLt
    have h1 : (i 1).val < 1024 := (i 1).isLt
    have h2 : (i 2).val < 32 := (i 2).isLt
    funext a
    apply Fin.ext
    match a with
    | ⟨0, _⟩ => show ((i 0).val * 32768 + (i 1).val * 32 + (i 2).val) / 32768 = (i 0).val; omega
    | ⟨1, _⟩ => show ((i 0).val * 32768 + (i 1).val * 32 + (i 2).val) / 32 % 1024 = (i 1).val; omega
    | ⟨2, _⟩ => show ((i 0).val * 32768 + (i 1).val * 32 + (i 2).val) % 32 = (i 2).val; omega
    | ⟨3, _⟩ => exact (congrArg Fin.val (congrFun e 0)).symm
  · rintro ⟨n, rfl⟩
    funext b
    apply Fin.ext
    match b with
    | ⟨0, _⟩ => rfl

/-- A sum over the rows, as the reference takes it. -/
theorem sum_place {J : ℕ} (h : (⟨4, ![8, 1024, 32, J]⟩ : Shape).ReducesTo [0, 1, 2] (⟨1, ![J]⟩ : Shape))
    (x : (⟨4, ![8, 1024, 32, J]⟩ : Shape).Idx → EReal) (j : Fin J) :
    Ideal.hostReduceAdd h x 0 (ix1 j) = ∑ n : Fin 262144, x (place n j) := by
  unfold Ideal.hostReduceAdd
  rw [zero_add]
  refine Finset.sum_filter_eq_sum_of_fiber _ (fun n : Fin 262144 => place n j) (fun n n' e => ?_) (fiber h j) x
  have e0 : n.val / 32768 = n'.val / 32768 := congrArg Fin.val (congrFun e 0)
  have e1 : n.val / 32 % 1024 = n'.val / 32 % 1024 := congrArg Fin.val (congrFun e 1)
  have e2 : n.val % 32 = n'.val % 32 := congrArg Fin.val (congrFun e 2)
  exact Fin.ext (by omega)

/-- The count that a variance divides by. -/
def count : FVec Ideal S_ .f32 := subf (constant S_ .f32 0x48800000#32) (sitofp .f32 (constantI S_ 32 0#32))

theorem count_apply (i : S_.Idx) : count i = ((262144 : ℝ) : EReal) := by
  have h : count i = rowsLit - ((((0#32 : BitVec 32).toInt : ℤ) : ℝ) : EReal) := rfl
  rw [h, rowsLit_eq]
  simp

/-! ## Normalizing 64 channels -/

/-- The deviation from the channel's mean. -/
def dev64 (y : FVec Ideal S8x1024x32x64 .f32) : FVec Ideal S8x1024x32x64 .f32 :=
  subf y (broadcastInDim S8x1024x32x64 ![0, 1, 2, 3] bcast_S1x1x1x64_S8x1024x32x64_0_1_2_3 (Host.divf
    (broadcastInDim S1x1x1x64 ![3] bcast_S64_S1x1x1x64_3
      (Host.reduceAdd y (constant S_ .f32 0x00000000#32) reducesTo_S8x1024x32x64_S64_d0_1_2 h_S_))
    (broadcastInDim S1x1x1x64 ![] bcast_S_S1x1x1x64 (constant S_ .f32 0x48800000#32))))

/-- The variance of the channel, given the deviations. -/
def var64 (d : FVec Ideal S8x1024x32x64 .f32) : FVec Ideal S1x1x1x64 .f32 :=
  select (broadcastInDim S1x1x1x64 ![] bcast_S_S1x1x1x64 (cmpf .ogt count (constant S_ .f32 0x00000000#32)))
    (Host.divf (broadcastInDim S1x1x1x64 ![3] bcast_S64_S1x1x1x64_3
      (Host.reduceAdd (mulf d d) (constant S_ .f32 0x00000000#32) reducesTo_S8x1024x32x64_S64_d0_1_2 h_S_))
      (broadcastInDim S1x1x1x64 ![] bcast_S_S1x1x1x64 count))
    (broadcastInDim S1x1x1x64 ![] bcast_S_S1x1x1x64 (id (constant S_ .f32 0x7FC00000#32)))

/-- The normalized and rectified layer. -/
def act64 (y : FVec Ideal S8x1024x32x64 .f32) (g be : FVec Ideal S64 .f32) : FVec Ideal S8x1024x32x64 .f32 :=
  maximumf (addf (mulf (Host.divf (dev64 y) (broadcastInDim S8x1024x32x64 ![0, 1, 2, 3] bcast_S1x1x1x64_S8x1024x32x64_0_1_2_3
      (Host.sqrt (addf (var64 (dev64 y)) (broadcastInDim S1x1x1x64 ![] bcast_S_S1x1x1x64 (constant S_ .f32 0x3727C5AC#32))))))
    (broadcastInDim S8x1024x32x64 ![0, 1, 2, 3] bcast_S1x1x1x64_S8x1024x32x64_0_1_2_3
      (broadcastInDim S1x1x1x64 ![3] bcast_S64_S1x1x1x64_3 g)))
    (broadcastInDim S8x1024x32x64 ![0, 1, 2, 3] bcast_S1x1x1x64_S8x1024x32x64_0_1_2_3
      (broadcastInDim S1x1x1x64 ![3] bcast_S64_S1x1x1x64_3 be)))
    (broadcastInDim S8x1024x32x64 ![] bcast_S_S8x1024x32x64 (constant S_ .f32 0x00000000#32))

section

variable {y : FVec Ideal S8x1024x32x64 .f32} {f : Fin 262144 → Fin 64 → ℝ}
  (hy : ∀ b s k j, y (ix4 b s k j) = ((f (flat b s k) j : ℝ) : EReal))

include hy

theorem dev64_apply (b : Fin 8) (s : Fin 1024) (k : Fin 32) (j : Fin 64) :
    dev64 y (ix4 b s k j) = ((f (flat b s k) j - mean (fun n => f n j) : ℝ) : EReal) := by
  have h : dev64 y (ix4 b s k j)
      = y (ix4 b s k j) - Ideal.div (Ideal.hostReduceAdd reducesTo_S8x1024x32x64_S64_d0_1_2 y 0 (ix1 j)) rowsLit := by
    pointwise [dev64]
  have hs : ∀ n : Fin 262144, y (place n j) = ((f n j : ℝ) : EReal) := fun n => by
    refine (hy _ _ _ j).trans ?_
    rw [flat_place]
  rw [h, sum_place, Finset.sum_congr rfl fun n _ => hs n, coe_sum, rowsLit_eq, div_real _ (by norm_num), hy, ← EReal.coe_sub]
  rfl

theorem var64_apply (j : Fin 64) : var64 (dev64 y) (ix4 0 0 0 j) = ((var (fun n => f n j) : ℝ) : EReal) := by
  have h : var64 (dev64 y) (ix4 0 0 0 j)
      = if 0 < count ix0 then
          Ideal.div (Ideal.hostReduceAdd reducesTo_S8x1024x32x64_S64_d0_1_2 (mulf (dev64 y) (dev64 y)) 0 (ix1 j)) (count ix0)
        else id (constant (F := Ideal) S_ FTy.f32 2143289344#32) ix0 := by
    generalize dev64 y = d
    pointwise [var64]
  have hs : ∀ n : Fin 262144, mulf (dev64 y) (dev64 y) (place n j)
      = (((f n j - mean (fun n => f n j)) * (f n j - mean (fun n => f n j)) : ℝ) : EReal) := fun n => by
    have hd : dev64 y (place n j) = ((f n j - mean (fun n => f n j) : ℝ) : EReal) := by
      refine (dev64_apply hy _ _ _ j).trans ?_
      rw [flat_place]
    rw [EReal.coe_mul, ← hd]
    rfl
  rw [h, count_apply, if_pos (by rw [← EReal.coe_zero, EReal.coe_lt_coe_iff]; norm_num), sum_place,
    Finset.sum_congr rfl fun n _ => hs n, coe_sum, div_real _ (by norm_num)]
  rfl

theorem act64_apply {g be : FVec Ideal S64 .f32} {gr br : Fin 64 → ℝ} (hg : ∀ j, g (ix1 j) = ((gr j : ℝ) : EReal))
    (hb : ∀ j, be (ix1 j) = ((br j : ℝ) : EReal)) (b : Fin 8) (s : Fin 1024) (k : Fin 32) (j : Fin 64) :
    act64 y g be (ix4 b s k j)
      = ((max (norm (fun n => f n j) (gr j) (br j) (flat b s k)) 0 : ℝ) : EReal) := by
  have h : act64 y g be (ix4 b s k j)
      = max (Ideal.div (dev64 y (ix4 b s k j)) (Ideal.sqrt (var64 (dev64 y) (ix4 0 0 0 j) + epsLit)) * g (ix1 j) + be (ix1 j)) 0 := by
    unfold act64
    generalize var64 (dev64 y) = v
    generalize dev64 y = d
    pointwise
  rw [h, dev64_apply hy, var64_apply hy, eps_spec.2, ← EReal.coe_add, sqrt_real (add_nonneg (var_nonneg _) eps_spec.1.le),
    div_real _ (root_pos _).ne', hg, hb, ← EReal.coe_mul, ← EReal.coe_add, ← EReal.coe_zero, coe_max]
  rfl

end

/-! ## Normalizing 128 channels -/

/-- The deviation from the channel's mean. -/
def dev128 (y : FVec Ideal S8x1024x32x128 .f32) : FVec Ideal S8x1024x32x128 .f32 :=
  subf y (broadcastInDim S8x1024x32x128 ![0, 1, 2, 3] bcast_S1x1x1x128_S8x1024x32x128_0_1_2_3 (Host.divf
    (broadcastInDim S1x1x1x128 ![3] bcast_S128_S1x1x1x128_3
      (Host.reduceAdd y (constant S_ .f32 0x00000000#32) reducesTo_S8x1024x32x128_S128_d0_1_2 h_S_))
    (broadcastInDim S1x1x1x128 ![] bcast_S_S1x1x1x128 (constant S_ .f32 0x48800000#32))))

/-- The variance of the channel, given the deviations. -/
def var128 (d : FVec Ideal S8x1024x32x128 .f32) : FVec Ideal S1x1x1x128 .f32 :=
  select (broadcastInDim S1x1x1x128 ![] bcast_S_S1x1x1x128 (cmpf .ogt count (constant S_ .f32 0x00000000#32)))
    (Host.divf (broadcastInDim S1x1x1x128 ![3] bcast_S128_S1x1x1x128_3
      (Host.reduceAdd (mulf d d) (constant S_ .f32 0x00000000#32) reducesTo_S8x1024x32x128_S128_d0_1_2 h_S_))
      (broadcastInDim S1x1x1x128 ![] bcast_S_S1x1x1x128 count))
    (broadcastInDim S1x1x1x128 ![] bcast_S_S1x1x1x128 (id (constant S_ .f32 0x7FC00000#32)))

/-- The normalized and rectified layer. -/
def act128 (y : FVec Ideal S8x1024x32x128 .f32) (g be : FVec Ideal S128 .f32) : FVec Ideal S8x1024x32x128 .f32 :=
  maximumf (addf (mulf (Host.divf (dev128 y) (broadcastInDim S8x1024x32x128 ![0, 1, 2, 3] bcast_S1x1x1x128_S8x1024x32x128_0_1_2_3
      (Host.sqrt (addf (var128 (dev128 y)) (broadcastInDim S1x1x1x128 ![] bcast_S_S1x1x1x128 (constant S_ .f32 0x3727C5AC#32))))))
    (broadcastInDim S8x1024x32x128 ![0, 1, 2, 3] bcast_S1x1x1x128_S8x1024x32x128_0_1_2_3
      (broadcastInDim S1x1x1x128 ![3] bcast_S128_S1x1x1x128_3 g)))
    (broadcastInDim S8x1024x32x128 ![0, 1, 2, 3] bcast_S1x1x1x128_S8x1024x32x128_0_1_2_3
      (broadcastInDim S1x1x1x128 ![3] bcast_S128_S1x1x1x128_3 be)))
    (broadcastInDim S8x1024x32x128 ![] bcast_S_S8x1024x32x128 (constant S_ .f32 0x00000000#32))

section

variable {y : FVec Ideal S8x1024x32x128 .f32} {f : Fin 262144 → Fin 128 → ℝ}
  (hy : ∀ b s k j, y (ix4 b s k j) = ((f (flat b s k) j : ℝ) : EReal))

include hy

theorem dev128_apply (b : Fin 8) (s : Fin 1024) (k : Fin 32) (j : Fin 128) :
    dev128 y (ix4 b s k j) = ((f (flat b s k) j - mean (fun n => f n j) : ℝ) : EReal) := by
  have h : dev128 y (ix4 b s k j)
      = y (ix4 b s k j) - Ideal.div (Ideal.hostReduceAdd reducesTo_S8x1024x32x128_S128_d0_1_2 y 0 (ix1 j)) rowsLit := by
    pointwise [dev128]
  have hs : ∀ n : Fin 262144, y (place n j) = ((f n j : ℝ) : EReal) := fun n => by
    refine (hy _ _ _ j).trans ?_
    rw [flat_place]
  rw [h, sum_place, Finset.sum_congr rfl fun n _ => hs n, coe_sum, rowsLit_eq, div_real _ (by norm_num), hy, ← EReal.coe_sub]
  rfl

theorem var128_apply (j : Fin 128) : var128 (dev128 y) (ix4 0 0 0 j) = ((var (fun n => f n j) : ℝ) : EReal) := by
  have h : var128 (dev128 y) (ix4 0 0 0 j)
      = if 0 < count ix0 then
          Ideal.div (Ideal.hostReduceAdd reducesTo_S8x1024x32x128_S128_d0_1_2 (mulf (dev128 y) (dev128 y)) 0 (ix1 j)) (count ix0)
        else id (constant (F := Ideal) S_ FTy.f32 2143289344#32) ix0 := by
    generalize dev128 y = d
    pointwise [var128]
  have hs : ∀ n : Fin 262144, mulf (dev128 y) (dev128 y) (place n j)
      = (((f n j - mean (fun n => f n j)) * (f n j - mean (fun n => f n j)) : ℝ) : EReal) := fun n => by
    have hd : dev128 y (place n j) = ((f n j - mean (fun n => f n j) : ℝ) : EReal) := by
      refine (dev128_apply hy _ _ _ j).trans ?_
      rw [flat_place]
    rw [EReal.coe_mul, ← hd]
    rfl
  rw [h, count_apply, if_pos (by rw [← EReal.coe_zero, EReal.coe_lt_coe_iff]; norm_num), sum_place,
    Finset.sum_congr rfl fun n _ => hs n, coe_sum, div_real _ (by norm_num)]
  rfl

theorem act128_apply {g be : FVec Ideal S128 .f32} {gr br : Fin 128 → ℝ} (hg : ∀ j, g (ix1 j) = ((gr j : ℝ) : EReal))
    (hb : ∀ j, be (ix1 j) = ((br j : ℝ) : EReal)) (b : Fin 8) (s : Fin 1024) (k : Fin 32) (j : Fin 128) :
    act128 y g be (ix4 b s k j)
      = ((max (norm (fun n => f n j) (gr j) (br j) (flat b s k)) 0 : ℝ) : EReal) := by
  have h : act128 y g be (ix4 b s k j)
      = max (Ideal.div (dev128 y (ix4 b s k j)) (Ideal.sqrt (var128 (dev128 y) (ix4 0 0 0 j) + epsLit)) * g (ix1 j) + be (ix1 j)) 0 := by
    unfold act128
    generalize var128 (dev128 y) = v
    generalize dev128 y = d
    pointwise
  rw [h, dev128_apply hy, var128_apply hy, eps_spec.2, ← EReal.coe_add, sqrt_real (add_nonneg (var_nonneg _) eps_spec.1.le),
    div_real _ (root_pos _).ne', hg, hb, ← EReal.coe_mul, ← EReal.coe_add, ← EReal.coe_zero, coe_max]
  rfl

end

end Cert.Proof.Mlp.Ref

end
-- ==== Proof.MlpRefValue.lean ====
/-
  What the reference's layers return, over the extended reals, when the arguments are real numbers.
-/
module

public import proofs.«01_k».proof.Proof.MlpRef
public import proofs.«01_k».proof.Proof.MlpSpec

@[expose] public section

set_option maxRecDepth 16384

noncomputable section

namespace Cert.Proof.Mlp.Ref

open Cert.RefMlpIdeal Cert.RefMlpIdeal.Gen Cert.RefMlpIdeal.Value
open Idealize.ShloMosaic Idealize.ShloMosaic.StableHlo Idealize.ShloMosaic.TcCoe Idealize.SL.Sem
open scoped BigOperators

variable (V0 : Valuation τ sig (Elt Ideal))

/-- The arguments. -/
def given : Args where
  x := V0 (Proc.devRef .tc main_arg0)
  q := V0 (Proc.devRef .tc main_arg1)
  w0 := V0 (Proc.devRef .tc main_arg2)
  b0 := V0 (Proc.devRef .tc main_arg3)
  g0 := V0 (Proc.devRef .tc main_arg4)
  e0 := V0 (Proc.devRef .tc main_arg5)
  w1 := V0 (Proc.devRef .tc main_arg6)
  b1 := V0 (Proc.devRef .tc main_arg7)
  g1 := V0 (Proc.devRef .tc main_arg8)
  e1 := V0 (Proc.devRef .tc main_arg9)
  w2 := V0 (Proc.devRef .tc main_arg10)
  b2 := V0 (Proc.devRef .tc main_arg11)
  g2 := V0 (Proc.devRef .tc main_arg12)
  e2 := V0 (Proc.devRef .tc main_arg13)

/-- A later layer at an index: 64 channels to 64. -/
theorem layer64_apply {z : FVec Ideal S8x1024x32x64 .f32} {w : FVec Ideal S64x64 .f32} {bias : FVec Ideal S64 .f32}
    {zr : Fin 262144 → Fin 64 → ℝ} {wr : Fin 64 → Fin 64 → ℝ} {br : Fin 64 → ℝ}
    (hz : ∀ b s k j, z (ix4 b s k j) = ((zr (flat b s k) j : ℝ) : EReal)) (hw : ∀ k j, w (ix2 k j) = ((wr k j : ℝ) : EReal))
    (hb : ∀ j, bias (ix1 j) = ((br j : ℝ) : EReal)) (b : Fin 8) (s : Fin 1024) (k : Fin 32) (j : Fin 64) :
    addf (Host.dotGeneral dot_S8x1024x32x64_S64x64_S8x1024x32x64_3_0_012_1_n_n none z w)
        (broadcastInDim S8x1024x32x64 ![0, 1, 2, 3] bcast_S1x1x1x64_S8x1024x32x64_0_1_2_3
          (broadcastInDim S1x1x1x64 ![3] bcast_S64_S1x1x1x64_3 bias)) (ix4 b s k j)
      = ((layer zr wr br (flat b s k) j : ℝ) : EReal) := by
  have h : addf (Host.dotGeneral dot_S8x1024x32x64_S64x64_S8x1024x32x64_3_0_012_1_n_n none z w)
        (broadcastInDim S8x1024x32x64 ![0, 1, 2, 3] bcast_S1x1x1x64_S8x1024x32x64_0_1_2_3
          (broadcastInDim S1x1x1x64 ![3] bcast_S64_S1x1x1x64_3 bias)) (ix4 b s k j)
      = (∑ x : Fin 64, z (ix4 b s k x) * w (ix2 x j)) + bias (ix1 j) := by
    pointwise
  rw [h, hb, Finset.sum_congr rfl fun x _ => congrArg₂ (fun u v : EReal => u * v) (hz b s k x) (hw x j)]
  unfold layer
  rw [EReal.coe_add, ← coe_sum]
  exact congrArg (· + _) (Finset.sum_congr rfl fun x _ => (EReal.coe_mul _ _).symm)

/-- A later layer at an index: 64 channels to 128. -/
theorem layer128_apply {z : FVec Ideal S8x1024x32x64 .f32} {w : FVec Ideal S64x128 .f32} {bias : FVec Ideal S128 .f32}
    {zr : Fin 262144 → Fin 64 → ℝ} {wr : Fin 64 → Fin 128 → ℝ} {br : Fin 128 → ℝ}
    (hz : ∀ b s k j, z (ix4 b s k j) = ((zr (flat b s k) j : ℝ) : EReal)) (hw : ∀ k j, w (ix2 k j) = ((wr k j : ℝ) : EReal))
    (hb : ∀ j, bias (ix1 j) = ((br j : ℝ) : EReal)) (b : Fin 8) (s : Fin 1024) (k : Fin 32) (j : Fin 128) :
    addf (Host.dotGeneral dot_S8x1024x32x64_S64x128_S8x1024x32x128_3_0_012_1_n_n none z w)
        (broadcastInDim S8x1024x32x128 ![0, 1, 2, 3] bcast_S1x1x1x128_S8x1024x32x128_0_1_2_3
          (broadcastInDim S1x1x1x128 ![3] bcast_S128_S1x1x1x128_3 bias)) (ix4 b s k j)
      = ((layer zr wr br (flat b s k) j : ℝ) : EReal) := by
  have h : addf (Host.dotGeneral dot_S8x1024x32x64_S64x128_S8x1024x32x128_3_0_012_1_n_n none z w)
        (broadcastInDim S8x1024x32x128 ![0, 1, 2, 3] bcast_S1x1x1x128_S8x1024x32x128_0_1_2_3
          (broadcastInDim S1x1x1x128 ![3] bcast_S128_S1x1x1x128_3 bias)) (ix4 b s k j)
      = (∑ x : Fin 64, z (ix4 b s k x) * w (ix2 x j)) + bias (ix1 j) := by
    pointwise
  rw [h, hb, Finset.sum_congr rfl fun x _ => congrArg₂ (fun u v : EReal => u * v) (hz b s k x) (hw x j)]
  unfold layer
  rw [EReal.coe_add, ← coe_sum]
  exact congrArg (· + _) (Finset.sum_congr rfl fun x _ => (EReal.coe_mul _ _).symm)

/-- The greatest over the neighbours, at an index. -/
theorem pool_apply (z : FVec Ideal S8x1024x32x128 .f32) (b : Fin 8) (s : Fin 1024) (j : Fin 128) :
    Host.reduce FloatOps.maximumf z (constant S_ .f32 0xFF800000#32) reducesTo_S8x1024x32x128_S8x1024x128_d2 h_S_ (ix3 b s j)
      = Finset.univ.fold max (Ideal.ofBits .f32 0xFF800000#32) fun k : Fin 32 => (z (ix4 b s k j) : EReal) := by
  pointwise

/-- The first layer at an index, in the arguments. -/
theorem v10_apply (b : Fin 8) (s : Fin 1024) (k : Fin 32) (j : Fin 64) :
    res_main_v10 V0 (ix4 b s k j)
      = (∑ x : Fin 64, (given V0).x (ix2 (flat b s k) (Fin.castAdd 61 (Fin.castAdd 3 x))) * (given V0).w0 (ix2 (Fin.castAdd 3 x) j)
        + ∑ p : Fin 3, ((given V0).x (ix2 (flat b s k) (Fin.castAdd 61 (Fin.natAdd 64 p))) - (given V0).q (ix3 b s p))
            * (given V0).w0 (ix2 (Fin.natAdd 64 p) j)) + (given V0).b0 (ix1 j) := by
  unfold given flat
  pointwise [res_main_v10, res_main_v0]
  rfl

variable (h : (given V0).Real)
include h

/-- The first layer. -/
theorem v10_real (b : Fin 8) (s : Fin 1024) (k : Fin 32) (j : Fin 64) :
    res_main_v10 V0 (ix4 b s k j) = (((given V0).y0 (flat b s k) j : ℝ) : EReal) := by
  have hs : (flat b s k).val / 32 % 1024 = s.val := by
    have := b.isLt; have := s.isLt; have := k.isLt
    show (b.val * 32768 + s.val * 32 + k.val) / 32 % 1024 = s.val
    omega
  have hb : (flat b s k).val / 32 / 1024 = b.val := by
    have := b.isLt; have := s.isLt; have := k.isLt
    show (b.val * 32768 + s.val * 32 + k.val) / 32 / 1024 = b.val
    omega
  have hq : ∀ p : Fin 3, (given V0).q (ix3 b s p)
      = (((given V0).q (ix3 (⟨(flat b s k).val / 32 / 1024, hb ▸ b.isLt⟩ : Fin 8)
          (⟨(flat b s k).val / 32 % 1024, hs ▸ s.isLt⟩ : Fin 1024) p)).toReal : EReal) := by
    intro p
    rw [show (⟨(flat b s k).val / 32 / 1024, hb ▸ b.isLt⟩ : Fin 8) = b from Fin.ext hb,
      show (⟨(flat b s k).val / 32 % 1024, hs ▸ s.isLt⟩ : Fin 1024) = s from Fin.ext hs]
    exact h.q _
  rw [v10_apply V0 b s k j, Args.y0, layer1, EReal.coe_add, EReal.coe_add, ← coe_sum, ← coe_sum]
  refine congrArg₂ (· + ·) (congrArg₂ (· + ·) (Finset.sum_congr rfl fun x _ => ?_) (Finset.sum_congr rfl fun p _ => ?_)) (h.b0 _)
  · rw [EReal.coe_mul]
    exact congrArg₂ (· * ·) (h.x _ _) (h.w0 _)
  · rw [EReal.coe_mul, EReal.coe_sub]
    exact congrArg₂ (· * ·) (congrArg₂ (· - ·) (h.x _ _) (hq p)) (h.w0 _)

/-- The first layer, normalized. -/
theorem z0_real (b : Fin 8) (s : Fin 1024) (k : Fin 32) (j : Fin 64) :
    act64 (res_main_v10 V0) (V0 (Proc.devRef .tc main_arg4)) (V0 (Proc.devRef .tc main_arg5)) (ix4 b s k j)
      = (((given V0).z0 (flat b s k) j : ℝ) : EReal) :=
  act64_apply (f := (given V0).y0) (v10_real V0 h) (fun j => h.g0 (ix1 j)) (fun j => h.e0 (ix1 j)) b s k j

/-- The second layer, its bias included. -/
theorem v33_real (b : Fin 8) (s : Fin 1024) (k : Fin 32) (j : Fin 64) :
    res_main_v33 V0 (ix4 b s k j)
      = ((layer (given V0).z0 (fun k j => ((given V0).w1 (ix2 k j)).toReal) (fun j => ((given V0).b1 (ix1 j)).toReal)
          (flat b s k) j : ℝ) : EReal) :=
  layer64_apply (z0_real V0 h) (fun k j => h.w1 (ix2 k j)) (fun j => h.b1 (ix1 j)) b s k j

/-- The second layer, normalized. -/
theorem z1_real (b : Fin 8) (s : Fin 1024) (k : Fin 32) (j : Fin 64) :
    act64 (res_main_v33 V0) (V0 (Proc.devRef .tc main_arg8)) (V0 (Proc.devRef .tc main_arg9)) (ix4 b s k j)
      = (((given V0).z1 (flat b s k) j : ℝ) : EReal) := by
  refine (act64_apply (v33_real V0 h) (fun j => h.g1 (ix1 j)) (fun j => h.e1 (ix1 j)) b s k j).trans ?_
  show ((act (layer (given V0).z0 (fun k j => ((given V0).w1 (ix2 k j)).toReal) (fun j => ((given V0).b1 (ix1 j)).toReal))
    (fun j => ((given V0).g1 (ix1 j)).toReal) (fun j => ((given V0).e1 (ix1 j)).toReal) (flat b s k) j : ℝ) : EReal) = _
  rw [act_layer]
  rfl

/-- The third layer, its bias included. -/
theorem v56_real (b : Fin 8) (s : Fin 1024) (k : Fin 32) (j : Fin 128) :
    res_main_v56 V0 (ix4 b s k j)
      = ((layer (given V0).z1 (fun k j => ((given V0).w2 (ix2 k j)).toReal) (fun j => ((given V0).b2 (ix1 j)).toReal)
          (flat b s k) j : ℝ) : EReal) :=
  layer128_apply (z1_real V0 h) (fun k j => h.w2 (ix2 k j)) (fun j => h.b2 (ix1 j)) b s k j

/-- The third layer, normalized. -/
theorem z2_real (b : Fin 8) (s : Fin 1024) (k : Fin 32) (j : Fin 128) :
    act128 (res_main_v56 V0) (V0 (Proc.devRef .tc main_arg12)) (V0 (Proc.devRef .tc main_arg13)) (ix4 b s k j)
      = (((given V0).z2 (flat b s k) j : ℝ) : EReal) := by
  refine (act128_apply (v56_real V0 h) (fun j => h.g2 (ix1 j)) (fun j => h.e2 (ix1 j)) b s k j).trans ?_
  show ((act (layer (given V0).z1 (fun k j => ((given V0).w2 (ix2 k j)).toReal) (fun j => ((given V0).b2 (ix1 j)).toReal))
    (fun j => ((given V0).g2 (ix1 j)).toReal) (fun j => ((given V0).e2 (ix1 j)).toReal) (flat b s k) j : ℝ) : EReal) = _
  rw [act_layer]
  rfl

/-- What the reference returns. -/
theorem v76_real :
    Host.reduce FloatOps.maximumf
        (act128 (res_main_v56 V0) (V0 (Proc.devRef .tc main_arg12)) (V0 (Proc.devRef .tc main_arg13)))
        (constant S_ .f32 0xFF800000#32) reducesTo_S8x1024x32x128_S8x1024x128_d2 h_S_
      = fun i : S8x1024x128.Idx => (given V0).result (i 0) (i 1) (i 2) := by
  funext i
  obtain ⟨b, s, j, rfl⟩ : ∃ b s j, i = ix3 b s j := ⟨_, _, _, eq_ix3 i⟩
  refine (pool_apply _ b s j).trans ?_
  show _ = greatestOf (given V0).z2 ⟨b.val * 1024 + s.val, _⟩ j
  unfold greatestOf
  refine congrArg (fun f : Fin 32 → EReal => Finset.univ.fold max (Ideal.ofBits .f32 0xFF800000#32) f) (funext fun k => ?_)
  refine (z2_real V0 h b s k j).trans ?_
  refine congrArg (fun n => (((given V0).z2 n j : ℝ) : EReal)) (Fin.ext ?_)
  show b.val * 32768 + s.val * 32 + k.val = (b.val * 1024 + s.val) * 32 + k.val
  omega

end Cert.Proof.Mlp.Ref

end
-- ==== Proof.MlpValue.lean ====
/-
  The two runs at real arguments: the launches' and the reference's, with one result.
-/
module

public import proofs.«01_k».proof.Proof.MlpKernel
public import proofs.«01_k».proof.Proof.MlpRefValue

@[expose] public section

set_option maxRecDepth 16384

noncomputable section

namespace Cert.Proof.Mlp

open Idealize.ShloMosaic Idealize.ShloMosaic.StableHlo Idealize.ShloMosaic.TcCoe Idealize.SL.Sem

/-- Arguments that agree one by one are the same. -/
theorem Args.eq_of {a b : Args} (h0 : a.x = b.x) (h1 : a.q = b.q) (h2 : a.w0 = b.w0) (h3 : a.b0 = b.b0) (h4 : a.g0 = b.g0) (h5 : a.e0 = b.e0) (h6 : a.w1 = b.w1) (h7 : a.b1 = b.b1) (h8 : a.g1 = b.g1) (h9 : a.e1 = b.e1) (h10 : a.w2 = b.w2) (h11 : a.b2 = b.b2) (h12 : a.g2 = b.g2) (h13 : a.e2 = b.e2) : a = b := by
  cases a
  cases b
  subst h0 h1 h2 h3 h4 h5 h6 h7 h8 h9 h10 h11 h12 h13
  rfl

section

open Cert.MlpIdeal Cert.MlpIdeal.Gen

variable (m : (ℓ : Loc nD τ sig) → Buf (Elt Ideal) ℓ) (ρ : Dev nD → PrngReg)

/-- The launches' run: the result, and the arguments unchanged. -/
theorem run_value (h : ∀ c, (given m c).Real) :
    θ_run defs (onTc (τ := τ) (main (F := Ideal))) ⟨m, fun _ => 0, ρ⟩ fun r => ∀ c : Dev nD,
      r.2.mem ((c : Thread nD τ).loc main_v53) = (fun i : S8x1024x128.Idx => (given m c).result (i 0) (i 1) (i 2))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8)
        ∧ r.2.mem ((c : Thread nD τ).loc main_arg9) = m ((c : Thread nD τ).loc main_arg9)
        ∧ r.2.mem ((c : Thread nD τ).loc main_arg10) = m ((c : Thread nD τ).loc main_arg10)
        ∧ r.2.mem ((c : Thread nD τ).loc main_arg11) = m ((c : Thread nD τ).loc main_arg11)
        ∧ r.2.mem ((c : Thread nD τ).loc main_arg12) = m ((c : Thread nD τ).loc main_arg12)
        ∧ r.2.mem ((c : Thread nD τ).loc main_arg13) = m ((c : Thread nD τ).loc main_arg13) := by
  refine (θ_run defs _ _).mono (fun r hr c => ⟨(hr c _ (mem_uc main_v53 (by decide))).trans (result_at m ρ c (h c)),
    (hr c _ (mem_uc main_arg0 (by decide))).trans (W9_main_arg0 m ρ c),
    (hr c _ (mem_uc main_arg1 (by decide))).trans (W9_main_arg1 m ρ c),
    (hr c _ (mem_uc main_arg2 (by decide))).trans (W9_main_arg2 m ρ c),
    (hr c _ (mem_uc main_arg3 (by decide))).trans (W9_main_arg3 m ρ c),
    (hr c _ (mem_uc main_arg4 (by decide))).trans (W9_main_arg4 m ρ c),
    (hr c _ (mem_uc main_arg5 (by decide))).trans (W9_main_arg5 m ρ c),
    (hr c _ (mem_uc main_arg6 (by decide))).trans (W9_main_arg6 m ρ c),
    (hr c _ (mem_uc main_arg7 (by decide))).trans (W9_main_arg7 m ρ c),
    (hr c _ (mem_uc main_arg8 (by decide))).trans (W9_main_arg8 m ρ c),
    (hr c _ (mem_uc main_arg9 (by decide))).trans (W9_main_arg9 m ρ c),
    (hr c _ (mem_uc main_arg10 (by decide))).trans (W9_main_arg10 m ρ c),
    (hr c _ (mem_uc main_arg11 (by decide))).trans (W9_main_arg11 m ρ c),
    (hr c _ (mem_uc main_arg12 (by decide))).trans (W9_main_arg12 m ρ c),
    (hr c _ (mem_uc main_arg13 (by decide))).trans (W9_main_arg13 m ρ c)⟩)
    (run_all m ρ)

end

namespace Ref

open Cert.RefMlpIdeal Cert.RefMlpIdeal.Gen Cert.RefMlpIdeal.Value

variable (m : (ℓ : Loc nD τ sig) → Buf (Elt Ideal) ℓ) (ρ : Dev nD → PrngReg)

/-- The reference's run: the result, and the arguments unchanged. -/
theorem run_value (h : ∀ c, (given (launchContents m c)).Real) :
    θ_run defs (onTc (τ := τ) (main (F := Ideal))) ⟨m, fun _ => 0, ρ⟩ fun r => ∀ c : Dev nD,
      r.2.mem ((c.tc : Thread nD τ).loc main_v76)
          = (fun i : S8x1024x128.Idx => (given (launchContents m c)).result (i 0) (i 1) (i 2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13) :=
  (θ_run defs _ _).mono (fun _ hr c => ⟨(hr c).1.trans (v76_real (launchContents m c) (h c)), (hr c).2⟩) (run (F := Ideal) m ρ)

end Ref

end Cert.Proof.Mlp

end
-- ==== Proof.BqCount.lean ====
/-
  Counting: running sums made by doubling shifts, initial segments and their sizes, and the k-th smallest entry of a list of keys.
  The k-th member of a set of positions, read off its running counts, is the k-th key of the sorted list in which a position that
  is no member has the key that ends the list.
-/
module

public import Idealize.ShloMosaic.Lib.SortFacts
public import Mathlib.Data.Fintype.BigOperators
public import Mathlib.Algebra.BigOperators.Intervals
public import Mathlib.Data.EReal.Operations

@[expose] public section

namespace Cert.Proof.Bq

open scoped BigOperators
open Idealize.ShloMosaic

/-! ## Running sums -/

section Sums

variable {M : Type} [AddCommMonoid M]

/-- A row added to itself moved `s` places on. -/
def moved (s : ℕ) (f : ℕ → M) (n : ℕ) : M := f n + if n < s then 0 else f (n - s)

/-- After the moves by 1, 2, …, an entry holds the sum of the last `w` entries; a move by `w` makes it the last `2w`. -/
theorem moved_window (f g : ℕ → M) (w : ℕ) (h : ∀ n, f n = ∑ m ∈ Finset.Ico (n + 1 - w) (n + 1), g m) (n : ℕ) :
    moved w f n = ∑ m ∈ Finset.Ico (n + 1 - 2 * w) (n + 1), g m := by
  unfold moved
  rw [h n]
  split
  · rename_i hn
    rw [add_zero, show n + 1 - w = 0 by omega, show n + 1 - 2 * w = 0 by omega]
  · rename_i hn
    rw [h (n - w), add_comm, show n - w + 1 = n + 1 - w by omega, show n + 1 - w - w = n + 1 - 2 * w by omega]
    exact Finset.sum_Ico_consecutive g (by omega) (by omega)

/-- The row after `t` moves. -/
def movedUpTo (f : ℕ → M) : ℕ → ℕ → M
  | 0 => f
  | t + 1 => moved (2 ^ t) (movedUpTo f t)

theorem movedUpTo_window (f : ℕ → M) (t : ℕ) : ∀ n, movedUpTo f t n = ∑ m ∈ Finset.Ico (n + 1 - 2 ^ t) (n + 1), f m := by
  induction t with
  | zero => intro n; simp [movedUpTo]
  | succ t ih =>
    intro n
    rw [show 2 ^ (t + 1) = 2 * 2 ^ t by ring]
    exact moved_window _ f (2 ^ t) ih n

/-- Twelve moves sum a row of 4096 from its start. -/
theorem movedUpTo_twelve (f : ℕ → M) (n : ℕ) (hn : n < 4096) : movedUpTo f 12 n = ∑ m ∈ Finset.range (n + 1), f m := by
  rw [movedUpTo_window, show n + 1 - 2 ^ 12 = 0 by omega, Finset.range_eq_Ico]

end Sums

/-! ## Initial segments -/

/-- A set of positions that is closed downwards is the positions below its size. -/
theorem mem_iff_lt_card {N : ℕ} (p : Fin N → Prop) [DecidablePred p] (hp : ∀ a b, a ≤ b → p b → p a) (k : Fin N) :
    p k ↔ k.val < (Finset.univ.filter p).card := by
  constructor
  · intro hk
    have h : Finset.Iic k ⊆ Finset.univ.filter p := fun a ha =>
      Finset.mem_filter.mpr ⟨Finset.mem_univ _, hp a k (Finset.mem_Iic.mp ha) hk⟩
    have := Finset.card_le_card h
    rw [Fin.card_Iic] at this
    omega
  · intro hk
    by_contra hn
    have h : Finset.univ.filter p ⊆ Finset.Iio k := fun a ha => Finset.mem_Iio.mpr (by
      by_contra hc
      exact hn (hp k a (not_lt.mp hc) (Finset.mem_filter.mp ha).2))
    have := Finset.card_le_card h
    rw [Fin.card_Iio] at this
    omega

section Members

variable {N : ℕ} (q : Fin N → Prop) [DecidablePred q]

/-- The members up to and including position `n`. -/
def upTo (n : ℕ) : ℕ := (Finset.univ.filter fun i : Fin N => i.val ≤ n ∧ q i).card

theorem upTo_mono {a b : ℕ} (h : a ≤ b) : upTo q a ≤ upTo q b := by
  refine Finset.card_le_card fun i hi => ?_
  rw [Finset.mem_filter] at hi ⊢
  exact ⟨hi.1, le_trans hi.2.1 h, hi.2.2⟩

/-- The positions whose running count is at most `k`. -/
def low (k : ℕ) : ℕ := (Finset.univ.filter fun n : Fin N => upTo q n.val ≤ k).card

theorem low_le (k : ℕ) : low q k ≤ N := by
  refine (Finset.card_filter_le _ _).trans ?_
  rw [Finset.card_univ, Fintype.card_fin]

theorem lt_low (k : ℕ) (n : Fin N) : n.val < low q k ↔ upTo q n.val ≤ k :=
  (mem_iff_lt_card (fun n : Fin N => upTo q n.val ≤ k) (fun _ _ h hb => (upTo_mono q h).trans hb) n).symm

/-- A position's key: itself where it is a member, the end of the list where it is not. -/
def key (i : Fin N) : ℕ := if q i then i.val else N

theorem key_le (i : Fin N) : key q i ≤ N := by
  unfold key; split
  · exact i.isLt.le
  · exact le_rfl

/-- The `k`-th key in sorted order, and the positions whose running count is at most `k`. -/
theorem key_eq_low (σ : Fin N → Fin N) (hσ : Function.Bijective σ) (hm : ∀ a b, a ≤ b → key q (σ a) ≤ key q (σ b)) (k : Fin N) :
    key q (σ k) = low q k.val := by
  have hu := key_le q (σ k)
  have hl := low_le q k.val
  have main : ∀ n : Fin N, n.val < low q k.val ↔ n.val < key q (σ k) := by
    intro n
    rw [lt_low]
    have h1 : key q (σ k) ≤ n.val ↔ k.val < (Finset.univ.filter fun a : Fin N => key q (σ a) ≤ n.val).card :=
      mem_iff_lt_card (fun a : Fin N => key q (σ a) ≤ n.val) (fun a b h hb => (hm a b h).trans hb) k
    have h2 : (Finset.univ.filter fun a : Fin N => key q (σ a) ≤ n.val).card = upTo q n.val := by
      unfold upTo
      refine Finset.card_bijective σ hσ fun a => ?_
      simp only [Finset.mem_filter, Finset.mem_univ, true_and]
      unfold key
      have := n.isLt
      by_cases hq : q (σ a)
      · simp [hq]
      · simp only [hq, if_false, and_false, iff_false]; omega
    rw [h2] at h1
    omega
  rcases Nat.lt_trichotomy (key q (σ k)) (low q k.val) with h | h | h
  · exact absurd ((main ⟨key q (σ k), lt_of_lt_of_le h hl⟩).mp h) (lt_irrefl _)
  · exact h
  · exact absurd ((main ⟨low q k.val, lt_of_lt_of_le h hu⟩).mpr h) (lt_irrefl _)

/-- The positions in the order of their keys. -/
def byKey : Fin N → Fin N → Bool := fun n n' => decide (key q n < key q n')

/-- The `k`-th key of the list sorted by key. -/
theorem key_sorted (k : Fin N) : key q (sortedFrom (byKey q) k) = low q k.val := by
  refine key_eq_low q (sortedFrom (byKey q)) ⟨sortedFrom_injective _, sortedFrom_surjective _⟩ (fun u v huv => ?_) k
  rcases huv.lt_or_eq with h | h
  · have h2 := sortedFrom_noInversion (byKey q) (byKey q) (fun u v h => by
      have := of_decide_eq_true h; exact decide_eq_false (by omega)) (fun _ _ h => h) (fun u v w h1 h2 => by
      have := of_decide_eq_false h1; have := of_decide_eq_false h2; exact decide_eq_false (by omega)) u v h
    exact not_lt.mp (of_decide_eq_false h2)
  · rw [h]

end Members

/-! ## Sums of marks -/

/-- A sum of marks over the extended reals is the number of the marked. -/
theorem sum_marks {ι : Type} (s : Finset ι) (p : ι → Prop) [DecidablePred p] :
    (∑ i ∈ s, if p i then (1 : EReal) else 0) = (((s.filter p).card : ℝ) : EReal) := by
  classical
  induction s using Finset.induction_on with
  | empty => simp
  | insert a s ha ih =>
    rw [Finset.sum_insert ha, ih, Finset.filter_insert]
    split
    · rw [Finset.card_insert_of_notMem (fun h => ha (Finset.mem_of_mem_filter _ h))]
      push_cast
      rw [add_comm]
    · rw [zero_add]

/-- The running sum of the members' marks is their running count. -/
theorem sum_marks_upTo {N : ℕ} (q : Fin N → Prop) [DecidablePred q] (n : Fin N) (f : ℕ → EReal)
    (hf : ∀ i : Fin N, f i.val = if q i then 1 else 0) : ∑ m ∈ Finset.range (n.val + 1), f m = ((upTo q n.val : ℝ) : EReal) := by
  have h : ∑ m ∈ Finset.range (n.val + 1), f m = ∑ i ∈ Finset.univ.filter (fun i : Fin N => i.val ≤ n.val), if q i then (1 : EReal) else 0 := by
    refine (Finset.sum_bij (fun (i : Fin N) _ => i.val) (fun i hi => ?_) (fun a _ b _ h => Fin.ext h) (fun m hm => ?_) (fun i _ => (hf i).symm)).symm
    · exact Finset.mem_range.mpr (Nat.lt_succ_of_le (Finset.mem_filter.mp hi).2)
    · have := Finset.mem_range.mp hm
      have := n.isLt
      exact ⟨⟨m, by omega⟩, Finset.mem_filter.mpr ⟨Finset.mem_univ _, by show m ≤ n.val; omega⟩, rfl⟩
  rw [h, sum_marks, Finset.filter_filter]
  rfl

end Cert.Proof.Bq

end
-- ==== Proof.BqOps.lean ====
/-
  The ball query's vector operations read at an index over the extended reals: the running count made by twelve moves along a row,
  and the count of the positions at which it is at most a constant.
-/
module

public import Idealize.ShloMosaic.Lib.Pipeline.ValueKit
public import Idealize.ShloMosaic.Lib.Pipeline.Covers
public import Idealize.ShloMosaic.Lib.Pointwise
public import proofs.«01_k».proof.Proof.Gen.BqIdeal.Frame
public import proofs.«01_k».proof.Proof.BqCount

@[expose] public section

set_option maxRecDepth 16384

noncomputable section

namespace Cert.Proof.Bq

open Cert.BqIdeal Cert.BqIdeal.Gen
open Idealize.ShloMosaic Idealize.ShloMosaic.TcCoe Idealize.SL.Sem
open scoped BigOperators

/-! ## A move along a row -/

/-- A row added to itself moved `a` places on, `a` zeros before it. -/
def move (a b : ℕ) (hs : S256x4096.Slices ![0, 0] ⟨2, ![256, b]⟩)
    (hc : Shape.Concatenates [⟨2, ![256, a]⟩, ⟨2, ![256, b]⟩] S256x4096 1)
    (x : FVec Ideal S256x4096 .f32) : FVec Ideal S256x4096 .f32 :=
  addf x (concatenate S256x4096 1 [⟨⟨2, ![256, a]⟩, broadcast ⟨2, ![256, a]⟩ (Scalar.ofBits .f32 0x00000000#32)⟩,
    ⟨⟨2, ![256, b]⟩, extractStridedSlice ⟨2, ![256, b]⟩ ![0, 0] x hs⟩] hc)

theorem move_apply (a b : ℕ) (hab : a + b = 4096) (hs : S256x4096.Slices ![0, 0] ⟨2, ![256, b]⟩)
    (hc : Shape.Concatenates [⟨2, ![256, a]⟩, ⟨2, ![256, b]⟩] S256x4096 1)
    (x : FVec Ideal S256x4096 .f32) (r : Fin 256) (n : Fin 4096) :
    move a b hs hc x (ix2 r n) = x (ix2 r n) + if h : n.val < a then 0 else x (ix2 r ⟨n.val - a, by omega⟩) := by
  unfold move
  pointwise
  rfl

theorem move_moved (a b : ℕ) (hab : a + b = 4096) (hs : S256x4096.Slices ![0, 0] ⟨2, ![256, b]⟩)
    (hc : Shape.Concatenates [⟨2, ![256, a]⟩, ⟨2, ![256, b]⟩] S256x4096 1)
    (x : FVec Ideal S256x4096 .f32) (r : Fin 256) (f : ℕ → EReal) (hf : ∀ n : Fin 4096, x (ix2 r n) = f n.val) (n : Fin 4096) :
    move a b hs hc x (ix2 r n) = moved a f n.val := by
  rw [move_apply a b hab, hf n]
  unfold moved
  split
  · rfl
  · rw [hf]

/-! ## The number of positions whose count is at most a constant -/

/-- For each row, how many of its entries are at most a constant. -/
def atMost (K : BitVec 32) (x : FVec Ideal S256x4096 .f32) : IVec S256x1 32 :=
  fptosi 32 (shapeCast S256x1 (multiReduction .add [1] S256
    (select (cmpf .ole x (broadcast S256x4096 (Scalar.ofBits (F := Ideal) .f32 K))) (broadcast S256x4096 (Scalar.ofBits (F := Ideal) .f32 0x3F800000#32))
      (broadcast S256x4096 (Scalar.ofBits (F := Ideal) .f32 0x00000000#32))) 0x00000000#32 reduces_S256x4096_S256 (.inl rfl) rfl) shapeCasts_S256_S256x1)

theorem one_val : Ideal.ofBits .f32 0x3F800000#32 = 1 := by simp [Ideal.ofBits, Ideal.ieee]; rw [← EReal.coe_mul]; norm_num

theorem fptosi_nat (u : ℕ) (hu : u ≤ 4096) : Ideal.fptosi 32 ((u : ℝ) : EReal) = BitVec.ofNat 32 u := by
  rw [Ideal.fptosi, Ideal.toIntClamped_coe, if_pos (Nat.cast_nonneg u), Int.floor_natCast]
  have h : max (-(2 ^ (32 - 1) : ℕ) : ℤ) (min ((2 ^ (32 - 1) : ℕ) - 1 : ℤ) (u : ℤ)) = (u : ℤ) := by
    norm_num
    omega
  rw [h, BitVec.ofInt_natCast]

theorem atMost_apply (K : BitVec 32) (k : ℕ) (hK : Ideal.ofBits .f32 K = ((k : ℝ) : EReal)) (x : FVec Ideal S256x4096 .f32) (r : Fin 256)
    (u : Fin 4096 → ℕ) (hx : ∀ n : Fin 4096, x (ix2 r n) = ((u n : ℝ) : EReal)) :
    atMost K x (ix2 r 0) = BitVec.ofNat 32 (Finset.univ.filter fun n : Fin 4096 => u n ≤ k).card := by
  have hc : (Finset.univ.filter fun n : Fin 4096 => u n ≤ k).card ≤ 4096 := by
    refine (Finset.card_filter_le _ _).trans ?_
    rw [Finset.card_univ, Fintype.card_fin]
  rw [← fptosi_nat _ hc, ← sum_marks]
  unfold atMost
  pointwise
  show Ideal.fptosi 32 _ = _
  refine congrArg (Ideal.fptosi 32) (Finset.sum_congr rfl fun n _ => ?_)
  rw [hx, hK]
  exact if_congr (by rw [EReal.coe_le_coe_iff, Nat.cast_le]) rfl rfl

/-! ## A column of the result -/

/-- A column of the result, from the column of counts: where no position is left the first count stands in, and the group's first row is added. -/
def column (first v : IVec S256x1 32) (off : BitVec 32) : IVec S1x256x1 32 :=
  shapeCast S1x256x1 (addi (select (cmpi .eq v (broadcast S256x1 4096#32)) first v) (broadcast S256x1 off)) shapeCasts_S256x1_S1x256x1

theorem column_apply (first v : IVec S256x1 32) (off : BitVec 32) (r : Fin 256) :
    column first v off (ix3 0 r 0) = (if v (ix2 r 0) = 4096#32 then first (ix2 r 0) else v (ix2 r 0)) + off := by
  unfold column
  pointwise
  show (Scalar.select (IntOp.cmpi .eq (v (ix2 r 0)) 4096#32) (first (ix2 r 0)) (v (ix2 r 0))) + off = _
  refine congrArg (· + off) ?_
  by_cases h : v (ix2 r 0) = 4096#32
  · simp [h, Scalar.select, IntOp.cmpi]
  · have hb : (v (ix2 r 0) == 4096#32) = false := beq_eq_false_iff_ne.mpr h
    simp [h, hb, Scalar.select, IntOp.cmpi]

/-! ## The running count -/

/-- A row's running count, by twelve moves. -/
def counts (x0 : FVec Ideal S256x4096 .f32) : FVec Ideal S256x4096 .f32 :=
  let x1 := move 1 4095 slices_S256x4096_o0_0_S256x4095 concatenates_S256x1_S256x4095_S256x4096_d1 x0
  let x2 := move 2 4094 slices_S256x4096_o0_0_S256x4094 concatenates_S256x2_S256x4094_S256x4096_d1 x1
  let x3 := move 4 4092 slices_S256x4096_o0_0_S256x4092 concatenates_S256x4_S256x4092_S256x4096_d1 x2
  let x4 := move 8 4088 slices_S256x4096_o0_0_S256x4088 concatenates_S256x8_S256x4088_S256x4096_d1 x3
  let x5 := move 16 4080 slices_S256x4096_o0_0_S256x4080 concatenates_S256x16_S256x4080_S256x4096_d1 x4
  let x6 := move 32 4064 slices_S256x4096_o0_0_S256x4064 concatenates_S256x32_S256x4064_S256x4096_d1 x5
  let x7 := move 64 4032 slices_S256x4096_o0_0_S256x4032 concatenates_S256x64_S256x4032_S256x4096_d1 x6
  let x8 := move 128 3968 slices_S256x4096_o0_0_S256x3968 concatenates_S256x128_S256x3968_S256x4096_d1 x7
  let x9 := move 256 3840 slices_S256x4096_o0_0_S256x3840 concatenates_S256x256_S256x3840_S256x4096_d1 x8
  let x10 := move 512 3584 slices_S256x4096_o0_0_S256x3584 concatenates_S256x512_S256x3584_S256x4096_d1 x9
  let x11 := move 1024 3072 slices_S256x4096_o0_0_S256x3072 concatenates_S256x1024_S256x3072_S256x4096_d1 x10
  let x12 := move 2048 2048 slices_S256x4096_o0_0_S256x2048 concatenates_S256x2048_S256x2048_S256x4096_d1 x11
  x12

theorem counts_apply (x0 : FVec Ideal S256x4096 .f32) (r : Fin 256) (q : Fin 4096 → Prop) [DecidablePred q]
    (hx : ∀ n : Fin 4096, x0 (ix2 r n) = if q n then 1 else 0) (n : Fin 4096) :
    counts x0 (ix2 r n) = ((upTo q n.val : ℝ) : EReal) := by
  let f : ℕ → EReal := fun m => if h : m < 4096 then x0 (ix2 r ⟨m, h⟩) else 0
  have h0 : ∀ n : Fin 4096, x0 (ix2 r n) = f n.val := fun n => by
    show _ = dite _ _ _
    rw [dif_pos n.isLt]
  have h1 := fun n : Fin 4096 => move_moved 1 4095 (by decide) slices_S256x4096_o0_0_S256x4095 concatenates_S256x1_S256x4095_S256x4096_d1 _ r _ h0 n
  have h2 := fun n : Fin 4096 => move_moved 2 4094 (by decide) slices_S256x4096_o0_0_S256x4094 concatenates_S256x2_S256x4094_S256x4096_d1 _ r _ h1 n
  have h3 := fun n : Fin 4096 => move_moved 4 4092 (by decide) slices_S256x4096_o0_0_S256x4092 concatenates_S256x4_S256x4092_S256x4096_d1 _ r _ h2 n
  have h4 := fun n : Fin 4096 => move_moved 8 4088 (by decide) slices_S256x4096_o0_0_S256x4088 concatenates_S256x8_S256x4088_S256x4096_d1 _ r _ h3 n
  have h5 := fun n : Fin 4096 => move_moved 16 4080 (by decide) slices_S256x4096_o0_0_S256x4080 concatenates_S256x16_S256x4080_S256x4096_d1 _ r _ h4 n
  have h6 := fun n : Fin 4096 => move_moved 32 4064 (by decide) slices_S256x4096_o0_0_S256x4064 concatenates_S256x32_S256x4064_S256x4096_d1 _ r _ h5 n
  have h7 := fun n : Fin 4096 => move_moved 64 4032 (by decide) slices_S256x4096_o0_0_S256x4032 concatenates_S256x64_S256x4032_S256x4096_d1 _ r _ h6 n
  have h8 := fun n : Fin 4096 => move_moved 128 3968 (by decide) slices_S256x4096_o0_0_S256x3968 concatenates_S256x128_S256x3968_S256x4096_d1 _ r _ h7 n
  have h9 := fun n : Fin 4096 => move_moved 256 3840 (by decide) slices_S256x4096_o0_0_S256x3840 concatenates_S256x256_S256x3840_S256x4096_d1 _ r _ h8 n
  have h10 := fun n : Fin 4096 => move_moved 512 3584 (by decide) slices_S256x4096_o0_0_S256x3584 concatenates_S256x512_S256x3584_S256x4096_d1 _ r _ h9 n
  have h11 := fun n : Fin 4096 => move_moved 1024 3072 (by decide) slices_S256x4096_o0_0_S256x3072 concatenates_S256x1024_S256x3072_S256x4096_d1 _ r _ h10 n
  have h12 := fun n : Fin 4096 => move_moved 2048 2048 (by decide) slices_S256x4096_o0_0_S256x2048 concatenates_S256x2048_S256x2048_S256x4096_d1 _ r _ h11 n
  refine (h12 n).trans ?_
  refine (show _ = movedUpTo f 12 n.val from rfl).trans ?_
  rw [movedUpTo_twelve f n.val n.isLt]
  exact sum_marks_upTo q n f fun i => (h0 i).symm.trans (hx i)

/-- The marks of the points in the ball, from the scalar products and the squared lengths. -/
def marks (d q p : FVec Ideal S256x4096 .f32) : FVec Ideal S256x4096 .f32 :=
  sitofp .f32 (extui 32 (cmpf .ole (subf (addf q p) (mulf (broadcast S256x4096 (Scalar.ofBits (F := Ideal) .f32 0x40000000#32)) d))
    (broadcast S256x4096 (Scalar.ofBits (F := Ideal) .f32 0x3D23D70A#32))) natLt_1_32)

theorem counts_eq (d q p : FVec Ideal S256x4096 .f32) : k0_pay15 (k0_pay14 d q p) = counts (marks d q p) := rfl

/-- The squared radius, and the two that multiplies the scalar product. -/
abbrev radius : EReal := Ideal.ofBits .f32 0x3D23D70A#32
abbrev two : EReal := Ideal.ofBits .f32 0x40000000#32

theorem marked : FloatOps.sitofp (F := Ideal) .f32 (BitVec.setWidth 32 (BitVec.ofBool true)) = (1 : EReal) := by
  show (((BitVec.setWidth 32 (BitVec.ofBool true)).toInt : ℝ) : EReal) = 1
  rw [show (BitVec.setWidth 32 (BitVec.ofBool true)).toInt = 1 by decide]
  simp

theorem unmarked : FloatOps.sitofp (F := Ideal) .f32 (BitVec.setWidth 32 (BitVec.ofBool false)) = (0 : EReal) := by
  show (((BitVec.setWidth 32 (BitVec.ofBool false)).toInt : ℝ) : EReal) = 0
  rw [show (BitVec.setWidth 32 (BitVec.ofBool false)).toInt = 0 by decide]
  simp

theorem marks_apply (d q p : FVec Ideal S256x4096 .f32) (r : Fin 256) (n : Fin 4096) :
    marks d q p (ix2 r n) = if q (ix2 r n) + p (ix2 r n) - two * d (ix2 r n) ≤ radius then 1 else 0 := by
  unfold marks
  pointwise
  split
  · rename_i h
    rw [decide_eq_true h]
    exact marked
  · rename_i h
    rw [decide_eq_false h]
    exact unmarked

/-! ## The distances -/

/-- The squared distance of two points, from their squared lengths and their scalar product. -/
def dist (a b : Fin 3 → EReal) : EReal :=
  (a 0 * a 0 + a 1 * a 1 + a 2 * a 2) + (b 0 * b 0 + b 1 * b 1 + b 2 * b 2) - two * (a 0 * b 0 + a 1 * b 1 + a 2 * b 2)

theorem dist_apply (x0 : Vec Ideal S1x256x3 .f32) (x1 x2 x3 : Vec Ideal S1x1x4096 .f32) (r : Fin 256) (n : Fin 4096) :
    k0_pay12 x0 (ix2 r n) + k0_pay13 x1 x2 x3 (ix2 r n) - two * k0_pay11 x0 x1 x2 x3 (ix2 r n)
      = dist (fun a => x0 (ix3 0 r a)) ![x1 (ix3 0 0 n), x2 (ix3 0 0 n), x3 (ix3 0 0 n)] := by
  unfold dist
  pointwise [k0_pay11, k0_pay12, k0_pay13, k0_pay5, k0_pay6, k0_pay7, k0_pay8, k0_pay9, k0_pay10, k0_pay4]

end Cert.Proof.Bq

end

end
-- ==== Proof.BqKernel.lean ====
/-
  What a point of the ball query's grid leaves in its block of the result, over the extended reals: at row `r` and place `k`, the
  number of points whose running count in the ball about the row's query is at most `k`, the first such number where no point is
  left, and the group's first row added.
-/
module

public import proofs.«01_k».proof.Proof.BqOps

@[expose] public section

set_option maxRecDepth 16384

noncomputable section

namespace Cert.Proof.Bq

open Cert.BqIdeal Cert.BqIdeal.Gen
open Idealize.ShloMosaic Idealize.ShloMosaic.TcCoe Idealize.SL.Sem
open scoped BigOperators

/-- The entry at place `k`, of a query whose ball holds the positions `q`, in a group whose first row is `off`. -/
def entry (q : Fin 4096 → Prop) [DecidablePred q] (off : BitVec 32) (k : ℕ) : BitVec 32 :=
  (if BitVec.ofNat 32 (low q k) = 4096#32 then BitVec.ofNat 32 (low q 0) else BitVec.ofNat 32 (low q k)) + off

section Block

variable (x0 : Vec Ideal S1x256x3 .f32) (x1 x2 x3 : Vec Ideal S1x1x4096 .f32)

/-- The positions in the ball about row `r` of a block of queries. -/
def inBall (r : Fin 256) (n : Fin 4096) : Prop :=
  dist (fun a => x0 (ix3 0 r a)) ![x1 (ix3 0 0 n), x2 (ix3 0 0 n), x3 (ix3 0 0 n)] ≤ radius

instance (r : Fin 256) : DecidablePred (inBall x0 x1 x2 x3 r) := fun _ => inferInstanceAs (Decidable (_ ≤ _))

/-- The running counts of a block. -/
abbrev running : FVec Ideal S256x4096 .f32 :=
  counts (marks (k0_pay11 x0 x1 x2 x3) (k0_pay12 x0) (k0_pay13 x1 x2 x3))

theorem running_apply (r : Fin 256) (n : Fin 4096) :
    running x0 x1 x2 x3 (ix2 r n) = ((upTo (inBall x0 x1 x2 x3 r) n.val : ℝ) : EReal) :=
  counts_apply _ r _ (fun n => by
    rw [marks_apply, dist_apply]
    rfl) n

/-- A column of counts, at a row. -/
theorem atMost_running (K : BitVec 32) (k : ℕ) (hK : Ideal.ofBits .f32 K = ((k : ℝ) : EReal)) (r : Fin 256) :
    atMost K (running x0 x1 x2 x3) (ix2 r 0) = BitVec.ofNat 32 (low (inBall x0 x1 x2 x3 r) k) :=
  atMost_apply K k hK _ r (fun n => upTo (inBall x0 x1 x2 x3 r) n.val) fun n => running_apply x0 x1 x2 x3 r n

theorem zero_val : Ideal.ofBits .f32 0x00000000#32 = (((0 : ℕ) : ℝ) : EReal) := by simp [Ideal.ofBits, Ideal.ieee]

/-- The entry of a block at a row and a place. -/
def rowEntry (off : BitVec 32) (r : Fin 256) (k : ℕ) : BitVec 32 := entry (inBall x0 x1 x2 x3 r) off k

/-- A column of the result, as a part of the block. -/
theorem column_running (off : BitVec 32) (K : BitVec 32) (k : Fin 32) (hK : Ideal.ofBits .f32 K = ((k.val : ℝ) : EReal))
    (inb : ∀ a, (![0, 0, k.val] : Fin 3 → ℕ) a + S1x256x1.size a ≤ S1x256x32.size a) (x : S1x256x1.Idx) :
    column (atMost 0x00000000#32 (running x0 x1 x2 x3)) (atMost K (running x0 x1 x2 x3)) off x
      = (fun y : S1x256x32.Idx => rowEntry x0 x1 x2 x3 off (y 1) (y 2).val) ((Rect.unit (s := S1x256x32) ![0, 0, k.val] S1x256x1.size inb).emb x) := by
  obtain ⟨z, r, w, rfl⟩ : ∃ z r w, x = ix3 z r w := ⟨_, _, _, eq_ix3 x⟩
  obtain rfl : z = 0 := Subsingleton.elim _ _
  obtain rfl : w = 0 := Subsingleton.elim _ _
  have h1 : ((Rect.unit (s := S1x256x32) ![0, 0, k.val] S1x256x1.size inb).emb (ix3 (0 : Fin 1) r (0 : Fin 1))) = ix3 (0 : Fin 1) r k := by
    funext a
    refine Fin.ext ?_
    rw [Rect.emb_apply]
    match a with
    | ⟨0, _⟩ => rfl
    | ⟨1, _⟩ => show 0 + 1 * r.val = r.val; omega
    | ⟨2, _⟩ => show k.val + 1 * 0 = k.val; omega
  rw [h1, column_apply, atMost_running _ _ _ _ _ 0 zero_val, atMost_running _ _ _ _ K k.val hK]
  rfl

/-! The constants that the places are compared with. -/

theorem val_0 : Ideal.ofBits .f32 0x00000000#32 = ((((0 : Fin 32)).val : ℝ) : EReal) := zero_val
theorem val_1 : Ideal.ofBits .f32 0x3F800000#32 = ((((1 : Fin 32)).val : ℝ) : EReal) := by
  simp [Ideal.ofBits, Ideal.ieee]; rw [← EReal.coe_mul]; norm_num
theorem val_2 : Ideal.ofBits .f32 0x40000000#32 = ((((2 : Fin 32)).val : ℝ) : EReal) := by
  simp [Ideal.ofBits, Ideal.ieee]; rw [← EReal.coe_mul]; norm_num
theorem val_3 : Ideal.ofBits .f32 0x40400000#32 = ((((3 : Fin 32)).val : ℝ) : EReal) := by
  simp [Ideal.ofBits, Ideal.ieee]; rw [← EReal.coe_mul]; norm_num
theorem val_4 : Ideal.ofBits .f32 0x40800000#32 = ((((4 : Fin 32)).val : ℝ) : EReal) := by
  simp [Ideal.ofBits, Ideal.ieee]; rw [← EReal.coe_mul]; norm_num
theorem val_5 : Ideal.ofBits .f32 0x40A00000#32 = ((((5 : Fin 32)).val : ℝ) : EReal) := by
  simp [Ideal.ofBits, Ideal.ieee]; rw [← EReal.coe_mul]; norm_num
theorem val_6 : Ideal.ofBits .f32 0x40C00000#32 = ((((6 : Fin 32)).val : ℝ) : EReal) := by
  simp [Ideal.ofBits, Ideal.ieee]; rw [← EReal.coe_mul]; norm_num
theorem val_7 : Ideal.ofBits .f32 0x40E00000#32 = ((((7 : Fin 32)).val : ℝ) : EReal) := by
  simp [Ideal.ofBits, Ideal.ieee]; rw [← EReal.coe_mul]; norm_num
theorem val_8 : Ideal.ofBits .f32 0x41000000#32 = ((((8 : Fin 32)).val : ℝ) : EReal) := by
  simp [Ideal.ofBits, Ideal.ieee]; rw [← EReal.coe_mul]; norm_num
theorem val_9 : Ideal.ofBits .f32 0x41100000#32 = ((((9 : Fin 32)).val : ℝ) : EReal) := by
  simp [Ideal.ofBits, Ideal.ieee]; rw [← EReal.coe_mul]; norm_num
theorem val_10 : Ideal.ofBits .f32 0x41200000#32 = ((((10 : Fin 32)).val : ℝ) : EReal) := by
  simp [Ideal.ofBits, Ideal.ieee]; rw [← EReal.coe_mul]; norm_num
theorem val_11 : Ideal.ofBits .f32 0x41300000#32 = ((((11 : Fin 32)).val : ℝ) : EReal) := by
  simp [Ideal.ofBits, Ideal.ieee]; rw [← EReal.coe_mul]; norm_num
theorem val_12 : Ideal.ofBits .f32 0x41400000#32 = ((((12 : Fin 32)).val : ℝ) : EReal) := by
  simp [Ideal.ofBits, Ideal.ieee]; rw [← EReal.coe_mul]; norm_num
theorem val_13 : Ideal.ofBits .f32 0x41500000#32 = ((((13 : Fin 32)).val : ℝ) : EReal) := by
  simp [Ideal.ofBits, Ideal.ieee]; rw [← EReal.coe_mul]; norm_num
theorem val_14 : Ideal.ofBits .f32 0x41600000#32 = ((((14 : Fin 32)).val : ℝ) : EReal) := by
  simp [Ideal.ofBits, Ideal.ieee]; rw [← EReal.coe_mul]; norm_num
theorem val_15 : Ideal.ofBits .f32 0x41700000#32 = ((((15 : Fin 32)).val : ℝ) : EReal) := by
  simp [Ideal.ofBits, Ideal.ieee]; rw [← EReal.coe_mul]; norm_num
theorem val_16 : Ideal.ofBits .f32 0x41800000#32 = ((((16 : Fin 32)).val : ℝ) : EReal) := by
  simp [Ideal.ofBits, Ideal.ieee]; rw [← EReal.coe_mul]; norm_num
theorem val_17 : Ideal.ofBits .f32 0x41880000#32 = ((((17 : Fin 32)).val : ℝ) : EReal) := by
  simp [Ideal.ofBits, Ideal.ieee]; rw [← EReal.coe_mul]; norm_num
theorem val_18 : Ideal.ofBits .f32 0x41900000#32 = ((((18 : Fin 32)).val : ℝ) : EReal) := by
  simp [Ideal.ofBits, Ideal.ieee]; rw [← EReal.coe_mul]; norm_num
theorem val_19 : Ideal.ofBits .f32 0x41980000#32 = ((((19 : Fin 32)).val : ℝ) : EReal) := by
  simp [Ideal.ofBits, Ideal.ieee]; rw [← EReal.coe_mul]; norm_num
theorem val_20 : Ideal.ofBits .f32 0x41A00000#32 = ((((20 : Fin 32)).val : ℝ) : EReal) := by
  simp [Ideal.ofBits, Ideal.ieee]; rw [← EReal.coe_mul]; norm_num
theorem val_21 : Ideal.ofBits .f32 0x41A80000#32 = ((((21 : Fin 32)).val : ℝ) : EReal) := by
  simp [Ideal.ofBits, Ideal.ieee]; rw [← EReal.coe_mul]; norm_num
theorem val_22 : Ideal.ofBits .f32 0x41B00000#32 = ((((22 : Fin 32)).val : ℝ) : EReal) := by
  simp [Ideal.ofBits, Ideal.ieee]; rw [← EReal.coe_mul]; norm_num
theorem val_23 : Ideal.ofBits .f32 0x41B80000#32 = ((((23 : Fin 32)).val : ℝ) : EReal) := by
  simp [Ideal.ofBits, Ideal.ieee]; rw [← EReal.coe_mul]; norm_num
theorem val_24 : Ideal.ofBits .f32 0x41C00000#32 = ((((24 : Fin 32)).val : ℝ) : EReal) := by
  simp [Ideal.ofBits, Ideal.ieee]; rw [← EReal.coe_mul]; norm_num
theorem val_25 : Ideal.ofBits .f32 0x41C80000#32 = ((((25 : Fin 32)).val : ℝ) : EReal) := by
  simp [Ideal.ofBits, Ideal.ieee]; rw [← EReal.coe_mul]; norm_num
theorem val_26 : Ideal.ofBits .f32 0x41D00000#32 = ((((26 : Fin 32)).val : ℝ) : EReal) := by
  simp [Ideal.ofBits, Ideal.ieee]; rw [← EReal.coe_mul]; norm_num
theorem val_27 : Ideal.ofBits .f32 0x41D80000#32 = ((((27 : Fin 32)).val : ℝ) : EReal) := by
  simp [Ideal.ofBits, Ideal.ieee]; rw [← EReal.coe_mul]; norm_num
theorem val_28 : Ideal.ofBits .f32 0x41E00000#32 = ((((28 : Fin 32)).val : ℝ) : EReal) := by
  simp [Ideal.ofBits, Ideal.ieee]; rw [← EReal.coe_mul]; norm_num
theorem val_29 : Ideal.ofBits .f32 0x41E80000#32 = ((((29 : Fin 32)).val : ℝ) : EReal) := by
  simp [Ideal.ofBits, Ideal.ieee]; rw [← EReal.coe_mul]; norm_num
theorem val_30 : Ideal.ofBits .f32 0x41F00000#32 = ((((30 : Fin 32)).val : ℝ) : EReal) := by
  simp [Ideal.ofBits, Ideal.ieee]; rw [← EReal.coe_mul]; norm_num
theorem val_31 : Ideal.ofBits .f32 0x41F80000#32 = ((((31 : Fin 32)).val : ℝ) : EReal) := by
  simp [Ideal.ofBits, Ideal.ieee]; rw [← EReal.coe_mul]; norm_num

/-- The block as a whole. -/
theorem out_apply (i : grid0.Coords) (z0 : Vec Ideal S1x256x3 .f32) (z1 z2 z3 : Vec Ideal S1x1x4096 .f32) (h0 : View.ld z0 r0_0 = x0)
    (h1 : View.ld z1 r0_1 = x1) (h2 : View.ld z2 r0_1 = x2) (h3 : View.ld z3 r0_1 = x3) (y : S1x256x32.Idx) :
    out0_4 (F := Ideal) i z0 z1 z2 z3 y = rowEntry x0 x1 x2 x3 (Scalar.muli (BitVec.ofNat 32 (i 0).val) 4096#32) (y 1) (y 2).val := by
  subst h0 h1 h2 h3
  unfold out0_4
  refine View.canon_apply_of_pieces (fun y : S1x256x32.Idx => rowEntry (View.ld z0 r0_0) (View.ld z1 r0_1) (View.ld z2 r0_1) (View.ld z3 r0_1)
    (Scalar.muli (BitVec.ofNat 32 (i 0).val) 4096#32) (y 1) (y 2).val) _ ?_ y (cover0_4 (F := Ideal) _ _ _ _ _ _ _ _ _ _ _ _ _ _ _ _ _ _ _ _ _ _ _ _ _ _ _ _ _ _ _ _ y)
  refine List.forall_mem_cons.mpr ⟨column_running (View.ld z0 r0_0) (View.ld z1 r0_1) (View.ld z2 r0_1) (View.ld z3 r0_1) _ 0x41F80000#32 31 val_31 inb_S1x256x32_S1x256x1_0_0_31, ?_⟩
  refine List.forall_mem_cons.mpr ⟨column_running (View.ld z0 r0_0) (View.ld z1 r0_1) (View.ld z2 r0_1) (View.ld z3 r0_1) _ 0x41F00000#32 30 val_30 inb_S1x256x32_S1x256x1_0_0_30, ?_⟩
  refine List.forall_mem_cons.mpr ⟨column_running (View.ld z0 r0_0) (View.ld z1 r0_1) (View.ld z2 r0_1) (View.ld z3 r0_1) _ 0x41E80000#32 29 val_29 inb_S1x256x32_S1x256x1_0_0_29, ?_⟩
  refine List.forall_mem_cons.mpr ⟨column_running (View.ld z0 r0_0) (View.ld z1 r0_1) (View.ld z2 r0_1) (View.ld z3 r0_1) _ 0x41E00000#32 28 val_28 inb_S1x256x32_S1x256x1_0_0_28, ?_⟩
  refine List.forall_mem_cons.mpr ⟨column_running (View.ld z0 r0_0) (View.ld z1 r0_1) (View.ld z2 r0_1) (View.ld z3 r0_1) _ 0x41D80000#32 27 val_27 inb_S1x256x32_S1x256x1_0_0_27, ?_⟩
  refine List.forall_mem_cons.mpr ⟨column_running (View.ld z0 r0_0) (View.ld z1 r0_1) (View.ld z2 r0_1) (View.ld z3 r0_1) _ 0x41D00000#32 26 val_26 inb_S1x256x32_S1x256x1_0_0_26, ?_⟩
  refine List.forall_mem_cons.mpr ⟨column_running (View.ld z0 r0_0) (View.ld z1 r0_1) (View.ld z2 r0_1) (View.ld z3 r0_1) _ 0x41C80000#32 25 val_25 inb_S1x256x32_S1x256x1_0_0_25, ?_⟩
  refine List.forall_mem_cons.mpr ⟨column_running (View.ld z0 r0_0) (View.ld z1 r0_1) (View.ld z2 r0_1) (View.ld z3 r0_1) _ 0x41C00000#32 24 val_24 inb_S1x256x32_S1x256x1_0_0_24, ?_⟩
  refine List.forall_mem_cons.mpr ⟨column_running (View.ld z0 r0_0) (View.ld z1 r0_1) (View.ld z2 r0_1) (View.ld z3 r0_1) _ 0x41B80000#32 23 val_23 inb_S1x256x32_S1x256x1_0_0_23, ?_⟩
  refine List.forall_mem_cons.mpr ⟨column_running (View.ld z0 r0_0) (View.ld z1 r0_1) (View.ld z2 r0_1) (View.ld z3 r0_1) _ 0x41B00000#32 22 val_22 inb_S1x256x32_S1x256x1_0_0_22, ?_⟩
  refine List.forall_mem_cons.mpr ⟨column_running (View.ld z0 r0_0) (View.ld z1 r0_1) (View.ld z2 r0_1) (View.ld z3 r0_1) _ 0x41A80000#32 21 val_21 inb_S1x256x32_S1x256x1_0_0_21, ?_⟩
  refine List.forall_mem_cons.mpr ⟨column_running (View.ld z0 r0_0) (View.ld z1 r0_1) (View.ld z2 r0_1) (View.ld z3 r0_1) _ 0x41A00000#32 20 val_20 inb_S1x256x32_S1x256x1_0_0_20, ?_⟩
  refine List.forall_mem_cons.mpr ⟨column_running (View.ld z0 r0_0) (View.ld z1 r0_1) (View.ld z2 r0_1) (View.ld z3 r0_1) _ 0x41980000#32 19 val_19 inb_S1x256x32_S1x256x1_0_0_19, ?_⟩
  refine List.forall_mem_cons.mpr ⟨column_running (View.ld z0 r0_0) (View.ld z1 r0_1) (View.ld z2 r0_1) (View.ld z3 r0_1) _ 0x41900000#32 18 val_18 inb_S1x256x32_S1x256x1_0_0_18, ?_⟩
  refine List.forall_mem_cons.mpr ⟨column_running (View.ld z0 r0_0) (View.ld z1 r0_1) (View.ld z2 r0_1) (View.ld z3 r0_1) _ 0x41880000#32 17 val_17 inb_S1x256x32_S1x256x1_0_0_17, ?_⟩
  refine List.forall_mem_cons.mpr ⟨column_running (View.ld z0 r0_0) (View.ld z1 r0_1) (View.ld z2 r0_1) (View.ld z3 r0_1) _ 0x41800000#32 16 val_16 inb_S1x256x32_S1x256x1_0_0_16, ?_⟩
  refine List.forall_mem_cons.mpr ⟨column_running (View.ld z0 r0_0) (View.ld z1 r0_1) (View.ld z2 r0_1) (View.ld z3 r0_1) _ 0x41700000#32 15 val_15 inb_S1x256x32_S1x256x1_0_0_15, ?_⟩
  refine List.forall_mem_cons.mpr ⟨column_running (View.ld z0 r0_0) (View.ld z1 r0_1) (View.ld z2 r0_1) (View.ld z3 r0_1) _ 0x41600000#32 14 val_14 inb_S1x256x32_S1x256x1_0_0_14, ?_⟩
  refine List.forall_mem_cons.mpr ⟨column_running (View.ld z0 r0_0) (View.ld z1 r0_1) (View.ld z2 r0_1) (View.ld z3 r0_1) _ 0x41500000#32 13 val_13 inb_S1x256x32_S1x256x1_0_0_13, ?_⟩
  refine List.forall_mem_cons.mpr ⟨column_running (View.ld z0 r0_0) (View.ld z1 r0_1) (View.ld z2 r0_1) (View.ld z3 r0_1) _ 0x41400000#32 12 val_12 inb_S1x256x32_S1x256x1_0_0_12, ?_⟩
  refine List.forall_mem_cons.mpr ⟨column_running (View.ld z0 r0_0) (View.ld z1 r0_1) (View.ld z2 r0_1) (View.ld z3 r0_1) _ 0x41300000#32 11 val_11 inb_S1x256x32_S1x256x1_0_0_11, ?_⟩
  refine List.forall_mem_cons.mpr ⟨column_running (View.ld z0 r0_0) (View.ld z1 r0_1) (View.ld z2 r0_1) (View.ld z3 r0_1) _ 0x41200000#32 10 val_10 inb_S1x256x32_S1x256x1_0_0_10, ?_⟩
  refine List.forall_mem_cons.mpr ⟨column_running (View.ld z0 r0_0) (View.ld z1 r0_1) (View.ld z2 r0_1) (View.ld z3 r0_1) _ 0x41100000#32 9 val_9 inb_S1x256x32_S1x256x1_0_0_9, ?_⟩
  refine List.forall_mem_cons.mpr ⟨column_running (View.ld z0 r0_0) (View.ld z1 r0_1) (View.ld z2 r0_1) (View.ld z3 r0_1) _ 0x41000000#32 8 val_8 inb_S1x256x32_S1x256x1_0_0_8, ?_⟩
  refine List.forall_mem_cons.mpr ⟨column_running (View.ld z0 r0_0) (View.ld z1 r0_1) (View.ld z2 r0_1) (View.ld z3 r0_1) _ 0x40E00000#32 7 val_7 inb_S1x256x32_S1x256x1_0_0_7, ?_⟩
  refine List.forall_mem_cons.mpr ⟨column_running (View.ld z0 r0_0) (View.ld z1 r0_1) (View.ld z2 r0_1) (View.ld z3 r0_1) _ 0x40C00000#32 6 val_6 inb_S1x256x32_S1x256x1_0_0_6, ?_⟩
  refine List.forall_mem_cons.mpr ⟨column_running (View.ld z0 r0_0) (View.ld z1 r0_1) (View.ld z2 r0_1) (View.ld z3 r0_1) _ 0x40A00000#32 5 val_5 inb_S1x256x32_S1x256x1_0_0_5, ?_⟩
  refine List.forall_mem_cons.mpr ⟨column_running (View.ld z0 r0_0) (View.ld z1 r0_1) (View.ld z2 r0_1) (View.ld z3 r0_1) _ 0x40800000#32 4 val_4 inb_S1x256x32_S1x256x1_0_0_4, ?_⟩
  refine List.forall_mem_cons.mpr ⟨column_running (View.ld z0 r0_0) (View.ld z1 r0_1) (View.ld z2 r0_1) (View.ld z3 r0_1) _ 0x40400000#32 3 val_3 inb_S1x256x32_S1x256x1_0_0_3, ?_⟩
  refine List.forall_mem_cons.mpr ⟨column_running (View.ld z0 r0_0) (View.ld z1 r0_1) (View.ld z2 r0_1) (View.ld z3 r0_1) _ 0x40000000#32 2 val_2 inb_S1x256x32_S1x256x1_0_0_2, ?_⟩
  refine List.forall_mem_cons.mpr ⟨column_running (View.ld z0 r0_0) (View.ld z1 r0_1) (View.ld z2 r0_1) (View.ld z3 r0_1) _ 0x3F800000#32 1 val_1 inb_S1x256x32_S1x256x1_0_0_1, ?_⟩
  refine List.forall_mem_cons.mpr ⟨column_running (View.ld z0 r0_0) (View.ld z1 r0_1) (View.ld z2 r0_1) (View.ld z3 r0_1) _ 0x00000000#32 0 val_0 inb_S1x256x32_S1x256x1_0_0_0, ?_⟩
  exact fun p hp => absurd hp List.not_mem_nil

end Block

end Cert.Proof.Bq

end

end
-- ==== Proof.BqValue.lean ====
/-
  What the ball query's program returns, over the extended reals: for every query the entries made of the positions in its ball.
-/
module

public import proofs.«01_k».proof.Proof.BqKernel

@[expose] public section

set_option maxRecDepth 16384

noncomputable section

namespace Cert.Proof.Bq

open Cert.BqIdeal Cert.BqIdeal.Gen
open Idealize.ShloMosaic Idealize.ShloMosaic.TcCoe Idealize.ShloMosaic.Pipeline Idealize.ShloMosaic.StableHlo Idealize.SL.Sem
open scoped BigOperators

/-- The positions in the ball about query `s` of group `b`. -/
def near (Q : FVec Ideal S8x1024x3 .f32) (P : FVec Ideal S8x4096x3 .f32) (b : Fin 8) (s : Fin 1024) (n : Fin 4096) : Prop :=
  dist (fun a => Q (ix3 b s a)) (fun a => P (ix3 b n a)) ≤ radius

instance (Q : FVec Ideal S8x1024x3 .f32) (P : FVec Ideal S8x4096x3 .f32) (b : Fin 8) (s : Fin 1024) : DecidablePred (near Q P b s) :=
  fun _ => inferInstanceAs (Decidable (_ ≤ _))

/-- The entry at place `k` of query `s` of group `b`. -/
def answer (Q : FVec Ideal S8x1024x3 .f32) (P : FVec Ideal S8x4096x3 .f32) (b : Fin 8) (s : Fin 1024) (k : ℕ) : BitVec 32 :=
  entry (near Q P b s) (Scalar.muli (BitVec.ofNat 32 b.val) 4096#32) k

section Run

variable (m : (ℓ : Loc nD τ sig) → Buf (Elt Ideal) ℓ) (c : Dev nD)

/-- The queries and the points that core `c` is given. -/
abbrev qrys : FVec Ideal S8x1024x3 .f32 := m (c.tc.loc main_arg0)
abbrev pnts : FVec Ideal S8x4096x3 .f32 := m (c.tc.loc main_arg1)

/-! ## Before the region: the points' coordinates, each a row to a group -/

theorem V_row0 (b : Fin 8) (n : Fin 4096) : (V m c main_v6 : FVec Ideal S8x1x4096 .f32) (ix3 b 0 n) = pnts m c (ix3 b n 0) := by
  have h : V m c main_v6 = shapeCast S8x1x4096 (shapeCast S8x4096 (extractStridedSlice S8x4096x1 ![0, 0, 0] (m (c.tc.loc main_arg1)) slices_S8x4096x3_S8x4096x1_0_0_0) shapeCasts_S8x4096x1_S8x4096) shapeCasts_S8x4096_S8x1x4096 := by
    show after (List.flatten [hostOps0]) (fun b => m (c, b)) _ = _
    rw [List.flatten_cons, List.flatten_nil, List.append_nil]
    after_results
    rfl
  rw [h]
  pointwise

theorem V_row1 (b : Fin 8) (n : Fin 4096) : (V m c main_v7 : FVec Ideal S8x1x4096 .f32) (ix3 b 0 n) = pnts m c (ix3 b n 1) := by
  have h : V m c main_v7 = shapeCast S8x1x4096 (shapeCast S8x4096 (extractStridedSlice S8x4096x1 ![0, 0, 1] (m (c.tc.loc main_arg1)) slices_S8x4096x3_S8x4096x1_0_0_1) shapeCasts_S8x4096x1_S8x4096) shapeCasts_S8x4096_S8x1x4096 := by
    show after (List.flatten [hostOps0]) (fun b => m (c, b)) _ = _
    rw [List.flatten_cons, List.flatten_nil, List.append_nil]
    after_results
    rfl
  rw [h]
  pointwise

theorem V_row2 (b : Fin 8) (n : Fin 4096) : (V m c main_v8 : FVec Ideal S8x1x4096 .f32) (ix3 b 0 n) = pnts m c (ix3 b n 2) := by
  have h : V m c main_v8 = shapeCast S8x1x4096 (shapeCast S8x4096 (extractStridedSlice S8x4096x1 ![0, 0, 2] (m (c.tc.loc main_arg1)) slices_S8x4096x3_S8x4096x1_0_0_2) shapeCasts_S8x4096x1_S8x4096) shapeCasts_S8x4096_S8x1x4096 := by
    show after (List.flatten [hostOps0]) (fun b => m (c, b)) _ = _
    rw [List.flatten_cons, List.flatten_nil, List.append_nil]
    after_results
    rfl
  rw [h]
  pointwise

/-! ## The region -/

theorem idx0 : ∀ t : Fin cfg0.N, win0_0.index t = ![t.val / 4, t.val % 4, 0] ∧ win0_1.index t = ![t.val / 4, 0, 0]
    ∧ win0_2.index t = ![t.val / 4, 0, 0] ∧ win0_3.index t = ![t.val / 4, 0, 0] ∧ win0_4.index t = ![t.val / 4, t.val % 4, 0]
    ∧ (grid0.coords t 0).val = t.val / 4 :=
  (by decide +kernel : ∀ t : Fin grid0.N, _)

/-- The group of a point, and the query at row `r` of its block. -/
def grp (t : Fin cfg0.N) : Fin 8 := ⟨t.val / 4, by have := t.isLt; have h : cfg0.N = 32 := N_0; omega⟩
def qry (t : Fin cfg0.N) (r : Fin 256) : Fin 1024 := ⟨t.val % 4 * 256 + r.val, by have := r.isLt; omega⟩

theorem block0 (t : Fin cfg0.N) (r : Fin 256) (a : Fin 3) :
    (View.ld (iblk m c 0 t) r0_0 : Vec Ideal S1x256x3 .f32) (ix3 0 r a) = qrys m c (ix3 (grp t) (qry t r) a) := by
  have hN : cfg0.N = 32 := N_0
  unfold qrys grp qry
  rw [← V_main_arg0 m c]
  blk_point [iblk, idx0 t]

theorem block1 (t : Fin cfg0.N) (n : Fin 4096) :
    (View.ld (iblk m c 1 t) r0_1 : Vec Ideal S1x1x4096 .f32) (ix3 0 0 n) = pnts m c (ix3 (grp t) n 0) := by
  rw [← V_row0 m c (grp t) n]
  refine (congrFun (View.ld_unit_zero (S := S1x1x4096) (off := ![0, 0, 0]) (by decide) inb_S1x1x4096_S1x1x4096_0_0_0 (iblk m c 1 t)) _).trans ?_
  unfold iblk
  show (V m c main_v6 : FVec Ideal S8x1x4096 .f32) ((win0_1.blk t).view.emb (ix3 0 0 n)) = _
  refine congrArg (V m c main_v6) (funext fun a => Fin.ext ?_)
  unfold grp
  match a with
  | ⟨0, _⟩ =>
    show _ = t.val / 4 + (0 : Fin 1).val
    blk_ext [idx0 t]
  | ⟨1, _⟩ => blk_ext [idx0 t]
  | ⟨2, _⟩ => blk_ext [idx0 t]

theorem block2 (t : Fin cfg0.N) (n : Fin 4096) :
    (View.ld (iblk m c 2 t) r0_1 : Vec Ideal S1x1x4096 .f32) (ix3 0 0 n) = pnts m c (ix3 (grp t) n 1) := by
  rw [← V_row1 m c (grp t) n]
  refine (congrFun (View.ld_unit_zero (S := S1x1x4096) (off := ![0, 0, 0]) (by decide) inb_S1x1x4096_S1x1x4096_0_0_0 (iblk m c 2 t)) _).trans ?_
  unfold iblk
  show (V m c main_v7 : FVec Ideal S8x1x4096 .f32) ((win0_2.blk t).view.emb (ix3 0 0 n)) = _
  refine congrArg (V m c main_v7) (funext fun a => Fin.ext ?_)
  unfold grp
  match a with
  | ⟨0, _⟩ =>
    show _ = t.val / 4 + (0 : Fin 1).val
    blk_ext [idx0 t]
  | ⟨1, _⟩ => blk_ext [idx0 t]
  | ⟨2, _⟩ => blk_ext [idx0 t]

theorem block3 (t : Fin cfg0.N) (n : Fin 4096) :
    (View.ld (iblk m c 3 t) r0_1 : Vec Ideal S1x1x4096 .f32) (ix3 0 0 n) = pnts m c (ix3 (grp t) n 2) := by
  rw [← V_row2 m c (grp t) n]
  refine (congrFun (View.ld_unit_zero (S := S1x1x4096) (off := ![0, 0, 0]) (by decide) inb_S1x1x4096_S1x1x4096_0_0_0 (iblk m c 3 t)) _).trans ?_
  unfold iblk
  show (V m c main_v8 : FVec Ideal S8x1x4096 .f32) ((win0_3.blk t).view.emb (ix3 0 0 n)) = _
  refine congrArg (V m c main_v8) (funext fun a => Fin.ext ?_)
  unfold grp
  match a with
  | ⟨0, _⟩ =>
    show _ = t.val / 4 + (0 : Fin 1).val
    blk_ext [idx0 t]
  | ⟨1, _⟩ => blk_ext [idx0 t]
  | ⟨2, _⟩ => blk_ext [idx0 t]

theorem out_block (t : Fin cfg0.N) (y : S1x256x32.Idx) :
    out0_4 (F := Ideal) (grid0.coords t) (iblk m c 0 t) (iblk m c 1 t) (iblk m c 2 t) (iblk m c 3 t) y
      = answer (qrys m c) (pnts m c) (grp t) (qry t (y 1)) (y 2).val := by
  refine (out_apply _ _ _ _ _ _ _ _ _ rfl rfl rfl rfl y).trans ?_
  have hq : inBall (View.ld (iblk m c 0 t) r0_0) (View.ld (iblk m c 1 t) r0_1) (View.ld (iblk m c 2 t) r0_1) (View.ld (iblk m c 3 t) r0_1) (y 1)
      = near (qrys m c) (pnts m c) (grp t) (qry t (y 1)) := by
    funext n
    unfold inBall near
    rw [block1 m c t n, block2 m c t n, block3 m c t n]
    refine congrArg (· ≤ radius) (congrArg₂ dist (funext fun a => block0 m c t (y 1) a) (funext fun a => ?_))
    match a with
    | ⟨0, _⟩ => rfl
    | ⟨1, _⟩ => rfl
    | ⟨2, _⟩ => rfl
  have hg : (grid0.coords t 0).val = (grp t).val := (idx0 t).2.2.2.2.2
  unfold rowEntry answer
  rw [hg]
  congr 1

/-- The entries that core `c` returns. -/
abbrev answers : IVec S8x1024x32 32 := fun i => answer (qrys m c) (pnts m c) (i 0) (i 1) (i 2).val

theorem final4 : (dats m 0 c).arrAt 4 cfg0.N = answers m c := by
  refine (dats m 0 c).arrAt_eq_of_covers 4 _ (by decide +kernel) fun t hf y => ?_
  blk_simp
  rw [after0_4, out_block]
  have e0 : grp t = ((win0_4.blk t).view.emb y : S8x1024x32.Idx) 0 := by
    refine Fin.ext ?_
    unfold grp
    blk_ext [idx0 t]
  have e1 : qry t (y 1) = ((win0_4.blk t).view.emb y : S8x1024x32.Idx) 1 := by
    refine Fin.ext ?_
    unfold qry
    blk_ext [idx0 t]
  have e2 : (y 2).val = (((win0_4.blk t).view.emb y : S8x1024x32.Idx) 2).val := by
    blk_ext [idx0 t]
  rw [e0, e1, e2]

end Run

/-- The ball query's program ends with the entries, and the arrays it was given as they were. -/
theorem run_value (m : (ℓ : Loc nD τ sig) → Buf (Elt Ideal) ℓ) (ρ) :
    θ_run defs (onTc (τ := τ) (main (F := Ideal))) ⟨m, fun _ => 0, ρ⟩ (fun r => ∀ c : Dev nD,
      r.2.mem (c.tc.loc main_v9) = answers m c ∧ r.2.mem (c.tc.loc main_arg0) = m (c.tc.loc main_arg0) ∧ r.2.mem (c.tc.loc main_arg1) = m (c.tc.loc main_arg1)) :=
  (θ_run defs _ _).mono (fun _ h c =>
    ⟨((h c).1 4).trans (final4 m c),
      ((h c).1 0).trans (((dats m 0 c).arrAt_in 0 rfl _).trans ((A_eq m c 0).trans (V_main_arg0 m c))),
      ((h c).2 main_arg1 (mem_restRefs_of main_arg1 (by decide) (by decide))).trans (V_main_arg1 m c)⟩) (run_main m ρ)

end Cert.Proof.Bq

end

end
-- ==== Proof.BqRef.lean ====
/-
  What the ball query's reference returns, over the extended reals: the same entries, read off the sorted keys.
-/
module

public import Idealize.ShloMosaic.Lib.Pointwise
public import Idealize.ShloMosaic.Lib.Claim
public import proofs.«01_k».proof.Proof.Gen.RefBqIdeal.Run
public import proofs.«01_k».proof.Proof.BqValue

@[expose] public section

set_option maxRecDepth 16384

noncomputable section

namespace Cert.Proof.Bq

open Cert.RefBqIdeal Cert.RefBqIdeal.Gen
open Idealize.ShloMosaic Idealize.ShloMosaic.TcCoe Idealize.SL.Sem
open scoped BigOperators

/-- The keys that the reference sorts. -/
def keys (Q : FVec Ideal S8x1024x3 .f32) (P : FVec Ideal S8x4096x3 .f32) : IVec S8x1024x4096 32 :=
  select (cmpf .ogt (subf (addf (broadcastInDim S8x1024x4096 ![0, 1, 2] bcast_S8x1024x1_S8x1024x4096_0_1_2 (broadcastInDim S8x1024x1 ![0, 1] bcast_S8x1024_S8x1024x1_0_1 (Host.reduceAdd (mulf Q Q) (constant (F := Ideal) S_ .f32 0x00000000#32) reducesTo_S8x1024x3_S8x1024_d2 h_S_))) (broadcastInDim S8x1024x4096 ![0, 1, 2] bcast_S8x1x4096_S8x1024x4096_0_1_2 (broadcastInDim S8x1x4096 ![0, 2] bcast_S8x4096_S8x1x4096_0_2 (Host.reduceAdd (mulf P P) (constant (F := Ideal) S_ .f32 0x00000000#32) reducesTo_S8x4096x3_S8x4096_d2 h_S_)))) (mulf (broadcastInDim S8x1024x4096 ![] bcast_S_S8x1024x4096 (constant (F := Ideal) S_ .f32 0x40000000#32)) (Host.dotGeneral dot_S8x1024x3_S8x4096x3_S8x1024x4096_2_2_1_1_0_0 none Q P))) (broadcastInDim S8x1024x4096 ![] bcast_S_S8x1024x4096 (constant (F := Ideal) S_ .f32 0x3D23D70A#32))) (broadcastInDim S8x1024x4096 ![] bcast_S_S8x1024x4096 (constantI S_ 32 4096#32)) (broadcastInDim S8x1024x4096 ![2] bcast_S4096_S8x1024x4096_2 (iotaInDim S4096 32 0))

/-- The reference's result from the sorted keys. -/
def picks (X : IVec S8x1024x4096 32) : IVec S8x1024x32 32 :=
  addi (select (cmpi .eq (extractStridedSlice S8x1024x32 ![0, 0, 0] (X) slices_S8x1024x4096_S8x1024x32_0_0_0) (broadcastInDim S8x1024x32 ![] bcast_S_S8x1024x32 (constantI S_ 32 4096#32))) (broadcastInDim S8x1024x32 ![0, 1, 2] bcast_S8x1024x1_S8x1024x32_0_1_2 (extractStridedSlice S8x1024x1 ![0, 0, 0] (extractStridedSlice S8x1024x32 ![0, 0, 0] (X) slices_S8x1024x4096_S8x1024x32_0_0_0) slices_S8x1024x32_S8x1024x1_0_0_0)) (extractStridedSlice S8x1024x32 ![0, 0, 0] (X) slices_S8x1024x4096_S8x1024x32_0_0_0)) (broadcastInDim S8x1024x32 ![0, 1, 2] bcast_S8x1x1_S8x1024x32_0_1_2 (muli (broadcastInDim S8x1x1 ![] bcast_S_S8x1x1 (constantI S_ 32 4096#32)) (broadcastInDim S8x1x1 ![0] bcast_S8_S8x1x1_0 (iotaInDim S8 32 0))))

theorem res_eq (m : (ℓ : Loc nD τ sig) → Buf (Elt Ideal) ℓ) (c : Dev nD) :
    Value.res_main_v29 m c = picks (Host.sort S8x1024x4096 2 comparator_i32_d2 (keys (m (c.tc.loc main_arg0)) (m (c.tc.loc main_arg1)))) := rfl

theorem picks_apply (X : IVec S8x1024x4096 32) (b : Fin 8) (s : Fin 1024) (k : Fin 32) :
    picks X (ix3 b s k) = (if X (ix3 b s ⟨k.val, by omega⟩) = 4096#32 then X (ix3 b s 0) else X (ix3 b s ⟨k.val, by omega⟩))
      + Scalar.muli (BitVec.ofNat 32 b.val) 4096#32 := by
  unfold picks
  pointwise
  show Scalar.select (IntOp.cmpi .eq (X (ix3 b s ⟨k.val, _⟩)) 4096#32) (X (ix3 b s 0)) (X (ix3 b s ⟨k.val, _⟩)) + 4096#32 * BitVec.ofNat 32 b.val
    = _ + BitVec.ofNat 32 b.val * 4096#32
  refine congrArg₂ (· + ·) ?_ (BitVec.mul_comm _ _)
  by_cases h : X (ix3 b s ⟨k.val, by omega⟩) = 4096#32
  · simp [h, Scalar.select, IntOp.cmpi]
  · have hb : (X (ix3 b s ⟨k.val, by omega⟩) == 4096#32) = false := beq_eq_false_iff_ne.mpr h
    simp [h, hb, Scalar.select, IntOp.cmpi]

theorem keys_apply (Q : FVec Ideal S8x1024x3 .f32) (P : FVec Ideal S8x4096x3 .f32) (b : Fin 8) (s : Fin 1024) (n : Fin 4096) :
    keys Q P (ix3 b s n) = BitVec.ofNat 32 (key (near Q P b s) n) := by
  unfold keys
  pointwise
  rw [Fin.sum_univ_three, Fin.sum_univ_three, Fin.sum_univ_three]
  unfold key
  by_cases h : near Q P b s n
  · rw [if_pos h]; exact if_neg (not_lt.mpr h)
  · rw [if_neg h]; exact if_pos (not_le.mp h)

/-- A sort along the last of three axes, at a place. -/
theorem sort_last {a b n : ℕ} {α : Type} (cmp : α → α → BitVec 1) (X : (⟨3, ![a, b, n]⟩ : Shape).Idx → α) (u : Fin a) (v : Fin b) (w : Fin n) :
    Host.sort ⟨3, ![a, b, n]⟩ 2 cmp X (ix3 u v w)
      = X (ix3 u v (sortedFrom (fun k k' : Fin n => cmp (X (ix3 u v k)) (X (ix3 u v k')) == 1#1) w)) := by
  have along : ∀ k : Fin n, Shape.Idx.along (s := ⟨3, ![a, b, n]⟩) (ix3 u v w) (2 : Fin 3) k = ix3 u v k := by
    intro k
    funext q
    match q with
    | ⟨0, _⟩ => rfl
    | ⟨1, _⟩ => rfl
    | ⟨2, _⟩ => rfl
  unfold Host.sort
  rw [dif_pos (show 2 < 3 by decide)]
  show X (Shape.Idx.along (s := ⟨3, ![a, b, n]⟩) (ix3 u v w) (2 : Fin 3) (sortedFrom (n := n) (fun k k' =>
    cmp (X (Shape.Idx.along (s := ⟨3, ![a, b, n]⟩) (ix3 u v w) (2 : Fin 3) k)) (X (Shape.Idx.along (s := ⟨3, ![a, b, n]⟩) (ix3 u v w) (2 : Fin 3) k')) == 1#1) w)) = _
  simp only [along]

/-- The sorted keys, at a place. -/
theorem sorted_apply (X : IVec S8x1024x4096 32) (b : Fin 8) (s : Fin 1024) (q : Fin 4096 → Prop) [DecidablePred q]
    (hX : ∀ n : Fin 4096, X (ix3 b s n) = BitVec.ofNat 32 (key q n)) (k : Fin 4096) :
    Host.sort S8x1024x4096 2 comparator_i32_d2 X (ix3 b s k) = BitVec.ofNat 32 (low q k.val) := by
  have hN := key_le q
  have hi : ∀ n : Fin 4096, (BitVec.ofNat 32 (key q n)).toInt = (key q n : ℤ) := fun n => by
    have := hN n
    rw [BitVec.toInt_eq_toNat_of_lt (by rw [BitVec.toNat_ofNat]; omega), BitVec.toNat_ofNat]
    omega
  have hB : (fun n n' : Fin 4096 => comparator_i32_d2 (X (ix3 b s n)) (X (ix3 b s n')) == 1#1) = byKey q := by
    funext n n'
    show (BitVec.ofBool ((X (ix3 b s n)).slt (X (ix3 b s n'))) == 1#1) = decide (key q n < key q n')
    rw [hX, hX, BitVec.slt, hi, hi]
    by_cases h : key q n < key q n'
    · rw [decide_eq_true h, decide_eq_true (by exact_mod_cast h)]; rfl
    · rw [decide_eq_false h, decide_eq_false (by exact_mod_cast h)]; rfl
  refine (sort_last comparator_i32_d2 X b s k).trans ?_
  rw [hB, hX]
  exact congrArg (BitVec.ofNat 32) (key_sorted q k)

/-- The reference's result, entry by entry. -/
theorem res_apply (m : (ℓ : Loc nD τ sig) → Buf (Elt Ideal) ℓ) (c : Dev nD) :
    Value.res_main_v29 m c = fun i : S8x1024x32.Idx => answer (m (c.tc.loc main_arg0)) (m (c.tc.loc main_arg1)) (i 0) (i 1) (i 2).val := by
  rw [res_eq]
  funext i
  obtain ⟨b, s, k, rfl⟩ : ∃ b s k, i = ix3 b s k := ⟨_, _, _, eq_ix3 i⟩
  rw [picks_apply]
  rw [sorted_apply _ b s (near (m (c.tc.loc main_arg0)) (m (c.tc.loc main_arg1)) b s) (fun n => keys_apply _ _ b s n),
    sorted_apply _ b s (near (m (c.tc.loc main_arg0)) (m (c.tc.loc main_arg1)) b s) (fun n => keys_apply _ _ b s n)]
  rfl

end Cert.Proof.Bq

end

end
-- ==== Proof.lean ====
/-
  The claims: the kernel and the reference each run to the end, from indices in range, with the arguments unchanged and every
  counter at zero; and their results are the same, over the extended reals and bit for bit. The same of the kernel that samples the
  farthest points, of the ball query and of the layers with their pooling, each with its reference, the results over the extended
  reals; of the first two from any arguments, of the last from arguments that are real numbers.
-/
module

public import proofs.«01_k».proof.Defs
public import proofs.«01_k».proof.Proof.Gen.Kernel
public import proofs.«01_k».proof.Proof.Gen.Pre_rows_in_table
public import proofs.«01_k».proof.Proof.Gen.KernelIdeal
public import proofs.«01_k».proof.Proof.Gen.KernelIdeal.Skeleton
public import proofs.«01_k».proof.Proof.Gen.Reference.Run
public import proofs.«01_k».proof.Proof.Gen.ReferenceIdeal.Run
public import proofs.«01_k».proof.Proof.Value
public import proofs.«01_k».proof.Proof.Gen.Fps
public import proofs.«01_k».proof.Proof.Gen.Fps.Frame
public import proofs.«01_k».proof.Proof.Gen.FpsIdeal
public import proofs.«01_k».proof.Proof.Gen.FpsIdeal.Frame
public import proofs.«01_k».proof.Proof.Gen.RefFpsIdeal
public import proofs.«01_k».proof.Proof.Gen.Pre_all_finite
public import proofs.«01_k».proof.Proof.Gen.Mlp
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.RefMlpIdeal
public import proofs.«01_k».proof.Proof.Gen.RefMlpIdeal.Run
public import proofs.«01_k».proof.Proof.Gen.Bq
public import proofs.«01_k».proof.Proof.Gen.Bq.Frame
public import proofs.«01_k».proof.Proof.Gen.BqIdeal
public import proofs.«01_k».proof.Proof.Gen.BqIdeal.Skeleton
public import proofs.«01_k».proof.Proof.Gen.BqIdeal.Launch
public import proofs.«01_k».proof.Proof.Gen.BqIdeal.Points
public import proofs.«01_k».proof.Proof.Gen.BqIdeal.Frame
public import proofs.«01_k».proof.Proof.Gen.RefBqIdeal
public import proofs.«01_k».proof.Proof.Gen.RefBqIdeal.Run
public import proofs.«01_k».proof.Proof.FpsValue
public import proofs.«01_k».proof.Proof.FpsRef
public import proofs.«01_k».proof.Proof.MlpPre
public import proofs.«01_k».proof.Proof.MlpValue
public import proofs.«01_k».proof.Proof.BqRef

@[expose] public section

noncomputable section

namespace Cert.Proof

open Cert.Proof.Gather
open Idealize.ShloMosaic Idealize.SL.Sem

/-- The kernel's frame, bit for bit: its run is the one at any floats. -/
theorem frame_kernel : Cert.quiescent_Kernel := fun m ρ hpre =>
  (θ_run Cert.KernelIdeal.defs _ _).mono (fun _ h => ⟨fun c => ⟨(h.1 c).1, (h.1 c).2.1, (h.1 c).2.2.1⟩, h.2⟩)
    (run_main (F := Bits) m ρ (preOK_of_inRange (F := Bits) m fun c => inRange_of_pre _ _ _ (hpre c)))

/-- The kernel's frame over the extended reals. -/
theorem frame_kernelIdeal : Cert.quiescent_KernelIdeal := fun m ρ hpre =>
  (θ_run Cert.KernelIdeal.defs _ _).mono (fun _ h => ⟨fun c => ⟨(h.1 c).1, (h.1 c).2.1, (h.1 c).2.2.1⟩, h.2⟩)
    (run_main (F := Ideal) m ρ (preOK_of_inRange (F := Ideal) m fun c => inRange_of_pre _ _ _ (hpre c)))

/-- The reference's frame, whatever the indices. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The reference's frame over the extended reals, whatever the indices. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel's result is the reference's: both are the gathered rows. -/
theorem algebraic : Cert.algebraic_KernelIdeal_ReferenceIdeal := fun m ρ m' ρ' hpre harg => by
  have hin : ∀ c, InRange (argI (F := Ideal) m c) := fun c => inRange_of_pre _ _ _ (hpre c)
  refine ⟨fun c => gathered (argF (F := Ideal) m c) (argP (F := Ideal) m c) (argI (F := Ideal) m c), ?_, ?_⟩
  · exact (θ_run Cert.KernelIdeal.defs _ _).mono (fun _ h c =>
      ⟨(h.1 c).2.2.2.trans (rowsOf_eq m c), (h.1 c).1, (h.1 c).2.1, (h.1 c).2.2.1⟩)
      (run_main (F := Ideal) m ρ (preOK_of_inRange (F := Ideal) m hin))
  · refine (θ_run Cert.ReferenceIdeal.defs _ _).mono (fun _ h c => ⟨(h c).1.trans ?_, (h c).2⟩)
      (Cert.ReferenceIdeal.Value.run (F := Ideal) m' ρ')
    rw [(harg c).1, (harg c).2.1, (harg c).2.2]
    exact refRows_eq (argF (F := Ideal) m c) (argP (F := Ideal) m c) (argI (F := Ideal) m c) (hin c)

/-- Bit for bit the kernel's result is the reference's: both are the gathered rows. -/
theorem bitexact : Cert.bitexact_Kernel_Reference := fun m ρ m' ρ' hpre harg => by
  have hin : ∀ c, InRange (argI (F := Bits) m c) := fun c => inRange_of_pre _ _ _ (hpre c)
  refine ⟨fun c => gathered (argF (F := Bits) m c) (argP (F := Bits) m c) (argI (F := Bits) m c), ?_, ?_⟩
  · exact (θ_run Cert.KernelIdeal.defs _ _).mono (fun _ h c =>
      ⟨(h.1 c).2.2.2.trans (rowsOf_eq (F := Bits) m c), (h.1 c).1, (h.1 c).2.1, (h.1 c).2.2.1⟩)
      (run_main (F := Bits) m ρ (preOK_of_inRange (F := Bits) m hin))
  · refine (θ_run Cert.Reference.defs _ _).mono (fun _ h c => ⟨(h c).1.trans ?_, (h c).2⟩)
      (Cert.Reference.Value.run (F := Bits) m' ρ')
    rw [(harg c).1, (harg c).2.1, (harg c).2.2]
    exact refRows_eq (argF (F := Bits) m c) (argP (F := Bits) m c) (argI (F := Bits) m c) (hin c)

/-! ## Farthest point sampling -/

/-- The frame of the sampling kernel, bit for bit. -/
theorem frame_fps : Cert.quiescent_Fps := fun m ρ _ => Cert.Fps.Gen.frame m ρ

/-- The frame of the sampling kernel, over the extended reals. -/
theorem frame_fpsIdeal : Cert.quiescent_FpsIdeal := fun m ρ _ => Cert.FpsIdeal.Gen.frame m ρ

/-- The frame of the sampling reference, over the extended reals. -/
theorem frame_refFpsIdeal : Cert.quiescent_RefFpsIdeal := fun m ρ _ =>
  (θ_run Cert.RefFpsIdeal.defs _ _).mono (fun r h => ⟨fun c => (h c).2, sem_eq_zero_of_no_sems (by decide) r.2⟩)
    (FpsRef.run_value m ρ)

/-- Over the extended reals the points that the kernel picks are the reference's. -/
theorem algebraic_fps : Cert.algebraic_FpsIdeal_RefFpsIdeal := fun m ρ m' ρ' _ harg => by
  refine ⟨fun c => Fps.picked m c, Fps.run_value m ρ, ?_⟩
  refine (θ_run Cert.RefFpsIdeal.defs _ _).mono (fun _ h c => ⟨(h c).1.trans ?_, (h c).2⟩) (FpsRef.run_value m' ρ')
  unfold FpsRef.picked FpsRef.given FpsRef.cloudsOf
  rw [harg c]

/-! ## The shared layers and the pooling -/

/-- The frame of the layers' launches, bit for bit. -/
theorem frame_mlp : Cert.quiescent_Mlp := fun m ρ _ => Cert.Mlp.Gen.frame m ρ

/-- The frame of the layers' launches, over the extended reals. -/
theorem frame_mlpIdeal : Cert.quiescent_MlpIdeal := fun m ρ _ => Cert.MlpIdeal.Gen.frame m ρ

/-- The frame of the layers' reference, over the extended reals. -/
theorem frame_refMlpIdeal : Cert.quiescent_RefMlpIdeal := fun m ρ _ =>
  (θ_run Cert.RefMlpIdeal.defs _ _).mono (fun r h => ⟨fun c => (h c).2, sem_eq_zero_of_no_sems (by decide) r.2⟩)
    (Cert.RefMlpIdeal.Value.run (F := Ideal) m ρ)

/-- Over the extended reals, of arguments that are real numbers, the pooled features are the reference's. -/
theorem algebraic_mlp : Cert.algebraic_MlpIdeal_RefMlpIdeal_pre_all_finite := fun m ρ m' ρ' hpre harg => by
  have hreal : ∀ c, (Mlp.given m c).Real := fun c => Mlp.real_of_pre (Mlp.given m c) (hpre c)
  have hsame : ∀ c, Mlp.Ref.given (StableHlo.launchContents m' c) = Mlp.given m c := fun c => by
    obtain ⟨h0, h1, h2, h3, h4, h5, h6, h7, h8, h9, h10, h11, h12, h13⟩ := harg c
    exact Mlp.Args.eq_of h0 h1 h2 h3 h4 h5 h6 h7 h8 h9 h10 h11 h12 h13
  refine ⟨fun c i => (Mlp.given m c).result (i 0) (i 1) (i 2), Mlp.run_value m ρ hreal, ?_⟩
  refine (θ_run Cert.RefMlpIdeal.defs _ _).mono (fun _ h c => ⟨(h c).1.trans ?_, (h c).2⟩)
    (Mlp.Ref.run_value m' ρ' fun c => (hsame c).symm ▸ hreal c)
  rw [hsame c]
  rfl

/-! ## The ball query -/

/-- The frame of the ball query's kernel, bit for bit. -/
theorem frame_bq : Cert.quiescent_Bq := fun m ρ _ => Cert.Bq.Gen.frame m ρ

/-- The frame of the ball query's kernel, over the extended reals. -/
theorem frame_bqIdeal : Cert.quiescent_BqIdeal := fun m ρ _ => Cert.BqIdeal.Gen.frame m ρ

/-- The frame of the ball query's reference, over the extended reals. -/
theorem frame_refBqIdeal : Cert.quiescent_RefBqIdeal := fun m ρ _ =>
  (θ_run Cert.RefBqIdeal.defs _ _).mono (fun r h => ⟨fun c => (h c).2, sem_eq_zero_of_no_sems (by decide) r.2⟩)
    (Cert.RefBqIdeal.Value.run (F := Ideal) m ρ)

/-- Over the extended reals the entries that the kernel returns are the reference's. -/
theorem algebraic_bq : Cert.algebraic_BqIdeal_RefBqIdeal := fun m ρ m' ρ' _ harg => by
  refine ⟨fun c => Bq.answers m c, Bq.run_value m ρ, ?_⟩
  refine (θ_run Cert.RefBqIdeal.defs _ _).mono (fun _ h c => ⟨(h c).1.trans ?_, (h c).2⟩)
    (Cert.RefBqIdeal.Value.run (F := Ideal) m' ρ')
  rw [Bq.res_apply, (harg c).1, (harg c).2]

theorem claim : Cert.Claim :=
  ⟨Cert.Kernel.Gen.facts, Cert.KernelIdeal.Gen.facts, Cert.Reference.Gen.facts, Cert.ReferenceIdeal.Gen.facts,
    Cert.Fps.Gen.facts, Cert.FpsIdeal.Gen.facts, Cert.RefFpsIdeal.Gen.facts, Cert.Mlp.Gen.facts, Cert.MlpIdeal.Gen.facts,
    Cert.RefMlpIdeal.Gen.facts, Cert.Bq.Gen.facts, Cert.BqIdeal.Gen.facts, Cert.RefBqIdeal.Gen.facts,
    Cert.Pre_rows_in_table.Gen.facts, Cert.Pre_all_finite.Gen.facts,
    frame_kernel, frame_kernelIdeal, frame_reference, fun m ρ _ => frame_reference m ρ trivial, frame_referenceIdeal,
    fun m ρ _ => frame_referenceIdeal m ρ trivial, frame_fps, frame_fpsIdeal, frame_refFpsIdeal, frame_mlp, frame_mlpIdeal,
    fun m ρ _ => frame_mlpIdeal m ρ trivial, frame_refMlpIdeal, fun m ρ _ => frame_refMlpIdeal m ρ trivial,
    frame_bq, frame_bqIdeal, frame_refBqIdeal,
    trivial, algebraic, bitexact, trivial, algebraic_fps, trivial, algebraic_mlp, trivial, algebraic_bq⟩

end Cert.Proof

end
